-- ==== Defs.lean ====
def Pre_Kernel [hPre_pre : Cert.Pre_pre.Facts] (m : (ℓ : Loc Cert.Kernel.nD Cert.Kernel.τ Cert.Kernel.sig) → Buf (Elt Bits) ℓ) : Prop :=
  ∀ c : Dev Cert.Kernel.nD,
    (Cert.Pre_pre.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_pre : Cert.Pre_pre.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v172)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v172) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel) (hPre_pre := hPre_pre)
    ∧ quiescent_KernelIdeal (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal (hKernelIdeal := hKernelIdeal) (hReferenceIdeal := hReferenceIdeal) (hPre_pre := hPre_pre)
-- ==== Pre_pre.lean ====
abbrev S20000x4 : Shape := ⟨2, ![20000, 4]⟩
abbrev S20000 : Shape := ⟨1, ![20000]⟩
abbrev S_ : Shape := ⟨0, ![]⟩

class Facts : Prop where
  bcast_S_S20000 : S_.BroadcastsInDim S20000 (![] : Fin 0 → Fin S20000.rank)
  reducesTo_S20000_S_d0 : S20000.ReducesTo [0] S_
  h_S_ : 0 < S_.numel

variable [Facts]

def fn {F : FTy → Type} [FloatOps F] (main_arg0 : FVec F S20000x4 .f32) (main_arg1 : FVec F S20000 .f32) (main_arg2 : IVec S20000 32) : IVec S_ 1 :=
  let main_c : IVec S_ 32 := constantI S_ 32 0#32
  let main_v0 : IVec S20000 32 := broadcastInDim S20000 ![] bcast_S_S20000 main_c
  let main_v1 : IVec S20000 1 := cmpi .sge main_arg2 main_v0
  let main_c_0 : IVec S_ 32 := constantI S_ 32 80#32
  let main_v2 : IVec S20000 32 := broadcastInDim S20000 ![] bcast_S_S20000 main_c_0
  let main_v3 : IVec S20000 1 := cmpi .slt main_arg2 main_v2
  let main_v4 : IVec S20000 1 := andi main_v1 main_v3
  let main_c_1 : IVec S_ 1 := constantI S_ 1 1#1
  let main_v5 : IVec S_ 1 := (fun x v => Host.reduce IntOp.andi x v reducesTo_S20000_S_d0 h_S_) main_v4 main_c_1
  main_v5
-- ==== Kernel.lean ====
abbrev S20000x4 : Shape := ⟨2, ![20000, 4]⟩
abbrev S20000 : Shape := ⟨1, ![20000]⟩
abbrev S_ : Shape := ⟨0, ![]⟩
abbrev S20000x1 : Shape := ⟨2, ![20000, 1]⟩
abbrev S80 : Shape := ⟨1, ![80]⟩
abbrev S1 : Shape := ⟨1, ![1]⟩
abbrev S81 : Shape := ⟨1, ![81]⟩
abbrev S79 : Shape := ⟨1, ![79]⟩
abbrev S21280 : Shape := ⟨1, ![21280]⟩
abbrev S96 : Shape := ⟨1, ![96]⟩
abbrev S21296 : Shape := ⟨1, ![21296]⟩
abbrev S16 : Shape := ⟨1, ![16]⟩
abbrev S20000x5 : Shape := ⟨2, ![20000, 5]⟩

abbrev nBuf : Table → Nat
  | .hbm => 259
  | .local .scVector .vmem => 7
  | _ => 0

abbrev hbmTy0_0 (i : Nat) : BufTy := match i % 128 with
  | 0 => ⟨S20000x4, .f32⟩
  | 1 => ⟨S20000, .f32⟩
  | 2 => ⟨S20000, .i32⟩
  | 3 => ⟨S20000, .f32⟩
  | 4 => ⟨S20000, .i32⟩
  | 5 => ⟨S20000, .f32⟩
  | 6 => ⟨S20000, .i32⟩
  | 7 => ⟨S_, .i32⟩
  | 8 => ⟨S20000, .i32⟩
  | 9 => ⟨S20000, .i1⟩
  | 10 => ⟨S_, .i32⟩
  | 11 => ⟨S20000, .i32⟩
  | 12 => ⟨S20000, .i32⟩
  | 13 => ⟨S20000, .i32⟩
  | 14 => ⟨S20000x1, .i32⟩
  | 15 => ⟨S20000x4, .f32⟩
  | 16 => ⟨S_, .i32⟩
  | 17 => ⟨S20000, .i32⟩
  | 18 => ⟨S20000, .i1⟩
  | 19 => ⟨S_, .i32⟩
  | 20 => ⟨S20000, .i32⟩
  | 21 => ⟨S20000, .i32⟩
  | 22 => ⟨S20000, .i32⟩
  | 23 => ⟨S20000x1, .i32⟩
  | 24 => ⟨S20000, .f32⟩
  | 25 => ⟨S_, .i32⟩
  | 26 => ⟨S20000, .i32⟩
  | 27 => ⟨S20000, .i1⟩
  | 28 => ⟨S_, .i32⟩
  | 29 => ⟨S20000, .i32⟩
  | 30 => ⟨S20000, .i32⟩
  | 31 => ⟨S20000, .i32⟩
  | 32 => ⟨S20000x1, .i32⟩
  | 33 => ⟨S20000, .i32⟩
  | 34 => ⟨S20000, .i32⟩
  | 35 => ⟨S20000, .i32⟩
  | 36 => ⟨S20000, .i32⟩
  | 37 => ⟨S_, .i32⟩
  | 38 => ⟨S20000, .i32⟩
  | 39 => ⟨S20000, .i1⟩
  | 40 => ⟨S_, .i32⟩
  | 41 => ⟨S20000, .i32⟩
  | 42 => ⟨S20000, .i32⟩
  | 43 => ⟨S20000, .i32⟩
  | 44 => ⟨S20000x1, .i32⟩
  | 45 => ⟨S20000x4, .f32⟩
  | 46 => ⟨S_, .i32⟩
  | 47 => ⟨S20000, .i32⟩
  | 48 => ⟨S20000, .i1⟩
  | 49 => ⟨S_, .i32⟩
  | 50 => ⟨S20000, .i32⟩
  | 51 => ⟨S20000, .i32⟩
  | 52 => ⟨S20000, .i32⟩
  | 53 => ⟨S20000x1, .i32⟩
  | 54 => ⟨S20000, .f32⟩
  | 55 => ⟨S_, .i32⟩
  | 56 => ⟨S20000, .i32⟩
  | 57 => ⟨S20000, .i1⟩
  | 58 => ⟨S_, .i32⟩
  | 59 => ⟨S20000, .i32⟩
  | 60 => ⟨S20000, .i32⟩
  | 61 => ⟨S20000, .i32⟩
  | 62 => ⟨S20000x1, .i32⟩
  | 63 => ⟨S20000, .i32⟩
  | 64 => ⟨S_, .i32⟩
  | 65 => ⟨S20000, .i32⟩
  | 66 => ⟨S_, .i32⟩
  | 67 => ⟨S80, .i32⟩
  | 68 => ⟨S_, .i32⟩
  | 69 => ⟨S20000, .i32⟩
  | 70 => ⟨S20000, .i1⟩
  | 71 => ⟨S_, .i32⟩
  | 72 => ⟨S20000, .i32⟩
  | 73 => ⟨S20000, .i32⟩
  | 74 => ⟨S20000, .i32⟩
  | 75 => ⟨S20000x1, .i32⟩
  | 76 => ⟨S80, .i32⟩
  | 77 => ⟨S_, .f32⟩
  | 78 => ⟨S20000, .f32⟩
  | 79 => ⟨S20000, .i1⟩
  | 80 => ⟨S20000, .i32⟩
  | 81 => ⟨S_, .i32⟩
  | 82 => ⟨S80, .i32⟩
  | 83 => ⟨S_, .i32⟩
  | 84 => ⟨S20000, .i32⟩
  | 85 => ⟨S20000, .i1⟩
  | 86 => ⟨S_, .i32⟩
  | 87 => ⟨S20000, .i32⟩
  | 88 => ⟨S20000, .i32⟩
  | 89 => ⟨S20000, .i32⟩
  | 90 => ⟨S20000x1, .i32⟩
  | 91 => ⟨S80, .i32⟩
  | 92 => ⟨S_, .i32⟩
  | 93 => ⟨S80, .i32⟩
  | 94 => ⟨S80, .i32⟩
  | 95 => ⟨S_, .i32⟩
  | 96 => ⟨S_, .i32⟩
  | 97 => ⟨S80, .i32⟩
  | 98 => ⟨S80, .i32⟩
  | 99 => ⟨S80, .i32⟩
  | 100 => ⟨S_, .i32⟩
  | 101 => ⟨S80, .i32⟩
  | 102 => ⟨S80, .i1⟩
  | 103 => ⟨S80, .i32⟩
  | 104 => ⟨S80, .i32⟩
  | 105 => ⟨S_, .i32⟩
  | 106 => ⟨S80, .i32⟩
  | 107 => ⟨S80, .i1⟩
  | 108 => ⟨S80, .i1⟩
  | 109 => ⟨S_, .i32⟩
  | 110 => ⟨S80, .i32⟩
  | 111 => ⟨S80, .i32⟩
  | 112 => ⟨S80, .i32⟩
  | 113 => ⟨S_, .i32⟩
  | 114 => ⟨S80, .i32⟩
  | 115 => ⟨S80, .i32⟩
  | 116 => ⟨S_, .i32⟩
  | 117 => ⟨S1, .i32⟩
  | 118 => ⟨S_, .i32⟩
  | 119 => ⟨S_, .i32⟩
  | 120 => ⟨S80, .i32⟩
  | 121 => ⟨S81, .i32⟩
  | 122 => ⟨S_, .i32⟩
  | 123 => ⟨S1, .i32⟩
  | 124 => ⟨S_, .i32⟩
  | 125 => ⟨S_, .i32⟩
  | 126 => ⟨S80, .i32⟩
  | 127 => ⟨S79, .i32⟩
  | _ => ⟨S20000x4, .f32⟩

abbrev hbmTy0_1 (i : Nat) : BufTy := match i % 128 with
  | 0 => ⟨S80, .i32⟩
  | 1 => ⟨S_, .i32⟩
  | 2 => ⟨S20000, .i32⟩
  | 3 => ⟨S20000, .i1⟩
  | 4 => ⟨S_, .i32⟩
  | 5 => ⟨S20000, .i32⟩
  | 6 => ⟨S20000, .i32⟩
  | 7 => ⟨S20000, .i32⟩
  | 8 => ⟨S20000x1, .i32⟩
  | 9 => ⟨S20000, .i32⟩
  | 10 => ⟨S20000, .i32⟩
  | 11 => ⟨S_, .i32⟩
  | 12 => ⟨S20000, .i32⟩
  | 13 => ⟨S20000, .i1⟩
  | 14 => ⟨S_, .i32⟩
  | 15 => ⟨S20000, .i32⟩
  | 16 => ⟨S20000, .i32⟩
  | 17 => ⟨S20000, .i32⟩
  | 18 => ⟨S20000x1, .i32⟩
  | 19 => ⟨S20000, .i32⟩
  | 20 => ⟨S20000, .i32⟩
  | 21 => ⟨S20000, .i32⟩
  | 22 => ⟨S_, .f32⟩
  | 23 => ⟨S21280, .f32⟩
  | 24 => ⟨S20000x1, .f32⟩
  | 25 => ⟨S20000, .f32⟩
  | 26 => ⟨S_, .i32⟩
  | 27 => ⟨S20000, .i32⟩
  | 28 => ⟨S20000, .i1⟩
  | 29 => ⟨S_, .i32⟩
  | 30 => ⟨S20000, .i32⟩
  | 31 => ⟨S20000, .i32⟩
  | 32 => ⟨S20000, .i32⟩
  | 33 => ⟨S20000x1, .i32⟩
  | 34 => ⟨S21280, .f32⟩
  | 35 => ⟨S_, .f32⟩
  | 36 => ⟨S21280, .f32⟩
  | 37 => ⟨S20000x1, .f32⟩
  | 38 => ⟨S20000, .f32⟩
  | 39 => ⟨S_, .i32⟩
  | 40 => ⟨S20000, .i32⟩
  | 41 => ⟨S20000, .i1⟩
  | 42 => ⟨S_, .i32⟩
  | 43 => ⟨S20000, .i32⟩
  | 44 => ⟨S20000, .i32⟩
  | 45 => ⟨S20000, .i32⟩
  | 46 => ⟨S20000x1, .i32⟩
  | 47 => ⟨S21280, .f32⟩
  | 48 => ⟨S_, .f32⟩
  | 49 => ⟨S21280, .f32⟩
  | 50 => ⟨S20000x1, .f32⟩
  | 51 => ⟨S20000, .f32⟩
  | 52 => ⟨S_, .i32⟩
  | 53 => ⟨S20000, .i32⟩
  | 54 => ⟨S20000, .i1⟩
  | 55 => ⟨S_, .i32⟩
  | 56 => ⟨S20000, .i32⟩
  | 57 => ⟨S20000, .i32⟩
  | 58 => ⟨S20000, .i32⟩
  | 59 => ⟨S20000x1, .i32⟩
  | 60 => ⟨S21280, .f32⟩
  | 61 => ⟨S_, .f32⟩
  | 62 => ⟨S21280, .f32⟩
  | 63 => ⟨S20000x1, .f32⟩
  | 64 => ⟨S20000, .f32⟩
  | 65 => ⟨S_, .i32⟩
  | 66 => ⟨S20000, .i32⟩
  | 67 => ⟨S20000, .i1⟩
  | 68 => ⟨S_, .i32⟩
  | 69 => ⟨S20000, .i32⟩
  | 70 => ⟨S20000, .i32⟩
  | 71 => ⟨S20000, .i32⟩
  | 72 => ⟨S20000x1, .i32⟩
  | 73 => ⟨S21280, .f32⟩
  | 74 => ⟨S_, .f32⟩
  | 75 => ⟨S21280, .f32⟩
  | 76 => ⟨S_, .f32⟩
  | 77 => ⟨S20000, .f32⟩
  | 78 => ⟨S20000, .i1⟩
  | 79 => ⟨S20000, .f32⟩
  | 80 => ⟨S_, .i32⟩
  | 81 => ⟨S20000, .i32⟩
  | 82 => ⟨S20000, .i1⟩
  | 83 => ⟨S_, .i32⟩
  | 84 => ⟨S20000, .i32⟩
  | 85 => ⟨S20000, .i32⟩
  | 86 => ⟨S20000, .i32⟩
  | 87 => ⟨S20000x1, .i32⟩
  | 88 => ⟨S21280, .f32⟩
  | 89 => ⟨S_, .i32⟩
  | 90 => ⟨S96, .i32⟩
  | 91 => ⟨S_, .i32⟩
  | 92 => ⟨S1, .i32⟩
  | 93 => ⟨S96, .i32⟩
  | 94 => ⟨S_, .i32⟩
  | 95 => ⟨S96, .i32⟩
  | 96 => ⟨S_, .i32⟩
  | 97 => ⟨S1, .i32⟩
  | 98 => ⟨S96, .i32⟩
  | 99 => ⟨S21280, .f32⟩
  | 100 => ⟨S_, .f32⟩
  | 101 => ⟨S20000, .f32⟩
  | 102 => ⟨S_, .i32⟩
  | 103 => ⟨S20000, .i32⟩
  | 104 => ⟨S20000, .i1⟩
  | 105 => ⟨S_, .i32⟩
  | 106 => ⟨S20000, .i32⟩
  | 107 => ⟨S20000, .i32⟩
  | 108 => ⟨S20000, .i32⟩
  | 109 => ⟨S20000x1, .i32⟩
  | 110 => ⟨S20000, .f32⟩
  | 111 => ⟨S_, .i32⟩
  | 112 => ⟨S20000, .i32⟩
  | 113 => ⟨S20000, .i1⟩
  | 114 => ⟨S_, .i32⟩
  | 115 => ⟨S20000, .i32⟩
  | 116 => ⟨S20000, .i32⟩
  | 117 => ⟨S20000, .i32⟩
  | 118 => ⟨S20000x1, .i32⟩
  | 119 => ⟨S20000, .f32⟩
  | 120 => ⟨S20000x1, .f32⟩
  | 121 => ⟨S20000x5, .f32⟩
  | 122 => ⟨S20000x1, .f32⟩
  | 123 => ⟨S_, .f32⟩
  | 124 => ⟨S20000x1, .f32⟩
  | 125 => ⟨S20000x1, .i1⟩
  | 126 => ⟨S_, .f32⟩
  | 127 => ⟨S_, .f32⟩
  | _ => ⟨S20000x4, .f32⟩

abbrev hbmTy0_2 (i : Nat) : BufTy := match i % 128 with
  | 0 => ⟨S20000x5, .i1⟩
  | 1 => ⟨S20000x5, .f32⟩
  | 2 => ⟨S20000x5, .f32⟩
  | _ => ⟨S20000x4, .f32⟩

abbrev hbmTy (i : Nat) : BufTy := match i / 128 with
  | 0 => hbmTy0_0 i
  | 1 => hbmTy0_1 i
  | 2 => hbmTy0_2 i
  | _ => ⟨S20000x4, .f32⟩

abbrev bufTy : (tb : Table) → Fin (nBuf tb) → BufTy
  | .hbm, ⟨i, _⟩ => hbmTy i
  | .local .scVector .vmem, ⟨0, _⟩ => ⟨S21296, .f32⟩
  | .local .scVector .vmem, ⟨1, _⟩ => ⟨S21296, .f32⟩
  | .local .scVector .vmem, ⟨2, _⟩ => ⟨S21296, .f32⟩
  | .local .scVector .vmem, ⟨3, _⟩ => ⟨S21296, .f32⟩
  | .local .scVector .vmem, ⟨4, _⟩ => ⟨S21296, .f32⟩
  | .local .scVector .vmem, ⟨5, _⟩ => ⟨S96, .i32⟩
  | .local .scVector .vmem, ⟨6, _⟩ => ⟨S96, .i32⟩
  | _, _ => ⟨S20000x4, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1_0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_c_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call1_v0 : Ref sig .tc := ⟨.hbm, 34, rfl⟩
abbrev main_call1_v1_0 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_c_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_9 : Ref sig .tc := ⟨.hbm, 55, rfl⟩
abbrev main_v38 : Ref sig .tc := ⟨.hbm, 56, rfl⟩
abbrev main_v39 : Ref sig .tc := ⟨.hbm, 57, rfl⟩
abbrev main_c_10 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_11 : Ref sig .tc := ⟨.hbm, 64, rfl⟩
abbrev main_v45 : Ref sig .tc := ⟨.hbm, 65, rfl⟩
abbrev main_c_12 : Ref sig .tc := ⟨.hbm, 66, rfl⟩
abbrev main_v46 : Ref sig .tc := ⟨.hbm, 67, rfl⟩
abbrev main_c_13 : Ref sig .tc := ⟨.hbm, 68, rfl⟩
abbrev main_v47 : Ref sig .tc := ⟨.hbm, 69, rfl⟩
abbrev main_v48 : Ref sig .tc := ⟨.hbm, 70, rfl⟩
abbrev main_c_14 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_15 : Ref sig .tc := ⟨.hbm, 81, rfl⟩
abbrev main_v57 : Ref sig .tc := ⟨.hbm, 82, rfl⟩
abbrev main_c_16 : Ref sig .tc := ⟨.hbm, 83, rfl⟩
abbrev main_v58 : Ref sig .tc := ⟨.hbm, 84, rfl⟩
abbrev main_v59 : Ref sig .tc := ⟨.hbm, 85, rfl⟩
abbrev main_c_17 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_18 : Ref sig .tc := ⟨.hbm, 92, rfl⟩
abbrev main_v65 : Ref sig .tc := ⟨.hbm, 93, rfl⟩
abbrev main_v66 : Ref sig .tc := ⟨.hbm, 94, rfl⟩
abbrev main_c_19 : Ref sig .tc := ⟨.hbm, 95, rfl⟩
abbrev main_call2_v0 : Ref sig .tc := ⟨.hbm, 96, rfl⟩
abbrev main_call2_v1 : Ref sig .tc := ⟨.hbm, 97, rfl⟩
abbrev main_call2_v2 : Ref sig .tc := ⟨.hbm, 98, rfl⟩
abbrev main_call2_v3 : Ref sig .tc := ⟨.hbm, 99, rfl⟩
abbrev main_call2_v4 : Ref sig .tc := ⟨.hbm, 100, rfl⟩
abbrev main_call2_v5 : Ref sig .tc := ⟨.hbm, 101, rfl⟩
abbrev main_call2_v6 : Ref sig .tc := ⟨.hbm, 102, rfl⟩
abbrev main_call2_v7 : Ref sig .tc := ⟨.hbm, 103, rfl⟩
abbrev main_call2_v8 : Ref sig .tc := ⟨.hbm, 104, rfl⟩
abbrev main_call2_c : Ref sig .tc := ⟨.hbm, 105, rfl⟩
abbrev main_call2_v9 : Ref sig .tc := ⟨.hbm, 106, rfl⟩
abbrev main_call2_v10 : Ref sig .tc := ⟨.hbm, 107, rfl⟩
abbrev main_call2_v11 : Ref sig .tc := ⟨.hbm, 108, rfl⟩
abbrev main_call2_c_0 : Ref sig .tc := ⟨.hbm, 109, rfl⟩
abbrev main_call2_v12 : Ref sig .tc := ⟨.hbm, 110, rfl⟩
abbrev main_call2_v13 : Ref sig .tc := ⟨.hbm, 111, rfl⟩
abbrev main_v67 : Ref sig .tc := ⟨.hbm, 112, rfl⟩
abbrev main_c_20 : Ref sig .tc := ⟨.hbm, 113, rfl⟩
abbrev main_v68 : Ref sig .tc := ⟨.hbm, 114, rfl⟩
abbrev main_v69 : Ref sig .tc := ⟨.hbm, 115, rfl⟩
abbrev main_c_21 : Ref sig .tc := ⟨.hbm, 116, rfl⟩
abbrev main_v70 : Ref sig .tc := ⟨.hbm, 117, rfl⟩
abbrev main_call3_call0_c : Ref sig .tc := ⟨.hbm, 118, rfl⟩
abbrev main_call3_call0_v0 : Ref sig .tc := ⟨.hbm, 119, rfl⟩
abbrev main_v71 : Ref sig .tc := ⟨.hbm, 120, rfl⟩
abbrev main_v72 : Ref sig .tc := ⟨.hbm, 121, rfl⟩
abbrev main_c_22 : Ref sig .tc := ⟨.hbm, 122, rfl⟩
abbrev main_v73 : Ref sig .tc := ⟨.hbm, 123, rfl⟩
abbrev main_call4_call0_c : Ref sig .tc := ⟨.hbm, 124, rfl⟩
abbrev main_call4_call0_v0 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_c_23 : Ref sig .tc := ⟨.hbm, 129, rfl⟩
abbrev main_v77 : Ref sig .tc := ⟨.hbm, 130, rfl⟩
abbrev main_v78 : Ref sig .tc := ⟨.hbm, 131, rfl⟩
abbrev main_c_24 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_c_25 : Ref sig .tc := ⟨.hbm, 139, rfl⟩
abbrev main_v85 : Ref sig .tc := ⟨.hbm, 140, rfl⟩
abbrev main_v86 : Ref sig .tc := ⟨.hbm, 141, rfl⟩
abbrev main_c_26 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_cst_27 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_c_28 : Ref sig .tc := ⟨.hbm, 154, rfl⟩
abbrev main_v97 : Ref sig .tc := ⟨.hbm, 155, rfl⟩
abbrev main_v98 : Ref sig .tc := ⟨.hbm, 156, rfl⟩
abbrev main_c_29 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_cst_30 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_c_31 : Ref sig .tc := ⟨.hbm, 167, rfl⟩
abbrev main_v107 : Ref sig .tc := ⟨.hbm, 168, rfl⟩
abbrev main_v108 : Ref sig .tc := ⟨.hbm, 169, rfl⟩
abbrev main_c_32 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_cst_33 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_c_34 : Ref sig .tc := ⟨.hbm, 180, rfl⟩
abbrev main_v117 : Ref sig .tc := ⟨.hbm, 181, rfl⟩
abbrev main_v118 : Ref sig .tc := ⟨.hbm, 182, rfl⟩
abbrev main_c_35 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_cst_36 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_c_37 : Ref sig .tc := ⟨.hbm, 193, rfl⟩
abbrev main_v127 : Ref sig .tc := ⟨.hbm, 194, rfl⟩
abbrev main_v128 : Ref sig .tc := ⟨.hbm, 195, rfl⟩
abbrev main_c_38 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_cst_39 : Ref sig .tc := ⟨.hbm, 202, rfl⟩
abbrev main_v134 : Ref sig .tc := ⟨.hbm, 203, rfl⟩
abbrev main_cst_40 : Ref sig .tc := ⟨.hbm, 204, rfl⟩
abbrev main_v135 : Ref sig .tc := ⟨.hbm, 205, rfl⟩
abbrev main_v136 : Ref sig .tc := ⟨.hbm, 206, rfl⟩
abbrev main_v137 : Ref sig .tc := ⟨.hbm, 207, rfl⟩
abbrev main_c_41 : Ref sig .tc := ⟨.hbm, 208, rfl⟩
abbrev main_v138 : Ref sig .tc := ⟨.hbm, 209, rfl⟩
abbrev main_v139 : Ref sig .tc := ⟨.hbm, 210, rfl⟩
abbrev main_c_42 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_c_43 : Ref sig .tc := ⟨.hbm, 217, rfl⟩
abbrev main_v145 : Ref sig .tc := ⟨.hbm, 218, rfl⟩
abbrev main_c_44 : Ref sig .tc := ⟨.hbm, 219, rfl⟩
abbrev main_v146 : Ref sig .tc := ⟨.hbm, 220, rfl⟩
abbrev main_v147 : Ref sig .tc := ⟨.hbm, 221, rfl⟩
abbrev main_c_45 : Ref sig .tc := ⟨.hbm, 222, rfl⟩
abbrev main_v148 : Ref sig .tc := ⟨.hbm, 223, rfl⟩
abbrev main_c_46 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_cst_47 : Ref sig .tc := ⟨.hbm, 228, rfl⟩
abbrev main_v152 : Ref sig .tc := ⟨.hbm, 229, rfl⟩
abbrev main_c_48 : Ref sig .tc := ⟨.hbm, 230, rfl⟩
abbrev main_v153 : Ref sig .tc := ⟨.hbm, 231, rfl⟩
abbrev main_v154 : Ref sig .tc := ⟨.hbm, 232, rfl⟩
abbrev main_c_49 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_v159 : Ref sig .tc := ⟨.hbm, 238, rfl⟩
abbrev main_c_50 : Ref sig .tc := ⟨.hbm, 239, rfl⟩
abbrev main_v160 : Ref sig .tc := ⟨.hbm, 240, rfl⟩
abbrev main_v161 : Ref sig .tc := ⟨.hbm, 241, rfl⟩
abbrev main_c_51 : Ref sig .tc := ⟨.hbm, 242, rfl⟩
abbrev main_v162 : Ref sig .tc := ⟨.hbm, 243, rfl⟩
abbrev main_v163 : Ref sig .tc := ⟨.hbm, 244, rfl⟩
abbrev main_v164 : Ref sig .tc := ⟨.hbm, 245, rfl⟩
abbrev main_v165 : Ref sig .tc := ⟨.hbm, 246, rfl⟩
abbrev main_v166 : Ref sig .tc := ⟨.hbm, 247, rfl⟩
abbrev main_v167 : Ref sig .tc := ⟨.hbm, 248, rfl⟩
abbrev main_v168 : Ref sig .tc := ⟨.hbm, 249, rfl⟩
abbrev main_v169 : Ref sig .tc := ⟨.hbm, 250, rfl⟩
abbrev main_cst_52 : Ref sig .tc := ⟨.hbm, 251, rfl⟩
abbrev main_v170 : Ref sig .tc := ⟨.hbm, 252, rfl⟩
abbrev main_v171 : Ref sig .tc := ⟨.hbm, 253, rfl⟩
abbrev main_cst_53 : Ref sig .tc := ⟨.hbm, 254, rfl⟩
abbrev main_call5_v0 : Ref sig .tc := ⟨.hbm, 255, rfl⟩
abbrev main_call5_v1 : Ref sig .tc := ⟨.hbm, 256, rfl⟩
abbrev main_call5_v2 : Ref sig .tc := ⟨.hbm, 257, rfl⟩
abbrev main_v172 : Ref sig .tc := ⟨.hbm, 258, rfl⟩
abbrev main_v103_scv : Ref sig .scVector := ⟨.hbm, 162, rfl⟩
abbrev main_v113_scv : Ref sig .scVector := ⟨.hbm, 175, rfl⟩
abbrev main_v123_scv : Ref sig .scVector := ⟨.hbm, 188, rfl⟩
abbrev main_v133_scv : Ref sig .scVector := ⟨.hbm, 201, rfl⟩
abbrev main_v144_scv : Ref sig .scVector := ⟨.hbm, 216, rfl⟩
abbrev main_v147_scv : Ref sig .scVector := ⟨.hbm, 221, rfl⟩
abbrev main_v150_scv : Ref sig .scVector := ⟨.hbm, 226, rfl⟩
abbrev main_v151_scv : Ref sig .scVector := ⟨.hbm, 227, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop (i : grid0.Coords) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c80_i32 : BitVec 32 := 80#32
  let v2 : BitVec 32 := Scalar.muli v1 c80_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c1_i32_4 : BitVec 32 := 1#32
  let v20 : BitVec 32 := Scalar.addi v1 c1_i32_4
  let c80_i32_5 : BitVec 32 := 80#32
  let v21 : BitVec 32 := Scalar.muli v20 c80_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let v40 : BitVec 32 := Scalar.subi v38 v19
  let c1_i32_14 : BitVec 32 := 1#32
  let v42 : BitVec 32 := Scalar.divsi v40 c1_i32_14
  let v43 : BitVec 32 := Scalar.muli v42 c1_i32_14
  let v44 : BitVec 32 := Scalar.addi v19 v43
  let c1_i32_15 : BitVec 32 := 1#32
  ⟨v19, v44, c1_i32_15⟩
def k0_off1 (i : grid0.Coords) (k0_t1 : Fin (k0_t1_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c80_i32 : BitVec 32 := 80#32
  let v2 : BitVec 32 := Scalar.muli v1 c80_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c1_i32_15 : BitVec 32 := 1#32
  let arg17 : BitVec 32 := Scf.iv v19 c1_i32_15 k0_t1
  let v78 : Index := Scalar.indexCast arg17
  ![v78.toNat]
@[reducible] def k0_t2_loop (v87 : BitVec 32) : Scf.Loop 32 :=
  let c0_i32_36 : BitVec 32 := 0#32
  let v106 : BitVec 32 := Scalar.subi v87 c0_i32_36
  let c1_i32_37 : BitVec 32 := 1#32
  let v108 : BitVec 32 := Scalar.divsi v106 c1_i32_37
  let v109 : BitVec 32 := Scalar.muli v108 c1_i32_37
  let v110 : BitVec 32 := Scalar.addi c0_i32_36 v109
  let c1_i32_38 : BitVec 32 := 1#32
  ⟨c0_i32_36, v110, c1_i32_38⟩

def k0_off2 (v82 : BitVec 32) (v87 : BitVec 32) (k0_t2 : Fin (k0_t2_loop v87).trips) : Fin 1 → Nat :=
  let c0_i32_36 : BitVec 32 := 0#32
  let c1_i32_38 : BitVec 32 := 1#32
  let arg18 : BitVec 32 := Scf.iv c0_i32_36 c1_i32_38 k0_t2
  let v111 : BitVec 32 := Scalar.addi v82 arg18
  let v112 : Index := Scalar.indexCast v111
  ![v112.toNat]
@[reducible] def k0_t3_loop (v87 : BitVec 32) (k0_t2 : Fin (k0_t2_loop v87).trips) (v144 : BitVec 1) : Scf.Loop 32 :=
  let c0_i32_36 : BitVec 32 := 0#32
  let c1_i32_38 : BitVec 32 := 1#32
  let arg18 : BitVec 32 := Scf.iv c0_i32_36 c1_i32_38 k0_t2
  let c1_i32_40 : BitVec 32 := 1#32
  let v145 : BitVec 32 := Scalar.addi arg18 c1_i32_40
  let c0_i32_42 : BitVec 32 := 0#32
  let v147 : BitVec 1 := Scalar.cmpi .sgt v145 c0_i32_42
  let v148 : BitVec 32 := Scalar.extui v147
  let c0_i32_43 : BitVec 32 := 0#32
  let v149 : BitVec 1 := Scalar.cmpi .slt v145 c0_i32_43
  let v150 : BitVec 32 := Scalar.extui v149
  let v151 : BitVec 32 := Scalar.subi v148 v150
  let c16_i32_41 : BitVec 32 := 16#32
  let c0_i32_44 : BitVec 32 := 0#32
  let v152 : BitVec 1 := Scalar.cmpi .sgt c16_i32_41 c0_i32_44
  let v153 : BitVec 32 := Scalar.extui v152
  let c0_i32_45 : BitVec 32 := 0#32
  let v154 : BitVec 1 := Scalar.cmpi .slt c16_i32_41 c0_i32_45
  let v155 : BitVec 32 := Scalar.extui v154
  let v156 : BitVec 32 := Scalar.subi v153 v155
  let v157 : BitVec 1 := Scalar.cmpi .ne v151 v156
  let v158 : BitVec 32 := Scalar.remsi v145 c16_i32_41
  let c0_i32_46 : BitVec 32 := 0#32
  let v159 : BitVec 1 := Scalar.cmpi .ne v158 c0_i32_46
  let v160 : BitVec 1 := Scalar.andi v157 v159
  let v146 : BitVec 32 := Scalar.divsi v145 c16_i32_41
  let c1_i32_47 : BitVec 32 := 1#32
  let v161 : BitVec 32 := Scalar.subi v146 c1_i32_47
  let v162 : BitVec 32 := Scalar.select v160 v161 v146
  let c15_i32 : BitVec 32 := 15#32
  let v88 : BitVec 32 := Scalar.addi v87 c15_i32
  let c0_i32_29 : BitVec 32 := 0#32
  let v90 : BitVec 1 := Scalar.cmpi .sgt v88 c0_i32_29
  let v91 : BitVec 32 := Scalar.extui v90
  let c0_i32_30 : BitVec 32 := 0#32
  let v92 : BitVec 1 := Scalar.cmpi .slt v88 c0_i32_30
  let v93 : BitVec 32 := Scalar.extui v92
  let v94 : BitVec 32 := Scalar.subi v91 v93
  let c16_i32_28 : BitVec 32 := 16#32
  let c0_i32_31 : BitVec 32 := 0#32
  let v95 : BitVec 1 := Scalar.cmpi .sgt c16_i32_28 c0_i32_31
  let v96 : BitVec 32 := Scalar.extui v95
  let c0_i32_32 : BitVec 32 := 0#32
  let v97 : BitVec 1 := Scalar.cmpi .slt c16_i32_28 c0_i32_32
  let v98 : BitVec 32 := Scalar.extui v97
  let v99 : BitVec 32 := Scalar.subi v96 v98
  let v100 : BitVec 1 := Scalar.cmpi .ne v94 v99
  let v101 : BitVec 32 := Scalar.remsi v88 c16_i32_28
  let c0_i32_33 : BitVec 32 := 0#32
  let v102 : BitVec 1 := Scalar.cmpi .ne v101 c0_i32_33
  let v103 : BitVec 1 := Scalar.andi v100 v102
  let v89 : BitVec 32 := Scalar.divsi v88 c16_i32_28
  let c1_i32_34 : BitVec 32 := 1#32
  let v104 : BitVec 32 := Scalar.subi v89 c1_i32_34
  let v105 : BitVec 32 := Scalar.select v103 v104 v89
  let v163 : BitVec 32 := Scalar.select v144 v162 v105
  let v164 : BitVec 32 := Scalar.subi v105 v163
  let c1_i32_49 : BitVec 32 := 1#32
  let v166 : BitVec 32 := Scalar.divsi v164 c1_i32_49
  let v167 : BitVec 32 := Scalar.muli v166 c1_i32_49
  let v168 : BitVec 32 := Scalar.addi v163 v167
  let c1_i32_50 : BitVec 32 := 1#32
  ⟨v163, v168, c1_i32_50⟩

def k0_off3 (v82 : BitVec 32) (v87 : BitVec 32) (k0_t2 : Fin (k0_t2_loop v87).trips) (v144 : BitVec 1) (k0_t3 : Fin (k0_t3_loop v87 k0_t2 v144).trips) : Fin 1 → Nat :=
  let c0_i32_36 : BitVec 32 := 0#32
  let c1_i32_38 : BitVec 32 := 1#32
  let arg18 : BitVec 32 := Scf.iv c0_i32_36 c1_i32_38 k0_t2
  let c1_i32_40 : BitVec 32 := 1#32
  let v145 : BitVec 32 := Scalar.addi arg18 c1_i32_40
  let c0_i32_42 : BitVec 32 := 0#32
  let v147 : BitVec 1 := Scalar.cmpi .sgt v145 c0_i32_42
  let v148 : BitVec 32 := Scalar.extui v147
  let c0_i32_43 : BitVec 32 := 0#32
  let v149 : BitVec 1 := Scalar.cmpi .slt v145 c0_i32_43
  let v150 : BitVec 32 := Scalar.extui v149
  let v151 : BitVec 32 := Scalar.subi v148 v150
  let c16_i32_41 : BitVec 32 := 16#32
  let c0_i32_44 : BitVec 32 := 0#32
  let v152 : BitVec 1 := Scalar.cmpi .sgt c16_i32_41 c0_i32_44
  let v153 : BitVec 32 := Scalar.extui v152
  let c0_i32_45 : BitVec 32 := 0#32
  let v154 : BitVec 1 := Scalar.cmpi .slt c16_i32_41 c0_i32_45
  let v155 : BitVec 32 := Scalar.extui v154
  let v156 : BitVec 32 := Scalar.subi v153 v155
  let v157 : BitVec 1 := Scalar.cmpi .ne v151 v156
  let v158 : BitVec 32 := Scalar.remsi v145 c16_i32_41
  let c0_i32_46 : BitVec 32 := 0#32
  let v159 : BitVec 1 := Scalar.cmpi .ne v158 c0_i32_46
  let v160 : BitVec 1 := Scalar.andi v157 v159
  let v146 : BitVec 32 := Scalar.divsi v145 c16_i32_41
  let c1_i32_47 : BitVec 32 := 1#32
  let v161 : BitVec 32 := Scalar.subi v146 c1_i32_47
  let v162 : BitVec 32 := Scalar.select v160 v161 v146
  let c15_i32 : BitVec 32 := 15#32
  let v88 : BitVec 32 := Scalar.addi v87 c15_i32
  let c0_i32_29 : BitVec 32 := 0#32
  let v90 : BitVec 1 := Scalar.cmpi .sgt v88 c0_i32_29
  let v91 : BitVec 32 := Scalar.extui v90
  let c0_i32_30 : BitVec 32 := 0#32
  let v92 : BitVec 1 := Scalar.cmpi .slt v88 c0_i32_30
  let v93 : BitVec 32 := Scalar.extui v92
  let v94 : BitVec 32 := Scalar.subi v91 v93
  let c16_i32_28 : BitVec 32 := 16#32
  let c0_i32_31 : BitVec 32 := 0#32
  let v95 : BitVec 1 := Scalar.cmpi .sgt c16_i32_28 c0_i32_31
  let v96 : BitVec 32 := Scalar.extui v95
  let c0_i32_32 : BitVec 32 := 0#32
  let v97 : BitVec 1 := Scalar.cmpi .slt c16_i32_28 c0_i32_32
  let v98 : BitVec 32 := Scalar.extui v97
  let v99 : BitVec 32 := Scalar.subi v96 v98
  let v100 : BitVec 1 := Scalar.cmpi .ne v94 v99
  let v101 : BitVec 32 := Scalar.remsi v88 c16_i32_28
  let c0_i32_33 : BitVec 32 := 0#32
  let v102 : BitVec 1 := Scalar.cmpi .ne v101 c0_i32_33
  let v103 : BitVec 1 := Scalar.andi v100 v102
  let v89 : BitVec 32 := Scalar.divsi v88 c16_i32_28
  let c1_i32_34 : BitVec 32 := 1#32
  let v104 : BitVec 32 := Scalar.subi v89 c1_i32_34
  let v105 : BitVec 32 := Scalar.select v103 v104 v89
  let v163 : BitVec 32 := Scalar.select v144 v162 v105
  let c1_i32_50 : BitVec 32 := 1#32
  let arg19 : BitVec 32 := Scf.iv v163 c1_i32_50 k0_t3
  let c16_i32_52 : BitVec 32 := 16#32
  let v169 : BitVec 32 := Scalar.muli arg19 c16_i32_52
  let v170 : BitVec 32 := Scalar.addi v82 v169
  let v171 : Index := Scalar.indexCast v170
  ![v171.toNat]
@[reducible] def k0_t4_loop (v87 : BitVec 32) (k0_t2 : Fin (k0_t2_loop v87).trips) (v144 : BitVec 1) : Scf.Loop 32 :=
  let c0_i32_36 : BitVec 32 := 0#32
  let c1_i32_38 : BitVec 32 := 1#32
  let arg18 : BitVec 32 := Scf.iv c0_i32_36 c1_i32_38 k0_t2
  let c1_i32_40 : BitVec 32 := 1#32
  let v145 : BitVec 32 := Scalar.addi arg18 c1_i32_40
  let c0_i32_42 : BitVec 32 := 0#32
  let v147 : BitVec 1 := Scalar.cmpi .sgt v145 c0_i32_42
  let v148 : BitVec 32 := Scalar.extui v147
  let c0_i32_43 : BitVec 32 := 0#32
  let v149 : BitVec 1 := Scalar.cmpi .slt v145 c0_i32_43
  let v150 : BitVec 32 := Scalar.extui v149
  let v151 : BitVec 32 := Scalar.subi v148 v150
  let c16_i32_41 : BitVec 32 := 16#32
  let c0_i32_44 : BitVec 32 := 0#32
  let v152 : BitVec 1 := Scalar.cmpi .sgt c16_i32_41 c0_i32_44
  let v153 : BitVec 32 := Scalar.extui v152
  let c0_i32_45 : BitVec 32 := 0#32
  let v154 : BitVec 1 := Scalar.cmpi .slt c16_i32_41 c0_i32_45
  let v155 : BitVec 32 := Scalar.extui v154
  let v156 : BitVec 32 := Scalar.subi v153 v155
  let v157 : BitVec 1 := Scalar.cmpi .ne v151 v156
  let v158 : BitVec 32 := Scalar.remsi v145 c16_i32_41
  let c0_i32_46 : BitVec 32 := 0#32
  let v159 : BitVec 1 := Scalar.cmpi .ne v158 c0_i32_46
  let v160 : BitVec 1 := Scalar.andi v157 v159
  let v146 : BitVec 32 := Scalar.divsi v145 c16_i32_41
  let c1_i32_47 : BitVec 32 := 1#32
  let v161 : BitVec 32 := Scalar.subi v146 c1_i32_47
  let v162 : BitVec 32 := Scalar.select v160 v161 v146
  let c15_i32 : BitVec 32 := 15#32
  let v88 : BitVec 32 := Scalar.addi v87 c15_i32
  let c0_i32_29 : BitVec 32 := 0#32
  let v90 : BitVec 1 := Scalar.cmpi .sgt v88 c0_i32_29
  let v91 : BitVec 32 := Scalar.extui v90
  let c0_i32_30 : BitVec 32 := 0#32
  let v92 : BitVec 1 := Scalar.cmpi .slt v88 c0_i32_30
  let v93 : BitVec 32 := Scalar.extui v92
  let v94 : BitVec 32 := Scalar.subi v91 v93
  let c16_i32_28 : BitVec 32 := 16#32
  let c0_i32_31 : BitVec 32 := 0#32
  let v95 : BitVec 1 := Scalar.cmpi .sgt c16_i32_28 c0_i32_31
  let v96 : BitVec 32 := Scalar.extui v95
  let c0_i32_32 : BitVec 32 := 0#32
  let v97 : BitVec 1 := Scalar.cmpi .slt c16_i32_28 c0_i32_32
  let v98 : BitVec 32 := Scalar.extui v97
  let v99 : BitVec 32 := Scalar.subi v96 v98
  let v100 : BitVec 1 := Scalar.cmpi .ne v94 v99
  let v101 : BitVec 32 := Scalar.remsi v88 c16_i32_28
  let c0_i32_33 : BitVec 32 := 0#32
  let v102 : BitVec 1 := Scalar.cmpi .ne v101 c0_i32_33
  let v103 : BitVec 1 := Scalar.andi v100 v102
  let v89 : BitVec 32 := Scalar.divsi v88 c16_i32_28
  let c1_i32_34 : BitVec 32 := 1#32
  let v104 : BitVec 32 := Scalar.subi v89 c1_i32_34
  let v105 : BitVec 32 := Scalar.select v103 v104 v89
  let v163 : BitVec 32 := Scalar.select v144 v162 v105
  let v164 : BitVec 32 := Scalar.subi v105 v163
  let c1_i32_49 : BitVec 32 := 1#32
  let v166 : BitVec 32 := Scalar.divsi v164 c1_i32_49
  let v167 : BitVec 32 := Scalar.muli v166 c1_i32_49
  let v168 : BitVec 32 := Scalar.addi v163 v167
  let v165 : BitVec 32 := Scalar.addi v163 v164
  let c1_i32_51 : BitVec 32 := 1#32
  ⟨v168, v165, c1_i32_51⟩
def k0_off4 (v82 : BitVec 32) (v87 : BitVec 32) (k0_t2 : Fin (k0_t2_loop v87).trips) (v144 : BitVec 1) (k0_t4 : Fin (k0_t4_loop v87 k0_t2 v144).trips) : Fin 1 → Nat :=
  let c0_i32_36 : BitVec 32 := 0#32
  let c1_i32_38 : BitVec 32 := 1#32
  let arg18 : BitVec 32 := Scf.iv c0_i32_36 c1_i32_38 k0_t2
  let c1_i32_40 : BitVec 32 := 1#32
  let v145 : BitVec 32 := Scalar.addi arg18 c1_i32_40
  let c0_i32_42 : BitVec 32 := 0#32
  let v147 : BitVec 1 := Scalar.cmpi .sgt v145 c0_i32_42
  let v148 : BitVec 32 := Scalar.extui v147
  let c0_i32_43 : BitVec 32 := 0#32
  let v149 : BitVec 1 := Scalar.cmpi .slt v145 c0_i32_43
  let v150 : BitVec 32 := Scalar.extui v149
  let v151 : BitVec 32 := Scalar.subi v148 v150
  let c16_i32_41 : BitVec 32 := 16#32
  let c0_i32_44 : BitVec 32 := 0#32
  let v152 : BitVec 1 := Scalar.cmpi .sgt c16_i32_41 c0_i32_44
  let v153 : BitVec 32 := Scalar.extui v152
  let c0_i32_45 : BitVec 32 := 0#32
  let v154 : BitVec 1 := Scalar.cmpi .slt c16_i32_41 c0_i32_45
  let v155 : BitVec 32 := Scalar.extui v154
  let v156 : BitVec 32 := Scalar.subi v153 v155
  let v157 : BitVec 1 := Scalar.cmpi .ne v151 v156
  let v158 : BitVec 32 := Scalar.remsi v145 c16_i32_41
  let c0_i32_46 : BitVec 32 := 0#32
  let v159 : BitVec 1 := Scalar.cmpi .ne v158 c0_i32_46
  let v160 : BitVec 1 := Scalar.andi v157 v159
  let v146 : BitVec 32 := Scalar.divsi v145 c16_i32_41
  let c1_i32_47 : BitVec 32 := 1#32
  let v161 : BitVec 32 := Scalar.subi v146 c1_i32_47
  let v162 : BitVec 32 := Scalar.select v160 v161 v146
  let c15_i32 : BitVec 32 := 15#32
  let v88 : BitVec 32 := Scalar.addi v87 c15_i32
  let c0_i32_29 : BitVec 32 := 0#32
  let v90 : BitVec 1 := Scalar.cmpi .sgt v88 c0_i32_29
  let v91 : BitVec 32 := Scalar.extui v90
  let c0_i32_30 : BitVec 32 := 0#32
  let v92 : BitVec 1 := Scalar.cmpi .slt v88 c0_i32_30
  let v93 : BitVec 32 := Scalar.extui v92
  let v94 : BitVec 32 := Scalar.subi v91 v93
  let c16_i32_28 : BitVec 32 := 16#32
  let c0_i32_31 : BitVec 32 := 0#32
  let v95 : BitVec 1 := Scalar.cmpi .sgt c16_i32_28 c0_i32_31
  let v96 : BitVec 32 := Scalar.extui v95
  let c0_i32_32 : BitVec 32 := 0#32
  let v97 : BitVec 1 := Scalar.cmpi .slt c16_i32_28 c0_i32_32
  let v98 : BitVec 32 := Scalar.extui v97
  let v99 : BitVec 32 := Scalar.subi v96 v98
  let v100 : BitVec 1 := Scalar.cmpi .ne v94 v99
  let v101 : BitVec 32 := Scalar.remsi v88 c16_i32_28
  let c0_i32_33 : BitVec 32 := 0#32
  let v102 : BitVec 1 := Scalar.cmpi .ne v101 c0_i32_33
  let v103 : BitVec 1 := Scalar.andi v100 v102
  let v89 : BitVec 32 := Scalar.divsi v88 c16_i32_28
  let c1_i32_34 : BitVec 32 := 1#32
  let v104 : BitVec 32 := Scalar.subi v89 c1_i32_34
  let v105 : BitVec 32 := Scalar.select v103 v104 v89
  let v163 : BitVec 32 := Scalar.select v144 v162 v105
  let v164 : BitVec 32 := Scalar.subi v105 v163
  let c1_i32_49 : BitVec 32 := 1#32
  let v166 : BitVec 32 := Scalar.divsi v164 c1_i32_49
  let v167 : BitVec 32 := Scalar.muli v166 c1_i32_49
  let v168 : BitVec 32 := Scalar.addi v163 v167
  let c1_i32_51 : BitVec 32 := 1#32
  let arg19 : BitVec 32 := Scf.iv v168 c1_i32_51 k0_t4
  let c16_i32_52 : BitVec 32 := 16#32
  let v169 : BitVec 32 := Scalar.muli arg19 c16_i32_52
  let v170 : BitVec 32 := Scalar.addi v82 v169
  let v171 : Index := Scalar.indexCast v170
  ![v171.toNat]

def k0_chk2 (v82 : BitVec 32) (v87 : BitVec 32) (k0_t2 : Fin (k0_t2_loop v87).trips) (v144 : BitVec 1) : Prop :=
  ((k0_t3_loop v87 k0_t2 v144).OK) ∧
  (∀ k0_t3 : Fin (k0_t3_loop v87 k0_t2 v144).trips, ∀ a, (k0_off3 v82 v87 k0_t2 v144 k0_t3) a + S16.size a ≤ S21296.size a) ∧
  ((k0_t4_loop v87 k0_t2 v144).OK) ∧
  (∀ k0_t4 : Fin (k0_t4_loop v87 k0_t2 v144).trips, ∀ a, (k0_off4 v82 v87 k0_t2 v144 k0_t4) a + S16.size a ≤ S21296.size a)
theorem k0_t3_ok : ∀ (v82 : BitVec 32) (v87 : BitVec 32) (k0_t2 : Fin (k0_t2_loop v87).trips) (v144 : BitVec 1) (k0_hw2 : k0_chk2 v82 v87 k0_t2 v144), (k0_t3_loop v87 k0_t2 v144).OK := fun v82 v87 k0_t2 v144 k0_hw2 => k0_hw2.1
theorem k0_off3_inb : ∀ (v82 : BitVec 32) (v87 : BitVec 32) (k0_t2 : Fin (k0_t2_loop v87).trips) (v144 : BitVec 1) (k0_hw2 : k0_chk2 v82 v87 k0_t2 v144) (k0_t3 : Fin (k0_t3_loop v87 k0_t2 v144).trips), ∀ a, (k0_off3 v82 v87 k0_t2 v144 k0_t3) a + S16.size a ≤ S21296.size a := fun v82 v87 k0_t2 v144 k0_hw2 k0_t3 => k0_hw2.2.1 k0_t3
theorem k0_t4_ok : ∀ (v82 : BitVec 32) (v87 : BitVec 32) (k0_t2 : Fin (k0_t2_loop v87).trips) (v144 : BitVec 1) (k0_hw2 : k0_chk2 v82 v87 k0_t2 v144), (k0_t4_loop v87 k0_t2 v144).OK := fun v82 v87 k0_t2 v144 k0_hw2 => k0_hw2.2.2.1
theorem k0_off4_inb : ∀ (v82 : BitVec 32) (v87 : BitVec 32) (k0_t2 : Fin (k0_t2_loop v87).trips) (v144 : BitVec 1) (k0_hw2 : k0_chk2 v82 v87 k0_t2 v144) (k0_t4 : Fin (k0_t4_loop v87 k0_t2 v144).trips), ∀ a, (k0_off4 v82 v87 k0_t2 v144 k0_t4) a + S16.size a ≤ S21296.size a := fun v82 v87 k0_t2 v144 k0_hw2 k0_t4 => k0_hw2.2.2.2 k0_t4

@[reducible] def k0_t5_loop (v87 : BitVec 32) : Scf.Loop 32 :=
  let c0_i32_36 : BitVec 32 := 0#32
  let v106 : BitVec 32 := Scalar.subi v87 c0_i32_36
  let c1_i32_37 : BitVec 32 := 1#32
  let v108 : BitVec 32 := Scalar.divsi v106 c1_i32_37
  let v109 : BitVec 32 := Scalar.muli v108 c1_i32_37
  let v110 : BitVec 32 := Scalar.addi c0_i32_36 v109
  let v107 : BitVec 32 := Scalar.addi c0_i32_36 v106
  let c1_i32_39 : BitVec 32 := 1#32
  ⟨v110, v107, c1_i32_39⟩
def k0_off5 (v82 : BitVec 32) (v87 : BitVec 32) (k0_t5 : Fin (k0_t5_loop v87).trips) : Fin 1 → Nat :=
  let c0_i32_36 : BitVec 32 := 0#32
  let v106 : BitVec 32 := Scalar.subi v87 c0_i32_36
  let c1_i32_37 : BitVec 32 := 1#32
  let v108 : BitVec 32 := Scalar.divsi v106 c1_i32_37
  let v109 : BitVec 32 := Scalar.muli v108 c1_i32_37
  let v110 : BitVec 32 := Scalar.addi c0_i32_36 v109
  let c1_i32_39 : BitVec 32 := 1#32
  let arg18 : BitVec 32 := Scf.iv v110 c1_i32_39 k0_t5
  let v111 : BitVec 32 := Scalar.addi v82 arg18
  let v112 : Index := Scalar.indexCast v111
  ![v112.toNat]

def k0_chk1 (v82 : BitVec 32) (v87 : BitVec 32) : Prop :=
  ((k0_t2_loop v87).OK) ∧
  (∀ k0_t2 : Fin (k0_t2_loop v87).trips, ∀ a, (k0_off2 v82 v87 k0_t2) a + S16.size a ≤ S21296.size a) ∧
  ((k0_t5_loop v87).OK) ∧
  (∀ k0_t5 : Fin (k0_t5_loop v87).trips, ∀ a, (k0_off5 v82 v87 k0_t5) a + S16.size a ≤ S21296.size a)
theorem k0_t2_ok : ∀ (v82 : BitVec 32) (v87 : BitVec 32) (k0_hw1 : k0_chk1 v82 v87), (k0_t2_loop v87).OK := fun v82 v87 k0_hw1 => k0_hw1.1
theorem k0_off2_inb : ∀ (v82 : BitVec 32) (v87 : BitVec 32) (k0_hw1 : k0_chk1 v82 v87) (k0_t2 : Fin (k0_t2_loop v87).trips), ∀ a, (k0_off2 v82 v87 k0_t2) a + S16.size a ≤ S21296.size a := fun v82 v87 k0_hw1 k0_t2 => k0_hw1.2.1 k0_t2
theorem k0_t5_ok : ∀ (v82 : BitVec 32) (v87 : BitVec 32) (k0_hw1 : k0_chk1 v82 v87), (k0_t5_loop v87).OK := fun v82 v87 k0_hw1 => k0_hw1.2.2.1
theorem k0_off5_inb : ∀ (v82 : BitVec 32) (v87 : BitVec 32) (k0_hw1 : k0_chk1 v82 v87) (k0_t5 : Fin (k0_t5_loop v87).trips), ∀ a, (k0_off5 v82 v87 k0_t5) a + S16.size a ≤ S21296.size a := fun v82 v87 k0_hw1 k0_t5 => k0_hw1.2.2.2 k0_t5

@[reducible] def k0_t6_loop (v87 : BitVec 32) (k0_t5 : Fin (k0_t5_loop v87).trips) (v144 : BitVec 1) : Scf.Loop 32 :=
  let c0_i32_36 : BitVec 32 := 0#32
  let v106 : BitVec 32 := Scalar.subi v87 c0_i32_36
  let c1_i32_37 : BitVec 32 := 1#32
  let v108 : BitVec 32 := Scalar.divsi v106 c1_i32_37
  let v109 : BitVec 32 := Scalar.muli v108 c1_i32_37
  let v110 : BitVec 32 := Scalar.addi c0_i32_36 v109
  let c1_i32_39 : BitVec 32 := 1#32
  let arg18 : BitVec 32 := Scf.iv v110 c1_i32_39 k0_t5
  let c1_i32_40 : BitVec 32 := 1#32
  let v145 : BitVec 32 := Scalar.addi arg18 c1_i32_40
  let c0_i32_42 : BitVec 32 := 0#32
  let v147 : BitVec 1 := Scalar.cmpi .sgt v145 c0_i32_42
  let v148 : BitVec 32 := Scalar.extui v147
  let c0_i32_43 : BitVec 32 := 0#32
  let v149 : BitVec 1 := Scalar.cmpi .slt v145 c0_i32_43
  let v150 : BitVec 32 := Scalar.extui v149
  let v151 : BitVec 32 := Scalar.subi v148 v150
  let c16_i32_41 : BitVec 32 := 16#32
  let c0_i32_44 : BitVec 32 := 0#32
  let v152 : BitVec 1 := Scalar.cmpi .sgt c16_i32_41 c0_i32_44
  let v153 : BitVec 32 := Scalar.extui v152
  let c0_i32_45 : BitVec 32 := 0#32
  let v154 : BitVec 1 := Scalar.cmpi .slt c16_i32_41 c0_i32_45
  let v155 : BitVec 32 := Scalar.extui v154
  let v156 : BitVec 32 := Scalar.subi v153 v155
  let v157 : BitVec 1 := Scalar.cmpi .ne v151 v156
  let v158 : BitVec 32 := Scalar.remsi v145 c16_i32_41
  let c0_i32_46 : BitVec 32 := 0#32
  let v159 : BitVec 1 := Scalar.cmpi .ne v158 c0_i32_46
  let v160 : BitVec 1 := Scalar.andi v157 v159
  let v146 : BitVec 32 := Scalar.divsi v145 c16_i32_41
  let c1_i32_47 : BitVec 32 := 1#32
  let v161 : BitVec 32 := Scalar.subi v146 c1_i32_47
  let v162 : BitVec 32 := Scalar.select v160 v161 v146
  let c15_i32 : BitVec 32 := 15#32
  let v88 : BitVec 32 := Scalar.addi v87 c15_i32
  let c0_i32_29 : BitVec 32 := 0#32
  let v90 : BitVec 1 := Scalar.cmpi .sgt v88 c0_i32_29
  let v91 : BitVec 32 := Scalar.extui v90
  let c0_i32_30 : BitVec 32 := 0#32
  let v92 : BitVec 1 := Scalar.cmpi .slt v88 c0_i32_30
  let v93 : BitVec 32 := Scalar.extui v92
  let v94 : BitVec 32 := Scalar.subi v91 v93
  let c16_i32_28 : BitVec 32 := 16#32
  let c0_i32_31 : BitVec 32 := 0#32
  let v95 : BitVec 1 := Scalar.cmpi .sgt c16_i32_28 c0_i32_31
  let v96 : BitVec 32 := Scalar.extui v95
  let c0_i32_32 : BitVec 32 := 0#32
  let v97 : BitVec 1 := Scalar.cmpi .slt c16_i32_28 c0_i32_32
  let v98 : BitVec 32 := Scalar.extui v97
  let v99 : BitVec 32 := Scalar.subi v96 v98
  let v100 : BitVec 1 := Scalar.cmpi .ne v94 v99
  let v101 : BitVec 32 := Scalar.remsi v88 c16_i32_28
  let c0_i32_33 : BitVec 32 := 0#32
  let v102 : BitVec 1 := Scalar.cmpi .ne v101 c0_i32_33
  let v103 : BitVec 1 := Scalar.andi v100 v102
  let v89 : BitVec 32 := Scalar.divsi v88 c16_i32_28
  let c1_i32_34 : BitVec 32 := 1#32
  let v104 : BitVec 32 := Scalar.subi v89 c1_i32_34
  let v105 : BitVec 32 := Scalar.select v103 v104 v89
  let v163 : BitVec 32 := Scalar.select v144 v162 v105
  let v164 : BitVec 32 := Scalar.subi v105 v163
  let c1_i32_49 : BitVec 32 := 1#32
  let v166 : BitVec 32 := Scalar.divsi v164 c1_i32_49
  let v167 : BitVec 32 := Scalar.muli v166 c1_i32_49
  let v168 : BitVec 32 := Scalar.addi v163 v167
  let c1_i32_50 : BitVec 32 := 1#32
  ⟨v163, v168, c1_i32_50⟩

def k0_off6 (v82 : BitVec 32) (v87 : BitVec 32) (k0_t5 : Fin (k0_t5_loop v87).trips) (v144 : BitVec 1) (k0_t6 : Fin (k0_t6_loop v87 k0_t5 v144).trips) : Fin 1 → Nat :=
  let c0_i32_36 : BitVec 32 := 0#32
  let v106 : BitVec 32 := Scalar.subi v87 c0_i32_36
  let c1_i32_37 : BitVec 32 := 1#32
  let v108 : BitVec 32 := Scalar.divsi v106 c1_i32_37
  let v109 : BitVec 32 := Scalar.muli v108 c1_i32_37
  let v110 : BitVec 32 := Scalar.addi c0_i32_36 v109
  let c1_i32_39 : BitVec 32 := 1#32
  let arg18 : BitVec 32 := Scf.iv v110 c1_i32_39 k0_t5
  let c1_i32_40 : BitVec 32 := 1#32
  let v145 : BitVec 32 := Scalar.addi arg18 c1_i32_40
  let c0_i32_42 : BitVec 32 := 0#32
  let v147 : BitVec 1 := Scalar.cmpi .sgt v145 c0_i32_42
  let v148 : BitVec 32 := Scalar.extui v147
  let c0_i32_43 : BitVec 32 := 0#32
  let v149 : BitVec 1 := Scalar.cmpi .slt v145 c0_i32_43
  let v150 : BitVec 32 := Scalar.extui v149
  let v151 : BitVec 32 := Scalar.subi v148 v150
  let c16_i32_41 : BitVec 32 := 16#32
  let c0_i32_44 : BitVec 32 := 0#32
  let v152 : BitVec 1 := Scalar.cmpi .sgt c16_i32_41 c0_i32_44
  let v153 : BitVec 32 := Scalar.extui v152
  let c0_i32_45 : BitVec 32 := 0#32
  let v154 : BitVec 1 := Scalar.cmpi .slt c16_i32_41 c0_i32_45
  let v155 : BitVec 32 := Scalar.extui v154
  let v156 : BitVec 32 := Scalar.subi v153 v155
  let v157 : BitVec 1 := Scalar.cmpi .ne v151 v156
  let v158 : BitVec 32 := Scalar.remsi v145 c16_i32_41
  let c0_i32_46 : BitVec 32 := 0#32
  let v159 : BitVec 1 := Scalar.cmpi .ne v158 c0_i32_46
  let v160 : BitVec 1 := Scalar.andi v157 v159
  let v146 : BitVec 32 := Scalar.divsi v145 c16_i32_41
  let c1_i32_47 : BitVec 32 := 1#32
  let v161 : BitVec 32 := Scalar.subi v146 c1_i32_47
  let v162 : BitVec 32 := Scalar.select v160 v161 v146
  let c15_i32 : BitVec 32 := 15#32
  let v88 : BitVec 32 := Scalar.addi v87 c15_i32
  let c0_i32_29 : BitVec 32 := 0#32
  let v90 : BitVec 1 := Scalar.cmpi .sgt v88 c0_i32_29
  let v91 : BitVec 32 := Scalar.extui v90
  let c0_i32_30 : BitVec 32 := 0#32
  let v92 : BitVec 1 := Scalar.cmpi .slt v88 c0_i32_30
  let v93 : BitVec 32 := Scalar.extui v92
  let v94 : BitVec 32 := Scalar.subi v91 v93
  let c16_i32_28 : BitVec 32 := 16#32
  let c0_i32_31 : BitVec 32 := 0#32
  let v95 : BitVec 1 := Scalar.cmpi .sgt c16_i32_28 c0_i32_31
  let v96 : BitVec 32 := Scalar.extui v95
  let c0_i32_32 : BitVec 32 := 0#32
  let v97 : BitVec 1 := Scalar.cmpi .slt c16_i32_28 c0_i32_32
  let v98 : BitVec 32 := Scalar.extui v97
  let v99 : BitVec 32 := Scalar.subi v96 v98
  let v100 : BitVec 1 := Scalar.cmpi .ne v94 v99
  let v101 : BitVec 32 := Scalar.remsi v88 c16_i32_28
  let c0_i32_33 : BitVec 32 := 0#32
  let v102 : BitVec 1 := Scalar.cmpi .ne v101 c0_i32_33
  let v103 : BitVec 1 := Scalar.andi v100 v102
  let v89 : BitVec 32 := Scalar.divsi v88 c16_i32_28
  let c1_i32_34 : BitVec 32 := 1#32
  let v104 : BitVec 32 := Scalar.subi v89 c1_i32_34
  let v105 : BitVec 32 := Scalar.select v103 v104 v89
  let v163 : BitVec 32 := Scalar.select v144 v162 v105
  let c1_i32_50 : BitVec 32 := 1#32
  let arg19 : BitVec 32 := Scf.iv v163 c1_i32_50 k0_t6
  let c16_i32_52 : BitVec 32 := 16#32
  let v169 : BitVec 32 := Scalar.muli arg19 c16_i32_52
  let v170 : BitVec 32 := Scalar.addi v82 v169
  let v171 : Index := Scalar.indexCast v170
  ![v171.toNat]
@[reducible] def k0_t7_loop (v87 : BitVec 32) (k0_t5 : Fin (k0_t5_loop v87).trips) (v144 : BitVec 1) : Scf.Loop 32 :=
  let c0_i32_36 : BitVec 32 := 0#32
  let v106 : BitVec 32 := Scalar.subi v87 c0_i32_36
  let c1_i32_37 : BitVec 32 := 1#32
  let v108 : BitVec 32 := Scalar.divsi v106 c1_i32_37
  let v109 : BitVec 32 := Scalar.muli v108 c1_i32_37
  let v110 : BitVec 32 := Scalar.addi c0_i32_36 v109
  let c1_i32_39 : BitVec 32 := 1#32
  let arg18 : BitVec 32 := Scf.iv v110 c1_i32_39 k0_t5
  let c1_i32_40 : BitVec 32 := 1#32
  let v145 : BitVec 32 := Scalar.addi arg18 c1_i32_40
  let c0_i32_42 : BitVec 32 := 0#32
  let v147 : BitVec 1 := Scalar.cmpi .sgt v145 c0_i32_42
  let v148 : BitVec 32 := Scalar.extui v147
  let c0_i32_43 : BitVec 32 := 0#32
  let v149 : BitVec 1 := Scalar.cmpi .slt v145 c0_i32_43
  let v150 : BitVec 32 := Scalar.extui v149
  let v151 : BitVec 32 := Scalar.subi v148 v150
  let c16_i32_41 : BitVec 32 := 16#32
  let c0_i32_44 : BitVec 32 := 0#32
  let v152 : BitVec 1 := Scalar.cmpi .sgt c16_i32_41 c0_i32_44
  let v153 : BitVec 32 := Scalar.extui v152
  let c0_i32_45 : BitVec 32 := 0#32
  let v154 : BitVec 1 := Scalar.cmpi .slt c16_i32_41 c0_i32_45
  let v155 : BitVec 32 := Scalar.extui v154
  let v156 : BitVec 32 := Scalar.subi v153 v155
  let v157 : BitVec 1 := Scalar.cmpi .ne v151 v156
  let v158 : BitVec 32 := Scalar.remsi v145 c16_i32_41
  let c0_i32_46 : BitVec 32 := 0#32
  let v159 : BitVec 1 := Scalar.cmpi .ne v158 c0_i32_46
  let v160 : BitVec 1 := Scalar.andi v157 v159
  let v146 : BitVec 32 := Scalar.divsi v145 c16_i32_41
  let c1_i32_47 : BitVec 32 := 1#32
  let v161 : BitVec 32 := Scalar.subi v146 c1_i32_47
  let v162 : BitVec 32 := Scalar.select v160 v161 v146
  let c15_i32 : BitVec 32 := 15#32
  let v88 : BitVec 32 := Scalar.addi v87 c15_i32
  let c0_i32_29 : BitVec 32 := 0#32
  let v90 : BitVec 1 := Scalar.cmpi .sgt v88 c0_i32_29
  let v91 : BitVec 32 := Scalar.extui v90
  let c0_i32_30 : BitVec 32 := 0#32
  let v92 : BitVec 1 := Scalar.cmpi .slt v88 c0_i32_30
  let v93 : BitVec 32 := Scalar.extui v92
  let v94 : BitVec 32 := Scalar.subi v91 v93
  let c16_i32_28 : BitVec 32 := 16#32
  let c0_i32_31 : BitVec 32 := 0#32
  let v95 : BitVec 1 := Scalar.cmpi .sgt c16_i32_28 c0_i32_31
  let v96 : BitVec 32 := Scalar.extui v95
  let c0_i32_32 : BitVec 32 := 0#32
  let v97 : BitVec 1 := Scalar.cmpi .slt c16_i32_28 c0_i32_32
  let v98 : BitVec 32 := Scalar.extui v97
  let v99 : BitVec 32 := Scalar.subi v96 v98
  let v100 : BitVec 1 := Scalar.cmpi .ne v94 v99
  let v101 : BitVec 32 := Scalar.remsi v88 c16_i32_28
  let c0_i32_33 : BitVec 32 := 0#32
  let v102 : BitVec 1 := Scalar.cmpi .ne v101 c0_i32_33
  let v103 : BitVec 1 := Scalar.andi v100 v102
  let v89 : BitVec 32 := Scalar.divsi v88 c16_i32_28
  let c1_i32_34 : BitVec 32 := 1#32
  let v104 : BitVec 32 := Scalar.subi v89 c1_i32_34
  let v105 : BitVec 32 := Scalar.select v103 v104 v89
  let v163 : BitVec 32 := Scalar.select v144 v162 v105
  let v164 : BitVec 32 := Scalar.subi v105 v163
  let c1_i32_49 : BitVec 32 := 1#32
  let v166 : BitVec 32 := Scalar.divsi v164 c1_i32_49
  let v167 : BitVec 32 := Scalar.muli v166 c1_i32_49
  let v168 : BitVec 32 := Scalar.addi v163 v167
  let v165 : BitVec 32 := Scalar.addi v163 v164
  let c1_i32_51 : BitVec 32 := 1#32
  ⟨v168, v165, c1_i32_51⟩
def k0_off7 (v82 : BitVec 32) (v87 : BitVec 32) (k0_t5 : Fin (k0_t5_loop v87).trips) (v144 : BitVec 1) (k0_t7 : Fin (k0_t7_loop v87 k0_t5 v144).trips) : Fin 1 → Nat :=
  let c0_i32_36 : BitVec 32 := 0#32
  let v106 : BitVec 32 := Scalar.subi v87 c0_i32_36
  let c1_i32_37 : BitVec 32 := 1#32
  let v108 : BitVec 32 := Scalar.divsi v106 c1_i32_37
  let v109 : BitVec 32 := Scalar.muli v108 c1_i32_37
  let v110 : BitVec 32 := Scalar.addi c0_i32_36 v109
  let c1_i32_39 : BitVec 32 := 1#32
  let arg18 : BitVec 32 := Scf.iv v110 c1_i32_39 k0_t5
  let c1_i32_40 : BitVec 32 := 1#32
  let v145 : BitVec 32 := Scalar.addi arg18 c1_i32_40
  let c0_i32_42 : BitVec 32 := 0#32
  let v147 : BitVec 1 := Scalar.cmpi .sgt v145 c0_i32_42
  let v148 : BitVec 32 := Scalar.extui v147
  let c0_i32_43 : BitVec 32 := 0#32
  let v149 : BitVec 1 := Scalar.cmpi .slt v145 c0_i32_43
  let v150 : BitVec 32 := Scalar.extui v149
  let v151 : BitVec 32 := Scalar.subi v148 v150
  let c16_i32_41 : BitVec 32 := 16#32
  let c0_i32_44 : BitVec 32 := 0#32
  let v152 : BitVec 1 := Scalar.cmpi .sgt c16_i32_41 c0_i32_44
  let v153 : BitVec 32 := Scalar.extui v152
  let c0_i32_45 : BitVec 32 := 0#32
  let v154 : BitVec 1 := Scalar.cmpi .slt c16_i32_41 c0_i32_45
  let v155 : BitVec 32 := Scalar.extui v154
  let v156 : BitVec 32 := Scalar.subi v153 v155
  let v157 : BitVec 1 := Scalar.cmpi .ne v151 v156
  let v158 : BitVec 32 := Scalar.remsi v145 c16_i32_41
  let c0_i32_46 : BitVec 32 := 0#32
  let v159 : BitVec 1 := Scalar.cmpi .ne v158 c0_i32_46
  let v160 : BitVec 1 := Scalar.andi v157 v159
  let v146 : BitVec 32 := Scalar.divsi v145 c16_i32_41
  let c1_i32_47 : BitVec 32 := 1#32
  let v161 : BitVec 32 := Scalar.subi v146 c1_i32_47
  let v162 : BitVec 32 := Scalar.select v160 v161 v146
  let c15_i32 : BitVec 32 := 15#32
  let v88 : BitVec 32 := Scalar.addi v87 c15_i32
  let c0_i32_29 : BitVec 32 := 0#32
  let v90 : BitVec 1 := Scalar.cmpi .sgt v88 c0_i32_29
  let v91 : BitVec 32 := Scalar.extui v90
  let c0_i32_30 : BitVec 32 := 0#32
  let v92 : BitVec 1 := Scalar.cmpi .slt v88 c0_i32_30
  let v93 : BitVec 32 := Scalar.extui v92
  let v94 : BitVec 32 := Scalar.subi v91 v93
  let c16_i32_28 : BitVec 32 := 16#32
  let c0_i32_31 : BitVec 32 := 0#32
  let v95 : BitVec 1 := Scalar.cmpi .sgt c16_i32_28 c0_i32_31
  let v96 : BitVec 32 := Scalar.extui v95
  let c0_i32_32 : BitVec 32 := 0#32
  let v97 : BitVec 1 := Scalar.cmpi .slt c16_i32_28 c0_i32_32
  let v98 : BitVec 32 := Scalar.extui v97
  let v99 : BitVec 32 := Scalar.subi v96 v98
  let v100 : BitVec 1 := Scalar.cmpi .ne v94 v99
  let v101 : BitVec 32 := Scalar.remsi v88 c16_i32_28
  let c0_i32_33 : BitVec 32 := 0#32
  let v102 : BitVec 1 := Scalar.cmpi .ne v101 c0_i32_33
  let v103 : BitVec 1 := Scalar.andi v100 v102
  let v89 : BitVec 32 := Scalar.divsi v88 c16_i32_28
  let c1_i32_34 : BitVec 32 := 1#32
  let v104 : BitVec 32 := Scalar.subi v89 c1_i32_34
  let v105 : BitVec 32 := Scalar.select v103 v104 v89
  let v163 : BitVec 32 := Scalar.select v144 v162 v105
  let v164 : BitVec 32 := Scalar.subi v105 v163
  let c1_i32_49 : BitVec 32 := 1#32
  let v166 : BitVec 32 := Scalar.divsi v164 c1_i32_49
  let v167 : BitVec 32 := Scalar.muli v166 c1_i32_49
  let v168 : BitVec 32 := Scalar.addi v163 v167
  let c1_i32_51 : BitVec 32 := 1#32
  let arg19 : BitVec 32 := Scf.iv v168 c1_i32_51 k0_t7
  let c16_i32_52 : BitVec 32 := 16#32
  let v169 : BitVec 32 := Scalar.muli arg19 c16_i32_52
  let v170 : BitVec 32 := Scalar.addi v82 v169
  let v171 : Index := Scalar.indexCast v170
  ![v171.toNat]

def k0_chk3 (v82 : BitVec 32) (v87 : BitVec 32) (k0_t5 : Fin (k0_t5_loop v87).trips) (v144 : BitVec 1) : Prop :=
  ((k0_t6_loop v87 k0_t5 v144).OK) ∧
  (∀ k0_t6 : Fin (k0_t6_loop v87 k0_t5 v144).trips, ∀ a, (k0_off6 v82 v87 k0_t5 v144 k0_t6) a + S16.size a ≤ S21296.size a) ∧
  ((k0_t7_loop v87 k0_t5 v144).OK) ∧
  (∀ k0_t7 : Fin (k0_t7_loop v87 k0_t5 v144).trips, ∀ a, (k0_off7 v82 v87 k0_t5 v144 k0_t7) a + S16.size a ≤ S21296.size a)
theorem k0_t6_ok : ∀ (v82 : BitVec 32) (v87 : BitVec 32) (k0_t5 : Fin (k0_t5_loop v87).trips) (v144 : BitVec 1) (k0_hw3 : k0_chk3 v82 v87 k0_t5 v144), (k0_t6_loop v87 k0_t5 v144).OK := fun v82 v87 k0_t5 v144 k0_hw3 => k0_hw3.1
theorem k0_off6_inb : ∀ (v82 : BitVec 32) (v87 : BitVec 32) (k0_t5 : Fin (k0_t5_loop v87).trips) (v144 : BitVec 1) (k0_hw3 : k0_chk3 v82 v87 k0_t5 v144) (k0_t6 : Fin (k0_t6_loop v87 k0_t5 v144).trips), ∀ a, (k0_off6 v82 v87 k0_t5 v144 k0_t6) a + S16.size a ≤ S21296.size a := fun v82 v87 k0_t5 v144 k0_hw3 k0_t6 => k0_hw3.2.1 k0_t6
theorem k0_t7_ok : ∀ (v82 : BitVec 32) (v87 : BitVec 32) (k0_t5 : Fin (k0_t5_loop v87).trips) (v144 : BitVec 1) (k0_hw3 : k0_chk3 v82 v87 k0_t5 v144), (k0_t7_loop v87 k0_t5 v144).OK := fun v82 v87 k0_t5 v144 k0_hw3 => k0_hw3.2.2.1
theorem k0_off7_inb : ∀ (v82 : BitVec 32) (v87 : BitVec 32) (k0_t5 : Fin (k0_t5_loop v87).trips) (v144 : BitVec 1) (k0_hw3 : k0_chk3 v82 v87 k0_t5 v144) (k0_t7 : Fin (k0_t7_loop v87 k0_t5 v144).trips), ∀ a, (k0_off7 v82 v87 k0_t5 v144 k0_t7) a + S16.size a ≤ S21296.size a := fun v82 v87 k0_t5 v144 k0_hw3 k0_t7 => k0_hw3.2.2.2 k0_t7

@[reducible] def k0_t8_loop (i : grid0.Coords) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c80_i32 : BitVec 32 := 80#32
  let v2 : BitVec 32 := Scalar.muli v1 c80_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c1_i32_4 : BitVec 32 := 1#32
  let v20 : BitVec 32 := Scalar.addi v1 c1_i32_4
  let c80_i32_5 : BitVec 32 := 80#32
  let v21 : BitVec 32 := Scalar.muli v20 c80_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let v40 : BitVec 32 := Scalar.subi v38 v19
  let c1_i32_14 : BitVec 32 := 1#32
  let v42 : BitVec 32 := Scalar.divsi v40 c1_i32_14
  let v43 : BitVec 32 := Scalar.muli v42 c1_i32_14
  let v44 : BitVec 32 := Scalar.addi v19 v43
  let v41 : BitVec 32 := Scalar.addi v19 v40
  let c1_i32_16 : BitVec 32 := 1#32
  ⟨v44, v41, c1_i32_16⟩
def k0_off8 (i : grid0.Coords) (k0_t8 : Fin (k0_t8_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c80_i32 : BitVec 32 := 80#32
  let v2 : BitVec 32 := Scalar.muli v1 c80_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c1_i32_4 : BitVec 32 := 1#32
  let v20 : BitVec 32 := Scalar.addi v1 c1_i32_4
  let c80_i32_5 : BitVec 32 := 80#32
  let v21 : BitVec 32 := Scalar.muli v20 c80_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let v40 : BitVec 32 := Scalar.subi v38 v19
  let c1_i32_14 : BitVec 32 := 1#32
  let v42 : BitVec 32 := Scalar.divsi v40 c1_i32_14
  let v43 : BitVec 32 := Scalar.muli v42 c1_i32_14
  let v44 : BitVec 32 := Scalar.addi v19 v43
  let c1_i32_16 : BitVec 32 := 1#32
  let arg17 : BitVec 32 := Scf.iv v44 c1_i32_16 k0_t8
  let v78 : Index := Scalar.indexCast arg17
  ![v78.toNat]
@[reducible] def k0_t9_loop (v87 : BitVec 32) : Scf.Loop 32 :=
  let c0_i32_36 : BitVec 32 := 0#32
  let v106 : BitVec 32 := Scalar.subi v87 c0_i32_36
  let c1_i32_37 : BitVec 32 := 1#32
  let v108 : BitVec 32 := Scalar.divsi v106 c1_i32_37
  let v109 : BitVec 32 := Scalar.muli v108 c1_i32_37
  let v110 : BitVec 32 := Scalar.addi c0_i32_36 v109
  let c1_i32_38 : BitVec 32 := 1#32
  ⟨c0_i32_36, v110, c1_i32_38⟩

def k0_off9 (v82 : BitVec 32) (v87 : BitVec 32) (k0_t9 : Fin (k0_t9_loop v87).trips) : Fin 1 → Nat :=
  let c0_i32_36 : BitVec 32 := 0#32
  let c1_i32_38 : BitVec 32 := 1#32
  let arg18 : BitVec 32 := Scf.iv c0_i32_36 c1_i32_38 k0_t9
  let v111 : BitVec 32 := Scalar.addi v82 arg18
  let v112 : Index := Scalar.indexCast v111
  ![v112.toNat]
@[reducible] def k0_t10_loop (v87 : BitVec 32) (k0_t9 : Fin (k0_t9_loop v87).trips) (v144 : BitVec 1) : Scf.Loop 32 :=
  let c0_i32_36 : BitVec 32 := 0#32
  let c1_i32_38 : BitVec 32 := 1#32
  let arg18 : BitVec 32 := Scf.iv c0_i32_36 c1_i32_38 k0_t9
  let c1_i32_40 : BitVec 32 := 1#32
  let v145 : BitVec 32 := Scalar.addi arg18 c1_i32_40
  let c0_i32_42 : BitVec 32 := 0#32
  let v147 : BitVec 1 := Scalar.cmpi .sgt v145 c0_i32_42
  let v148 : BitVec 32 := Scalar.extui v147
  let c0_i32_43 : BitVec 32 := 0#32
  let v149 : BitVec 1 := Scalar.cmpi .slt v145 c0_i32_43
  let v150 : BitVec 32 := Scalar.extui v149
  let v151 : BitVec 32 := Scalar.subi v148 v150
  let c16_i32_41 : BitVec 32 := 16#32
  let c0_i32_44 : BitVec 32 := 0#32
  let v152 : BitVec 1 := Scalar.cmpi .sgt c16_i32_41 c0_i32_44
  let v153 : BitVec 32 := Scalar.extui v152
  let c0_i32_45 : BitVec 32 := 0#32
  let v154 : BitVec 1 := Scalar.cmpi .slt c16_i32_41 c0_i32_45
  let v155 : BitVec 32 := Scalar.extui v154
  let v156 : BitVec 32 := Scalar.subi v153 v155
  let v157 : BitVec 1 := Scalar.cmpi .ne v151 v156
  let v158 : BitVec 32 := Scalar.remsi v145 c16_i32_41
  let c0_i32_46 : BitVec 32 := 0#32
  let v159 : BitVec 1 := Scalar.cmpi .ne v158 c0_i32_46
  let v160 : BitVec 1 := Scalar.andi v157 v159
  let v146 : BitVec 32 := Scalar.divsi v145 c16_i32_41
  let c1_i32_47 : BitVec 32 := 1#32
  let v161 : BitVec 32 := Scalar.subi v146 c1_i32_47
  let v162 : BitVec 32 := Scalar.select v160 v161 v146
  let c15_i32 : BitVec 32 := 15#32
  let v88 : BitVec 32 := Scalar.addi v87 c15_i32
  let c0_i32_29 : BitVec 32 := 0#32
  let v90 : BitVec 1 := Scalar.cmpi .sgt v88 c0_i32_29
  let v91 : BitVec 32 := Scalar.extui v90
  let c0_i32_30 : BitVec 32 := 0#32
  let v92 : BitVec 1 := Scalar.cmpi .slt v88 c0_i32_30
  let v93 : BitVec 32 := Scalar.extui v92
  let v94 : BitVec 32 := Scalar.subi v91 v93
  let c16_i32_28 : BitVec 32 := 16#32
  let c0_i32_31 : BitVec 32 := 0#32
  let v95 : BitVec 1 := Scalar.cmpi .sgt c16_i32_28 c0_i32_31
  let v96 : BitVec 32 := Scalar.extui v95
  let c0_i32_32 : BitVec 32 := 0#32
  let v97 : BitVec 1 := Scalar.cmpi .slt c16_i32_28 c0_i32_32
  let v98 : BitVec 32 := Scalar.extui v97
  let v99 : BitVec 32 := Scalar.subi v96 v98
  let v100 : BitVec 1 := Scalar.cmpi .ne v94 v99
  let v101 : BitVec 32 := Scalar.remsi v88 c16_i32_28
  let c0_i32_33 : BitVec 32 := 0#32
  let v102 : BitVec 1 := Scalar.cmpi .ne v101 c0_i32_33
  let v103 : BitVec 1 := Scalar.andi v100 v102
  let v89 : BitVec 32 := Scalar.divsi v88 c16_i32_28
  let c1_i32_34 : BitVec 32 := 1#32
  let v104 : BitVec 32 := Scalar.subi v89 c1_i32_34
  let v105 : BitVec 32 := Scalar.select v103 v104 v89
  let v163 : BitVec 32 := Scalar.select v144 v162 v105
  let v164 : BitVec 32 := Scalar.subi v105 v163
  let c1_i32_49 : BitVec 32 := 1#32
  let v166 : BitVec 32 := Scalar.divsi v164 c1_i32_49
  let v167 : BitVec 32 := Scalar.muli v166 c1_i32_49
  let v168 : BitVec 32 := Scalar.addi v163 v167
  let c1_i32_50 : BitVec 32 := 1#32
  ⟨v163, v168, c1_i32_50⟩

def k0_off10 (v82 : BitVec 32) (v87 : BitVec 32) (k0_t9 : Fin (k0_t9_loop v87).trips) (v144 : BitVec 1) (k0_t10 : Fin (k0_t10_loop v87 k0_t9 v144).trips) : Fin 1 → Nat :=
  let c0_i32_36 : BitVec 32 := 0#32
  let c1_i32_38 : BitVec 32 := 1#32
  let arg18 : BitVec 32 := Scf.iv c0_i32_36 c1_i32_38 k0_t9
  let c1_i32_40 : BitVec 32 := 1#32
  let v145 : BitVec 32 := Scalar.addi arg18 c1_i32_40
  let c0_i32_42 : BitVec 32 := 0#32
  let v147 : BitVec 1 := Scalar.cmpi .sgt v145 c0_i32_42
  let v148 : BitVec 32 := Scalar.extui v147
  let c0_i32_43 : BitVec 32 := 0#32
  let v149 : BitVec 1 := Scalar.cmpi .slt v145 c0_i32_43
  let v150 : BitVec 32 := Scalar.extui v149
  let v151 : BitVec 32 := Scalar.subi v148 v150
  let c16_i32_41 : BitVec 32 := 16#32
  let c0_i32_44 : BitVec 32 := 0#32
  let v152 : BitVec 1 := Scalar.cmpi .sgt c16_i32_41 c0_i32_44
  let v153 : BitVec 32 := Scalar.extui v152
  let c0_i32_45 : BitVec 32 := 0#32
  let v154 : BitVec 1 := Scalar.cmpi .slt c16_i32_41 c0_i32_45
  let v155 : BitVec 32 := Scalar.extui v154
  let v156 : BitVec 32 := Scalar.subi v153 v155
  let v157 : BitVec 1 := Scalar.cmpi .ne v151 v156
  let v158 : BitVec 32 := Scalar.remsi v145 c16_i32_41
  let c0_i32_46 : BitVec 32 := 0#32
  let v159 : BitVec 1 := Scalar.cmpi .ne v158 c0_i32_46
  let v160 : BitVec 1 := Scalar.andi v157 v159
  let v146 : BitVec 32 := Scalar.divsi v145 c16_i32_41
  let c1_i32_47 : BitVec 32 := 1#32
  let v161 : BitVec 32 := Scalar.subi v146 c1_i32_47
  let v162 : BitVec 32 := Scalar.select v160 v161 v146
  let c15_i32 : BitVec 32 := 15#32
  let v88 : BitVec 32 := Scalar.addi v87 c15_i32
  let c0_i32_29 : BitVec 32 := 0#32
  let v90 : BitVec 1 := Scalar.cmpi .sgt v88 c0_i32_29
  let v91 : BitVec 32 := Scalar.extui v90
  let c0_i32_30 : BitVec 32 := 0#32
  let v92 : BitVec 1 := Scalar.cmpi .slt v88 c0_i32_30
  let v93 : BitVec 32 := Scalar.extui v92
  let v94 : BitVec 32 := Scalar.subi v91 v93
  let c16_i32_28 : BitVec 32 := 16#32
  let c0_i32_31 : BitVec 32 := 0#32
  let v95 : BitVec 1 := Scalar.cmpi .sgt c16_i32_28 c0_i32_31
  let v96 : BitVec 32 := Scalar.extui v95
  let c0_i32_32 : BitVec 32 := 0#32
  let v97 : BitVec 1 := Scalar.cmpi .slt c16_i32_28 c0_i32_32
  let v98 : BitVec 32 := Scalar.extui v97
  let v99 : BitVec 32 := Scalar.subi v96 v98
  let v100 : BitVec 1 := Scalar.cmpi .ne v94 v99
  let v101 : BitVec 32 := Scalar.remsi v88 c16_i32_28
  let c0_i32_33 : BitVec 32 := 0#32
  let v102 : BitVec 1 := Scalar.cmpi .ne v101 c0_i32_33
  let v103 : BitVec 1 := Scalar.andi v100 v102
  let v89 : BitVec 32 := Scalar.divsi v88 c16_i32_28
  let c1_i32_34 : BitVec 32 := 1#32
  let v104 : BitVec 32 := Scalar.subi v89 c1_i32_34
  let v105 : BitVec 32 := Scalar.select v103 v104 v89
  let v163 : BitVec 32 := Scalar.select v144 v162 v105
  let c1_i32_50 : BitVec 32 := 1#32
  let arg19 : BitVec 32 := Scf.iv v163 c1_i32_50 k0_t10
  let c16_i32_52 : BitVec 32 := 16#32
  let v169 : BitVec 32 := Scalar.muli arg19 c16_i32_52
  let v170 : BitVec 32 := Scalar.addi v82 v169
  let v171 : Index := Scalar.indexCast v170
  ![v171.toNat]
@[reducible] def k0_t11_loop (v87 : BitVec 32) (k0_t9 : Fin (k0_t9_loop v87).trips) (v144 : BitVec 1) : Scf.Loop 32 :=
  let c0_i32_36 : BitVec 32 := 0#32
  let c1_i32_38 : BitVec 32 := 1#32
  let arg18 : BitVec 32 := Scf.iv c0_i32_36 c1_i32_38 k0_t9
  let c1_i32_40 : BitVec 32 := 1#32
  let v145 : BitVec 32 := Scalar.addi arg18 c1_i32_40
  let c0_i32_42 : BitVec 32 := 0#32
  let v147 : BitVec 1 := Scalar.cmpi .sgt v145 c0_i32_42
  let v148 : BitVec 32 := Scalar.extui v147
  let c0_i32_43 : BitVec 32 := 0#32
  let v149 : BitVec 1 := Scalar.cmpi .slt v145 c0_i32_43
  let v150 : BitVec 32 := Scalar.extui v149
  let v151 : BitVec 32 := Scalar.subi v148 v150
  let c16_i32_41 : BitVec 32 := 16#32
  let c0_i32_44 : BitVec 32 := 0#32
  let v152 : BitVec 1 := Scalar.cmpi .sgt c16_i32_41 c0_i32_44
  let v153 : BitVec 32 := Scalar.extui v152
  let c0_i32_45 : BitVec 32 := 0#32
  let v154 : BitVec 1 := Scalar.cmpi .slt c16_i32_41 c0_i32_45
  let v155 : BitVec 32 := Scalar.extui v154
  let v156 : BitVec 32 := Scalar.subi v153 v155
  let v157 : BitVec 1 := Scalar.cmpi .ne v151 v156
  let v158 : BitVec 32 := Scalar.remsi v145 c16_i32_41
  let c0_i32_46 : BitVec 32 := 0#32
  let v159 : BitVec 1 := Scalar.cmpi .ne v158 c0_i32_46
  let v160 : BitVec 1 := Scalar.andi v157 v159
  let v146 : BitVec 32 := Scalar.divsi v145 c16_i32_41
  let c1_i32_47 : BitVec 32 := 1#32
  let v161 : BitVec 32 := Scalar.subi v146 c1_i32_47
  let v162 : BitVec 32 := Scalar.select v160 v161 v146
  let c15_i32 : BitVec 32 := 15#32
  let v88 : BitVec 32 := Scalar.addi v87 c15_i32
  let c0_i32_29 : BitVec 32 := 0#32
  let v90 : BitVec 1 := Scalar.cmpi .sgt v88 c0_i32_29
  let v91 : BitVec 32 := Scalar.extui v90
  let c0_i32_30 : BitVec 32 := 0#32
  let v92 : BitVec 1 := Scalar.cmpi .slt v88 c0_i32_30
  let v93 : BitVec 32 := Scalar.extui v92
  let v94 : BitVec 32 := Scalar.subi v91 v93
  let c16_i32_28 : BitVec 32 := 16#32
  let c0_i32_31 : BitVec 32 := 0#32
  let v95 : BitVec 1 := Scalar.cmpi .sgt c16_i32_28 c0_i32_31
  let v96 : BitVec 32 := Scalar.extui v95
  let c0_i32_32 : BitVec 32 := 0#32
  let v97 : BitVec 1 := Scalar.cmpi .slt c16_i32_28 c0_i32_32
  let v98 : BitVec 32 := Scalar.extui v97
  let v99 : BitVec 32 := Scalar.subi v96 v98
  let v100 : BitVec 1 := Scalar.cmpi .ne v94 v99
  let v101 : BitVec 32 := Scalar.remsi v88 c16_i32_28
  let c0_i32_33 : BitVec 32 := 0#32
  let v102 : BitVec 1 := Scalar.cmpi .ne v101 c0_i32_33
  let v103 : BitVec 1 := Scalar.andi v100 v102
  let v89 : BitVec 32 := Scalar.divsi v88 c16_i32_28
  let c1_i32_34 : BitVec 32 := 1#32
  let v104 : BitVec 32 := Scalar.subi v89 c1_i32_34
  let v105 : BitVec 32 := Scalar.select v103 v104 v89
  let v163 : BitVec 32 := Scalar.select v144 v162 v105
  let v164 : BitVec 32 := Scalar.subi v105 v163
  let c1_i32_49 : BitVec 32 := 1#32
  let v166 : BitVec 32 := Scalar.divsi v164 c1_i32_49
  let v167 : BitVec 32 := Scalar.muli v166 c1_i32_49
  let v168 : BitVec 32 := Scalar.addi v163 v167
  let v165 : BitVec 32 := Scalar.addi v163 v164
  let c1_i32_51 : BitVec 32 := 1#32
  ⟨v168, v165, c1_i32_51⟩
def k0_off11 (v82 : BitVec 32) (v87 : BitVec 32) (k0_t9 : Fin (k0_t9_loop v87).trips) (v144 : BitVec 1) (k0_t11 : Fin (k0_t11_loop v87 k0_t9 v144).trips) : Fin 1 → Nat :=
  let c0_i32_36 : BitVec 32 := 0#32
  let c1_i32_38 : BitVec 32 := 1#32
  let arg18 : BitVec 32 := Scf.iv c0_i32_36 c1_i32_38 k0_t9
  let c1_i32_40 : BitVec 32 := 1#32
  let v145 : BitVec 32 := Scalar.addi arg18 c1_i32_40
  let c0_i32_42 : BitVec 32 := 0#32
  let v147 : BitVec 1 := Scalar.cmpi .sgt v145 c0_i32_42
  let v148 : BitVec 32 := Scalar.extui v147
  let c0_i32_43 : BitVec 32 := 0#32
  let v149 : BitVec 1 := Scalar.cmpi .slt v145 c0_i32_43
  let v150 : BitVec 32 := Scalar.extui v149
  let v151 : BitVec 32 := Scalar.subi v148 v150
  let c16_i32_41 : BitVec 32 := 16#32
  let c0_i32_44 : BitVec 32 := 0#32
  let v152 : BitVec 1 := Scalar.cmpi .sgt c16_i32_41 c0_i32_44
  let v153 : BitVec 32 := Scalar.extui v152
  let c0_i32_45 : BitVec 32 := 0#32
  let v154 : BitVec 1 := Scalar.cmpi .slt c16_i32_41 c0_i32_45
  let v155 : BitVec 32 := Scalar.extui v154
  let v156 : BitVec 32 := Scalar.subi v153 v155
  let v157 : BitVec 1 := Scalar.cmpi .ne v151 v156
  let v158 : BitVec 32 := Scalar.remsi v145 c16_i32_41
  let c0_i32_46 : BitVec 32 := 0#32
  let v159 : BitVec 1 := Scalar.cmpi .ne v158 c0_i32_46
  let v160 : BitVec 1 := Scalar.andi v157 v159
  let v146 : BitVec 32 := Scalar.divsi v145 c16_i32_41
  let c1_i32_47 : BitVec 32 := 1#32
  let v161 : BitVec 32 := Scalar.subi v146 c1_i32_47
  let v162 : BitVec 32 := Scalar.select v160 v161 v146
  let c15_i32 : BitVec 32 := 15#32
  let v88 : BitVec 32 := Scalar.addi v87 c15_i32
  let c0_i32_29 : BitVec 32 := 0#32
  let v90 : BitVec 1 := Scalar.cmpi .sgt v88 c0_i32_29
  let v91 : BitVec 32 := Scalar.extui v90
  let c0_i32_30 : BitVec 32 := 0#32
  let v92 : BitVec 1 := Scalar.cmpi .slt v88 c0_i32_30
  let v93 : BitVec 32 := Scalar.extui v92
  let v94 : BitVec 32 := Scalar.subi v91 v93
  let c16_i32_28 : BitVec 32 := 16#32
  let c0_i32_31 : BitVec 32 := 0#32
  let v95 : BitVec 1 := Scalar.cmpi .sgt c16_i32_28 c0_i32_31
  let v96 : BitVec 32 := Scalar.extui v95
  let c0_i32_32 : BitVec 32 := 0#32
  let v97 : BitVec 1 := Scalar.cmpi .slt c16_i32_28 c0_i32_32
  let v98 : BitVec 32 := Scalar.extui v97
  let v99 : BitVec 32 := Scalar.subi v96 v98
  let v100 : BitVec 1 := Scalar.cmpi .ne v94 v99
  let v101 : BitVec 32 := Scalar.remsi v88 c16_i32_28
  let c0_i32_33 : BitVec 32 := 0#32
  let v102 : BitVec 1 := Scalar.cmpi .ne v101 c0_i32_33
  let v103 : BitVec 1 := Scalar.andi v100 v102
  let v89 : BitVec 32 := Scalar.divsi v88 c16_i32_28
  let c1_i32_34 : BitVec 32 := 1#32
  let v104 : BitVec 32 := Scalar.subi v89 c1_i32_34
  let v105 : BitVec 32 := Scalar.select v103 v104 v89
  let v163 : BitVec 32 := Scalar.select v144 v162 v105
  let v164 : BitVec 32 := Scalar.subi v105 v163
  let c1_i32_49 : BitVec 32 := 1#32
  let v166 : BitVec 32 := Scalar.divsi v164 c1_i32_49
  let v167 : BitVec 32 := Scalar.muli v166 c1_i32_49
  let v168 : BitVec 32 := Scalar.addi v163 v167
  let c1_i32_51 : BitVec 32 := 1#32
  let arg19 : BitVec 32 := Scf.iv v168 c1_i32_51 k0_t11
  let c16_i32_52 : BitVec 32 := 16#32
  let v169 : BitVec 32 := Scalar.muli arg19 c16_i32_52
  let v170 : BitVec 32 := Scalar.addi v82 v169
  let v171 : Index := Scalar.indexCast v170
  ![v171.toNat]

def k0_chk5 (i : grid0.Coords) (k0_t8 : Fin (k0_t8_loop i).trips) (v82 : BitVec 32) (v87 : BitVec 32) (k0_t9 : Fin (k0_t9_loop v87).trips) (v144 : BitVec 1) : Prop :=
  ((k0_t10_loop v87 k0_t9 v144).OK) ∧
  (∀ k0_t10 : Fin (k0_t10_loop v87 k0_t9 v144).trips, ∀ a, (k0_off10 v82 v87 k0_t9 v144 k0_t10) a + S16.size a ≤ S21296.size a) ∧
  ((k0_t11_loop v87 k0_t9 v144).OK) ∧
  (∀ k0_t11 : Fin (k0_t11_loop v87 k0_t9 v144).trips, ∀ a, (k0_off11 v82 v87 k0_t9 v144 k0_t11) a + S16.size a ≤ S21296.size a)
theorem k0_t10_ok : ∀ (i : grid0.Coords) (k0_t8 : Fin (k0_t8_loop i).trips) (v82 : BitVec 32) (v87 : BitVec 32) (k0_t9 : Fin (k0_t9_loop v87).trips) (v144 : BitVec 1) (k0_hw5 : k0_chk5 i k0_t8 v82 v87 k0_t9 v144), (k0_t10_loop v87 k0_t9 v144).OK := fun i k0_t8 v82 v87 k0_t9 v144 k0_hw5 => k0_hw5.1
theorem k0_off10_inb : ∀ (i : grid0.Coords) (k0_t8 : Fin (k0_t8_loop i).trips) (v82 : BitVec 32) (v87 : BitVec 32) (k0_t9 : Fin (k0_t9_loop v87).trips) (v144 : BitVec 1) (k0_hw5 : k0_chk5 i k0_t8 v82 v87 k0_t9 v144) (k0_t10 : Fin (k0_t10_loop v87 k0_t9 v144).trips), ∀ a, (k0_off10 v82 v87 k0_t9 v144 k0_t10) a + S16.size a ≤ S21296.size a := fun i k0_t8 v82 v87 k0_t9 v144 k0_hw5 k0_t10 => k0_hw5.2.1 k0_t10
theorem k0_t11_ok : ∀ (i : grid0.Coords) (k0_t8 : Fin (k0_t8_loop i).trips) (v82 : BitVec 32) (v87 : BitVec 32) (k0_t9 : Fin (k0_t9_loop v87).trips) (v144 : BitVec 1) (k0_hw5 : k0_chk5 i k0_t8 v82 v87 k0_t9 v144), (k0_t11_loop v87 k0_t9 v144).OK := fun i k0_t8 v82 v87 k0_t9 v144 k0_hw5 => k0_hw5.2.2.1
theorem k0_off11_inb : ∀ (i : grid0.Coords) (k0_t8 : Fin (k0_t8_loop i).trips) (v82 : BitVec 32) (v87 : BitVec 32) (k0_t9 : Fin (k0_t9_loop v87).trips) (v144 : BitVec 1) (k0_hw5 : k0_chk5 i k0_t8 v82 v87 k0_t9 v144) (k0_t11 : Fin (k0_t11_loop v87 k0_t9 v144).trips), ∀ a, (k0_off11 v82 v87 k0_t9 v144 k0_t11) a + S16.size a ≤ S21296.size a := fun i k0_t8 v82 v87 k0_t9 v144 k0_hw5 k0_t11 => k0_hw5.2.2.2 k0_t11

@[reducible] def k0_t12_loop (v87 : BitVec 32) : Scf.Loop 32 :=
  let c0_i32_36 : BitVec 32 := 0#32
  let v106 : BitVec 32 := Scalar.subi v87 c0_i32_36
  let c1_i32_37 : BitVec 32 := 1#32
  let v108 : BitVec 32 := Scalar.divsi v106 c1_i32_37
  let v109 : BitVec 32 := Scalar.muli v108 c1_i32_37
  let v110 : BitVec 32 := Scalar.addi c0_i32_36 v109
  let v107 : BitVec 32 := Scalar.addi c0_i32_36 v106
  let c1_i32_39 : BitVec 32 := 1#32
  ⟨v110, v107, c1_i32_39⟩
def k0_off12 (v82 : BitVec 32) (v87 : BitVec 32) (k0_t12 : Fin (k0_t12_loop v87).trips) : Fin 1 → Nat :=
  let c0_i32_36 : BitVec 32 := 0#32
  let v106 : BitVec 32 := Scalar.subi v87 c0_i32_36
  let c1_i32_37 : BitVec 32 := 1#32
  let v108 : BitVec 32 := Scalar.divsi v106 c1_i32_37
  let v109 : BitVec 32 := Scalar.muli v108 c1_i32_37
  let v110 : BitVec 32 := Scalar.addi c0_i32_36 v109
  let c1_i32_39 : BitVec 32 := 1#32
  let arg18 : BitVec 32 := Scf.iv v110 c1_i32_39 k0_t12
  let v111 : BitVec 32 := Scalar.addi v82 arg18
  let v112 : Index := Scalar.indexCast v111
  ![v112.toNat]

def k0_chk4 (i : grid0.Coords) (k0_t8 : Fin (k0_t8_loop i).trips) (v82 : BitVec 32) (v87 : BitVec 32) : Prop :=
  ((k0_t9_loop v87).OK) ∧
  (∀ k0_t9 : Fin (k0_t9_loop v87).trips, ∀ a, (k0_off9 v82 v87 k0_t9) a + S16.size a ≤ S21296.size a) ∧
  ((k0_t12_loop v87).OK) ∧
  (∀ k0_t12 : Fin (k0_t12_loop v87).trips, ∀ a, (k0_off12 v82 v87 k0_t12) a + S16.size a ≤ S21296.size a)
theorem k0_t9_ok : ∀ (i : grid0.Coords) (k0_t8 : Fin (k0_t8_loop i).trips) (v82 : BitVec 32) (v87 : BitVec 32) (k0_hw4 : k0_chk4 i k0_t8 v82 v87), (k0_t9_loop v87).OK := fun i k0_t8 v82 v87 k0_hw4 => k0_hw4.1
theorem k0_off9_inb : ∀ (i : grid0.Coords) (k0_t8 : Fin (k0_t8_loop i).trips) (v82 : BitVec 32) (v87 : BitVec 32) (k0_hw4 : k0_chk4 i k0_t8 v82 v87) (k0_t9 : Fin (k0_t9_loop v87).trips), ∀ a, (k0_off9 v82 v87 k0_t9) a + S16.size a ≤ S21296.size a := fun i k0_t8 v82 v87 k0_hw4 k0_t9 => k0_hw4.2.1 k0_t9
theorem k0_t12_ok : ∀ (i : grid0.Coords) (k0_t8 : Fin (k0_t8_loop i).trips) (v82 : BitVec 32) (v87 : BitVec 32) (k0_hw4 : k0_chk4 i k0_t8 v82 v87), (k0_t12_loop v87).OK := fun i k0_t8 v82 v87 k0_hw4 => k0_hw4.2.2.1
theorem k0_off12_inb : ∀ (i : grid0.Coords) (k0_t8 : Fin (k0_t8_loop i).trips) (v82 : BitVec 32) (v87 : BitVec 32) (k0_hw4 : k0_chk4 i k0_t8 v82 v87) (k0_t12 : Fin (k0_t12_loop v87).trips), ∀ a, (k0_off12 v82 v87 k0_t12) a + S16.size a ≤ S21296.size a := fun i k0_t8 v82 v87 k0_hw4 k0_t12 => k0_hw4.2.2.2 k0_t12

@[reducible] def k0_t13_loop (v87 : BitVec 32) (k0_t12 : Fin (k0_t12_loop v87).trips) (v144 : BitVec 1) : Scf.Loop 32 :=
  let c0_i32_36 : BitVec 32 := 0#32
  let v106 : BitVec 32 := Scalar.subi v87 c0_i32_36
  let c1_i32_37 : BitVec 32 := 1#32
  let v108 : BitVec 32 := Scalar.divsi v106 c1_i32_37
  let v109 : BitVec 32 := Scalar.muli v108 c1_i32_37
  let v110 : BitVec 32 := Scalar.addi c0_i32_36 v109
  let c1_i32_39 : BitVec 32 := 1#32
  let arg18 : BitVec 32 := Scf.iv v110 c1_i32_39 k0_t12
  let c1_i32_40 : BitVec 32 := 1#32
  let v145 : BitVec 32 := Scalar.addi arg18 c1_i32_40
  let c0_i32_42 : BitVec 32 := 0#32
  let v147 : BitVec 1 := Scalar.cmpi .sgt v145 c0_i32_42
  let v148 : BitVec 32 := Scalar.extui v147
  let c0_i32_43 : BitVec 32 := 0#32
  let v149 : BitVec 1 := Scalar.cmpi .slt v145 c0_i32_43
  let v150 : BitVec 32 := Scalar.extui v149
  let v151 : BitVec 32 := Scalar.subi v148 v150
  let c16_i32_41 : BitVec 32 := 16#32
  let c0_i32_44 : BitVec 32 := 0#32
  let v152 : BitVec 1 := Scalar.cmpi .sgt c16_i32_41 c0_i32_44
  let v153 : BitVec 32 := Scalar.extui v152
  let c0_i32_45 : BitVec 32 := 0#32
  let v154 : BitVec 1 := Scalar.cmpi .slt c16_i32_41 c0_i32_45
  let v155 : BitVec 32 := Scalar.extui v154
  let v156 : BitVec 32 := Scalar.subi v153 v155
  let v157 : BitVec 1 := Scalar.cmpi .ne v151 v156
  let v158 : BitVec 32 := Scalar.remsi v145 c16_i32_41
  let c0_i32_46 : BitVec 32 := 0#32
  let v159 : BitVec 1 := Scalar.cmpi .ne v158 c0_i32_46
  let v160 : BitVec 1 := Scalar.andi v157 v159
  let v146 : BitVec 32 := Scalar.divsi v145 c16_i32_41
  let c1_i32_47 : BitVec 32 := 1#32
  let v161 : BitVec 32 := Scalar.subi v146 c1_i32_47
  let v162 : BitVec 32 := Scalar.select v160 v161 v146
  let c15_i32 : BitVec 32 := 15#32
  let v88 : BitVec 32 := Scalar.addi v87 c15_i32
  let c0_i32_29 : BitVec 32 := 0#32
  let v90 : BitVec 1 := Scalar.cmpi .sgt v88 c0_i32_29
  let v91 : BitVec 32 := Scalar.extui v90
  let c0_i32_30 : BitVec 32 := 0#32
  let v92 : BitVec 1 := Scalar.cmpi .slt v88 c0_i32_30
  let v93 : BitVec 32 := Scalar.extui v92
  let v94 : BitVec 32 := Scalar.subi v91 v93
  let c16_i32_28 : BitVec 32 := 16#32
  let c0_i32_31 : BitVec 32 := 0#32
  let v95 : BitVec 1 := Scalar.cmpi .sgt c16_i32_28 c0_i32_31
  let v96 : BitVec 32 := Scalar.extui v95
  let c0_i32_32 : BitVec 32 := 0#32
  let v97 : BitVec 1 := Scalar.cmpi .slt c16_i32_28 c0_i32_32
  let v98 : BitVec 32 := Scalar.extui v97
  let v99 : BitVec 32 := Scalar.subi v96 v98
  let v100 : BitVec 1 := Scalar.cmpi .ne v94 v99
  let v101 : BitVec 32 := Scalar.remsi v88 c16_i32_28
  let c0_i32_33 : BitVec 32 := 0#32
  let v102 : BitVec 1 := Scalar.cmpi .ne v101 c0_i32_33
  let v103 : BitVec 1 := Scalar.andi v100 v102
  let v89 : BitVec 32 := Scalar.divsi v88 c16_i32_28
  let c1_i32_34 : BitVec 32 := 1#32
  let v104 : BitVec 32 := Scalar.subi v89 c1_i32_34
  let v105 : BitVec 32 := Scalar.select v103 v104 v89
  let v163 : BitVec 32 := Scalar.select v144 v162 v105
  let v164 : BitVec 32 := Scalar.subi v105 v163
  let c1_i32_49 : BitVec 32 := 1#32
  let v166 : BitVec 32 := Scalar.divsi v164 c1_i32_49
  let v167 : BitVec 32 := Scalar.muli v166 c1_i32_49
  let v168 : BitVec 32 := Scalar.addi v163 v167
  let c1_i32_50 : BitVec 32 := 1#32
  ⟨v163, v168, c1_i32_50⟩

def k0_off13 (v82 : BitVec 32) (v87 : BitVec 32) (k0_t12 : Fin (k0_t12_loop v87).trips) (v144 : BitVec 1) (k0_t13 : Fin (k0_t13_loop v87 k0_t12 v144).trips) : Fin 1 → Nat :=
  let c0_i32_36 : BitVec 32 := 0#32
  let v106 : BitVec 32 := Scalar.subi v87 c0_i32_36
  let c1_i32_37 : BitVec 32 := 1#32
  let v108 : BitVec 32 := Scalar.divsi v106 c1_i32_37
  let v109 : BitVec 32 := Scalar.muli v108 c1_i32_37
  let v110 : BitVec 32 := Scalar.addi c0_i32_36 v109
  let c1_i32_39 : BitVec 32 := 1#32
  let arg18 : BitVec 32 := Scf.iv v110 c1_i32_39 k0_t12
  let c1_i32_40 : BitVec 32 := 1#32
  let v145 : BitVec 32 := Scalar.addi arg18 c1_i32_40
  let c0_i32_42 : BitVec 32 := 0#32
  let v147 : BitVec 1 := Scalar.cmpi .sgt v145 c0_i32_42
  let v148 : BitVec 32 := Scalar.extui v147
  let c0_i32_43 : BitVec 32 := 0#32
  let v149 : BitVec 1 := Scalar.cmpi .slt v145 c0_i32_43
  let v150 : BitVec 32 := Scalar.extui v149
  let v151 : BitVec 32 := Scalar.subi v148 v150
  let c16_i32_41 : BitVec 32 := 16#32
  let c0_i32_44 : BitVec 32 := 0#32
  let v152 : BitVec 1 := Scalar.cmpi .sgt c16_i32_41 c0_i32_44
  let v153 : BitVec 32 := Scalar.extui v152
  let c0_i32_45 : BitVec 32 := 0#32
  let v154 : BitVec 1 := Scalar.cmpi .slt c16_i32_41 c0_i32_45
  let v155 : BitVec 32 := Scalar.extui v154
  let v156 : BitVec 32 := Scalar.subi v153 v155
  let v157 : BitVec 1 := Scalar.cmpi .ne v151 v156
  let v158 : BitVec 32 := Scalar.remsi v145 c16_i32_41
  let c0_i32_46 : BitVec 32 := 0#32
  let v159 : BitVec 1 := Scalar.cmpi .ne v158 c0_i32_46
  let v160 : BitVec 1 := Scalar.andi v157 v159
  let v146 : BitVec 32 := Scalar.divsi v145 c16_i32_41
  let c1_i32_47 : BitVec 32 := 1#32
  let v161 : BitVec 32 := Scalar.subi v146 c1_i32_47
  let v162 : BitVec 32 := Scalar.select v160 v161 v146
  let c15_i32 : BitVec 32 := 15#32
  let v88 : BitVec 32 := Scalar.addi v87 c15_i32
  let c0_i32_29 : BitVec 32 := 0#32
  let v90 : BitVec 1 := Scalar.cmpi .sgt v88 c0_i32_29
  let v91 : BitVec 32 := Scalar.extui v90
  let c0_i32_30 : BitVec 32 := 0#32
  let v92 : BitVec 1 := Scalar.cmpi .slt v88 c0_i32_30
  let v93 : BitVec 32 := Scalar.extui v92
  let v94 : BitVec 32 := Scalar.subi v91 v93
  let c16_i32_28 : BitVec 32 := 16#32
  let c0_i32_31 : BitVec 32 := 0#32
  let v95 : BitVec 1 := Scalar.cmpi .sgt c16_i32_28 c0_i32_31
  let v96 : BitVec 32 := Scalar.extui v95
  let c0_i32_32 : BitVec 32 := 0#32
  let v97 : BitVec 1 := Scalar.cmpi .slt c16_i32_28 c0_i32_32
  let v98 : BitVec 32 := Scalar.extui v97
  let v99 : BitVec 32 := Scalar.subi v96 v98
  let v100 : BitVec 1 := Scalar.cmpi .ne v94 v99
  let v101 : BitVec 32 := Scalar.remsi v88 c16_i32_28
  let c0_i32_33 : BitVec 32 := 0#32
  let v102 : BitVec 1 := Scalar.cmpi .ne v101 c0_i32_33
  let v103 : BitVec 1 := Scalar.andi v100 v102
  let v89 : BitVec 32 := Scalar.divsi v88 c16_i32_28
  let c1_i32_34 : BitVec 32 := 1#32
  let v104 : BitVec 32 := Scalar.subi v89 c1_i32_34
  let v105 : BitVec 32 := Scalar.select v103 v104 v89
  let v163 : BitVec 32 := Scalar.select v144 v162 v105
  let c1_i32_50 : BitVec 32 := 1#32
  let arg19 : BitVec 32 := Scf.iv v163 c1_i32_50 k0_t13
  let c16_i32_52 : BitVec 32 := 16#32
  let v169 : BitVec 32 := Scalar.muli arg19 c16_i32_52
  let v170 : BitVec 32 := Scalar.addi v82 v169
  let v171 : Index := Scalar.indexCast v170
  ![v171.toNat]
@[reducible] def k0_t14_loop (v87 : BitVec 32) (k0_t12 : Fin (k0_t12_loop v87).trips) (v144 : BitVec 1) : Scf.Loop 32 :=
  let c0_i32_36 : BitVec 32 := 0#32
  let v106 : BitVec 32 := Scalar.subi v87 c0_i32_36
  let c1_i32_37 : BitVec 32 := 1#32
  let v108 : BitVec 32 := Scalar.divsi v106 c1_i32_37
  let v109 : BitVec 32 := Scalar.muli v108 c1_i32_37
  let v110 : BitVec 32 := Scalar.addi c0_i32_36 v109
  let c1_i32_39 : BitVec 32 := 1#32
  let arg18 : BitVec 32 := Scf.iv v110 c1_i32_39 k0_t12
  let c1_i32_40 : BitVec 32 := 1#32
  let v145 : BitVec 32 := Scalar.addi arg18 c1_i32_40
  let c0_i32_42 : BitVec 32 := 0#32
  let v147 : BitVec 1 := Scalar.cmpi .sgt v145 c0_i32_42
  let v148 : BitVec 32 := Scalar.extui v147
  let c0_i32_43 : BitVec 32 := 0#32
  let v149 : BitVec 1 := Scalar.cmpi .slt v145 c0_i32_43
  let v150 : BitVec 32 := Scalar.extui v149
  let v151 : BitVec 32 := Scalar.subi v148 v150
  let c16_i32_41 : BitVec 32 := 16#32
  let c0_i32_44 : BitVec 32 := 0#32
  let v152 : BitVec 1 := Scalar.cmpi .sgt c16_i32_41 c0_i32_44
  let v153 : BitVec 32 := Scalar.extui v152
  let c0_i32_45 : BitVec 32 := 0#32
  let v154 : BitVec 1 := Scalar.cmpi .slt c16_i32_41 c0_i32_45
  let v155 : BitVec 32 := Scalar.extui v154
  let v156 : BitVec 32 := Scalar.subi v153 v155
  let v157 : BitVec 1 := Scalar.cmpi .ne v151 v156
  let v158 : BitVec 32 := Scalar.remsi v145 c16_i32_41
  let c0_i32_46 : BitVec 32 := 0#32
  let v159 : BitVec 1 := Scalar.cmpi .ne v158 c0_i32_46
  let v160 : BitVec 1 := Scalar.andi v157 v159
  let v146 : BitVec 32 := Scalar.divsi v145 c16_i32_41
  let c1_i32_47 : BitVec 32 := 1#32
  let v161 : BitVec 32 := Scalar.subi v146 c1_i32_47
  let v162 : BitVec 32 := Scalar.select v160 v161 v146
  let c15_i32 : BitVec 32 := 15#32
  let v88 : BitVec 32 := Scalar.addi v87 c15_i32
  let c0_i32_29 : BitVec 32 := 0#32
  let v90 : BitVec 1 := Scalar.cmpi .sgt v88 c0_i32_29
  let v91 : BitVec 32 := Scalar.extui v90
  let c0_i32_30 : BitVec 32 := 0#32
  let v92 : BitVec 1 := Scalar.cmpi .slt v88 c0_i32_30
  let v93 : BitVec 32 := Scalar.extui v92
  let v94 : BitVec 32 := Scalar.subi v91 v93
  let c16_i32_28 : BitVec 32 := 16#32
  let c0_i32_31 : BitVec 32 := 0#32
  let v95 : BitVec 1 := Scalar.cmpi .sgt c16_i32_28 c0_i32_31
  let v96 : BitVec 32 := Scalar.extui v95
  let c0_i32_32 : BitVec 32 := 0#32
  let v97 : BitVec 1 := Scalar.cmpi .slt c16_i32_28 c0_i32_32
  let v98 : BitVec 32 := Scalar.extui v97
  let v99 : BitVec 32 := Scalar.subi v96 v98
  let v100 : BitVec 1 := Scalar.cmpi .ne v94 v99
  let v101 : BitVec 32 := Scalar.remsi v88 c16_i32_28
  let c0_i32_33 : BitVec 32 := 0#32
  let v102 : BitVec 1 := Scalar.cmpi .ne v101 c0_i32_33
  let v103 : BitVec 1 := Scalar.andi v100 v102
  let v89 : BitVec 32 := Scalar.divsi v88 c16_i32_28
  let c1_i32_34 : BitVec 32 := 1#32
  let v104 : BitVec 32 := Scalar.subi v89 c1_i32_34
  let v105 : BitVec 32 := Scalar.select v103 v104 v89
  let v163 : BitVec 32 := Scalar.select v144 v162 v105
  let v164 : BitVec 32 := Scalar.subi v105 v163
  let c1_i32_49 : BitVec 32 := 1#32
  let v166 : BitVec 32 := Scalar.divsi v164 c1_i32_49
  let v167 : BitVec 32 := Scalar.muli v166 c1_i32_49
  let v168 : BitVec 32 := Scalar.addi v163 v167
  let v165 : BitVec 32 := Scalar.addi v163 v164
  let c1_i32_51 : BitVec 32 := 1#32
  ⟨v168, v165, c1_i32_51⟩
def k0_off14 (v82 : BitVec 32) (v87 : BitVec 32) (k0_t12 : Fin (k0_t12_loop v87).trips) (v144 : BitVec 1) (k0_t14 : Fin (k0_t14_loop v87 k0_t12 v144).trips) : Fin 1 → Nat :=
  let c0_i32_36 : BitVec 32 := 0#32
  let v106 : BitVec 32 := Scalar.subi v87 c0_i32_36
  let c1_i32_37 : BitVec 32 := 1#32
  let v108 : BitVec 32 := Scalar.divsi v106 c1_i32_37
  let v109 : BitVec 32 := Scalar.muli v108 c1_i32_37
  let v110 : BitVec 32 := Scalar.addi c0_i32_36 v109
  let c1_i32_39 : BitVec 32 := 1#32
  let arg18 : BitVec 32 := Scf.iv v110 c1_i32_39 k0_t12
  let c1_i32_40 : BitVec 32 := 1#32
  let v145 : BitVec 32 := Scalar.addi arg18 c1_i32_40
  let c0_i32_42 : BitVec 32 := 0#32
  let v147 : BitVec 1 := Scalar.cmpi .sgt v145 c0_i32_42
  let v148 : BitVec 32 := Scalar.extui v147
  let c0_i32_43 : BitVec 32 := 0#32
  let v149 : BitVec 1 := Scalar.cmpi .slt v145 c0_i32_43
  let v150 : BitVec 32 := Scalar.extui v149
  let v151 : BitVec 32 := Scalar.subi v148 v150
  let c16_i32_41 : BitVec 32 := 16#32
  let c0_i32_44 : BitVec 32 := 0#32
  let v152 : BitVec 1 := Scalar.cmpi .sgt c16_i32_41 c0_i32_44
  let v153 : BitVec 32 := Scalar.extui v152
  let c0_i32_45 : BitVec 32 := 0#32
  let v154 : BitVec 1 := Scalar.cmpi .slt c16_i32_41 c0_i32_45
  let v155 : BitVec 32 := Scalar.extui v154
  let v156 : BitVec 32 := Scalar.subi v153 v155
  let v157 : BitVec 1 := Scalar.cmpi .ne v151 v156
  let v158 : BitVec 32 := Scalar.remsi v145 c16_i32_41
  let c0_i32_46 : BitVec 32 := 0#32
  let v159 : BitVec 1 := Scalar.cmpi .ne v158 c0_i32_46
  let v160 : BitVec 1 := Scalar.andi v157 v159
  let v146 : BitVec 32 := Scalar.divsi v145 c16_i32_41
  let c1_i32_47 : BitVec 32 := 1#32
  let v161 : BitVec 32 := Scalar.subi v146 c1_i32_47
  let v162 : BitVec 32 := Scalar.select v160 v161 v146
  let c15_i32 : BitVec 32 := 15#32
  let v88 : BitVec 32 := Scalar.addi v87 c15_i32
  let c0_i32_29 : BitVec 32 := 0#32
  let v90 : BitVec 1 := Scalar.cmpi .sgt v88 c0_i32_29
  let v91 : BitVec 32 := Scalar.extui v90
  let c0_i32_30 : BitVec 32 := 0#32
  let v92 : BitVec 1 := Scalar.cmpi .slt v88 c0_i32_30
  let v93 : BitVec 32 := Scalar.extui v92
  let v94 : BitVec 32 := Scalar.subi v91 v93
  let c16_i32_28 : BitVec 32 := 16#32
  let c0_i32_31 : BitVec 32 := 0#32
  let v95 : BitVec 1 := Scalar.cmpi .sgt c16_i32_28 c0_i32_31
  let v96 : BitVec 32 := Scalar.extui v95
  let c0_i32_32 : BitVec 32 := 0#32
  let v97 : BitVec 1 := Scalar.cmpi .slt c16_i32_28 c0_i32_32
  let v98 : BitVec 32 := Scalar.extui v97
  let v99 : BitVec 32 := Scalar.subi v96 v98
  let v100 : BitVec 1 := Scalar.cmpi .ne v94 v99
  let v101 : BitVec 32 := Scalar.remsi v88 c16_i32_28
  let c0_i32_33 : BitVec 32 := 0#32
  let v102 : BitVec 1 := Scalar.cmpi .ne v101 c0_i32_33
  let v103 : BitVec 1 := Scalar.andi v100 v102
  let v89 : BitVec 32 := Scalar.divsi v88 c16_i32_28
  let c1_i32_34 : BitVec 32 := 1#32
  let v104 : BitVec 32 := Scalar.subi v89 c1_i32_34
  let v105 : BitVec 32 := Scalar.select v103 v104 v89
  let v163 : BitVec 32 := Scalar.select v144 v162 v105
  let v164 : BitVec 32 := Scalar.subi v105 v163
  let c1_i32_49 : BitVec 32 := 1#32
  let v166 : BitVec 32 := Scalar.divsi v164 c1_i32_49
  let v167 : BitVec 32 := Scalar.muli v166 c1_i32_49
  let v168 : BitVec 32 := Scalar.addi v163 v167
  let c1_i32_51 : BitVec 32 := 1#32
  let arg19 : BitVec 32 := Scf.iv v168 c1_i32_51 k0_t14
  let c16_i32_52 : BitVec 32 := 16#32
  let v169 : BitVec 32 := Scalar.muli arg19 c16_i32_52
  let v170 : BitVec 32 := Scalar.addi v82 v169
  let v171 : Index := Scalar.indexCast v170
  ![v171.toNat]

def k0_chk6 (i : grid0.Coords) (k0_t8 : Fin (k0_t8_loop i).trips) (v82 : BitVec 32) (v87 : BitVec 32) (k0_t12 : Fin (k0_t12_loop v87).trips) (v144 : BitVec 1) : Prop :=
  ((k0_t13_loop v87 k0_t12 v144).OK) ∧
  (∀ k0_t13 : Fin (k0_t13_loop v87 k0_t12 v144).trips, ∀ a, (k0_off13 v82 v87 k0_t12 v144 k0_t13) a + S16.size a ≤ S21296.size a) ∧
  ((k0_t14_loop v87 k0_t12 v144).OK) ∧
  (∀ k0_t14 : Fin (k0_t14_loop v87 k0_t12 v144).trips, ∀ a, (k0_off14 v82 v87 k0_t12 v144 k0_t14) a + S16.size a ≤ S21296.size a)
theorem k0_t13_ok : ∀ (i : grid0.Coords) (k0_t8 : Fin (k0_t8_loop i).trips) (v82 : BitVec 32) (v87 : BitVec 32) (k0_t12 : Fin (k0_t12_loop v87).trips) (v144 : BitVec 1) (k0_hw6 : k0_chk6 i k0_t8 v82 v87 k0_t12 v144), (k0_t13_loop v87 k0_t12 v144).OK := fun i k0_t8 v82 v87 k0_t12 v144 k0_hw6 => k0_hw6.1
theorem k0_off13_inb : ∀ (i : grid0.Coords) (k0_t8 : Fin (k0_t8_loop i).trips) (v82 : BitVec 32) (v87 : BitVec 32) (k0_t12 : Fin (k0_t12_loop v87).trips) (v144 : BitVec 1) (k0_hw6 : k0_chk6 i k0_t8 v82 v87 k0_t12 v144) (k0_t13 : Fin (k0_t13_loop v87 k0_t12 v144).trips), ∀ a, (k0_off13 v82 v87 k0_t12 v144 k0_t13) a + S16.size a ≤ S21296.size a := fun i k0_t8 v82 v87 k0_t12 v144 k0_hw6 k0_t13 => k0_hw6.2.1 k0_t13
theorem k0_t14_ok : ∀ (i : grid0.Coords) (k0_t8 : Fin (k0_t8_loop i).trips) (v82 : BitVec 32) (v87 : BitVec 32) (k0_t12 : Fin (k0_t12_loop v87).trips) (v144 : BitVec 1) (k0_hw6 : k0_chk6 i k0_t8 v82 v87 k0_t12 v144), (k0_t14_loop v87 k0_t12 v144).OK := fun i k0_t8 v82 v87 k0_t12 v144 k0_hw6 => k0_hw6.2.2.1
theorem k0_off14_inb : ∀ (i : grid0.Coords) (k0_t8 : Fin (k0_t8_loop i).trips) (v82 : BitVec 32) (v87 : BitVec 32) (k0_t12 : Fin (k0_t12_loop v87).trips) (v144 : BitVec 1) (k0_hw6 : k0_chk6 i k0_t8 v82 v87 k0_t12 v144) (k0_t14 : Fin (k0_t14_loop v87 k0_t12 v144).trips), ∀ a, (k0_off14 v82 v87 k0_t12 v144 k0_t14) a + S16.size a ≤ S21296.size a := fun i k0_t8 v82 v87 k0_t12 v144 k0_hw6 k0_t14 => k0_hw6.2.2.2 k0_t14

def k0_off15 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c80_i32 : BitVec 32 := 80#32
  let v2 : BitVec 32 := Scalar.muli v1 c80_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v45 : Index := Scalar.indexCast v19
  ![v45.toNat]
def k0_off16 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let c80_i32_5 : BitVec 32 := 80#32
  let v21 : BitVec 32 := Scalar.muli v20 c80_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let v50 : Index := Scalar.indexCast v38
  ![v50.toNat]
@[reducible] def k0_t15_loop (v49 : BitVec 32) (v54 : BitVec 32) : Scf.Loop 32 :=
  let c0_i32_24 : BitVec 32 := 0#32
  let v55 : BitVec 32 := Scalar.subi v54 v49
  let c0_i32_17 : BitVec 32 := 0#32
  let v57 : BitVec 1 := Scalar.cmpi .sgt v55 c0_i32_17
  let v58 : BitVec 32 := Scalar.extui v57
  let c0_i32_18 : BitVec 32 := 0#32
  let v59 : BitVec 1 := Scalar.cmpi .slt v55 c0_i32_18
  let v60 : BitVec 32 := Scalar.extui v59
  let v61 : BitVec 32 := Scalar.subi v58 v60
  let c16_i32 : BitVec 32 := 16#32
  let c0_i32_19 : BitVec 32 := 0#32
  let v62 : BitVec 1 := Scalar.cmpi .sgt c16_i32 c0_i32_19
  let v63 : BitVec 32 := Scalar.extui v62
  let c0_i32_20 : BitVec 32 := 0#32
  let v64 : BitVec 1 := Scalar.cmpi .slt c16_i32 c0_i32_20
  let v65 : BitVec 32 := Scalar.extui v64
  let v66 : BitVec 32 := Scalar.subi v63 v65
  let v67 : BitVec 1 := Scalar.cmpi .ne v61 v66
  let v68 : BitVec 32 := Scalar.remsi v55 c16_i32
  let c0_i32_21 : BitVec 32 := 0#32
  let v69 : BitVec 1 := Scalar.cmpi .ne v68 c0_i32_21
  let v70 : BitVec 1 := Scalar.andi v67 v69
  let v56 : BitVec 32 := Scalar.divsi v55 c16_i32
  let c1_i32_22 : BitVec 32 := 1#32
  let v71 : BitVec 32 := Scalar.subi v56 c1_i32_22
  let v72 : BitVec 32 := Scalar.select v70 v71 v56
  let v73 : BitVec 32 := Scalar.subi v72 c0_i32_24
  let c1_i32_25 : BitVec 32 := 1#32
  let v75 : BitVec 32 := Scalar.divsi v73 c1_i32_25
  let v76 : BitVec 32 := Scalar.muli v75 c1_i32_25
  let v77 : BitVec 32 := Scalar.addi c0_i32_24 v76
  let c1_i32_26 : BitVec 32 := 1#32
  ⟨c0_i32_24, v77, c1_i32_26⟩

def k0_mult1 (v49 : BitVec 32) (v54 : BitVec 32) (k0_t15 : Fin (k0_t15_loop v49 v54).trips) : BitVec 32 :=
  let c0_i32_24 : BitVec 32 := 0#32
  let c1_i32_26 : BitVec 32 := 1#32
  let arg17 : BitVec 32 := Scf.iv c0_i32_24 c1_i32_26 k0_t15
  let c16_i32_28 : BitVec 32 := 16#32
  let v78 : BitVec 32 := Scalar.muli arg17 c16_i32_28
  let v79 : BitVec 32 := Scalar.addi v49 v78
  v79
def k0_off17 (v49 : BitVec 32) (v54 : BitVec 32) (k0_t15 : Fin (k0_t15_loop v49 v54).trips) : Fin 1 → Nat :=
  let c0_i32_24 : BitVec 32 := 0#32
  let c1_i32_26 : BitVec 32 := 1#32
  let arg17 : BitVec 32 := Scf.iv c0_i32_24 c1_i32_26 k0_t15
  let c16_i32_28 : BitVec 32 := 16#32
  let v78 : BitVec 32 := Scalar.muli arg17 c16_i32_28
  let v79 : BitVec 32 := Scalar.addi v49 v78
  let v80 : BitVec 32 := v79
  ![v80.toNat]
def k0_off18 (v49 : BitVec 32) (v54 : BitVec 32) (k0_t15 : Fin (k0_t15_loop v49 v54).trips) : Fin 1 → Nat :=
  let c0_i32_24 : BitVec 32 := 0#32
  let c1_i32_26 : BitVec 32 := 1#32
  let arg17 : BitVec 32 := Scf.iv c0_i32_24 c1_i32_26 k0_t15
  let c16_i32_28 : BitVec 32 := 16#32
  let v78 : BitVec 32 := Scalar.muli arg17 c16_i32_28
  let v79 : BitVec 32 := Scalar.addi v49 v78
  let v80 : BitVec 32 := v79
  ![v80.toNat]
@[reducible] def k0_t16_loop (v49 : BitVec 32) (v54 : BitVec 32) : Scf.Loop 32 :=
  let c0_i32_24 : BitVec 32 := 0#32
  let v55 : BitVec 32 := Scalar.subi v54 v49
  let c0_i32_17 : BitVec 32 := 0#32
  let v57 : BitVec 1 := Scalar.cmpi .sgt v55 c0_i32_17
  let v58 : BitVec 32 := Scalar.extui v57
  let c0_i32_18 : BitVec 32 := 0#32
  let v59 : BitVec 1 := Scalar.cmpi .slt v55 c0_i32_18
  let v60 : BitVec 32 := Scalar.extui v59
  let v61 : BitVec 32 := Scalar.subi v58 v60
  let c16_i32 : BitVec 32 := 16#32
  let c0_i32_19 : BitVec 32 := 0#32
  let v62 : BitVec 1 := Scalar.cmpi .sgt c16_i32 c0_i32_19
  let v63 : BitVec 32 := Scalar.extui v62
  let c0_i32_20 : BitVec 32 := 0#32
  let v64 : BitVec 1 := Scalar.cmpi .slt c16_i32 c0_i32_20
  let v65 : BitVec 32 := Scalar.extui v64
  let v66 : BitVec 32 := Scalar.subi v63 v65
  let v67 : BitVec 1 := Scalar.cmpi .ne v61 v66
  let v68 : BitVec 32 := Scalar.remsi v55 c16_i32
  let c0_i32_21 : BitVec 32 := 0#32
  let v69 : BitVec 1 := Scalar.cmpi .ne v68 c0_i32_21
  let v70 : BitVec 1 := Scalar.andi v67 v69
  let v56 : BitVec 32 := Scalar.divsi v55 c16_i32
  let c1_i32_22 : BitVec 32 := 1#32
  let v71 : BitVec 32 := Scalar.subi v56 c1_i32_22
  let v72 : BitVec 32 := Scalar.select v70 v71 v56
  let v73 : BitVec 32 := Scalar.subi v72 c0_i32_24
  let c1_i32_25 : BitVec 32 := 1#32
  let v75 : BitVec 32 := Scalar.divsi v73 c1_i32_25
  let v76 : BitVec 32 := Scalar.muli v75 c1_i32_25
  let v77 : BitVec 32 := Scalar.addi c0_i32_24 v76
  let v74 : BitVec 32 := Scalar.addi c0_i32_24 v73
  let c1_i32_27 : BitVec 32 := 1#32
  ⟨v77, v74, c1_i32_27⟩
def k0_mult2 (v49 : BitVec 32) (v54 : BitVec 32) (k0_t16 : Fin (k0_t16_loop v49 v54).trips) : BitVec 32 :=
  let c0_i32_24 : BitVec 32 := 0#32
  let v55 : BitVec 32 := Scalar.subi v54 v49
  let c0_i32_17 : BitVec 32 := 0#32
  let v57 : BitVec 1 := Scalar.cmpi .sgt v55 c0_i32_17
  let v58 : BitVec 32 := Scalar.extui v57
  let c0_i32_18 : BitVec 32 := 0#32
  let v59 : BitVec 1 := Scalar.cmpi .slt v55 c0_i32_18
  let v60 : BitVec 32 := Scalar.extui v59
  let v61 : BitVec 32 := Scalar.subi v58 v60
  let c16_i32 : BitVec 32 := 16#32
  let c0_i32_19 : BitVec 32 := 0#32
  let v62 : BitVec 1 := Scalar.cmpi .sgt c16_i32 c0_i32_19
  let v63 : BitVec 32 := Scalar.extui v62
  let c0_i32_20 : BitVec 32 := 0#32
  let v64 : BitVec 1 := Scalar.cmpi .slt c16_i32 c0_i32_20
  let v65 : BitVec 32 := Scalar.extui v64
  let v66 : BitVec 32 := Scalar.subi v63 v65
  let v67 : BitVec 1 := Scalar.cmpi .ne v61 v66
  let v68 : BitVec 32 := Scalar.remsi v55 c16_i32
  let c0_i32_21 : BitVec 32 := 0#32
  let v69 : BitVec 1 := Scalar.cmpi .ne v68 c0_i32_21
  let v70 : BitVec 1 := Scalar.andi v67 v69
  let v56 : BitVec 32 := Scalar.divsi v55 c16_i32
  let c1_i32_22 : BitVec 32 := 1#32
  let v71 : BitVec 32 := Scalar.subi v56 c1_i32_22
  let v72 : BitVec 32 := Scalar.select v70 v71 v56
  let v73 : BitVec 32 := Scalar.subi v72 c0_i32_24
  let c1_i32_25 : BitVec 32 := 1#32
  let v75 : BitVec 32 := Scalar.divsi v73 c1_i32_25
  let v76 : BitVec 32 := Scalar.muli v75 c1_i32_25
  let v77 : BitVec 32 := Scalar.addi c0_i32_24 v76
  let c1_i32_27 : BitVec 32 := 1#32
  let arg17 : BitVec 32 := Scf.iv v77 c1_i32_27 k0_t16
  let c16_i32_28 : BitVec 32 := 16#32
  let v78 : BitVec 32 := Scalar.muli arg17 c16_i32_28
  let v79 : BitVec 32 := Scalar.addi v49 v78
  v79
def k0_off19 (v49 : BitVec 32) (v54 : BitVec 32) (k0_t16 : Fin (k0_t16_loop v49 v54).trips) : Fin 1 → Nat :=
  let c0_i32_24 : BitVec 32 := 0#32
  let v55 : BitVec 32 := Scalar.subi v54 v49
  let c0_i32_17 : BitVec 32 := 0#32
  let v57 : BitVec 1 := Scalar.cmpi .sgt v55 c0_i32_17
  let v58 : BitVec 32 := Scalar.extui v57
  let c0_i32_18 : BitVec 32 := 0#32
  let v59 : BitVec 1 := Scalar.cmpi .slt v55 c0_i32_18
  let v60 : BitVec 32 := Scalar.extui v59
  let v61 : BitVec 32 := Scalar.subi v58 v60
  let c16_i32 : BitVec 32 := 16#32
  let c0_i32_19 : BitVec 32 := 0#32
  let v62 : BitVec 1 := Scalar.cmpi .sgt c16_i32 c0_i32_19
  let v63 : BitVec 32 := Scalar.extui v62
  let c0_i32_20 : BitVec 32 := 0#32
  let v64 : BitVec 1 := Scalar.cmpi .slt c16_i32 c0_i32_20
  let v65 : BitVec 32 := Scalar.extui v64
  let v66 : BitVec 32 := Scalar.subi v63 v65
  let v67 : BitVec 1 := Scalar.cmpi .ne v61 v66
  let v68 : BitVec 32 := Scalar.remsi v55 c16_i32
  let c0_i32_21 : BitVec 32 := 0#32
  let v69 : BitVec 1 := Scalar.cmpi .ne v68 c0_i32_21
  let v70 : BitVec 1 := Scalar.andi v67 v69
  let v56 : BitVec 32 := Scalar.divsi v55 c16_i32
  let c1_i32_22 : BitVec 32 := 1#32
  let v71 : BitVec 32 := Scalar.subi v56 c1_i32_22
  let v72 : BitVec 32 := Scalar.select v70 v71 v56
  let v73 : BitVec 32 := Scalar.subi v72 c0_i32_24
  let c1_i32_25 : BitVec 32 := 1#32
  let v75 : BitVec 32 := Scalar.divsi v73 c1_i32_25
  let v76 : BitVec 32 := Scalar.muli v75 c1_i32_25
  let v77 : BitVec 32 := Scalar.addi c0_i32_24 v76
  let c1_i32_27 : BitVec 32 := 1#32
  let arg17 : BitVec 32 := Scf.iv v77 c1_i32_27 k0_t16
  let c16_i32_28 : BitVec 32 := 16#32
  let v78 : BitVec 32 := Scalar.muli arg17 c16_i32_28
  let v79 : BitVec 32 := Scalar.addi v49 v78
  let v80 : BitVec 32 := v79
  ![v80.toNat]
def k0_off20 (v49 : BitVec 32) (v54 : BitVec 32) (k0_t16 : Fin (k0_t16_loop v49 v54).trips) : Fin 1 → Nat :=
  let c0_i32_24 : BitVec 32 := 0#32
  let v55 : BitVec 32 := Scalar.subi v54 v49
  let c0_i32_17 : BitVec 32 := 0#32
  let v57 : BitVec 1 := Scalar.cmpi .sgt v55 c0_i32_17
  let v58 : BitVec 32 := Scalar.extui v57
  let c0_i32_18 : BitVec 32 := 0#32
  let v59 : BitVec 1 := Scalar.cmpi .slt v55 c0_i32_18
  let v60 : BitVec 32 := Scalar.extui v59
  let v61 : BitVec 32 := Scalar.subi v58 v60
  let c16_i32 : BitVec 32 := 16#32
  let c0_i32_19 : BitVec 32 := 0#32
  let v62 : BitVec 1 := Scalar.cmpi .sgt c16_i32 c0_i32_19
  let v63 : BitVec 32 := Scalar.extui v62
  let c0_i32_20 : BitVec 32 := 0#32
  let v64 : BitVec 1 := Scalar.cmpi .slt c16_i32 c0_i32_20
  let v65 : BitVec 32 := Scalar.extui v64
  let v66 : BitVec 32 := Scalar.subi v63 v65
  let v67 : BitVec 1 := Scalar.cmpi .ne v61 v66
  let v68 : BitVec 32 := Scalar.remsi v55 c16_i32
  let c0_i32_21 : BitVec 32 := 0#32
  let v69 : BitVec 1 := Scalar.cmpi .ne v68 c0_i32_21
  let v70 : BitVec 1 := Scalar.andi v67 v69
  let v56 : BitVec 32 := Scalar.divsi v55 c16_i32
  let c1_i32_22 : BitVec 32 := 1#32
  let v71 : BitVec 32 := Scalar.subi v56 c1_i32_22
  let v72 : BitVec 32 := Scalar.select v70 v71 v56
  let v73 : BitVec 32 := Scalar.subi v72 c0_i32_24
  let c1_i32_25 : BitVec 32 := 1#32
  let v75 : BitVec 32 := Scalar.divsi v73 c1_i32_25
  let v76 : BitVec 32 := Scalar.muli v75 c1_i32_25
  let v77 : BitVec 32 := Scalar.addi c0_i32_24 v76
  let c1_i32_27 : BitVec 32 := 1#32
  let arg17 : BitVec 32 := Scf.iv v77 c1_i32_27 k0_t16
  let c16_i32_28 : BitVec 32 := 16#32
  let v78 : BitVec 32 := Scalar.muli arg17 c16_i32_28
  let v79 : BitVec 32 := Scalar.addi v49 v78
  let v80 : BitVec 32 := v79
  ![v80.toNat]

def k0_chk7 (v49 : BitVec 32) (v54 : BitVec 32) : Prop :=
  ((k0_t15_loop v49 v54).OK) ∧
  (∀ k0_t15 : Fin (k0_t15_loop v49 v54).trips, 16 ∣ (k0_mult1 v49 v54 k0_t15).toNat) ∧
  (∀ k0_t15 : Fin (k0_t15_loop v49 v54).trips, ∀ a, (k0_off17 v49 v54 k0_t15) a + S16.size a ≤ S21296.size a) ∧
  (∀ k0_t15 : Fin (k0_t15_loop v49 v54).trips, ∀ a, (k0_off18 v49 v54 k0_t15) a + S16.size a ≤ S21280.size a) ∧
  ((k0_t16_loop v49 v54).OK) ∧
  (∀ k0_t16 : Fin (k0_t16_loop v49 v54).trips, 16 ∣ (k0_mult2 v49 v54 k0_t16).toNat) ∧
  (∀ k0_t16 : Fin (k0_t16_loop v49 v54).trips, ∀ a, (k0_off19 v49 v54 k0_t16) a + S16.size a ≤ S21296.size a) ∧
  (∀ k0_t16 : Fin (k0_t16_loop v49 v54).trips, ∀ a, (k0_off20 v49 v54 k0_t16) a + S16.size a ≤ S21280.size a)
theorem k0_t15_ok : ∀ (v49 : BitVec 32) (v54 : BitVec 32) (k0_hw7 : k0_chk7 v49 v54), (k0_t15_loop v49 v54).OK := fun v49 v54 k0_hw7 => k0_hw7.1
theorem k0_mult1_dvd : ∀ (v49 : BitVec 32) (v54 : BitVec 32) (k0_hw7 : k0_chk7 v49 v54) (k0_t15 : Fin (k0_t15_loop v49 v54).trips), 16 ∣ (k0_mult1 v49 v54 k0_t15).toNat := fun v49 v54 k0_hw7 k0_t15 => k0_hw7.2.1 k0_t15
theorem k0_off17_inb : ∀ (v49 : BitVec 32) (v54 : BitVec 32) (k0_hw7 : k0_chk7 v49 v54) (k0_t15 : Fin (k0_t15_loop v49 v54).trips), ∀ a, (k0_off17 v49 v54 k0_t15) a + S16.size a ≤ S21296.size a := fun v49 v54 k0_hw7 k0_t15 => k0_hw7.2.2.1 k0_t15
theorem k0_off18_inb : ∀ (v49 : BitVec 32) (v54 : BitVec 32) (k0_hw7 : k0_chk7 v49 v54) (k0_t15 : Fin (k0_t15_loop v49 v54).trips), ∀ a, (k0_off18 v49 v54 k0_t15) a + S16.size a ≤ S21280.size a := fun v49 v54 k0_hw7 k0_t15 => k0_hw7.2.2.2.1 k0_t15
theorem k0_t16_ok : ∀ (v49 : BitVec 32) (v54 : BitVec 32) (k0_hw7 : k0_chk7 v49 v54), (k0_t16_loop v49 v54).OK := fun v49 v54 k0_hw7 => k0_hw7.2.2.2.2.1
theorem k0_mult2_dvd : ∀ (v49 : BitVec 32) (v54 : BitVec 32) (k0_hw7 : k0_chk7 v49 v54) (k0_t16 : Fin (k0_t16_loop v49 v54).trips), 16 ∣ (k0_mult2 v49 v54 k0_t16).toNat := fun v49 v54 k0_hw7 k0_t16 => k0_hw7.2.2.2.2.2.1 k0_t16
theorem k0_off19_inb : ∀ (v49 : BitVec 32) (v54 : BitVec 32) (k0_hw7 : k0_chk7 v49 v54) (k0_t16 : Fin (k0_t16_loop v49 v54).trips), ∀ a, (k0_off19 v49 v54 k0_t16) a + S16.size a ≤ S21296.size a := fun v49 v54 k0_hw7 k0_t16 => k0_hw7.2.2.2.2.2.2.1 k0_t16
theorem k0_off20_inb : ∀ (v49 : BitVec 32) (v54 : BitVec 32) (k0_hw7 : k0_chk7 v49 v54) (k0_t16 : Fin (k0_t16_loop v49 v54).trips), ∀ a, (k0_off20 v49 v54 k0_t16) a + S16.size a ≤ S21280.size a := fun v49 v54 k0_hw7 k0_t16 => k0_hw7.2.2.2.2.2.2.2 k0_t16

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S20000x4 : Shape := ⟨2, ![20000, 4]⟩
abbrev S20000 : Shape := ⟨1, ![20000]⟩
abbrev S_ : Shape := ⟨0, ![]⟩
abbrev S20000x1 : Shape := ⟨2, ![20000, 1]⟩
abbrev S1x4 : Shape := ⟨2, ![1, 4]⟩
abbrev S4 : Shape := ⟨1, ![4]⟩
abbrev S1 : Shape := ⟨1, ![1]⟩
abbrev S20000x5 : Shape := ⟨2, ![20000, 5]⟩

abbrev nBuf : Space → Nat
  | .hbm => 170
  | .vmem => 0
  | .smem => 0
  | _ => 0

abbrev hbmTy0_0 (i : Nat) : BufTy := match i % 128 with
  | 0 => ⟨S20000x4, .f32⟩
  | 1 => ⟨S20000, .f32⟩
  | 2 => ⟨S20000, .i32⟩
  | 3 => ⟨S20000, .f32⟩
  | 4 => ⟨S20000, .i32⟩
  | 5 => ⟨S20000, .f32⟩
  | 6 => ⟨S20000, .i32⟩
  | 7 => ⟨S_, .i32⟩
  | 8 => ⟨S20000, .i32⟩
  | 9 => ⟨S20000, .i1⟩
  | 10 => ⟨S_, .i32⟩
  | 11 => ⟨S20000, .i32⟩
  | 12 => ⟨S20000, .i32⟩
  | 13 => ⟨S20000, .i32⟩
  | 14 => ⟨S20000x1, .i32⟩
  | 15 => ⟨S20000x4, .f32⟩
  | 16 => ⟨S_, .i32⟩
  | 17 => ⟨S20000, .i32⟩
  | 18 => ⟨S20000, .i1⟩
  | 19 => ⟨S_, .i32⟩
  | 20 => ⟨S20000, .i32⟩
  | 21 => ⟨S20000, .i32⟩
  | 22 => ⟨S20000, .i32⟩
  | 23 => ⟨S20000x1, .i32⟩
  | 24 => ⟨S20000, .f32⟩
  | 25 => ⟨S_, .i32⟩
  | 26 => ⟨S20000, .i32⟩
  | 27 => ⟨S20000, .i1⟩
  | 28 => ⟨S_, .i32⟩
  | 29 => ⟨S20000, .i32⟩
  | 30 => ⟨S20000, .i32⟩
  | 31 => ⟨S20000, .i32⟩
  | 32 => ⟨S20000x1, .i32⟩
  | 33 => ⟨S20000, .i32⟩
  | 34 => ⟨S_, .f32⟩
  | 35 => ⟨S20000, .f32⟩
  | 36 => ⟨S20000, .i1⟩
  | 37 => ⟨S20000, .i32⟩
  | 38 => ⟨S_, .i32⟩
  | 39 => ⟨S_, .i32⟩
  | 40 => ⟨S20000x4, .f32⟩
  | 41 => ⟨S20000, .i32⟩
  | 42 => ⟨S20000, .i32⟩
  | 43 => ⟨S_, .i32⟩
  | 44 => ⟨S_, .i32⟩
  | 45 => ⟨S20000, .i1⟩
  | 46 => ⟨S_, .i32⟩
  | 47 => ⟨S_, .i1⟩
  | 48 => ⟨S_, .i32⟩
  | 49 => ⟨S_, .i32⟩
  | 50 => ⟨S_, .i32⟩
  | 51 => ⟨S_, .i32⟩
  | 52 => ⟨S_, .i1⟩
  | 53 => ⟨S_, .i32⟩
  | 54 => ⟨S_, .i32⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S_, .i32⟩
  | 62 => ⟨S_, .i32⟩
  | 63 => ⟨S_, .i32⟩
  | 64 => ⟨S1x4, .f32⟩
  | 65 => ⟨S4, .f32⟩
  | 66 => ⟨S1, .f32⟩
  | 67 => ⟨S_, .f32⟩
  | 68 => ⟨S20000x1, .f32⟩
  | 69 => ⟨S20000, .f32⟩
  | 70 => ⟨S20000, .f32⟩
  | 71 => ⟨S20000, .f32⟩
  | 72 => ⟨S1, .f32⟩
  | 73 => ⟨S_, .f32⟩
  | 74 => ⟨S20000x1, .f32⟩
  | 75 => ⟨S20000, .f32⟩
  | 76 => ⟨S20000, .f32⟩
  | 77 => ⟨S20000, .f32⟩
  | 78 => ⟨S1, .f32⟩
  | 79 => ⟨S_, .f32⟩
  | 80 => ⟨S20000x1, .f32⟩
  | 81 => ⟨S20000, .f32⟩
  | 82 => ⟨S20000, .f32⟩
  | 83 => ⟨S20000, .f32⟩
  | 84 => ⟨S1, .f32⟩
  | 85 => ⟨S_, .f32⟩
  | 86 => ⟨S20000x1, .f32⟩
  | 87 => ⟨S20000, .f32⟩
  | 88 => ⟨S20000, .f32⟩
  | 89 => ⟨S20000, .f32⟩
  | 90 => ⟨S20000, .f32⟩
  | 91 => ⟨S_, .f32⟩
  | 92 => ⟨S_, .f32⟩
  | 93 => ⟨S20000, .f32⟩
  | 94 => ⟨S20000, .f32⟩
  | 95 => ⟨S20000, .f32⟩
  | 96 => ⟨S_, .f32⟩
  | 97 => ⟨S_, .f32⟩
  | 98 => ⟨S20000, .f32⟩
  | 99 => ⟨S20000, .f32⟩
  | 100 => ⟨S20000, .f32⟩
  | 101 => ⟨S1, .f32⟩
  | 102 => ⟨S_, .f32⟩
  | 103 => ⟨S1, .f32⟩
  | 104 => ⟨S_, .f32⟩
  | 105 => ⟨S_, .f32⟩
  | 106 => ⟨S1, .f32⟩
  | 107 => ⟨S_, .f32⟩
  | 108 => ⟨S1, .f32⟩
  | 109 => ⟨S_, .f32⟩
  | 110 => ⟨S_, .f32⟩
  | 111 => ⟨S_, .f32⟩
  | 112 => ⟨S20000x1, .f32⟩
  | 113 => ⟨S20000, .f32⟩
  | 114 => ⟨S20000x1, .f32⟩
  | 115 => ⟨S20000, .f32⟩
  | 116 => ⟨S20000, .f32⟩
  | 117 => ⟨S20000x1, .f32⟩
  | 118 => ⟨S20000, .f32⟩
  | 119 => ⟨S20000x1, .f32⟩
  | 120 => ⟨S20000, .f32⟩
  | 121 => ⟨S20000, .f32⟩
  | 122 => ⟨S20000, .f32⟩
  | 123 => ⟨S20000, .f32⟩
  | 124 => ⟨S20000, .f32⟩
  | 125 => ⟨S20000, .f32⟩
  | 126 => ⟨S_, .f32⟩
  | 127 => ⟨S20000, .f32⟩
  | _ => ⟨S20000x4, .f32⟩

abbrev hbmTy0_1 (i : Nat) : BufTy := match i % 128 with
  | 0 => ⟨S20000, .f32⟩
  | 1 => ⟨S20000, .f32⟩
  | 2 => ⟨S_, .i32⟩
  | 3 => ⟨S_, .i1⟩
  | 4 => ⟨S_, .i32⟩
  | 5 => ⟨S_, .i32⟩
  | 6 => ⟨S_, .i32⟩
  | 7 => ⟨S_, .i32⟩
  | 8 => ⟨S1, .i32⟩
  | 9 => ⟨S_, .i32⟩
  | 10 => ⟨S20000, .i32⟩
  | 11 => ⟨S20000, .i1⟩
  | 12 => ⟨S_, .i32⟩
  | 13 => ⟨S20000, .i32⟩
  | 14 => ⟨S20000, .i1⟩
  | 15 => ⟨S20000, .i1⟩
  | 16 => ⟨S_, .f32⟩
  | 17 => ⟨S20000, .f32⟩
  | 18 => ⟨S20000, .i1⟩
  | 19 => ⟨S20000, .i1⟩
  | 20 => ⟨S_, .i32⟩
  | 21 => ⟨S_, .i1⟩
  | 22 => ⟨S_, .i32⟩
  | 23 => ⟨S_, .i32⟩
  | 24 => ⟨S_, .i32⟩
  | 25 => ⟨S_, .i32⟩
  | 26 => ⟨S1, .i1⟩
  | 27 => ⟨S_, .i1⟩
  | 28 => ⟨S20000, .i1⟩
  | 29 => ⟨S20000, .i1⟩
  | 30 => ⟨S20000, .i1⟩
  | 31 => ⟨S20000, .i1⟩
  | 32 => ⟨S_, .i32⟩
  | 33 => ⟨S_, .i32⟩
  | 34 => ⟨S20000x1, .f32⟩
  | 35 => ⟨S20000x5, .f32⟩
  | 36 => ⟨S20000x1, .i1⟩
  | 37 => ⟨S_, .f32⟩
  | 38 => ⟨S_, .f32⟩
  | 39 => ⟨S20000x5, .i1⟩
  | 40 => ⟨S20000x5, .f32⟩
  | 41 => ⟨S20000x5, .f32⟩
  | _ => ⟨S20000x4, .f32⟩

abbrev hbmTy (i : Nat) : BufTy := match i / 128 with
  | 0 => hbmTy0_0 i
  | 1 => hbmTy0_1 i
  | _ => ⟨S20000x4, .f32⟩

abbrev bufTy : (tb : Table) → Fin (tcTables nBuf tb) → BufTy
  | .hbm, ⟨i, _⟩ => hbmTy i
  | _, _ => ⟨S20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1_0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_c_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_c_6 : Ref sig .tc := ⟨.hbm, 39, rfl⟩
abbrev main_v26_0 : Ref sig .tc := ⟨.hbm, 40, rfl⟩
abbrev main_v26_1 : Ref sig .tc := ⟨.hbm, 41, rfl⟩
abbrev main_v26_2 : Ref sig .tc := ⟨.hbm, 42, rfl⟩
abbrev main_v26_3 : Ref sig .tc := ⟨.hbm, 43, rfl⟩
abbrev main_v26_4 : Ref sig .tc := ⟨.hbm, 44, rfl⟩
abbrev main_v26_5 : Ref sig .tc := ⟨.hbm, 45, rfl⟩
abbrev main_while0c_c_13 : Ref sig .tc := ⟨.hbm, 46, rfl⟩
abbrev main_while0c_v31 : Ref sig .tc := ⟨.hbm, 47, rfl⟩
abbrev main_while0b_c_13 : Ref sig .tc := ⟨.hbm, 48, rfl⟩
abbrev main_while0b_v31 : Ref sig .tc := ⟨.hbm, 49, rfl⟩
abbrev main_while0b_v32 : Ref sig .tc := ⟨.hbm, 50, rfl⟩
abbrev main_while0b_c_14 : Ref sig .tc := ⟨.hbm, 51, rfl⟩
abbrev main_while0b_v33 : Ref sig .tc := ⟨.hbm, 52, rfl⟩
abbrev main_while0b_c_15 : Ref sig .tc := ⟨.hbm, 53, rfl⟩
abbrev main_while0b_v34 : Ref sig .tc := ⟨.hbm, 54, rfl⟩
abbrev main_while0b_v35 : Ref sig .tc := ⟨.hbm, 55, rfl⟩
abbrev main_while0b_c_16 : Ref sig .tc := ⟨.hbm, 56, rfl⟩
abbrev main_while0b_c_17 : Ref sig .tc := ⟨.hbm, 57, rfl⟩
abbrev main_while0b_v36 : Ref sig .tc := ⟨.hbm, 58, rfl⟩
abbrev main_while0b_c_18 : Ref sig .tc := ⟨.hbm, 59, rfl⟩
abbrev main_while0b_c_19 : Ref sig .tc := ⟨.hbm, 60, rfl⟩
abbrev main_while0b_v37 : Ref sig .tc := ⟨.hbm, 61, rfl⟩
abbrev main_while0b_c_20 : Ref sig .tc := ⟨.hbm, 62, rfl⟩
abbrev main_while0b_v38 : Ref sig .tc := ⟨.hbm, 63, rfl⟩
abbrev main_while0b_v39 : Ref sig .tc := ⟨.hbm, 64, rfl⟩
abbrev main_while0b_v40 : Ref sig .tc := ⟨.hbm, 65, rfl⟩
abbrev main_while0b_v41 : Ref sig .tc := ⟨.hbm, 66, rfl⟩
abbrev main_while0b_v42 : Ref sig .tc := ⟨.hbm, 67, rfl⟩
abbrev main_while0b_v43 : Ref sig .tc := ⟨.hbm, 68, rfl⟩
abbrev main_while0b_v44 : Ref sig .tc := ⟨.hbm, 69, rfl⟩
abbrev main_while0b_v45 : Ref sig .tc := ⟨.hbm, 70, rfl⟩
abbrev main_while0b_v46 : Ref sig .tc := ⟨.hbm, 71, rfl⟩
abbrev main_while0b_v47 : Ref sig .tc := ⟨.hbm, 72, rfl⟩
abbrev main_while0b_v48 : Ref sig .tc := ⟨.hbm, 73, rfl⟩
abbrev main_while0b_v49 : Ref sig .tc := ⟨.hbm, 74, rfl⟩
abbrev main_while0b_v50 : Ref sig .tc := ⟨.hbm, 75, rfl⟩
abbrev main_while0b_v51 : Ref sig .tc := ⟨.hbm, 76, rfl⟩
abbrev main_while0b_v52 : Ref sig .tc := ⟨.hbm, 77, rfl⟩
abbrev main_while0b_v53 : Ref sig .tc := ⟨.hbm, 78, rfl⟩
abbrev main_while0b_v54 : Ref sig .tc := ⟨.hbm, 79, rfl⟩
abbrev main_while0b_v55 : Ref sig .tc := ⟨.hbm, 80, rfl⟩
abbrev main_while0b_v56 : Ref sig .tc := ⟨.hbm, 81, rfl⟩
abbrev main_while0b_v57 : Ref sig .tc := ⟨.hbm, 82, rfl⟩
abbrev main_while0b_v58 : Ref sig .tc := ⟨.hbm, 83, rfl⟩
abbrev main_while0b_v59 : Ref sig .tc := ⟨.hbm, 84, rfl⟩
abbrev main_while0b_v60 : Ref sig .tc := ⟨.hbm, 85, rfl⟩
abbrev main_while0b_v61 : Ref sig .tc := ⟨.hbm, 86, rfl⟩
abbrev main_while0b_v62 : Ref sig .tc := ⟨.hbm, 87, rfl⟩
abbrev main_while0b_v63 : Ref sig .tc := ⟨.hbm, 88, rfl⟩
abbrev main_while0b_v64 : Ref sig .tc := ⟨.hbm, 89, rfl⟩
abbrev main_while0b_v65 : Ref sig .tc := ⟨.hbm, 90, rfl⟩
abbrev main_while0b_cst_21 : Ref sig .tc := ⟨.hbm, 91, rfl⟩
abbrev main_while0b_call1_v0 : Ref sig .tc := ⟨.hbm, 92, rfl⟩
abbrev main_while0b_call1_v1 : Ref sig .tc := ⟨.hbm, 93, rfl⟩
abbrev main_while0b_v66 : Ref sig .tc := ⟨.hbm, 94, rfl⟩
abbrev main_while0b_v67 : Ref sig .tc := ⟨.hbm, 95, rfl⟩
abbrev main_while0b_cst_22 : Ref sig .tc := ⟨.hbm, 96, rfl⟩
abbrev main_while0b_call2_v0 : Ref sig .tc := ⟨.hbm, 97, rfl⟩
abbrev main_while0b_call2_v1 : Ref sig .tc := ⟨.hbm, 98, rfl⟩
abbrev main_while0b_v68 : Ref sig .tc := ⟨.hbm, 99, rfl⟩
abbrev main_while0b_v69 : Ref sig .tc := ⟨.hbm, 100, rfl⟩
abbrev main_while0b_v70 : Ref sig .tc := ⟨.hbm, 101, rfl⟩
abbrev main_while0b_v71 : Ref sig .tc := ⟨.hbm, 102, rfl⟩
abbrev main_while0b_v72 : Ref sig .tc := ⟨.hbm, 103, rfl⟩
abbrev main_while0b_v73 : Ref sig .tc := ⟨.hbm, 104, rfl⟩
abbrev main_while0b_v74 : Ref sig .tc := ⟨.hbm, 105, rfl⟩
abbrev main_while0b_v75 : Ref sig .tc := ⟨.hbm, 106, rfl⟩
abbrev main_while0b_v76 : Ref sig .tc := ⟨.hbm, 107, rfl⟩
abbrev main_while0b_v77 : Ref sig .tc := ⟨.hbm, 108, rfl⟩
abbrev main_while0b_v78 : Ref sig .tc := ⟨.hbm, 109, rfl⟩
abbrev main_while0b_v79 : Ref sig .tc := ⟨.hbm, 110, rfl⟩
abbrev main_while0b_v80 : Ref sig .tc := ⟨.hbm, 111, rfl⟩
abbrev main_while0b_v81 : Ref sig .tc := ⟨.hbm, 112, rfl⟩
abbrev main_while0b_v82 : Ref sig .tc := ⟨.hbm, 113, rfl⟩
abbrev main_while0b_v83 : Ref sig .tc := ⟨.hbm, 114, rfl⟩
abbrev main_while0b_v84 : Ref sig .tc := ⟨.hbm, 115, rfl⟩
abbrev main_while0b_v85 : Ref sig .tc := ⟨.hbm, 116, rfl⟩
abbrev main_while0b_v86 : Ref sig .tc := ⟨.hbm, 117, rfl⟩
abbrev main_while0b_v87 : Ref sig .tc := ⟨.hbm, 118, rfl⟩
abbrev main_while0b_v88 : Ref sig .tc := ⟨.hbm, 119, rfl⟩
abbrev main_while0b_v89 : Ref sig .tc := ⟨.hbm, 120, rfl⟩
abbrev main_while0b_v90 : Ref sig .tc := ⟨.hbm, 121, rfl⟩
abbrev main_while0b_v91 : Ref sig .tc := ⟨.hbm, 122, rfl⟩
abbrev main_while0b_v92 : Ref sig .tc := ⟨.hbm, 123, rfl⟩
abbrev main_while0b_v93 : Ref sig .tc := ⟨.hbm, 124, rfl⟩
abbrev main_while0b_v94 : Ref sig .tc := ⟨.hbm, 125, rfl⟩
abbrev main_while0b_cst_23 : Ref sig .tc := ⟨.hbm, 126, rfl⟩
abbrev main_while0b_v95 : Ref sig .tc := ⟨.hbm, 127, rfl⟩
abbrev main_while0b_v96 : Ref sig .tc := ⟨.hbm, 128, rfl⟩
abbrev main_while0b_v97 : Ref sig .tc := ⟨.hbm, 129, rfl⟩
abbrev main_while0b_c_24 : Ref sig .tc := ⟨.hbm, 130, rfl⟩
abbrev main_while0b_v98 : Ref sig .tc := ⟨.hbm, 131, rfl⟩
abbrev main_while0b_v99 : Ref sig .tc := ⟨.hbm, 132, rfl⟩
abbrev main_while0b_c_25 : Ref sig .tc := ⟨.hbm, 133, rfl⟩
abbrev main_while0b_v100 : Ref sig .tc := ⟨.hbm, 134, rfl⟩
abbrev main_while0b_v101 : Ref sig .tc := ⟨.hbm, 135, rfl⟩
abbrev main_while0b_v102 : Ref sig .tc := ⟨.hbm, 136, rfl⟩
abbrev main_while0b_v103 : Ref sig .tc := ⟨.hbm, 137, rfl⟩
abbrev main_while0b_v104 : Ref sig .tc := ⟨.hbm, 138, rfl⟩
abbrev main_while0b_v105 : Ref sig .tc := ⟨.hbm, 139, rfl⟩
abbrev main_while0b_v106 : Ref sig .tc := ⟨.hbm, 140, rfl⟩
abbrev main_while0b_v107 : Ref sig .tc := ⟨.hbm, 141, rfl⟩
abbrev main_while0b_v108 : Ref sig .tc := ⟨.hbm, 142, rfl⟩
abbrev main_while0b_v109 : Ref sig .tc := ⟨.hbm, 143, rfl⟩
abbrev main_while0b_cst_26 : Ref sig .tc := ⟨.hbm, 144, rfl⟩
abbrev main_while0b_v110 : Ref sig .tc := ⟨.hbm, 145, rfl⟩
abbrev main_while0b_v111 : Ref sig .tc := ⟨.hbm, 146, rfl⟩
abbrev main_while0b_v112 : Ref sig .tc := ⟨.hbm, 147, rfl⟩
abbrev main_while0b_c_27 : Ref sig .tc := ⟨.hbm, 148, rfl⟩
abbrev main_while0b_v113 : Ref sig .tc := ⟨.hbm, 149, rfl⟩
abbrev main_while0b_v114 : Ref sig .tc := ⟨.hbm, 150, rfl⟩
abbrev main_while0b_c_28 : Ref sig .tc := ⟨.hbm, 151, rfl⟩
abbrev main_while0b_v115 : Ref sig .tc := ⟨.hbm, 152, rfl⟩
abbrev main_while0b_v116 : Ref sig .tc := ⟨.hbm, 153, rfl⟩
abbrev main_while0b_v117 : Ref sig .tc := ⟨.hbm, 154, rfl⟩
abbrev main_while0b_v118 : Ref sig .tc := ⟨.hbm, 155, rfl⟩
abbrev main_while0b_v119 : Ref sig .tc := ⟨.hbm, 156, rfl⟩
abbrev main_while0b_v120 : Ref sig .tc := ⟨.hbm, 157, rfl⟩
abbrev main_while0b_v121 : Ref sig .tc := ⟨.hbm, 158, rfl⟩
abbrev main_while0b_v122 : Ref sig .tc := ⟨.hbm, 159, rfl⟩
abbrev main_while0b_c_29 : Ref sig .tc := ⟨.hbm, 160, rfl⟩
abbrev main_while0b_v123 : Ref sig .tc := ⟨.hbm, 161, rfl⟩
abbrev main_v27 : Ref sig .tc := ⟨.hbm, 162, rfl⟩
abbrev main_v28 : Ref sig .tc := ⟨.hbm, 163, rfl⟩
abbrev main_v29 : Ref sig .tc := ⟨.hbm, 164, rfl⟩
abbrev main_cst_7 : Ref sig .tc := ⟨.hbm, 165, rfl⟩
abbrev main_call3_v0 : Ref sig .tc := ⟨.hbm, 166, rfl⟩
abbrev main_call3_v1 : Ref sig .tc := ⟨.hbm, 167, rfl⟩
abbrev main_call3_v2 : Ref sig .tc := ⟨.hbm, 168, rfl⟩
abbrev main_v30 : Ref sig .tc := ⟨.hbm, 169, rfl⟩

abbrev nD : Nat := 1
abbrev τ : Topo := Topo.v7x

variable {F : FTy → Type} [FloatOps F]

abbrev main_while0_count : Scf.Loop 32 := ⟨0#32, 20000#32, 1#32⟩
-- ==== Proof.Words.lean ====
/-
  The word arithmetic of the printed program, once for every bound it is used at: what the floor division the
  printer expands computes, how many trips each counted loop makes, and at which element each load, store and copy
  starts. Everything here is about 32-bit words and natural numbers.
-/
module

public import proofs.«01_k».proof.Defs
public import Idealize.ShloMosaic.Lib.Tactic
public import Idealize.ShloMosaic.Lib.Affine
public import Idealize.ShloMosaic.Lib.WordArith
public import Idealize.ShloMosaic.Lib.LoopRemainder
public import proofs.«01_k».proof.Proof.Gen.KernelIdeal
public import proofs.«01_k».proof.Proof.Gen.KernelIdeal.Skeleton

@[expose] public section

noncomputable section

namespace Cert.Proof.Words

open Cert.KernelIdeal Cert.KernelIdeal.Gen
open Idealize.ShloMosaic

/-- A word below `2^31` reads the same signed and unsigned. -/
theorem isInt_nat (x : BitVec 32) (h : x.toNat < 2 ^ 31) : Affine.IsInt x (x.toNat : Int) :=
  Affine.relit (Affine.word x) (BitVec.toInt_eq_toNat_of_lt (by omega))

/-- The floor division by a positive literal, as the program spells it. -/
def fdiv (x m : BitVec 32) : BitVec 32 :=
  Scalar.select
    (Scalar.andi
      (Scalar.cmpi .ne
        (Scalar.subi (Scalar.extui (Scalar.cmpi .sgt x 0#32)) (Scalar.extui (Scalar.cmpi .slt x 0#32)) : BitVec 32)
        (Scalar.subi (Scalar.extui (Scalar.cmpi .sgt m 0#32)) (Scalar.extui (Scalar.cmpi .slt m 0#32))))
      (Scalar.cmpi .ne (Scalar.remsi x m) 0#32))
    (Scalar.subi (Scalar.divsi x m) 1#32) (Scalar.divsi x m)

/-- On a nonnegative word it is the quotient of natural numbers. -/
theorem fdiv_toNat (x m : BitVec 32) (hx : x.toNat < 2 ^ 31) (hm : 0 < m.toNat) (hm' : m.toNat < 2 ^ 31) :
    (fdiv x m).toNat = x.toNat / m.toNat := by
  have ix := isInt_nat x hx
  have im := isInt_nat m hm'
  have i0 : Affine.IsInt 0#32 0 := Affine.ofNat 0 ⟨rfl, by decide⟩
  have hq : Affine.IsInt (Scalar.divsi x m) ((x.toNat / m.toNat : ℕ) : Int) :=
    Affine.divsi ix im ⟨by simp, by omega, by omega⟩
  have hr : Affine.IsInt (Scalar.remsi x m) ((x.toNat % m.toNat : ℕ) : Int) :=
    Affine.remsi ix im ⟨by simp, by omega, by omega⟩
  have hs : Affine.IsInt (Scalar.subi (Scalar.divsi x m) 1#32) (((x.toNat / m.toNat : ℕ) : Int) - 1) := by
    have : x.toNat / m.toNat ≤ x.toNat := Nat.div_le_self _ _
    generalize x.toNat / m.toNat = q at hq this ⊢
    exact Affine.subi hq (Affine.ofNat 1 ⟨rfl, by decide⟩) ⟨rfl, by omega, by omega⟩
  have hm1 : Affine.IsInt (Scalar.subi (Scalar.extui (Scalar.cmpi .sgt m 0#32)) (Scalar.extui (Scalar.cmpi .slt m 0#32))) 1 :=
    Affine.subi (Affine.extui_holds (Affine.sgt_holds im i0 (by omega)) rfl)
      (Affine.extui_fails (Affine.slt_fails im i0 (by omega)) rfl) ⟨by norm_num, by norm_num, by norm_num⟩
  have hfin : Affine.IsInt (fdiv x m) ((x.toNat / m.toNat : ℕ) : Int) := by
    by_cases h0 : x.toNat = 0
    · refine Affine.select_fails (Affine.andi_fails_right trivial (Affine.ne_fails hr i0 ?_)) hs hq rfl
      simp [h0]
    · refine Affine.select_fails (Affine.andi_fails_left (Affine.ne_fails ?_ hm1 rfl) trivial) hs hq rfl
      exact Affine.subi (Affine.extui_holds (Affine.sgt_holds ix i0 (by omega)) rfl)
        (Affine.extui_fails (Affine.slt_fails ix i0 (by omega)) rfl) ⟨by norm_num, by norm_num, by norm_num⟩
  have := Affine.toNat_of hfin (Int.natCast_nonneg _)
  exact_mod_cast this

/-- The value of the induction variable of a loop by steps of one. -/
theorem iv_toNat (lb : BitVec 32) (k : ℕ) (h : lb.toNat + k < 2 ^ 32) : (Scf.iv lb 1#32 k).toNat = lb.toNat + k := by
  have hk : k < 2 ^ 32 := by omega
  simp only [Scf.iv, BitVec.toNat_add, BitVec.toNat_mul, BitVec.toNat_ofNat]
  have e1 : (1 : ℕ) % 2 ^ 32 = 1 := by norm_num
  rw [e1, mul_one, Nat.mod_mod, Nat.mod_eq_of_lt hk, Nat.mod_eq_of_lt h]

/-- Sum of words that does not wrap. -/
theorem addi_toNat (x y : BitVec 32) (h : x.toNat + y.toNat < 2 ^ 32) : (Scalar.addi x y).toNat = x.toNat + y.toNat := by
  simp only [Scalar.addi, IntOp.addi, BitVec.toNat_add]; exact Nat.mod_eq_of_lt h
/-- Product of words that does not wrap. -/
theorem muli_toNat (x y : BitVec 32) (h : x.toNat * y.toNat < 2 ^ 32) : (Scalar.muli x y).toNat = x.toNat * y.toNat := by
  simp only [Scalar.muli, IntOp.muli, BitVec.toNat_mul]; exact Nat.mod_eq_of_lt h
/-- Difference of words that does not wrap. -/
theorem subi_toNat (x y : BitVec 32) (h : y.toNat ≤ x.toNat) : (Scalar.subi x y).toNat = x.toNat - y.toNat := by
  simp only [Scalar.subi, IntOp.subi]; rw [BitVec.toNat_sub_of_le (by exact h)]

/-- `a + ((b - a) / 1) * 1` is `b`. -/
theorem rejoin (a b : BitVec 32) :
    Scalar.addi a (Scalar.muli (Scalar.divsi (Scalar.subi b a) 1#32) 1#32) = b := by
  rw [Scalar.muli_divsi_one]; simp only [Scalar.addi, Scalar.subi, IntOp.addi, IntOp.subi]
  rw [BitVec.add_comm, BitVec.sub_add_cancel]

/-- Trips of a loop by ones between two words. -/
theorem trips_nat (a b : BitVec 32) (ha : a.toNat < 2 ^ 31) (hb : b.toNat < 2 ^ 31) :
    Scf.trips a b 1#32 = b.toNat - a.toNat := by
  unfold Scf.trips
  rw [BitVec.toInt_eq_toNat_of_lt (x := a) (by omega), BitVec.toInt_eq_toNat_of_lt (x := b) (by omega),
    show (1#32 : BitVec 32).toInt = 1 by decide]
  omega

/-- Such a loop is well formed. -/
theorem ok_nat (a b : BitVec 32) (ha : a.toNat < 2 ^ 31) (hb : b.toNat < 2 ^ 31) : Scf.OK a b 1#32 := by
  refine Affine.ok (isInt_nat a ha) (isInt_nat b hb) (Affine.ofNat 1 ⟨rfl, by decide⟩) ⟨by decide, ?_⟩
  simp only [Nat.cast_one, Int.ediv_one, mul_one]
  omega

/-! ## A tile's classes -/

/-- The number of the tile at mesh coordinates `i`. -/
def wid (i : grid0.Coords) : ℕ := (i 1).val * 2 + (i 0).val
/-- The first class of tile number `w`; its classes are those from there to the first of the next tile. -/
def lo (w : ℕ) : ℕ := w * 80 / 32

theorem wid_lt (i : grid0.Coords) : wid i < 32 := by
  have h0 : (i 0).val < 2 := (i 0).isLt
  have h1 : (i 1).val < 16 := (i 1).isLt
  unfold wid; omega

/-- The tile's number as a word. -/
def widw (i : grid0.Coords) : BitVec 32 := Scalar.addi (Scalar.muli (BitVec.ofNat 32 (i 1).val) 2#32) (BitVec.ofNat 32 (i 0).val)

theorem widw_toNat (i : grid0.Coords) : (widw i).toNat = wid i := by
  have h0 : (i 0).val < 2 := (i 0).isLt
  have h1 : (i 1).val < 16 := (i 1).isLt
  have e1 : (BitVec.ofNat 32 (i 1).val).toNat = (i 1).val := WordArith.toNat_ofNat_of_lt _ (by omega)
  have e0 : (BitVec.ofNat 32 (i 0).val).toNat = (i 0).val := WordArith.toNat_ofNat_of_lt _ (by omega)
  have em : (Scalar.muli (BitVec.ofNat 32 (i 1).val) 2#32).toNat = (i 1).val * 2 := by
    rw [muli_toNat _ _ (by rw [e1]; show _ * 2 < _; omega), e1]; rfl
  unfold widw wid
  rw [addi_toNat _ _ (by rw [em, e0]; omega), em, e0]

/-- The first class, as the program computes it. -/
def low (i : grid0.Coords) : BitVec 32 := fdiv (Scalar.muli (widw i) 80#32) 32#32
/-- The first class past the tile's, as the program computes it. -/
def hiw (i : grid0.Coords) : BitVec 32 := fdiv (Scalar.muli (Scalar.addi (widw i) 1#32) 80#32) 32#32

theorem low_toNat (i : grid0.Coords) : (low i).toNat = lo (wid i) := by
  have hw := wid_lt i
  have e : (Scalar.muli (widw i) 80#32).toNat = wid i * 80 := by
    rw [muli_toNat _ _ (by rw [widw_toNat]; show _ * 80 < _; omega), widw_toNat]; rfl
  unfold low lo
  rw [fdiv_toNat _ _ (by rw [e]; omega) (by decide) (by decide), e]; rfl

theorem hiw_toNat (i : grid0.Coords) : (hiw i).toNat = lo (wid i + 1) := by
  have hw := wid_lt i
  have e0 : (Scalar.addi (widw i) 1#32).toNat = wid i + 1 := by
    rw [addi_toNat _ _ (by rw [widw_toNat]; show _ + 1 < _; omega), widw_toNat]; rfl
  have e : (Scalar.muli (Scalar.addi (widw i) 1#32) 80#32).toNat = (wid i + 1) * 80 := by
    rw [muli_toNat _ _ (by rw [e0]; show _ * 80 < _; omega), e0]; rfl
  unfold hiw lo
  rw [fdiv_toNat _ _ (by rw [e]; omega) (by decide) (by decide), e]; rfl

theorem lo_le_hi (w : ℕ) : lo w ≤ lo (w + 1) := by unfold lo; omega
theorem lo_mono {w w' : ℕ} (h : w ≤ w') : lo w ≤ lo w' := by unfold lo; omega
theorem lo_zero : lo 0 = 0 := rfl
theorem lo_last : lo 32 = 80 := rfl

theorem t1_eq (i : grid0.Coords) : k0_t1_loop i = ⟨low i, Scalar.addi (low i) (Scalar.muli (Scalar.divsi (Scalar.subi (hiw i) (low i)) 1#32) 1#32), 1#32⟩ := rfl

/-- The class loop makes one trip per class of the tile. -/
theorem t1_trips (i : grid0.Coords) : (k0_t1_loop i).trips = lo (wid i + 1) - lo (wid i) := by
  have hw := wid_lt i
  rw [t1_eq]; show Scf.trips _ _ _ = _
  have hl : lo (wid i + 1) ≤ 80 := by unfold lo; omega
  have hl' := lo_le_hi (wid i)
  rw [rejoin, trips_nat _ _ (by rw [low_toNat]; omega) (by rw [hiw_toNat]; omega), low_toNat, hiw_toNat]

/-- The loop behind it makes no trip. -/
theorem t8_trips (i : grid0.Coords) : (k0_t8_loop i).trips = 0 := by
  show Scf.trips (Scalar.addi (low i) (Scalar.muli (Scalar.divsi (Scalar.subi (hiw i) (low i)) 1#32) 1#32))
    (Scalar.addi (low i) (Scalar.subi (hiw i) (low i))) 1#32 = 0
  exact Scf.rem_trips _ _

/-- Trip `k` reads the tables at class `lo + k`. -/
theorem off1_eq (i : grid0.Coords) (k : Fin (k0_t1_loop i).trips) : k0_off1 i k = ![lo (wid i) + k.val] := by
  have hk := k.isLt
  have ht := t1_trips i
  have hw := wid_lt i
  have hl : lo (wid i + 1) ≤ 80 := by unfold lo; omega
  show ![(Scf.iv (low i) 1#32 k.val).toNat] = _
  rw [iv_toNat _ _ (by rw [low_toNat]; omega), low_toNat]

theorem off15_eq (i : grid0.Coords) : k0_off15 i = ![lo (wid i)] := by
  show ![(low i).toNat] = _
  rw [low_toNat]
theorem off16_eq (i : grid0.Coords) : k0_off16 i = ![lo (wid i + 1)] := by
  show ![(hiw i).toNat] = _
  rw [hiw_toNat]

/-! ## The loop over a class's boxes -/

/-- Sixteen divides up: the number of sixteens that cover `n`. -/
def up (n : ℕ) : ℕ := (n + 15) / 16

theorem t2_trips (v : BitVec 32) (hv : v.toNat < 2 ^ 31) : (k0_t2_loop v).trips = v.toNat := by
  show Scf.trips 0#32 (Scalar.addi 0#32 (Scalar.muli (Scalar.divsi (Scalar.subi v 0#32) 1#32) 1#32)) 1#32 = _
  rw [rejoin, trips_nat _ _ (by decide) hv]; rfl
theorem t2_ok (v : BitVec 32) (hv : v.toNat < 2 ^ 31) : (k0_t2_loop v).OK := by
  show Scf.OK 0#32 (Scalar.addi 0#32 (Scalar.muli (Scalar.divsi (Scalar.subi v 0#32) 1#32) 1#32)) 1#32
  rw [rejoin]; exact ok_nat _ _ (by decide) hv
theorem t5_trips (v : BitVec 32) : (k0_t5_loop v).trips = 0 := by
  show Scf.trips (Scalar.addi 0#32 (Scalar.muli (Scalar.divsi (Scalar.subi v 0#32) 1#32) 1#32))
    (Scalar.addi 0#32 (Scalar.subi v 0#32)) 1#32 = 0
  exact Scf.rem_trips _ _
theorem t5_ok (v : BitVec 32) : (k0_t5_loop v).OK := by
  show Scf.OK (Scalar.addi 0#32 (Scalar.muli (Scalar.divsi (Scalar.subi v 0#32) 1#32) 1#32))
    (Scalar.addi 0#32 (Scalar.subi v 0#32)) 1#32
  exact Scf.rem_ok _ _

/-- Trip `k` of the loop over a class's boxes looks at element `s + k`. -/
theorem off2_eq (s v : BitVec 32) (k : Fin (k0_t2_loop v).trips) (hs : s.toNat < 2 ^ 31) (hv : v.toNat < 2 ^ 31) :
    k0_off2 s v k = ![s.toNat + k.val] := by
  have hk := k.isLt
  have ht := t2_trips v hv
  show ![(Scalar.addi s (Scf.iv 0#32 1#32 k.val)).toNat] = _
  have e : (Scf.iv 0#32 1#32 k.val).toNat = k.val := by
    rw [iv_toNat _ _ (by show 0 + _ < _; omega)]; show 0 + _ = _; omega
  rw [addi_toNat _ _ (by rw [e]; omega), e]

/-- The check before the loop over a class's boxes holds when the class lies inside the buffers. -/
theorem chk1 (s v : BitVec 32) (h : s.toNat + v.toNat ≤ 21280) : k0_chk1 s v := by
  refine ⟨t2_ok v (by omega), fun k a => ?_, t5_ok v, fun k => ?_⟩
  · have hk := k.isLt
    have ht := t2_trips v (by omega)
    rw [off2_eq s v k (by omega) (by omega)]
    match a with
    | 0 => show s.toNat + k.val + 16 ≤ 21296; omega
  · exact absurd (lt_of_lt_of_eq k.isLt (t5_trips _)) (Nat.not_lt_zero _)

/-! ## The loop over the sixteens of a class -/

/-- First sixteen the program visits, as it computes it: for a kept box the one its successor lies in, else the last's end. -/
def jlow (v : BitVec 32) (k : ℕ) (b : BitVec 1) : BitVec 32 :=
  Scalar.select b (fdiv (Scalar.addi (Scf.iv 0#32 1#32 k) 1#32) 16#32) (fdiv (Scalar.addi v 15#32) 16#32)
/-- The same as a natural number. -/
def jlo (n k : ℕ) (b : BitVec 1) : ℕ := if b = 1#1 then (k + 1) / 16 else up n

theorem upw_toNat (v : BitVec 32) (hv : v.toNat < 2 ^ 30) : (fdiv (Scalar.addi v 15#32) 16#32).toNat = up v.toNat := by
  have e : (Scalar.addi v 15#32).toNat = v.toNat + 15 := by
    rw [addi_toNat _ _ (by show _ + 15 < _; omega)]; rfl
  rw [fdiv_toNat _ _ (by rw [e]; omega) (by decide) (by decide), e]; rfl

theorem jlow_toNat (v : BitVec 32) (k : ℕ) (b : BitVec 1) (hv : v.toNat < 2 ^ 30) (hk : k < 2 ^ 30) :
    (jlow v k b).toNat = jlo v.toNat k b := by
  unfold jlow jlo Scalar.select
  have ek : (Scf.iv 0#32 1#32 k).toNat = k := by
    rw [iv_toNat _ _ (by show 0 + _ < _; omega)]; show 0 + _ = _; omega
  have e : (Scalar.addi (Scf.iv 0#32 1#32 k) 1#32).toNat = k + 1 := by
    rw [addi_toNat _ _ (by rw [ek]; show _ + 1 < _; omega), ek]; rfl
  by_cases hb : b = 1#1
  · rw [if_pos (show b = 1 from hb), if_pos hb]
    rw [fdiv_toNat _ _ (by rw [e]; omega) (by decide) (by decide), e]; rfl
  · rw [if_neg (show ¬b = 1 from hb), if_neg hb]; exact upw_toNat v hv

theorem jlo_le (n k : ℕ) (b : BitVec 1) (hk : k < n) : jlo n k b ≤ up n := by
  unfold jlo up; split <;> omega

theorem t3_eq (v : BitVec 32) (k : Fin (k0_t2_loop v).trips) (b : BitVec 1) :
    k0_t3_loop v k b = ⟨jlow v k.val b, Scalar.addi (jlow v k.val b) (Scalar.muli (Scalar.divsi
      (Scalar.subi (fdiv (Scalar.addi v 15#32) 16#32) (jlow v k.val b)) 1#32) 1#32), 1#32⟩ := rfl

theorem up_le {n : ℕ} (h : n ≤ 21280) : up n ≤ 1330 := by unfold up; omega

theorem t3_trips (v : BitVec 32) (k : Fin (k0_t2_loop v).trips) (b : BitVec 1) (hv : v.toNat ≤ 21280) :
    (k0_t3_loop v k b).trips = up v.toNat - jlo v.toNat k.val b := by
  have hk : k.val < v.toNat := lt_of_lt_of_eq k.isLt (t2_trips v (by omega))
  have := jlo_le v.toNat k.val b hk
  have := up_le hv
  rw [t3_eq]; show Scf.trips _ _ _ = _
  rw [rejoin, trips_nat _ _ (by rw [jlow_toNat _ _ _ (by omega) (by omega)]; omega)
    (by rw [upw_toNat _ (by omega)]; omega), jlow_toNat _ _ _ (by omega) (by omega), upw_toNat _ (by omega)]
theorem t3_ok (v : BitVec 32) (k : Fin (k0_t2_loop v).trips) (b : BitVec 1) (hv : v.toNat ≤ 21280) :
    (k0_t3_loop v k b).OK := by
  have hk : k.val < v.toNat := lt_of_lt_of_eq k.isLt (t2_trips v (by omega))
  have := jlo_le v.toNat k.val b hk
  have := up_le hv
  rw [t3_eq]; show Scf.OK _ _ _
  rw [rejoin]
  exact ok_nat _ _ (by rw [jlow_toNat _ _ _ (by omega) (by omega)]; omega) (by rw [upw_toNat _ (by omega)]; omega)
theorem t4_trips (v : BitVec 32) (k : Fin (k0_t2_loop v).trips) (b : BitVec 1) : (k0_t4_loop v k b).trips = 0 := by
  show Scf.trips (Scalar.addi (jlow v k.val b) (Scalar.muli (Scalar.divsi
      (Scalar.subi (fdiv (Scalar.addi v 15#32) 16#32) (jlow v k.val b)) 1#32) 1#32))
    (Scalar.addi (jlow v k.val b) (Scalar.subi (fdiv (Scalar.addi v 15#32) 16#32) (jlow v k.val b))) 1#32 = 0
  exact Scf.rem_trips _ _
theorem t4_ok (v : BitVec 32) (k : Fin (k0_t2_loop v).trips) (b : BitVec 1) : (k0_t4_loop v k b).OK := by
  show Scf.OK (Scalar.addi (jlow v k.val b) (Scalar.muli (Scalar.divsi
      (Scalar.subi (fdiv (Scalar.addi v 15#32) 16#32) (jlow v k.val b)) 1#32) 1#32))
    (Scalar.addi (jlow v k.val b) (Scalar.subi (fdiv (Scalar.addi v 15#32) 16#32) (jlow v k.val b))) 1#32
  exact Scf.rem_ok _ _

/-- Where the sixteen of trip `j` starts, as a word. -/
def jbw (s v : BitVec 32) (k : ℕ) (b : BitVec 1) (j : ℕ) : BitVec 32 := Scalar.addi s (Scalar.muli (Scf.iv (jlow v k b) 1#32 j) 16#32)

theorem jbw_toNat (s v : BitVec 32) (k : ℕ) (b : BitVec 1) (j : ℕ) (hs : s.toNat ≤ 21280) (hv : v.toNat ≤ 21280) (hk : k < v.toNat)
    (hj : j < up v.toNat - jlo v.toNat k b) : (jbw s v k b j).toNat = s.toNat + 16 * (jlo v.toNat k b + j) := by
  have := jlo_le v.toNat k b hk
  have := up_le hv
  unfold jbw
  have e : (Scf.iv (jlow v k b) 1#32 j).toNat = jlo v.toNat k b + j := by
    rw [iv_toNat _ _ (by rw [jlow_toNat _ _ _ (by omega) (by omega)]; omega), jlow_toNat _ _ _ (by omega) (by omega)]
  have e' : (Scalar.muli (Scf.iv (jlow v k b) 1#32 j) 16#32).toNat = (jlo v.toNat k b + j) * 16 := by
    rw [muli_toNat _ _ (by rw [e]; show _ * 16 < _; omega), e]; rfl
  rw [addi_toNat _ _ (by rw [e']; omega), e', mul_comm]

theorem off3_eq (s v : BitVec 32) (k : Fin (k0_t2_loop v).trips) (b : BitVec 1) (j : Fin (k0_t3_loop v k b).trips)
    (hs : s.toNat ≤ 21280) (hv : v.toNat ≤ 21280) :
    k0_off3 s v k b j = ![s.toNat + 16 * (jlo v.toNat k.val b + j.val)] := by
  have hk : k.val < v.toNat := lt_of_lt_of_eq k.isLt (t2_trips v (by omega))
  have hj := lt_of_lt_of_eq j.isLt (t3_trips v k b hv)
  show ![(jbw s v k.val b j.val).toNat] = _
  rw [jbw_toNat s v k.val b j.val hs hv hk hj]

/-- The check before the loop over the sixteens holds when they lie inside the buffers. -/
theorem chk2 (s v : BitVec 32) (k : Fin (k0_t2_loop v).trips) (b : BitVec 1) (hv : s.toNat + 16 * up v.toNat ≤ 21280) :
    k0_chk2 s v k b := by
  have hv' : v.toNat ≤ 21280 := by unfold up at hv; omega
  refine ⟨t3_ok v k b hv', fun j a => ?_, t4_ok v k b, fun j => ?_⟩
  · have hj := lt_of_lt_of_eq j.isLt (t3_trips v k b hv')
    rw [off3_eq s v k b j (by omega) hv']
    match a with
    | 0 => show s.toNat + 16 * (jlo v.toNat k.val b + j.val) + 16 ≤ 21296; omega
  · exact absurd (lt_of_lt_of_eq j.isLt (t4_trips _ _ _)) (Nat.not_lt_zero _)

/-! ## The loop that writes out -/

theorem t15_eq (a b : BitVec 32) : k0_t15_loop a b = ⟨0#32, Scalar.addi 0#32 (Scalar.muli (Scalar.divsi
      (Scalar.subi (fdiv (Scalar.subi b a) 16#32) 0#32) 1#32) 1#32), 1#32⟩ := rfl

theorem t15_trips (a b : BitVec 32) (hab : a.toNat ≤ b.toNat) (hb : b.toNat ≤ 21280) :
    (k0_t15_loop a b).trips = (b.toNat - a.toNat) / 16 := by
  rw [t15_eq]; show Scf.trips _ _ _ = _
  have e := subi_toNat b a hab
  have f : (fdiv (Scalar.subi b a) 16#32).toNat = (b.toNat - a.toNat) / 16 := by
    rw [fdiv_toNat _ _ (by rw [e]; omega) (by decide) (by decide), e]; rfl
  rw [rejoin, trips_nat _ _ (show (0#32 : BitVec 32).toNat < 2 ^ 31 by decide) (by rw [f]; omega), f]; show _ - 0 = _; omega
theorem t15_ok (a b : BitVec 32) (hab : a.toNat ≤ b.toNat) (hb : b.toNat ≤ 21280) : (k0_t15_loop a b).OK := by
  rw [t15_eq]; show Scf.OK _ _ _
  have e := subi_toNat b a hab
  have f : (fdiv (Scalar.subi b a) 16#32).toNat = (b.toNat - a.toNat) / 16 := by
    rw [fdiv_toNat _ _ (by rw [e]; omega) (by decide) (by decide), e]; rfl
  rw [rejoin]; exact ok_nat _ _ (show (0#32 : BitVec 32).toNat < 2 ^ 31 by decide) (by rw [f]; omega)
theorem t16_trips (a b : BitVec 32) : (k0_t16_loop a b).trips = 0 := by
  show Scf.trips (Scalar.addi 0#32 (Scalar.muli (Scalar.divsi
      (Scalar.subi (fdiv (Scalar.subi b a) 16#32) 0#32) 1#32) 1#32)) (Scalar.addi 0#32
      (Scalar.subi (fdiv (Scalar.subi b a) 16#32) 0#32)) 1#32 = 0
  exact Scf.rem_trips _ _
theorem t16_ok (a b : BitVec 32) : (k0_t16_loop a b).OK := by
  show Scf.OK (Scalar.addi 0#32 (Scalar.muli (Scalar.divsi
      (Scalar.subi (fdiv (Scalar.subi b a) 16#32) 0#32) 1#32) 1#32)) (Scalar.addi 0#32
      (Scalar.subi (fdiv (Scalar.subi b a) 16#32) 0#32)) 1#32
  exact Scf.rem_ok _ _

theorem wout_toNat (a b : BitVec 32) (k : ℕ) (hab : a.toNat ≤ b.toNat) (hb : b.toNat ≤ 21280) (hk : k < (b.toNat - a.toNat) / 16) :
    (Scalar.addi a (Scalar.muli (Scf.iv 0#32 1#32 k) 16#32)).toNat = a.toNat + 16 * k := by
  have ek : (Scf.iv 0#32 1#32 k).toNat = k := by
    rw [iv_toNat _ _ (by show 0 + _ < _; omega)]; show 0 + _ = _; omega
  have e' : (Scalar.muli (Scf.iv 0#32 1#32 k) 16#32).toNat = k * 16 := by
    rw [muli_toNat _ _ (by rw [ek]; show _ * 16 < _; omega), ek]; rfl
  rw [addi_toNat _ _ (by rw [e']; omega), e', mul_comm]

theorem off17_eq (a b : BitVec 32) (k : Fin (k0_t15_loop a b).trips) (hab : a.toNat ≤ b.toNat) (hb : b.toNat ≤ 21280) :
    k0_off17 a b k = ![a.toNat + 16 * k.val] := by
  show ![(Scalar.addi a (Scalar.muli (Scf.iv 0#32 1#32 k.val) 16#32)).toNat] = _
  rw [wout_toNat a b k.val hab hb (lt_of_lt_of_eq k.isLt (t15_trips a b hab hb))]
theorem off18_eq (a b : BitVec 32) (k : Fin (k0_t15_loop a b).trips) (hab : a.toNat ≤ b.toNat) (hb : b.toNat ≤ 21280) :
    k0_off18 a b k = ![a.toNat + 16 * k.val] := off17_eq a b k hab hb

/-- The check before the write-out holds when the tile's stretch starts at a sixteen and lies inside the result. -/
theorem chk7 (a b : BitVec 32) (ha : 16 ∣ a.toNat) (hab : a.toNat ≤ b.toNat) (hb : b.toNat ≤ 21280) : k0_chk7 a b := by
  refine ⟨t15_ok a b hab hb, fun k => ?_, fun k x => ?_, fun k x => ?_, t16_ok a b, fun k => ?_, fun k => ?_, fun k => ?_⟩
  · show 16 ∣ (Scalar.addi a (Scalar.muli (Scf.iv 0#32 1#32 k.val) 16#32)).toNat
    rw [wout_toNat a b k.val hab hb (lt_of_lt_of_eq k.isLt (t15_trips a b hab hb))]; omega
  · have := lt_of_lt_of_eq k.isLt (t15_trips a b hab hb)
    rw [off17_eq a b k hab hb]
    match x with
    | 0 => show a.toNat + 16 * k.val + 16 ≤ 21296; omega
  · have := lt_of_lt_of_eq k.isLt (t15_trips a b hab hb)
    rw [off18_eq a b k hab hb]
    match x with
    | 0 => show a.toNat + 16 * k.val + 16 ≤ 21280; omega
  · exact absurd (lt_of_lt_of_eq k.isLt (t16_trips _ _)) (Nat.not_lt_zero _)
  · exact absurd (lt_of_lt_of_eq k.isLt (t16_trips _ _)) (Nat.not_lt_zero _)
  · exact absurd (lt_of_lt_of_eq k.isLt (t16_trips _ _)) (Nat.not_lt_zero _)

end Cert.Proof.Words

end
-- ==== Proof.Nms.lean ====
/-
  What the tiles compute, as functions on natural positions, over any float values: the test a kept box makes on a later
  box of its class, one box's pass over the boxes behind it, a class's pass over its boxes, and a tile's pass over its
  classes; and that a class's pass neither reads nor changes anything outside the class, so the result at a class's
  positions is the class's own pass over the starting flags, whichever tile ran it.
-/
module

public import proofs.«01_k».proof.Proof.Words

@[expose] public section

noncomputable section

namespace Cert.Proof.Nms

open Idealize.ShloMosaic
open Cert.Proof.Words (up)

variable {F : FTy → Type} [FloatOps F]

/-- Four coordinate arrays, by position. -/
structure Boxes (F : FTy → Type) where
  x1 : ℕ → F .f32
  y1 : ℕ → F .f32
  x2 : ℕ → F .f32
  y2 : ℕ → F .f32

/-- The value `0.0`. -/
abbrev zf : F .f32 := FloatOps.ofBits .f32 0x00000000#32

/-- Area of the overlap of boxes `i` and `j`. -/
def inter (X : Boxes F) (i j : ℕ) : F .f32 :=
  FloatOps.mulf
    (FloatOps.maximumf (FloatOps.subf (FloatOps.minimumf (X.x2 i) (X.x2 j)) (FloatOps.maximumf (X.x1 i) (X.x1 j))) zf)
    (FloatOps.maximumf (FloatOps.subf (FloatOps.minimumf (X.y2 i) (X.y2 j)) (FloatOps.maximumf (X.y1 i) (X.y1 j))) zf)

/-- Area of box `i`. -/
def area (X : Boxes F) (i : ℕ) : F .f32 := FloatOps.mulf (FloatOps.subf (X.x2 i) (X.x1 i)) (FloatOps.subf (X.y2 i) (X.y1 i))

/-- Whether boxes `i` and `j` overlap by half or more: the word the comparison gives. -/
def hit (X : Boxes F) (i j : ℕ) : BitVec 1 :=
  FloatOps.cmpf .oge
    (FloatOps.divf (inter X i j)
      (FloatOps.addf (FloatOps.subf (FloatOps.addf (area X i) (area X j)) (inter X i j)) (FloatOps.ofBits .f32 0x358637BD#32)))
    (FloatOps.ofBits .f32 0x3F000000#32)

/-- Whether a flag is up. -/
def live (k : F .f32) : BitVec 1 := Scalar.cmpf .ogt k zf

/-- Box `g`'s pass: if its flag is up, the flags of the boxes behind it, before `e`, that it overlaps go down. -/
def kstep (X : Boxes F) (e g : ℕ) (K : ℕ → F .f32) : ℕ → F .f32 :=
  fun j => if live (K g) = 1#1 ∧ g < j ∧ j < e ∧ hit X g j = 1#1 then zf else K j

/-- The passes of `n` boxes one after the other, from box `s`. -/
def kfor (X : Boxes F) (e s : ℕ) (K : ℕ → F .f32) : ℕ → ℕ → F .f32
  | 0 => K
  | n + 1 => kstep X e (s + n) (kfor X e s K n)

/-- A class's pass: `v` boxes from position `s`, looking at whole sixteens. -/
def kcls (X : Boxes F) (s v : ℕ) (K : ℕ → F .f32) : ℕ → F .f32 := kfor X (s + 16 * up v) s K v

/-- The passes of `n` classes from class `c`. -/
def kall (X : Boxes F) (pst vct : ℕ → ℕ) (c : ℕ) (K : ℕ → F .f32) : ℕ → ℕ → F .f32
  | 0 => K
  | n + 1 => kcls X (pst (c + n)) (vct (c + n)) (kall X pst vct c K n)

/-- Outside the stretch after `s` and before `e` the passes change nothing. -/
theorem kfor_out (X : Boxes F) (e s : ℕ) (K : ℕ → F .f32) (n j : ℕ) (h : j ≤ s ∨ e ≤ j) : kfor X e s K n j = K j := by
  induction n with
  | zero => rfl
  | succ n ih =>
    show kstep X e (s + n) (kfor X e s K n) j = K j
    unfold kstep
    rw [if_neg (by rintro ⟨-, h1, h2, -⟩; omega)]
    exact ih

/-- The passes inside a stretch read only it. -/
theorem kfor_congr (X : Boxes F) (e s : ℕ) (K K' : ℕ → F .f32) (h : ∀ j, s ≤ j → j < e → K j = K' j) (n : ℕ) (hn : s + n ≤ e) :
    ∀ j, s ≤ j → j < e → kfor X e s K n j = kfor X e s K' n j := by
  induction n with
  | zero => exact h
  | succ n ih =>
    intro j h1 h2
    have ih' := ih (by omega)
    show kstep X e (s + n) _ j = kstep X e (s + n) _ j
    unfold kstep
    rw [ih' (s + n) (by omega) (by omega), ih' j h1 h2]

theorem kcls_out (X : Boxes F) (s v : ℕ) (K : ℕ → F .f32) (j : ℕ) (h : j < s ∨ s + 16 * up v ≤ j) : kcls X s v K j = K j :=
  kfor_out X _ s K v j (by omega)

/-- Where the classes lie: in order, each with room for its sixteens, all inside `21280` positions. -/
structure Tab (pst vct : ℕ → ℕ) : Prop where
  step : ∀ c < 80, pst c + 16 * up (vct c) ≤ pst (c + 1)
  dvd : ∀ c ≤ 80, 16 ∣ pst c
  last : pst 80 ≤ 21280

variable {pst vct : ℕ → ℕ}

theorem Tab.mono (T : Tab pst vct) {c c' : ℕ} (h : c ≤ c') (h' : c' ≤ 80) : pst c ≤ pst c' := by
  induction c' with
  | zero => have : c = 0 := by omega
            rw [this]
  | succ n ih =>
    rcases Nat.lt_or_ge c (n + 1) with hc | hc
    · have h1 := ih (by omega) (by omega)
      have h2 := T.step n (by omega)
      omega
    · have : c = n + 1 := by omega
      rw [this]

theorem Tab.le (T : Tab pst vct) {c : ℕ} (h : c ≤ 80) : pst c ≤ 21280 := (T.mono h le_rfl).trans T.last

/-- Before the first class run nothing changes. -/
theorem kall_before (X : Boxes F) (T : Tab pst vct) (c : ℕ) (K : ℕ → F .f32) (n j : ℕ) (hn : c + n ≤ 80) (h : j < pst c) :
    kall X pst vct c K n j = K j := by
  induction n with
  | zero => rfl
  | succ n ih =>
    have := T.mono (c := c) (c' := c + n) (by omega) (by omega)
    show kcls X (pst (c + n)) (vct (c + n)) _ j = _
    rw [kcls_out X _ _ _ _ (Or.inl (by omega))]; exact ih (by omega)

/-- Behind the last class run nothing changes. -/
theorem kall_after (X : Boxes F) (T : Tab pst vct) (c : ℕ) (K : ℕ → F .f32) (n j : ℕ) (hn : c + n ≤ 80) (h : pst (c + n) ≤ j) :
    kall X pst vct c K n j = K j := by
  induction n with
  | zero => rfl
  | succ n ih =>
    have h1 := T.step (c + n) (by omega)
    have h2 : pst (c + n + 1) ≤ j := h
    show kcls X (pst (c + n)) (vct (c + n)) _ j = _
    rw [kcls_out X _ _ _ _ (Or.inr (by omega))]; exact ih (by omega) (by omega)

/-- At a class's positions the passes leave that class's own pass over the starting flags. -/
theorem kall_at (X : Boxes F) (T : Tab pst vct) (c : ℕ) (K : ℕ → F .f32) (n : ℕ) (hn : c + n ≤ 80) (k : ℕ) (hk : k < n)
    (j : ℕ) (h1 : pst (c + k) ≤ j) (h2 : j < pst (c + k + 1)) :
    kall X pst vct c K n j = kcls X (pst (c + k)) (vct (c + k)) K j := by
  induction n with
  | zero => omega
  | succ n ih =>
    show kcls X (pst (c + n)) (vct (c + n)) _ j = _
    rcases Nat.lt_or_ge k n with hkn | hkn
    · have := T.mono (c := c + k + 1) (c' := c + n) (by omega) (by omega)
      rw [kcls_out X _ _ _ _ (Or.inl (by omega))]
      exact ih (by omega) hkn
    · have e : k = n := by omega
      subst e
      have hb : ∀ j, pst (c + k) ≤ j → kall X pst vct c K k j = K j := fun j hj => kall_after X T c K k j (by omega) hj
      by_cases hj : j < pst (c + k) + 16 * up (vct (c + k))
      · exact kfor_congr X _ _ _ _ (fun j h _ => hb j h) _ (by unfold up; omega) j h1 hj
      · rw [kcls_out X _ _ _ _ (Or.inr (by omega)), kcls_out X _ _ _ _ (Or.inr (by omega))]
        exact hb j h1

/-- The class a position lies in. -/
theorem exists_class (T : Tab pst vct) (a b : ℕ) (hab : a ≤ b) (hb : b ≤ 80) (j : ℕ) (h1 : pst a ≤ j) (h2 : j < pst b) :
    ∃ k, k < b - a ∧ pst (a + k) ≤ j ∧ j < pst (a + k + 1) := by
  induction b with
  | zero => have : a = 0 := by omega
            subst this; omega
  | succ b ih =>
    rcases Nat.lt_or_ge j (pst b) with hj | hj
    · rcases Nat.lt_or_ge b a with hba | hba
      · have : a = b + 1 := by omega
        subst this; omega
      · obtain ⟨k, hk, h⟩ := ih hba (by omega) hj
        exact ⟨k, by omega, h⟩
    · rcases Nat.lt_or_ge b a with hba | hba
      · have : a = b + 1 := by omega
        subst this; omega
      · refine ⟨b - a, by omega, ?_, ?_⟩
        · rw [show a + (b - a) = b by omega]; exact hj
        · rw [show a + (b - a) = b by omega]; exact h2

/-- The flags all eighty passes leave. -/
def final (X : Boxes F) (pst vct : ℕ → ℕ) (K : ℕ → F .f32) : ℕ → F .f32 := kall X pst vct 0 K 80

/-- A tile's passes leave, at its own positions, what all eighty would. -/
theorem kall_eq_final (X : Boxes F) (T : Tab pst vct) (K : ℕ → F .f32) (a b : ℕ) (hab : a ≤ b) (hb : b ≤ 80) (j : ℕ)
    (h1 : pst a ≤ j) (h2 : j < pst b) : kall X pst vct a K (b - a) j = final X pst vct K j := by
  obtain ⟨k, hk, h3, h4⟩ := exists_class T a b hab hb j h1 h2
  rw [kall_at X T a K (b - a) (by omega) k hk j h3 h4, final, kall_at X T 0 K 80 (by omega) (a + k) (by omega) j
    (by rw [zero_add]; exact h3) (by rw [zero_add]; exact h4), zero_add]

/-- At a class's positions the result is the class's own pass. -/
theorem final_at (X : Boxes F) (T : Tab pst vct) (K : ℕ → F .f32) (c : ℕ) (hc : c < 80) (j : ℕ) (h1 : pst c ≤ j) (h2 : j < pst (c + 1)) :
    final X pst vct K j = kcls X (pst c) (vct c) K j := by
  have := kall_at X T 0 K 80 (by omega) c hc j (by rwa [zero_add]) (by rwa [zero_add])
  rwa [zero_add] at this

/-! ## The loop over the sixteens -/

/-- A box's pass seen from the loop over the sixteens: before its first sixteen nothing has changed. -/
theorem kstep_start (X : Boxes F) (s k n : ℕ) (K : ℕ → F .f32) (b : BitVec 1) (hb : b = live (K (s + k))) :
    kstep X (s + 16 * Words.jlo n k b) (s + k) K = K := by
  funext j
  unfold kstep
  refine if_neg ?_
  rintro ⟨h1, h2, h3, -⟩
  rw [← hb] at h1
  unfold Words.jlo at h3
  rw [if_pos h1] at h3
  omega

/-- A kept box's next sixteen: its lanes behind the box that it overlaps go down. A box not kept has no sixteens. -/
theorem kstep_succ (X : Boxes F) (e g : ℕ) (K : ℕ → F .f32) (hl : live (K g) = 1#1) (j : ℕ) :
    kstep X (e + 16) g K j = if e ≤ j ∧ j < e + 16 ∧ g < j ∧ hit X g j = 1#1 then zf else kstep X e g K j := by
  unfold kstep
  by_cases h : e ≤ j ∧ j < e + 16 ∧ g < j ∧ hit X g j = 1#1
  · rw [if_pos h, if_pos ⟨hl, h.2.2.1, h.2.1, h.2.2.2⟩]
  · rw [if_neg h]
    by_cases h2 : live (K g) = 1#1 ∧ g < j ∧ j < e ∧ hit X g j = 1#1
    · rw [if_pos h2, if_pos ⟨hl, h2.2.1, by omega, h2.2.2.2⟩]
    · rw [if_neg h2, if_neg]
      rintro ⟨-, h3, h4, h5⟩
      by_cases h6 : e ≤ j
      · exact h ⟨h6, h4, h3, h5⟩
      · exact h2 ⟨hl, h3, by omega, h5⟩

end Cert.Proof.Nms

end
-- ==== Proof.Base.lean ====
/-
  The launch of the SparseCore call as the proofs see it: the program's names, the memory a tile owns, and the pieces of
  a tile's own memory and counters its body uses.
-/
module

public import proofs.«01_k».proof.Proof.Nms
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ValueIdxRank1
public import Idealize.ShloMosaic.Lib.ShareLeaves

@[expose] public section

noncomputable section

namespace Cert.Proof.Nms

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

/-- The call's operands and its result, in the TensorCore's naming. -/
abbrev x1Loc (d : Dev nD) : Loc nD τ sig := (SparseCore.T d).loc main_v103
abbrev y1Loc (d : Dev nD) : Loc nD τ sig := (SparseCore.T d).loc main_v113
abbrev x2Loc (d : Dev nD) : Loc nD τ sig := (SparseCore.T d).loc main_v123
abbrev y2Loc (d : Dev nD) : Loc nD τ sig := (SparseCore.T d).loc main_v133
abbrev k0Loc (d : Dev nD) : Loc nD τ sig := (SparseCore.T d).loc main_v144
abbrev sgLoc (d : Dev nD) : Loc nD τ sig := (SparseCore.T d).loc main_v147
abbrev vcLoc (d : Dev nD) : Loc nD τ sig := (SparseCore.T d).loc main_v150
abbrev outLoc (d : Dev nD) : Loc nD τ sig := (SparseCore.T d).loc main_v151

/-- The same as a tile names them. -/
abbrev x1H : Memref sig .scVector .hbm S21280 .f32 := Memref.whole main_v103_scv
abbrev y1H : Memref sig .scVector .hbm S21280 .f32 := Memref.whole main_v113_scv
abbrev x2H : Memref sig .scVector .hbm S21280 .f32 := Memref.whole main_v123_scv
abbrev y2H : Memref sig .scVector .hbm S21280 .f32 := Memref.whole main_v133_scv
abbrev k0H : Memref sig .scVector .hbm S21280 .f32 := Memref.whole main_v144_scv
abbrev sgH : Memref sig .scVector .hbm S96 .i32 := Memref.whole main_v147_scv
abbrev vcH : Memref sig .scVector .hbm S96 .i32 := Memref.whole main_v150_scv
abbrev outH : Memref sig .scVector .hbm S21280 .f32 := Memref.whole main_v151_scv

/-- A tile's own memory: the four coordinates, the flags, the two tables. -/
abbrev x1S : Memref sig .scVector .vmem S21296 .f32 := Memref.whole cc0_scratch0
abbrev y1S : Memref sig .scVector .vmem S21296 .f32 := Memref.whole cc0_scratch1
abbrev x2S : Memref sig .scVector .vmem S21296 .f32 := Memref.whole cc0_scratch2
abbrev y2S : Memref sig .scVector .vmem S21296 .f32 := Memref.whole cc0_scratch3
abbrev kS : Memref sig .scVector .vmem S21296 .f32 := Memref.whole cc0_scratch4
abbrev sgS : Memref sig .scVector .vmem S96 .i32 := Memref.whole cc0_scratch5
abbrev vcS : Memref sig .scVector .vmem S96 .i32 := Memref.whole cc0_scratch6

/-- An array of `N` entries read at a natural position (past its end, at the position's remainder). -/
def rd {α : Type} (N : ℕ) [NeZero N] (f : (⟨1, ![N]⟩ : Shape).Idx → α) (n : ℕ) : α := f (ValueIdx.ix1 (Fin.ofNat N n))

theorem rd_of_lt {α : Type} (N : ℕ) [NeZero N] (f : (⟨1, ![N]⟩ : Shape).Idx → α) (i : (⟨1, ![N]⟩ : Shape).Idx) : f i = rd N f (i 0).val := by
  unfold rd
  congr 1
  funext a
  match a with
  | 0 => exact Fin.ext (Nat.mod_eq_of_lt (i 0).isLt).symm

theorem rd_congr {α : Type} (N : ℕ) [NeZero N] (f : (⟨1, ![N]⟩ : Shape).Idx → α) (i : (⟨1, ![N]⟩ : Shape).Idx) (n : ℕ) (h : (i 0).val = n) : f i = rd N f n := by
  rw [rd_of_lt N f i, h]

end Cert.Proof.Nms

end
-- ==== Proof.Lanes.lean ====
/-
  The lanes a tile's loads and stores touch, and the word arithmetic of the sixteen lanes it tests at once, in natural
  positions.
-/
module

public import proofs.«01_k».proof.Proof.Base
public import Idealize.ShloMosaic.Lib.WritesUnit
public import Idealize.ShloMosaic.Lib.Pipeline.Value

@[expose] public section

noncomputable section

namespace Cert.Proof.Nms

open Cert.KernelIdeal Cert.KernelIdeal.Gen
open Idealize.ShloMosaic
open Cert.Proof.Words

variable {F : FTy → Type}

/-- The lanes of a load of sixteen at `n`. -/
theorem ld16 {κ : Kind} {sp : Space} {N : ℕ} [NeZero N] {e : EltTy} (v : View sig κ sp ⟨1, ![N]⟩ e)
    (f : v.ref.ty.Contents (Elt F)) (off : Fin 1 → ℕ) (inb) (n : ℕ) (hn : off = ![n]) (x : S16.Idx) :
    v.readAt (Elt F) (Rect.unit (s := ⟨1, ![N]⟩) off S16.size inb).toLoadRect f x = rd N (v.read (Elt F) f) (n + (x 0).val) := by
  subst hn
  rw [View.readAt_apply]
  refine rd_congr N _ _ _ ?_
  show n + 1 * (x 0).val = _
  omega

/-- The first lane of a load of sixteen at `n`. -/
theorem ld16_zero {κ : Kind} {sp : Space} {N : ℕ} [NeZero N] {e : EltTy} (v : View sig κ sp ⟨1, ![N]⟩ e)
    (f : v.ref.ty.Contents (Elt F)) (off : Fin 1 → ℕ) (inb) (n : ℕ) (hn : off = ![n]) (x : S16.Idx) (hx : (x 0).val = 0) :
    v.readAt (Elt F) (Rect.unit (s := ⟨1, ![N]⟩) off S16.size inb).toLoadRect f x = rd N (v.read (Elt F) f) n := by
  rw [ld16 v f off inb n hn x, hx, Nat.add_zero]

/-- What a store of sixteen at `n` leaves at a position. -/
theorem st16 {κ : Kind} {sp : Space} {N : ℕ} [NeZero N] {e : EltTy} (v : View sig κ sp ⟨1, ![N]⟩ e)
    (f : v.ref.ty.Contents (Elt F)) (off : Fin 1 → ℕ) (inb) (n : ℕ) (hn : off = ![n]) (w : S16.Idx → Elt F e) (j : ℕ) (hj : j < N) :
    rd N (v.read (Elt F) (v.writes (Elt F) f [⟨Rect.unit (s := ⟨1, ![N]⟩) off S16.size inb, w⟩])) j
      = if h : n ≤ j ∧ j < n + 16 then w (ValueIdx.ix1 ⟨j - n, by omega⟩) else rd N (v.read (Elt F) f) j := by
  subst hn
  have ej : ((ValueIdx.ix1 (Fin.ofNat N j) : (⟨1, ![N]⟩ : Shape).Idx) 0).val = j := Nat.mod_eq_of_lt hj
  by_cases h : n ≤ j ∧ j < n + 16
  · rw [dif_pos h]
    refine View.read_writes_cons_unit_of_mem v f inb w [] _ (ValueIdx.ix1 ⟨j - n, by omega⟩) rfl (fun a => ?_)
    match a with
    | 0 => show ((ValueIdx.ix1 (Fin.ofNat N j) : (⟨1, ![N]⟩ : Shape).Idx) 0).val = n + (j - n); rw [ej]; omega
  · rw [dif_neg h]
    refine (View.read_writes_cons_unit_of_not_mem v f inb w [] _ rfl 0 ?_).trans rfl
    show ((ValueIdx.ix1 (Fin.ofNat N j) : (⟨1, ![N]⟩ : Shape).Idx) 0).val < n ∨ n + 16 ≤ ((ValueIdx.ix1 (Fin.ofNat N j) : (⟨1, ![N]⟩ : Shape).Idx) 0).val
    rw [ej]; omega

variable [FloatOps F]

theorem andi_one (a b : BitVec 1) : IntOp.andi a b = 1#1 ↔ a = 1#1 ∧ b = 1#1 := by revert a b; decide

/-- A select on a word that stands for a proposition. -/
theorem select_iff {α : Type} {P : Prop} [Decidable P] (c : BitVec 1) (a b : α) (h : c = 1#1 ↔ P) :
    Scalar.select c a b = if P then a else b := by
  unfold Scalar.select
  by_cases hc : c = 1#1
  · rw [if_pos (h.mp hc)]; exact if_pos hc
  · rw [if_neg (fun hp => hc (h.mpr hp))]; exact if_neg hc

/-- The program's test of a lane's position against the box's: both below `2 ^ 31`, so the signed one is the natural one. -/
theorem sgt_one (a b : BitVec 32) (ha : a.toNat < 2 ^ 31) (hb : b.toNat < 2 ^ 31) : IntOp.cmpi .sgt a b = 1#1 ↔ b.toNat < a.toNat := by
  show BitVec.ofBool (b.slt a) = 1#1 ↔ _
  rw [BitVec.slt, BitVec.toInt_eq_toNat_of_lt (by omega), BitVec.toInt_eq_toNat_of_lt (by omega)]
  by_cases h : b.toNat < a.toNat
  · simp [h]
  · simp [h]

/-- The sixteen flags a box's pass stores: a lane behind the box that it overlaps is down, the others as loaded. -/
theorem pay8_at (X : Boxes F) (v39 : IVec S16 32) (v81 : IVec S1 32) (v82 : BitVec 32) (v86 : IVec S1 32) (v87 : BitVec 32)
    (k0_t2 : Fin (k0_t2_loop v87).trips) (v111 : BitVec 32) (v122 v128 v134 v140 v143 : FVec F S16 .f32) (v144 : BitVec 1)
    (v146 : BitVec 32) (v160 : BitVec 1) (k0_t3 : Fin (k0_t3_loop v87 k0_t2 v144).trips)
    (v172 v175 v178 v181 v210 : FVec F S16 .f32) (g jb : ℕ)
    (h39 : ∀ x : S16.Idx, v39 x = BitVec.ofNat 32 (x 0).val)
    (h81 : extractAt ![0] v81 inpos_S1_p0 = v82) (h86 : extractAt ![0] v86 inpos_S1_p0 = v87)
    (h111 : v111.toNat = g) (hg : g < 2 ^ 31)
    (h122 : v122 = fun _ => X.x1 g) (h128 : v128 = fun _ => X.y1 g) (h134 : v134 = fun _ => X.x2 g) (h140 : v140 = fun _ => X.y2 g)
    (h143 : v143 = fun _ => area X g)
    (h163 : Scalar.select v144 (Scalar.select v160 (Scalar.subi v146 1#32) v146) (fdiv (Scalar.addi v87 15#32) 16#32) = jlow v87 k0_t2.val v144)
    (hjb : (jbw v82 v87 k0_t2.val v144 k0_t3.val).toNat = jb) (hb : jb + 16 ≤ 21280) (x : S16.Idx)
    (e1 : v172 x = X.x1 (jb + (x 0).val)) (e2 : v175 x = X.y1 (jb + (x 0).val)) (e3 : v178 x = X.x2 (jb + (x 0).val))
    (e4 : v181 x = X.y2 (jb + (x 0).val)) :
    k0_pay8 v39 v81 v86 v87 k0_t2 v111 v143 v144 v146 v160 k0_t3 v172 v175 v178 v181 (k0_pay7 v122 v128 v134 v140 v172 v175 v178 v181) v210 x
      = if g < jb + (x 0).val ∧ hit X g (jb + (x 0).val) = 1#1 then zf else v210 x := by
  have hx : (x 0).val < 16 := (x 0).isLt
  have e5 : (BitVec.ofNat 32 (x 0).val).toNat = (x 0).val := WordArith.toNat_ofNat_of_lt _ (by omega)
  have ejg : (IntOp.addi (jbw v82 v87 k0_t2.val v144 k0_t3.val) (v39 x)).toNat = jb + (x 0).val := by
    rw [h39 x]
    refine (addi_toNat _ _ ?_).trans ?_
    · rw [hjb, e5]; omega
    · rw [hjb, e5]
  have key : k0_pay8 v39 v81 v86 v87 k0_t2 v111 v143 v144 v146 v160 k0_t3 v172 v175 v178 v181
      (k0_pay7 v122 v128 v134 v140 v172 v175 v178 v181) v210 x
      = Scalar.select (IntOp.andi (hit X g (jb + (x 0).val))
          (IntOp.cmpi .sgt (IntOp.addi (jbw v82 v87 k0_t2.val v144 k0_t3.val) (v39 x)) v111)) zf (v210 x) := by
    unfold hit inter jbw
    rw [← h163, ← e1, ← e2, ← e3, ← e4]
    unfold k0_pay8 k0_pay7 k0_pay3 k0_pay4 k0_pay5 k0_pay6
    simp only [shapeCast_self, h81, h86]
    subst h122 h128 h134 h140 h143
    unfold area
    rw [← e1, ← e2, ← e3, ← e4]
    rfl
  refine key.trans (select_iff _ _ _ ?_)
  rw [andi_one, sgt_one _ _ (by rw [ejg]; omega) (by rw [h111]; exact hg), ejg, h111]
  exact and_comm

end Cert.Proof.Nms

end
-- ==== Proof.Sixteens.lean ====
/-
  The innermost loop of a tile's body: one box's pass over the sixteens behind it. Its invariant says the flags are the
  pass's up to the sixteen reached.
-/
module

public import proofs.«01_k».proof.Proof.Lanes

@[expose] public section

noncomputable section

namespace Cert.Proof.Nms

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Words

variable {F : FTy → Type} [FloatOps F]

local notation "𝕄" => MT nD τ sig (HIx 1) (Elt F) ℕ UU ℕ

/-- The SparseCore and the tile a pair of coordinates names. -/
abbrev cV (L : grid0.Coords) : Fin τ.nSC := (L 0).castLE hcore0
abbrev jV (L : grid0.Coords) : Fin τ.nSub := (L 1).castLE hsub0

variable (d : Dev nD) (L : grid0.Coords)

abbrev tl : Thread nD τ := V d (cV L) (jV L)

/-- The first `21280` entries of an array of a tile's memory are `K`'s. -/
def Holds {sp : Space} (v : View sig .scVector sp S21296 .f32) (f : v.ref.ty.Contents (Elt F)) (K : ℕ → F .f32) : Prop :=
  ∀ j < 21280, rd 21296 (v.read (Elt F) f) j = K j

/-- The tile's four coordinate arrays are the boxes'. -/
structure Coords (X : Boxes F) (f1 : Buf (Elt F) ((tl d L).loc cc0_scratch0)) (f2 : Buf (Elt F) ((tl d L).loc cc0_scratch1))
    (f3 : Buf (Elt F) ((tl d L).loc cc0_scratch2)) (f4 : Buf (Elt F) ((tl d L).loc cc0_scratch3)) : Prop where
  x1 : Holds x1S.view f1 X.x1
  y1 : Holds y1S.view f2 X.y1
  x2 : Holds x2S.view f3 X.x2
  y2 : Holds y2S.view f4 X.y2

/-- A tile's memory in its loops: the coordinates as fetched, the flags at `K`. -/
def state (f1 : Buf (Elt F) ((tl d L).loc cc0_scratch0)) (f2 : Buf (Elt F) ((tl d L).loc cc0_scratch1))
    (f3 : Buf (Elt F) ((tl d L).loc cc0_scratch2)) (f4 : Buf (Elt F) ((tl d L).loc cc0_scratch3)) (K : ℕ → F .f32) : sProp 𝕄 :=
  iprop((x1S.view.loc (tl d L) ↦{fullShare} f1) ∗ (y1S.view.loc (tl d L) ↦{fullShare} f2) ∗ (x2S.view.loc (tl d L) ↦{fullShare} f3)
    ∗ (y2S.view.loc (tl d L) ↦{fullShare} f4) ∗ ∃ f5, ⌜Holds kS.view f5 K⌝ ∗ (kS.view.loc (tl d L) ↦{fullShare} f5))

/-- One sixteen of a box's pass. -/
theorem t3_region (X : Boxes F) (K : ℕ → F .f32) (v39 : IVec S16 32) (v81 : IVec S1 32) (v82 : BitVec 32) (v86 : IVec S1 32) (v87 : BitVec 32)
    (k0_t2 : Fin (k0_t2_loop v87).trips) (v111 : BitVec 32) (v122 v128 v134 v140 v143 : FVec F S16 .f32) (v144 : BitVec 1)
    (k0_hw2 : k0_chk2 v82 v87 k0_t2 v144) (v146 : BitVec 32) (v160 : BitVec 1)
    (f1 : Buf (Elt F) ((tl d L).loc cc0_scratch0)) (f2 : Buf (Elt F) ((tl d L).loc cc0_scratch1))
    (f3 : Buf (Elt F) ((tl d L).loc cc0_scratch2)) (f4 : Buf (Elt F) ((tl d L).loc cc0_scratch3)) (hX : Coords d L X f1 f2 f3 f4)
    (hroom : v82.toNat + 16 * up v87.toNat ≤ 21280)
    (h39 : ∀ x : S16.Idx, v39 x = BitVec.ofNat 32 (x 0).val)
    (h81 : extractAt ![0] v81 inpos_S1_p0 = v82) (h86 : extractAt ![0] v86 inpos_S1_p0 = v87)
    (h111 : v111.toNat = v82.toNat + k0_t2.val)
    (h122 : v122 = fun _ => X.x1 (v82.toNat + k0_t2.val)) (h128 : v128 = fun _ => X.y1 (v82.toNat + k0_t2.val))
    (h134 : v134 = fun _ => X.x2 (v82.toNat + k0_t2.val)) (h140 : v140 = fun _ => X.y2 (v82.toNat + k0_t2.val))
    (h143 : v143 = fun _ => area X (v82.toNat + k0_t2.val)) (h144 : v144 = live (K (v82.toNat + k0_t2.val)))
    (h163 : Scalar.select v144 (Scalar.select v160 (Scalar.subi v146 1#32) v146) (fdiv (Scalar.addi v87 15#32) 16#32) = jlow v87 k0_t2.val v144)
    (k0_t3 : Fin (k0_t3_loop v87 k0_t2 v144).trips) (acc : PUnit) :
    state d L f1 f2 f3 f4 (kstep X (v82.toNat + 16 * (jlo v87.toNat k0_t2.val v144 + k0_t3.val)) (v82.toNat + k0_t2.val) K) ⊢
      wp frame (wpE (defs₀ (F := F)) 𝒱₀ (tl d L) none) Set.univ
        (k0_t3_body L x1H (Memref.isWhole_whole _) y1H (Memref.isWhole_whole _) x2H (Memref.isWhole_whole _) y2H (Memref.isWhole_whole _) k0H (Memref.isWhole_whole _) sgH (Memref.isWhole_whole _) vcH (Memref.isWhole_whole _) outH (Memref.isWhole_whole _) x1S (Memref.isWhole_whole _) y1S (Memref.isWhole_whole _) x2S (Memref.isWhole_whole _) y2S (Memref.isWhole_whole _) kS (Memref.isWhole_whole _) sgS (Memref.isWhole_whole _) vcS (Memref.isWhole_whole _) cc0_scoped0 cc0_scoped1 cc0_scoped2 cc0_scoped3 cc0_scoped4 cc0_scoped5 cc0_scoped6 cc0_scoped7 cc0_scoped8 v39 v81 v82 v86 v87 k0_t2 v111 v122 v128 v134 v140 v143 v144 k0_hw2 v146 v160 k0_t3 acc)
        fun _ => state d L f1 f2 f3 f4 (kstep X (v82.toNat + 16 * (jlo v87.toNat k0_t2.val v144 + (k0_t3.val + 1))) (v82.toNat + k0_t2.val) K) := by
  have hv : v87.toNat ≤ 21280 := by unfold up at hroom; omega
  have hk : k0_t2.val < v87.toNat := lt_of_lt_of_eq k0_t2.isLt (t2_trips v87 (by omega))
  have hm : k0_t3.val < up v87.toNat - jlo v87.toNat k0_t2.val v144 := lt_of_lt_of_eq k0_t3.isLt (t3_trips v87 k0_t2 v144 hv)
  have hoff := off3_eq v82 v87 k0_t2 v144 k0_t3 (by omega) hv
  have hjb := jbw_toNat v82 v87 k0_t2.val v144 k0_t3.val (by omega) hv hk hm
  have hl : live (K (v82.toNat + k0_t2.val)) = 1#1 := by
    rw [← h144]
    by_contra hb
    unfold jlo at hm
    rw [if_neg hb] at hm
    omega
  unfold state k0_t3_body
  iintro ⟨H1, H2, H3, H4, %f5, %h5, H5⟩
  sl_exec
  sl_step
  isplitl [H1]; · iexact H1
  isplitl [H2]; · iexact H2
  isplitl [H3]; · iexact H3
  isplitl [H4]; · iexact H4
  iexists _; isplitr
  swap; · iexact H5
  ipureintro
  intro j hj
  generalize hjb' : v82.toNat + 16 * (jlo v87.toNat k0_t2.val v144 + k0_t3.val) = jb at hoff hjb h5
  have hroom' : jb + 16 ≤ 21280 := by omega
  rw [st16 _ _ _ _ jb hoff _ j (by omega), show v82.toNat + 16 * (jlo v87.toNat k0_t2.val v144 + (k0_t3.val + 1)) = jb + 16 by omega,
    kstep_succ X jb _ K hl j]
  by_cases hin : jb ≤ j ∧ j < jb + 16
  · rw [dif_pos hin]
    have ex : ((ValueIdx.ix1 ⟨j - jb, by omega⟩ : S16.Idx) 0).val = j - jb := rfl
    have ej : jb + (j - jb) = j := by omega
    refine (pay8_at X v39 v81 v82 v86 v87 k0_t2 v111 v122 v128 v134 v140 v143 v144 v146 v160 k0_t3 _ _ _ _ _ (v82.toNat + k0_t2.val) jb
      h39 h81 h86 h111 (by omega) h122 h128 h134 h140 h143 h163 hjb hroom' _ ?_ ?_ ?_ ?_).trans ?_
    · rw [ld16 _ _ _ _ jb hoff, ex, ej]; exact hX.x1 j hj
    · rw [ld16 _ _ _ _ jb hoff, ex, ej]; exact hX.y1 j hj
    · rw [ld16 _ _ _ _ jb hoff, ex, ej]; exact hX.x2 j hj
    · rw [ld16 _ _ _ _ jb hoff, ex, ej]; exact hX.y2 j hj
    · rw [ld16 _ _ _ _ jb hoff, ex, ej, h5 j hj]
      exact if_congr ⟨fun h => ⟨hin.1, hin.2, h⟩, fun h => h.2.2⟩ rfl rfl
  · rw [dif_neg hin, if_neg (fun h => hin ⟨h.1, h.2.1⟩)]
    exact h5 j hj

end Cert.Proof.Nms

end
-- ==== Proof.Passes.lean ====
/-
  The middle and outer loops of a tile's body: the boxes of a class one after the other, and the tile's classes.
-/
module

public import proofs.«01_k».proof.Proof.Sixteens

@[expose] public section

noncomputable section

namespace Cert.Proof.Nms

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Words

variable {F : FTy → Type} [FloatOps F]

local notation "𝕄" => MT nD τ sig (HIx 1) (Elt F) ℕ UU ℕ

/-- The first of sixteen lanes. -/
abbrev lane0 : S16.Idx := ValueIdx.ix1 ⟨0, by decide⟩

theorem extract_lane0 {α : Type} (v : S16.Idx → α) :
    extractAt ![0] (extractStridedSlice S1 ![0] v slices_S16_o0_S1) inpos_S1_p0 = v lane0 := by
  unfold extractAt extractStridedSlice
  congr 1
  funext a
  match a with
  | 0 => rfl

theorem pay55_eq (v : FVec F S16 .f32) : k0_pay55 v = v lane0 := by
  unfold k0_pay55; rw [shapeCast_self]; exact extract_lane0 v
theorem pay56_eq (v : FVec F S16 .f32) : k0_pay56 v = fun _ => v lane0 := by
  unfold k0_pay56; rw [shapeCast_self]; exact funext fun _ => extract_lane0 v
theorem pay57_eq (v : FVec F S16 .f32) : k0_pay57 v = fun _ => v lane0 := by
  unfold k0_pay57; rw [shapeCast_self]; exact funext fun _ => extract_lane0 v
theorem pay58_eq (v : FVec F S16 .f32) : k0_pay58 v = fun _ => v lane0 := by
  unfold k0_pay58; rw [shapeCast_self]; exact funext fun _ => extract_lane0 v
theorem pay59_eq (v : FVec F S16 .f32) : k0_pay59 v = fun _ => v lane0 := by
  unfold k0_pay59; rw [shapeCast_self]; exact funext fun _ => extract_lane0 v
theorem pay60_eq (v118 v124 v130 v136 : FVec F S16 .f32) :
    k0_pay60 v118 v124 v130 v136 = fun _ => FloatOps.mulf (FloatOps.subf (v130 lane0) (v118 lane0)) (FloatOps.subf (v136 lane0) (v124 lane0)) := by
  unfold k0_pay60; rw [pay56_eq, pay57_eq, pay58_eq, pay59_eq]; rfl

variable (d : Dev nD) (L : grid0.Coords)

/-- One box's pass. -/
theorem t2_region (X : Boxes F) (K : ℕ → F .f32) (v39 : IVec S16 32) (v81 : IVec S1 32) (v82 : BitVec 32) (v86 : IVec S1 32) (v87 : BitVec 32)
    (k0_hw1 : k0_chk1 v82 v87)
    (f1 : Buf (Elt F) ((tl d L).loc cc0_scratch0)) (f2 : Buf (Elt F) ((tl d L).loc cc0_scratch1))
    (f3 : Buf (Elt F) ((tl d L).loc cc0_scratch2)) (f4 : Buf (Elt F) ((tl d L).loc cc0_scratch3)) (hX : Coords d L X f1 f2 f3 f4)
    (hroom : v82.toNat + 16 * up v87.toNat ≤ 21280)
    (h39 : ∀ x : S16.Idx, v39 x = BitVec.ofNat 32 (x 0).val)
    (h81 : extractAt ![0] v81 inpos_S1_p0 = v82) (h86 : extractAt ![0] v86 inpos_S1_p0 = v87)
    (k0_t2 : Fin (k0_t2_loop v87).trips) (acc : PUnit) :
    state d L f1 f2 f3 f4 (kfor X (v82.toNat + 16 * up v87.toNat) v82.toNat K k0_t2.val) ⊢
      wp frame (wpE (defs₀ (F := F)) 𝒱₀ (tl d L) none) Set.univ
        (k0_t2_body L x1H (Memref.isWhole_whole _) y1H (Memref.isWhole_whole _) x2H (Memref.isWhole_whole _) y2H (Memref.isWhole_whole _) k0H (Memref.isWhole_whole _) sgH (Memref.isWhole_whole _) vcH (Memref.isWhole_whole _) outH (Memref.isWhole_whole _) x1S (Memref.isWhole_whole _) y1S (Memref.isWhole_whole _) x2S (Memref.isWhole_whole _) y2S (Memref.isWhole_whole _) kS (Memref.isWhole_whole _) sgS (Memref.isWhole_whole _) vcS (Memref.isWhole_whole _) cc0_scoped0 cc0_scoped1 cc0_scoped2 cc0_scoped3 cc0_scoped4 cc0_scoped5 cc0_scoped6 cc0_scoped7 cc0_scoped8 v39 v81 v82 v86 v87 k0_hw1 k0_t2 acc)
        fun _ => state d L f1 f2 f3 f4 (kfor X (v82.toNat + 16 * up v87.toNat) v82.toNat K (k0_t2.val + 1)) := by
  have hv : v87.toNat ≤ 21280 := by unfold up at hroom; omega
  have hk : k0_t2.val < v87.toNat := lt_of_lt_of_eq k0_t2.isLt (t2_trips v87 (by omega))
  have hg : v82.toNat + k0_t2.val < 21280 := by unfold up at hroom; omega
  have hoff := off2_eq v82 v87 k0_t2 (by omega) (by omega)
  generalize hK : kfor X (v82.toNat + 16 * up v87.toNat) v82.toNat K k0_t2.val = K'
  rw [show kfor X (v82.toNat + 16 * up v87.toNat) v82.toNat K (k0_t2.val + 1)
    = kstep X (v82.toNat + 16 * up v87.toNat) (v82.toNat + k0_t2.val) K' by rw [← hK]; rfl]
  unfold k0_t2_body
  simp only [k0_part1_eq_skeleton]
  unfold k0_part1_skel
  have hchk := fun b => chk2 v82 v87 k0_t2 b hroom
  conv_lhs => unfold state
  iintro ⟨H1, H2, H3, H4, %f5, %h5, H5⟩
  have c1 := fun x hx => (ld16_zero x1S.view f1 (k0_off2 v82 v87 k0_t2) (k0_off2_inb v82 v87 k0_hw1 k0_t2) _ hoff x hx).trans (hX.x1 _ hg)
  have c2 := fun x hx => (ld16_zero y1S.view f2 (k0_off2 v82 v87 k0_t2) (k0_off2_inb v82 v87 k0_hw1 k0_t2) _ hoff x hx).trans (hX.y1 _ hg)
  have c3 := fun x hx => (ld16_zero x2S.view f3 (k0_off2 v82 v87 k0_t2) (k0_off2_inb v82 v87 k0_hw1 k0_t2) _ hoff x hx).trans (hX.x2 _ hg)
  have c4 := fun x hx => (ld16_zero y2S.view f4 (k0_off2 v82 v87 k0_t2) (k0_off2_inb v82 v87 k0_hw1 k0_t2) _ hoff x hx).trans (hX.y2 _ hg)
  have c5 := fun x hx => (ld16_zero kS.view f5 (k0_off2 v82 v87 k0_t2) (k0_off2_inb v82 v87 k0_hw1 k0_t2) _ hoff x hx).trans (h5 _ hg)
  sl_exec (disch := exact hchk _)
  dsimp only
  have hb : t2_region.sl.v144 v82 v87 k0_hw1 k0_t2 f5 = live (K' (v82.toNat + k0_t2.val)) := by
    unfold t2_region.sl.v144
    rw [pay55_eq, c5 lane0 rfl]; rfl
  sl_for (fun m _ => state d L f1 f2 f3 f4 (kstep X (v82.toNat + 16 * (jlo v87.toNat k0_t2.val (t2_region.sl.v144 v82 v87 k0_hw1 k0_t2 f5) + m))
    (v82.toNat + k0_t2.val) K')) $$ [H1 H2 H3 H4 H5]
  case region =>
    intro k acc
    refine t3_region d L X K' v39 v81 v82 v86 v87 k0_t2 _ _ _ _ _ _ _ _ _ _ f1 f2 f3 f4 hX hroom h39 h81 h86 ?_ ?_ ?_ ?_ ?_ ?_ hb ?_ k acc
    · have e : (Scf.iv 0#32 1#32 k0_t2.val).toNat = k0_t2.val := by
        rw [iv_toNat _ _ (by show 0 + _ < _; omega)]; show 0 + _ = _; omega
      refine (addi_toNat v82 (Scf.iv 0#32 1#32 k0_t2.val) (by rw [e]; omega)).trans ?_
      rw [e]
    · rw [pay56_eq, c1 lane0 rfl]
    · rw [pay57_eq, c2 lane0 rfl]
    · rw [pay58_eq, c3 lane0 rfl]
    · rw [pay59_eq, c4 lane0 rfl]
    · rw [pay60_eq, c1 lane0 rfl, c2 lane0 rfl, c3 lane0 rfl, c4 lane0 rfl]; rfl
    · rfl
  · beta_reduce
    rw [Nat.add_zero, kstep_start X _ _ _ _ _ hb]
    unfold state
    isplitl [H1]; · iexact H1
    isplitl [H2]; · iexact H2
    isplitl [H3]; · iexact H3
    isplitl [H4]; · iexact H4
    iexists f5; isplitr
    · ipureintro; exact h5
    · iexact H5
  iintro %_ HI
  beta_reduce
  rw [show ∀ b, Scf.trips (k0_t3_loop v87 k0_t2 b).lb (k0_t3_loop v87 k0_t2 b).ub (k0_t3_loop v87 k0_t2 b).st
      = up v87.toNat - jlo v87.toNat k0_t2.val b from fun b => t3_trips v87 k0_t2 b hv,
    show ∀ b, jlo v87.toNat k0_t2.val b + (up v87.toNat - jlo v87.toNat k0_t2.val b) = up v87.toNat from
      fun b => by have := jlo_le v87.toNat k0_t2.val b hk; omega]
  sl_exec
  sl_step
  iexact HI

/-- One class's pass. -/
theorem t1_region (X : Boxes F) {pst vct : ℕ → ℕ} (T : Tab pst vct) (K : ℕ → F .f32) (v39 : IVec S16 32)
    (f1 : Buf (Elt F) ((tl d L).loc cc0_scratch0)) (f2 : Buf (Elt F) ((tl d L).loc cc0_scratch1))
    (f3 : Buf (Elt F) ((tl d L).loc cc0_scratch2)) (f4 : Buf (Elt F) ((tl d L).loc cc0_scratch3)) (hX : Coords d L X f1 f2 f3 f4)
    (f6 : Buf (Elt F) ((tl d L).loc cc0_scratch5)) (f7 : Buf (Elt F) ((tl d L).loc cc0_scratch6))
    (h6 : ∀ c ≤ 80, (rd 96 (sgS.view.read (Elt F) f6) c).toNat = pst c) (h7 : ∀ c < 80, (rd 96 (vcS.view.read (Elt F) f7) c).toNat = vct c)
    (h39 : ∀ x : S16.Idx, v39 x = BitVec.ofNat 32 (x 0).val)
    (k0_t1 : Fin (k0_t1_loop L).trips) (acc : PUnit) :
    iprop((sgS.view.loc (tl d L) ↦{fullShare} f6) ∗ (vcS.view.loc (tl d L) ↦{fullShare} f7)
      ∗ state d L f1 f2 f3 f4 (kall X pst vct (lo (wid L)) K k0_t1.val)) ⊢
      wp frame (wpE (defs₀ (F := F)) 𝒱₀ (tl d L) none) Set.univ
        (k0_t1_body L x1H (Memref.isWhole_whole _) y1H (Memref.isWhole_whole _) x2H (Memref.isWhole_whole _) y2H (Memref.isWhole_whole _) k0H (Memref.isWhole_whole _) sgH (Memref.isWhole_whole _) vcH (Memref.isWhole_whole _) outH (Memref.isWhole_whole _) x1S (Memref.isWhole_whole _) y1S (Memref.isWhole_whole _) x2S (Memref.isWhole_whole _) y2S (Memref.isWhole_whole _) kS (Memref.isWhole_whole _) sgS (Memref.isWhole_whole _) vcS (Memref.isWhole_whole _) cc0_scoped0 cc0_scoped1 cc0_scoped2 cc0_scoped3 cc0_scoped4 cc0_scoped5 cc0_scoped6 cc0_scoped7 cc0_scoped8 v39 k0_t1 acc)
        fun _ => iprop((sgS.view.loc (tl d L) ↦{fullShare} f6) ∗ (vcS.view.loc (tl d L) ↦{fullShare} f7)
          ∗ state d L f1 f2 f3 f4 (kall X pst vct (lo (wid L)) K (k0_t1.val + 1))) := by
  have ht : k0_t1.val < lo (wid L + 1) - lo (wid L) := lt_of_lt_of_eq k0_t1.isLt (t1_trips L)
  have hw := wid_lt L
  have hl : lo (wid L + 1) ≤ 80 := by unfold lo; omega
  have hc : lo (wid L) + k0_t1.val < 80 := by omega
  have hoff := off1_eq L k0_t1
  rw [show kall X pst vct (lo (wid L)) K (k0_t1.val + 1) = kcls X (pst (lo (wid L) + k0_t1.val)) (vct (lo (wid L) + k0_t1.val))
    (kall X pst vct (lo (wid L)) K k0_t1.val) from rfl]
  generalize kall X pst vct (lo (wid L)) K k0_t1.val = K'
  have hr := T.step _ hc
  have hle := T.le (c := lo (wid L) + k0_t1.val + 1) (by omega)
  generalize hcc : lo (wid L) + k0_t1.val = c at *
  have es : (extractAt ![0] (k0_pay1 (sgS.view.readAt (Elt F) (Rect.unit (s := S96) (k0_off1 L k0_t1) S16.size (k0_off1_inb L k0_t1)).toLoadRect f6)) inpos_S1_p0).toNat
      = pst c := by
    unfold k0_pay1
    rw [shapeCast_self, extract_lane0, ld16_zero _ _ _ _ c hoff lane0 rfl]
    exact h6 c (by omega)
  have ev : (extractAt ![0] (k0_pay2 (vcS.view.readAt (Elt F) (Rect.unit (s := S96) (k0_off1 L k0_t1) S16.size (k0_off1_inb L k0_t1)).toLoadRect f7)) inpos_S1_p0).toNat
      = vct c := by
    unfold k0_pay2
    rw [shapeCast_self, extract_lane0, ld16_zero _ _ _ _ c hoff lane0 rfl]
    exact h7 c hc
  have hup : vct c ≤ 16 * up (vct c) := by unfold up; omega
  unfold k0_t1_body
  iintro ⟨H6, H7, HS⟩
  sl_exec (disch := exact chk1 _ _ (le_trans (le_of_eq (congrArg₂ (· + ·) es ev)) (by omega)))
  have es' : (t1_region.sl.v82 d L f6 k0_t1).toNat = pst c := es
  have ev' : (t1_region.sl.v87 d L f7 k0_t1).toNat = vct c := ev
  have hroom : (t1_region.sl.v82 d L f6 k0_t1).toNat + 16 * up (t1_region.sl.v87 d L f7 k0_t1).toNat ≤ 21280 := by rw [es', ev']; omega
  sl_for (fun m _ => state d L f1 f2 f3 f4 (kfor X ((t1_region.sl.v82 d L f6 k0_t1).toNat + 16 * up (t1_region.sl.v87 d L f7 k0_t1).toNat)
    (t1_region.sl.v82 d L f6 k0_t1).toNat K' m)) $$ [HS]
  case region =>
    intro k acc
    exact t2_region d L X K' v39 _ _ _ _ _ f1 f2 f3 f4 hX hroom h39 rfl rfl k acc
  · iexact HS
  iintro %_ HI
  beta_reduce
  rw [show Scf.trips (k0_t2_loop (t1_region.sl.v87 d L f7 k0_t1)).lb (k0_t2_loop (t1_region.sl.v87 d L f7 k0_t1)).ub
      (k0_t2_loop (t1_region.sl.v87 d L f7 k0_t1)).st = (t1_region.sl.v87 d L f7 k0_t1).toNat from t2_trips _ (by rw [ev']; omega), es', ev']
  sl_exec
  sl_step
  isplitl [H6]; · iexact H6
  isplitl [H7]; · iexact H7
  iexact HI

end Cert.Proof.Nms

end
-- ==== Proof.Own.lean ====
/-
  The pieces of a tile's own memory and counters that its body uses.
-/
module

public import proofs.«01_k».proof.Proof.Passes

@[expose] public section

noncomputable section

namespace Cert.Proof.Nms

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Words

variable {F : FTy → Type} [FloatOps F]

local notation "𝕄" => MT nD τ sig (HIx 1) (Elt F) ℕ UU ℕ

variable (d : Dev nD) (L : grid0.Coords)

omit [FloatOps F]

/-- Two of a tile's counters differ when their names do. -/
theorem cell_ne {x y : SemLoc sig} (h : x ≠ y) : ((tl d L, x) : GSem nD τ sig) ≠ (tl d L, y) := fun e => h (Prod.ext_iff.mp e).2

/-- A counter scoped to a tile is the tile's own. -/
theorem cell_mem {x : SemLoc sig} (h : x.isScoped .scVector = true) : ((tl d L, x) : GSem nD τ sig) ∈ ownCells (tl d L) :=
  mem_ownCells.mpr ⟨rfl, h⟩

/-- The nine counters a tile's transfers use are among the tile's own: they are them, at zero, and the rest. -/
theorem ownSems0_V :
    (ownSems0 (tl d L) : sProp 𝕄)
      = iprop(semVal (tl d L, .dma cc0_scoped0.sem) 0 ∗ semVal (tl d L, .dma cc0_scoped1.sem) 0 ∗ semVal (tl d L, .dma cc0_scoped2.sem) 0 ∗ semVal (tl d L, .dma cc0_scoped3.sem) 0 ∗ semVal (tl d L, .dma cc0_scoped4.sem) 0 ∗ semVal (tl d L, .dma cc0_scoped5.sem) 0 ∗ semVal (tl d L, .dma cc0_scoped6.sem) 0 ∗ semVal (tl d L, .dma cc0_scoped7.sem) 0 ∗ semVal (tl d L, .dma cc0_scoped8.sem) 0          ∗ bigSep ((((((((((ownCells (tl d L)).erase (tl d L, .dma cc0_scoped0.sem)).erase (tl d L, .dma cc0_scoped1.sem)).erase (tl d L, .dma cc0_scoped2.sem)).erase (tl d L, .dma cc0_scoped3.sem)).erase (tl d L, .dma cc0_scoped4.sem)).erase (tl d L, .dma cc0_scoped5.sem)).erase (tl d L, .dma cc0_scoped6.sem)).erase (tl d L, .dma cc0_scoped7.sem)).erase (tl d L, .dma cc0_scoped8.sem)) fun g => semVal g 0) := by
  unfold SparseCore.Cfg.ownSems0
  rw [SparseCore.bigSep_erase' (cell_mem d L (show (SemLoc.dma cc0_scoped0.sem : SemLoc sig).isScoped .scVector = true by decide))]
  rw [SparseCore.bigSep_erase' (Finset.mem_erase.mpr ⟨(cell_ne d L (show (SemLoc.dma cc0_scoped1.sem : SemLoc sig) ≠ SemLoc.dma cc0_scoped0.sem by decide)), (cell_mem d L (show (SemLoc.dma cc0_scoped1.sem : SemLoc sig).isScoped .scVector = true by decide))⟩)]
  rw [SparseCore.bigSep_erase' (Finset.mem_erase.mpr ⟨(cell_ne d L (show (SemLoc.dma cc0_scoped2.sem : SemLoc sig) ≠ SemLoc.dma cc0_scoped1.sem by decide)), (Finset.mem_erase.mpr ⟨(cell_ne d L (show (SemLoc.dma cc0_scoped2.sem : SemLoc sig) ≠ SemLoc.dma cc0_scoped0.sem by decide)), (cell_mem d L (show (SemLoc.dma cc0_scoped2.sem : SemLoc sig).isScoped .scVector = true by decide))⟩)⟩)]
  rw [SparseCore.bigSep_erase' (Finset.mem_erase.mpr ⟨(cell_ne d L (show (SemLoc.dma cc0_scoped3.sem : SemLoc sig) ≠ SemLoc.dma cc0_scoped2.sem by decide)), (Finset.mem_erase.mpr ⟨(cell_ne d L (show (SemLoc.dma cc0_scoped3.sem : SemLoc sig) ≠ SemLoc.dma cc0_scoped1.sem by decide)), (Finset.mem_erase.mpr ⟨(cell_ne d L (show (SemLoc.dma cc0_scoped3.sem : SemLoc sig) ≠ SemLoc.dma cc0_scoped0.sem by decide)), (cell_mem d L (show (SemLoc.dma cc0_scoped3.sem : SemLoc sig).isScoped .scVector = true by decide))⟩)⟩)⟩)]
  rw [SparseCore.bigSep_erase' (Finset.mem_erase.mpr ⟨(cell_ne d L (show (SemLoc.dma cc0_scoped4.sem : SemLoc sig) ≠ SemLoc.dma cc0_scoped3.sem by decide)), (Finset.mem_erase.mpr ⟨(cell_ne d L (show (SemLoc.dma cc0_scoped4.sem : SemLoc sig) ≠ SemLoc.dma cc0_scoped2.sem by decide)), (Finset.mem_erase.mpr ⟨(cell_ne d L (show (SemLoc.dma cc0_scoped4.sem : SemLoc sig) ≠ SemLoc.dma cc0_scoped1.sem by decide)), (Finset.mem_erase.mpr ⟨(cell_ne d L (show (SemLoc.dma cc0_scoped4.sem : SemLoc sig) ≠ SemLoc.dma cc0_scoped0.sem by decide)), (cell_mem d L (show (SemLoc.dma cc0_scoped4.sem : SemLoc sig).isScoped .scVector = true by decide))⟩)⟩)⟩)⟩)]
  rw [SparseCore.bigSep_erase' (Finset.mem_erase.mpr ⟨(cell_ne d L (show (SemLoc.dma cc0_scoped5.sem : SemLoc sig) ≠ SemLoc.dma cc0_scoped4.sem by decide)), (Finset.mem_erase.mpr ⟨(cell_ne d L (show (SemLoc.dma cc0_scoped5.sem : SemLoc sig) ≠ SemLoc.dma cc0_scoped3.sem by decide)), (Finset.mem_erase.mpr ⟨(cell_ne d L (show (SemLoc.dma cc0_scoped5.sem : SemLoc sig) ≠ SemLoc.dma cc0_scoped2.sem by decide)), (Finset.mem_erase.mpr ⟨(cell_ne d L (show (SemLoc.dma cc0_scoped5.sem : SemLoc sig) ≠ SemLoc.dma cc0_scoped1.sem by decide)), (Finset.mem_erase.mpr ⟨(cell_ne d L (show (SemLoc.dma cc0_scoped5.sem : SemLoc sig) ≠ SemLoc.dma cc0_scoped0.sem by decide)), (cell_mem d L (show (SemLoc.dma cc0_scoped5.sem : SemLoc sig).isScoped .scVector = true by decide))⟩)⟩)⟩)⟩)⟩)]
  rw [SparseCore.bigSep_erase' (Finset.mem_erase.mpr ⟨(cell_ne d L (show (SemLoc.dma cc0_scoped6.sem : SemLoc sig) ≠ SemLoc.dma cc0_scoped5.sem by decide)), (Finset.mem_erase.mpr ⟨(cell_ne d L (show (SemLoc.dma cc0_scoped6.sem : SemLoc sig) ≠ SemLoc.dma cc0_scoped4.sem by decide)), (Finset.mem_erase.mpr ⟨(cell_ne d L (show (SemLoc.dma cc0_scoped6.sem : SemLoc sig) ≠ SemLoc.dma cc0_scoped3.sem by decide)), (Finset.mem_erase.mpr ⟨(cell_ne d L (show (SemLoc.dma cc0_scoped6.sem : SemLoc sig) ≠ SemLoc.dma cc0_scoped2.sem by decide)), (Finset.mem_erase.mpr ⟨(cell_ne d L (show (SemLoc.dma cc0_scoped6.sem : SemLoc sig) ≠ SemLoc.dma cc0_scoped1.sem by decide)), (Finset.mem_erase.mpr ⟨(cell_ne d L (show (SemLoc.dma cc0_scoped6.sem : SemLoc sig) ≠ SemLoc.dma cc0_scoped0.sem by decide)), (cell_mem d L (show (SemLoc.dma cc0_scoped6.sem : SemLoc sig).isScoped .scVector = true by decide))⟩)⟩)⟩)⟩)⟩)⟩)]
  rw [SparseCore.bigSep_erase' (Finset.mem_erase.mpr ⟨(cell_ne d L (show (SemLoc.dma cc0_scoped7.sem : SemLoc sig) ≠ SemLoc.dma cc0_scoped6.sem by decide)), (Finset.mem_erase.mpr ⟨(cell_ne d L (show (SemLoc.dma cc0_scoped7.sem : SemLoc sig) ≠ SemLoc.dma cc0_scoped5.sem by decide)), (Finset.mem_erase.mpr ⟨(cell_ne d L (show (SemLoc.dma cc0_scoped7.sem : SemLoc sig) ≠ SemLoc.dma cc0_scoped4.sem by decide)), (Finset.mem_erase.mpr ⟨(cell_ne d L (show (SemLoc.dma cc0_scoped7.sem : SemLoc sig) ≠ SemLoc.dma cc0_scoped3.sem by decide)), (Finset.mem_erase.mpr ⟨(cell_ne d L (show (SemLoc.dma cc0_scoped7.sem : SemLoc sig) ≠ SemLoc.dma cc0_scoped2.sem by decide)), (Finset.mem_erase.mpr ⟨(cell_ne d L (show (SemLoc.dma cc0_scoped7.sem : SemLoc sig) ≠ SemLoc.dma cc0_scoped1.sem by decide)), (Finset.mem_erase.mpr ⟨(cell_ne d L (show (SemLoc.dma cc0_scoped7.sem : SemLoc sig) ≠ SemLoc.dma cc0_scoped0.sem by decide)), (cell_mem d L (show (SemLoc.dma cc0_scoped7.sem : SemLoc sig).isScoped .scVector = true by decide))⟩)⟩)⟩)⟩)⟩)⟩)⟩)]
  rw [SparseCore.bigSep_erase' (Finset.mem_erase.mpr ⟨(cell_ne d L (show (SemLoc.dma cc0_scoped8.sem : SemLoc sig) ≠ SemLoc.dma cc0_scoped7.sem by decide)), (Finset.mem_erase.mpr ⟨(cell_ne d L (show (SemLoc.dma cc0_scoped8.sem : SemLoc sig) ≠ SemLoc.dma cc0_scoped6.sem by decide)), (Finset.mem_erase.mpr ⟨(cell_ne d L (show (SemLoc.dma cc0_scoped8.sem : SemLoc sig) ≠ SemLoc.dma cc0_scoped5.sem by decide)), (Finset.mem_erase.mpr ⟨(cell_ne d L (show (SemLoc.dma cc0_scoped8.sem : SemLoc sig) ≠ SemLoc.dma cc0_scoped4.sem by decide)), (Finset.mem_erase.mpr ⟨(cell_ne d L (show (SemLoc.dma cc0_scoped8.sem : SemLoc sig) ≠ SemLoc.dma cc0_scoped3.sem by decide)), (Finset.mem_erase.mpr ⟨(cell_ne d L (show (SemLoc.dma cc0_scoped8.sem : SemLoc sig) ≠ SemLoc.dma cc0_scoped2.sem by decide)), (Finset.mem_erase.mpr ⟨(cell_ne d L (show (SemLoc.dma cc0_scoped8.sem : SemLoc sig) ≠ SemLoc.dma cc0_scoped1.sem by decide)), (Finset.mem_erase.mpr ⟨(cell_ne d L (show (SemLoc.dma cc0_scoped8.sem : SemLoc sig) ≠ SemLoc.dma cc0_scoped0.sem by decide)), (cell_mem d L (show (SemLoc.dma cc0_scoped8.sem : SemLoc sig).isScoped .scVector = true by decide))⟩)⟩)⟩)⟩)⟩)⟩)⟩)⟩)]

/-- The seven scratch arrays are among the tile's own memory: they are them, at some contents, and the rest. -/
theorem ownBufs_V :
    (ownBufs (tl d L) : sProp 𝕄)
      = iprop((∃ f, (tl d L).loc cc0_scratch0 ↦{fullShare} f) ∗ (∃ f, (tl d L).loc cc0_scratch1 ↦{fullShare} f) ∗ (∃ f, (tl d L).loc cc0_scratch2 ↦{fullShare} f) ∗ (∃ f, (tl d L).loc cc0_scratch3 ↦{fullShare} f) ∗ (∃ f, (tl d L).loc cc0_scratch4 ↦{fullShare} f) ∗ (∃ f, (tl d L).loc cc0_scratch5 ↦{fullShare} f) ∗ (∃ f, (tl d L).loc cc0_scratch6 ↦{fullShare} f)          ∗ bigSep ((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), (SparseCore.Cfg.mem_ownRefs_of_owner (p := Proc.scVector (cV L) (jV L)) (b := (Proc.scVector (cV L) (jV L)).devRef cc0_scratch1) rfl)⟩)]
  rw [SparseCore.bigSep_erase' (Finset.mem_erase.mpr ⟨fun e => absurd (Proc.devRef_injective _ e) (show (cc0_scratch2 : Ref sig .scVector) ≠ cc0_scratch1 by decide), (Finset.mem_erase.mpr ⟨fun e => absurd (Proc.devRef_injective _ e) (show (cc0_scratch2 : Ref sig .scVector) ≠ cc0_scratch0 by decide), (SparseCore.Cfg.mem_ownRefs_of_owner (p := Proc.scVector (cV L) (jV L)) (b := (Proc.scVector (cV L) (jV L)).devRef cc0_scratch2) rfl)⟩)⟩)]
  rw [SparseCore.bigSep_erase' (Finset.mem_erase.mpr ⟨fun e => absurd (Proc.devRef_injective _ e) (show (cc0_scratch3 : Ref sig .scVector) ≠ cc0_scratch2 by decide), (Finset.mem_erase.mpr ⟨fun e => absurd (Proc.devRef_injective _ e) (show (cc0_scratch3 : Ref sig .scVector) ≠ cc0_scratch1 by decide), (Finset.mem_erase.mpr ⟨fun e => absurd (Proc.devRef_injective _ e) (show (cc0_scratch3 : Ref sig .scVector) ≠ cc0_scratch0 by decide), (SparseCore.Cfg.mem_ownRefs_of_owner (p := Proc.scVector (cV L) (jV L)) (b := (Proc.scVector (cV L) (jV L)).devRef cc0_scratch3) rfl)⟩)⟩)⟩)]
  rw [SparseCore.bigSep_erase' (Finset.mem_erase.mpr ⟨fun e => absurd (Proc.devRef_injective _ e) (show (cc0_scratch4 : Ref sig .scVector) ≠ cc0_scratch3 by decide), (Finset.mem_erase.mpr ⟨fun e => absurd (Proc.devRef_injective _ e) (show (cc0_scratch4 : Ref sig .scVector) ≠ cc0_scratch2 by decide), (Finset.mem_erase.mpr ⟨fun e => absurd (Proc.devRef_injective _ e) (show (cc0_scratch4 : Ref sig .scVector) ≠ cc0_scratch1 by decide), (Finset.mem_erase.mpr ⟨fun e => absurd (Proc.devRef_injective _ e) (show (cc0_scratch4 : Ref sig .scVector) ≠ cc0_scratch0 by decide), (SparseCore.Cfg.mem_ownRefs_of_owner (p := Proc.scVector (cV L) (jV L)) (b := (Proc.scVector (cV L) (jV L)).devRef cc0_scratch4) rfl)⟩)⟩)⟩)⟩)]
  rw [SparseCore.bigSep_erase' (Finset.mem_erase.mpr ⟨fun e => absurd (Proc.devRef_injective _ e) (show (cc0_scratch5 : Ref sig .scVector) ≠ cc0_scratch4 by decide), (Finset.mem_erase.mpr ⟨fun e => absurd (Proc.devRef_injective _ e) (show (cc0_scratch5 : Ref sig .scVector) ≠ cc0_scratch3 by decide), (Finset.mem_erase.mpr ⟨fun e => absurd (Proc.devRef_injective _ e) (show (cc0_scratch5 : Ref sig .scVector) ≠ cc0_scratch2 by decide), (Finset.mem_erase.mpr ⟨fun e => absurd (Proc.devRef_injective _ e) (show (cc0_scratch5 : Ref sig .scVector) ≠ cc0_scratch1 by decide), (Finset.mem_erase.mpr ⟨fun e => absurd (Proc.devRef_injective _ e) (show (cc0_scratch5 : Ref sig .scVector) ≠ cc0_scratch0 by decide), (SparseCore.Cfg.mem_ownRefs_of_owner (p := Proc.scVector (cV L) (jV L)) (b := (Proc.scVector (cV L) (jV L)).devRef cc0_scratch5) rfl)⟩)⟩)⟩)⟩)⟩)]
  rw [SparseCore.bigSep_erase' (Finset.mem_erase.mpr ⟨fun e => absurd (Proc.devRef_injective _ e) (show (cc0_scratch6 : Ref sig .scVector) ≠ cc0_scratch5 by decide), (Finset.mem_erase.mpr ⟨fun e => absurd (Proc.devRef_injective _ e) (show (cc0_scratch6 : Ref sig .scVector) ≠ cc0_scratch4 by decide), (Finset.mem_erase.mpr ⟨fun e => absurd (Proc.devRef_injective _ e) (show (cc0_scratch6 : Ref sig .scVector) ≠ cc0_scratch3 by decide), (Finset.mem_erase.mpr ⟨fun e => absurd (Proc.devRef_injective _ e) (show (cc0_scratch6 : Ref sig .scVector) ≠ cc0_scratch2 by decide), (Finset.mem_erase.mpr ⟨fun e => absurd (Proc.devRef_injective _ e) (show (cc0_scratch6 : Ref sig .scVector) ≠ cc0_scratch1 by decide), (Finset.mem_erase.mpr ⟨fun e => absurd (Proc.devRef_injective _ e) (show (cc0_scratch6 : Ref sig .scVector) ≠ cc0_scratch0 by decide), (SparseCore.Cfg.mem_ownRefs_of_owner (p := Proc.scVector (cV L) (jV L)) (b := (Proc.scVector (cV L) (jV L)).devRef cc0_scratch6) rfl)⟩)⟩)⟩)⟩)⟩)⟩)]

end Cert.Proof.Nms

end
-- ==== Proof.Out.lean ====
/-
  The call's operands and result as the proofs read them; what a tile's fetches leave in its memory; and its write-out,
  sixteen positions at a time.
-/
module

public import proofs.«01_k».proof.Proof.Own

@[expose] public section

noncomputable section

namespace Cert.Proof.Nms

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Words

variable {F : FTy → Type} [FloatOps F]

local notation "𝕄" => MT nD τ sig (HIx 1) (Elt F) ℕ UU ℕ

variable (m : (ℓ : Loc nD τ sig) → Buf (Elt F) ℓ) (d : Dev nD) (L : grid0.Coords)

/-! ## The operands at the call -/

/-- The four coordinate operands, by position. -/
def boxes : Boxes F where
  x1 := rd 21280 (m (x1Loc d))
  y1 := rd 21280 (m (y1Loc d))
  x2 := rd 21280 (m (x2Loc d))
  y2 := rd 21280 (m (y2Loc d))

/-- The starting flags, by position. -/
def flags : ℕ → F .f32 := rd 21280 (m (k0Loc d))

/-- The first position of a class, read from the table. -/
def pst (c : ℕ) : ℕ := BitVec.toNat (rd (α := BitVec 32) 96 (m (sgLoc d)) c)

/-- The boxes of a class that can be kept, read from the table. -/
def vct (c : ℕ) : ℕ := BitVec.toNat (rd (α := BitVec 32) 96 (m (vcLoc d)) c)

/-- The flags the eighty passes leave, by position. -/
def kept : ℕ → F .f32 := final (boxes m d) (pst m d) (vct m d) (flags m d)

/-- The result the call leaves: the flags the passes leave up to the last class's end, what was there behind it. -/
def result : Buf (Elt F) (outLoc d) := fun j => if (j 0).val < pst m d 80 then kept m d (j 0).val else m (outLoc d) j

/-- The positions of a tile's classes. -/
def outSet (w : ℕ) : Finset S21280.Idx := Finset.univ.filter fun j => pst m d (lo w) ≤ (j 0).val ∧ (j 0).val < pst m d (lo (w + 1))

theorem mem_outSet (w : ℕ) (j : S21280.Idx) : j ∈ outSet m d w ↔ pst m d (lo w) ≤ (j 0).val ∧ (j 0).val < pst m d (lo (w + 1)) := by
  simp [outSet]

/-- What a tile holds of the operands and the result: a share of each operand, the result at its own positions. -/
def tilePts (w : ℕ) (q : PosShare TreeShare) (f : Buf (Elt F) (outLoc d)) : sProp 𝕄 :=
  iprop((x1Loc d ↦{q} m (x1Loc d)) ∗ (y1Loc d ↦{q} m (y1Loc d)) ∗ (x2Loc d ↦{q} m (x2Loc d)) ∗ (y2Loc d ↦{q} m (y2Loc d))
    ∗ (k0Loc d ↦{q} m (k0Loc d)) ∗ (sgLoc d ↦{q} m (sgLoc d)) ∗ (vcLoc d ↦{q} m (vcLoc d)) ∗ (outLoc d ↦[outSet m d w]{fullShare} f))

/-! ## What a fetch leaves -/

/-- A transfer of `21280` entries to the front of a scratch array leaves them there. -/
theorem fetched (v : View sig .scVector .vmem S21296 .f32) (f : v.ref.ty.Contents (Elt F)) (g : S21280.Idx → F .f32) :
    Holds v (v.writes (Elt F) f [⟨Rect.unit (s := S21296) ![0] S21280.size inb_S21296_S21280_0, g⟩]) (rd 21280 g) := by
  intro j hj
  have ej : ((ValueIdx.ix1 (Fin.ofNat 21296 j) : S21296.Idx) 0).val = j := Nat.mod_eq_of_lt (by omega)
  refine View.read_writes_cons_unit_of_mem v f _ g [] _ (ValueIdx.ix1 (Fin.ofNat 21280 j)) rfl (fun a => ?_)
  match a with
  | 0 =>
    have e2 : ((ValueIdx.ix1 (Fin.ofNat 21280 j) : S21280.Idx) 0).val = j := Nat.mod_eq_of_lt hj
    show ((ValueIdx.ix1 (Fin.ofNat 21296 j) : S21296.Idx) 0).val = 0 + ((ValueIdx.ix1 (Fin.ofNat 21280 j) : S21280.Idx) 0).val
    rw [ej, e2, Nat.zero_add]

/-! ## The write-out -/

/-- The result with the tile's positions before `n` written. -/
def part (n : ℕ) : Buf (Elt F) (outLoc d) := fun j => if (j 0).val < n then result m d j else m (outLoc d) j

/-- One sixteen of the result as the tile addresses it. -/
abbrev outC (v49 v54 : BitVec 32) (k0_hw7 : k0_chk7 v49 v54) (k : Fin (k0_t15_loop v49 v54).trips) : Memref sig .scVector .hbm S16 .f32 :=
  outH.slice (Rect.unit (s := S21280) (k0_off18 v49 v54 k) S16.size (k0_off18_inb v49 v54 k0_hw7 k)) (fun _ => rfl)

/-- Its positions. -/
theorem mem_outC (v49 v54 : BitVec 32) (k0_hw7 : k0_chk7 v49 v54) (k : Fin (k0_t15_loop v49 v54).trips) (n : ℕ)
    (h : k0_off18 v49 v54 k = ![n]) (j : S21280.Idx) : j ∈ (outC v49 v54 k0_hw7 k).view.set ↔ n ≤ (j 0).val ∧ (j 0).val < n + 16 := by
  have e : (outC v49 v54 k0_hw7 k).view.set = (Rect.unit (s := S21280) (k0_off18 v49 v54 k) S16.size (k0_off18_inb v49 v54 k0_hw7 k)).set :=
    View.set_slice_whole _ _
  rw [e, Rect.mem_set_unit]
  constructor
  · intro h'
    have := h' 0
    rw [h] at this
    exact this
  · intro h' a
    match a with
    | 0 => rw [h]; exact h'

set_option maxHeartbeats 1000000 in
/-- One sixteen of the write-out. -/
theorem t15_region (T : Tab (pst m d) (vct m d)) (v49 v54 : BitVec 32) (k0_hw7 : k0_chk7 v49 v54)
    (h49 : v49.toNat = pst m d (lo (wid L))) (h54 : v54.toNat = pst m d (lo (wid L + 1)))
    (f5 : Buf (Elt F) ((tl d L).loc cc0_scratch4)) (Kt : ℕ → F .f32) (h5 : Holds kS.view f5 Kt)
    (hK : ∀ j, pst m d (lo (wid L)) ≤ j → j < pst m d (lo (wid L + 1)) → Kt j = kept m d j)
    (O : CellTallies nD τ sig (HIx 1)) (W : Waits sig (HIx 1)) (k : Fin (k0_t15_loop v49 v54).trips) (acc : PUnit) :
    iprop(Transfers.MayWaits (tl d L) (none : HIx 1) O ∗ (kS.view.loc (tl d L) ↦{fullShare} f5)
      ∗ (outLoc d ↦[outSet m d (wid L)]{fullShare} part m d (v49.toNat + 16 * k.val)) ∗ semVal (tl d L, SemLoc.dma cc0_scoped7.sem) 0
      ∗ ∃ W', ⌜∀ p ∈ W', p ∈ W ∨ p.2 = none⌝ ∗ owes (tl d L) O W') ⊢
      (wp frame (wpE (defs₀ (F := F)) 𝒱₀ (tl d L) none) Set.univ
        (k0_t15_body L x1H (Memref.isWhole_whole _) y1H (Memref.isWhole_whole _) x2H (Memref.isWhole_whole _) y2H (Memref.isWhole_whole _) k0H (Memref.isWhole_whole _) sgH (Memref.isWhole_whole _) vcH (Memref.isWhole_whole _) outH (Memref.isWhole_whole _) x1S (Memref.isWhole_whole _) y1S (Memref.isWhole_whole _) x2S (Memref.isWhole_whole _) y2S (Memref.isWhole_whole _) kS (Memref.isWhole_whole _) sgS (Memref.isWhole_whole _) vcS (Memref.isWhole_whole _) cc0_scoped0 cc0_scoped1 cc0_scoped2 cc0_scoped3 cc0_scoped4 cc0_scoped5 cc0_scoped6 cc0_scoped7 cc0_scoped8 v49 v54 k0_hw7 k acc)
        fun _ => iprop(Transfers.MayWaits (tl d L) (none : HIx 1) O ∗ (kS.view.loc (tl d L) ↦{fullShare} f5)
      ∗ (outLoc d ↦[outSet m d (wid L)]{fullShare} part m d (v49.toNat + 16 * (k.val + 1))) ∗ semVal (tl d L, SemLoc.dma cc0_scoped7.sem) 0
      ∗ ∃ W', ⌜∀ p ∈ W', p ∈ W ∨ p.2 = none⌝ ∗ owes (tl d L) O W') : sProp 𝕄) := by
  have hw := wid_lt L
  have hl : lo (wid L + 1) ≤ 80 := by unfold lo; omega
  have hm := T.mono (lo_le_hi (wid L)) hl
  have hle := T.le hl
  have hk : k.val < (v54.toNat - v49.toNat) / 16 := lt_of_lt_of_eq k.isLt (t15_trips v49 v54 (by omega) (by omega))
  have hoff := off18_eq v49 v54 k (by omega) (by omega)
  have hsub : (outC v49 v54 k0_hw7 k).view.set ⊆ outSet m d (wid L) := by
    intro j hj
    have := (mem_outC v49 v54 k0_hw7 k _ hoff j).mp hj
    rw [mem_outSet]; omega
  unfold k0_t15_body
  iintro ⟨Hmw, H5, Ho, C7, %W', %hW', HO⟩
  ihave Hs := (pointsTo_split_subset (q := fullShare) (f := part m d (v49.toNat + 16 * k.val)) hsub).1 $$ Ho
  icases Hs with ⟨Hc, Hr⟩
  ihave Hc := (Entails.of_eq (show (outLoc d ↦[(outC v49 v54 k0_hw7 k).view.set]{fullShare} part m d (v49.toNat + 16 * k.val) : sProp 𝕄)
    = ((outC v49 v54 k0_hw7 k).view.loc (tl d L) ↦[(outC v49 v54 k0_hw7 k).view.set]{fullShare} part m d (v49.toNat + 16 * k.val)) from rfl)) $$ Hc
  sl_exec (disch := exact View.amount_pos _ _ (show 0 < S16.numel by decide))
  sl_step
  isplitl [Hmw]; · iexact Hmw
  isplitl [H5]; · iexact H5
  isplitl [Hc Hr]
  · iapply (pointsTo_split_subset (q := fullShare) (f := part m d (v49.toNat + 16 * (k.val + 1))) hsub).2
    isplitl [Hc]
    · iapply (Entails.of_eq (pointsTo_congr (q := fullShare) (ℓ := outLoc d) (I := (outC v49 v54 k0_hw7 k).view.set) ?_))
      rotate_left
      · iexact Hc
      · intro i hi
        obtain ⟨x, -, rfl⟩ := Finset.mem_map.mp hi
        have hx : (x 0).val < 16 := (x 0).isLt
        have hj : ((outC v49 v54 k0_hw7 k).view.emb x 0).val = v49.toNat + 16 * k.val + (x 0).val := by
          show k0_off18 v49 v54 k 0 + 1 * (x 0).val = _
          rw [hoff]; show v49.toNat + 16 * k.val + 1 * (x 0).val = _; omega
        refine (((View.read_apply _ _).trans (cast_eq _ _)).symm.trans (congrFun (View.read_writes_whole (outC v49 v54 k0_hw7 k).view _ _) x)).trans ?_
        unfold part result
        rw [if_pos (by rw [hj]; omega), hj, if_pos (by have := T.mono (c := lo (wid L + 1)) (c' := 80) hl le_rfl; omega), ← hK _ (by omega) (by omega), ← h5 _ (by omega)]
        refine rd_congr 21296 (kS.view.read (Elt F) f5) _ _ ?_
        show k0_off17 v49 v54 k 0 + 1 * (x 0).val = _
        rw [off17_eq v49 v54 k (by omega) (by omega)]; show v49.toNat + 16 * k.val + 1 * (x 0).val = _; omega
    · iapply (Entails.of_eq (pointsTo_congr (q := fullShare) (ℓ := outLoc d) (I := outSet m d (wid L) \ (outC v49 v54 k0_hw7 k).view.set) ?_))
      rotate_left
      · iexact Hr
      · intro i hi
        have h2 := (Finset.mem_sdiff.mp hi).2
        rw [mem_outC v49 v54 k0_hw7 k _ hoff] at h2
        unfold part
        by_cases h3 : (i 0).val < v49.toNat + 16 * k.val
        · rw [if_pos h3, if_pos (by omega)]
        · rw [if_neg h3, if_neg (by omega)]
  isplitl [C7]; · iexact C7
  iexists _; isplitr
  swap; · iexact HO
  ipureintro; intro p hp
  rcases Finset.mem_insert.mp hp with hp | hp; · exact .inr (hp ▸ rfl)
  exact hW' p hp

end Cert.Proof.Nms

end
-- ==== Proof.Tile.lean ====
/-
  A tile's body, from its fetches through its classes to its write-out.
-/
module

public import proofs.«01_k».proof.Proof.Out

@[expose] public section

noncomputable section

namespace Cert.Proof.Nms

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Words

variable {F : FTy → Type} [FloatOps F]

local notation "𝕄" => MT nD τ sig (HIx 1) (Elt F) ℕ UU ℕ

variable (m : (ℓ : Loc nD τ sig) → Buf (Elt F) ℓ) (d : Dev nD) (L : grid0.Coords)

omit [FloatOps F] in
/-- Waits that are all of a first list or of no call, as one of the lists so described. -/
theorem owes_some {thr : Thread nD τ} {O : CellTallies nD τ sig (HIx 1)} {W W'' : Waits sig (HIx 1)} (h : ∀ p ∈ W'', p ∈ W ∨ p.2 = none) :
    (owes thr O W'' : sProp 𝕄) ⊢ iprop(∃ W', ⌜∀ p ∈ W', p ∈ W ∨ p.2 = none⌝ ∗ owes thr O W') := by
  iintro HO
  iexists W''; isplitr
  · ipureintro; exact h
  · iexact HO

set_option maxHeartbeats 4000000 in
/-- A tile's body takes its share of the operands and its positions of the result, and leaves the result there. -/
theorem tile_body (hF : (K (F := F)).Facts) (q : PosShare TreeShare) (T : Tab (pst m d) (vct m d))
    (O : CellTallies nD τ sig (HIx 1)) (W : Waits sig (HIx 1)) (hO : ∀ g, O g none = 0) :
    iprop(levAts (K (F := F)).L (K (F := F)).lev ∗ emp
        ∗ tilePts m d (wid L) q (m (outLoc d))
        ∗ scopedBufs (tl d L) ∗ scopedSems0 (tl d L) ∗ owes (tl d L) O W)
      ⊢ wp frame (wpE (defs₀ (F := F)) 𝒱₀ (tl d L) none) Set.univ
          (cc0__nms_body L x1H (Memref.isWhole_whole _) y1H (Memref.isWhole_whole _) x2H (Memref.isWhole_whole _) y2H (Memref.isWhole_whole _) k0H (Memref.isWhole_whole _) sgH (Memref.isWhole_whole _) vcH (Memref.isWhole_whole _) outH (Memref.isWhole_whole _) x1S (Memref.isWhole_whole _) y1S (Memref.isWhole_whole _) x2S (Memref.isWhole_whole _) y2S (Memref.isWhole_whole _) kS (Memref.isWhole_whole _) sgS (Memref.isWhole_whole _) vcS (Memref.isWhole_whole _) cc0_scoped0 cc0_scoped1 cc0_scoped2 cc0_scoped3 cc0_scoped4 cc0_scoped5 cc0_scoped6 cc0_scoped7 cc0_scoped8)
          fun _ => iprop(tilePts m d (wid L) q (result m d)
            ∗ scopedBufs (tl d L) ∗ scopedSems0 (tl d L)
            ∗ ∃ W', ⌜∀ p ∈ W', p ∈ W ∨ p.2 = none⌝ ∗ owes (tl d L) O W') := by
  unfold tilePts
  simp only [cc0__nms_body_eq_skeleton]; unfold cc0__nms_body_skel
  simp only [k0_part5_eq_skeleton, k0_part6_eq_skeleton]
  unfold k0_part5_skel k0_part6_skel
  rw [(K (F := F)).scopedBufs_V hF d (cV L) (jV L), SparseCore.Cfg.scopedSems0_V (Val := Elt F) d (cV L) (jV L), ownSems0_V, ownBufs_V]
  iintro ⟨#Hlv, -, ⟨G1, G2, G3, G4, G5, G6, G7, Ho⟩, ⟨⟨%s1, H1⟩, ⟨%s2, H2⟩, ⟨%s3, H3⟩, ⟨%s4, H4⟩, ⟨%s5, H5⟩, ⟨%s6, H6⟩, ⟨%s7, H7⟩, Hbufs⟩,
    ⟨C0, C1, C2, C3, C4, C5, C6, C7, C8, Hsems⟩, HO⟩
  ihave Hmw := (show levAts (K (F := F)).L (K (F := F)).lev ⊢ Transfers.MayWaits (tl d L) (none : HIx 1) O from
    (K (F := F)).mayWaits_none (thr := tl d L) hO) $$ Hlv
  ihave G1 := (Entails.of_eq (show (x1Loc d ↦{q} m (x1Loc d) : sProp 𝕄) = (x1H.view.loc (tl d L) ↦{q} m (x1Loc d)) from rfl)) $$ G1
  ihave G2 := (Entails.of_eq (show (y1Loc d ↦{q} m (y1Loc d) : sProp 𝕄) = (y1H.view.loc (tl d L) ↦{q} m (y1Loc d)) from rfl)) $$ G2
  ihave G3 := (Entails.of_eq (show (x2Loc d ↦{q} m (x2Loc d) : sProp 𝕄) = (x2H.view.loc (tl d L) ↦{q} m (x2Loc d)) from rfl)) $$ G3
  ihave G4 := (Entails.of_eq (show (y2Loc d ↦{q} m (y2Loc d) : sProp 𝕄) = (y2H.view.loc (tl d L) ↦{q} m (y2Loc d)) from rfl)) $$ G4
  ihave G5 := (Entails.of_eq (show (k0Loc d ↦{q} m (k0Loc d) : sProp 𝕄) = (k0H.view.loc (tl d L) ↦{q} m (k0Loc d)) from rfl)) $$ G5
  ihave G6 := (Entails.of_eq (show (sgLoc d ↦{q} m (sgLoc d) : sProp 𝕄) = (sgH.view.loc (tl d L) ↦{q} m (sgLoc d)) from rfl)) $$ G6
  ihave G7 := (Entails.of_eq (show (vcLoc d ↦{q} m (vcLoc d) : sProp 𝕄) = (vcH.view.loc (tl d L) ↦{q} m (vcLoc d)) from rfl)) $$ G7
  ihave H1 := (Entails.of_eq (show ((tl d L).loc cc0_scratch0 ↦{fullShare} s1 : sProp 𝕄) = (x1S.view.loc (tl d L) ↦{fullShare} s1) from rfl)) $$ H1
  ihave H2 := (Entails.of_eq (show ((tl d L).loc cc0_scratch1 ↦{fullShare} s2 : sProp 𝕄) = (y1S.view.loc (tl d L) ↦{fullShare} s2) from rfl)) $$ H2
  ihave H3 := (Entails.of_eq (show ((tl d L).loc cc0_scratch2 ↦{fullShare} s3 : sProp 𝕄) = (x2S.view.loc (tl d L) ↦{fullShare} s3) from rfl)) $$ H3
  ihave H4 := (Entails.of_eq (show ((tl d L).loc cc0_scratch3 ↦{fullShare} s4 : sProp 𝕄) = (y2S.view.loc (tl d L) ↦{fullShare} s4) from rfl)) $$ H4
  ihave H5 := (Entails.of_eq (show ((tl d L).loc cc0_scratch4 ↦{fullShare} s5 : sProp 𝕄) = (kS.view.loc (tl d L) ↦{fullShare} s5) from rfl)) $$ H5
  ihave H6 := (Entails.of_eq (show ((tl d L).loc cc0_scratch5 ↦{fullShare} s6 : sProp 𝕄) = (sgS.view.loc (tl d L) ↦{fullShare} s6) from rfl)) $$ H6
  ihave H7 := (Entails.of_eq (show ((tl d L).loc cc0_scratch6 ↦{fullShare} s7 : sProp 𝕄) = (vcS.view.loc (tl d L) ↦{fullShare} s7) from rfl)) $$ H7
  sl_exec
  have hw := wid_lt L
  have hl : lo (wid L + 1) ≤ 80 := by unfold lo; omega
  have hlh := lo_le_hi (wid L)
  have hmono := T.mono hlh hl
  have hle := T.le hl
  have hX : Coords d L (boxes m d) (x1S.view.writes (Elt F) s1 [⟨Rect.unit ![0] S21280.size inb_S21296_S21280_0, tile_body.sl.dma0 m d⟩])
      (y1S.view.writes (Elt F) s2 [⟨Rect.unit ![0] S21280.size inb_S21296_S21280_0, tile_body.sl.dma0_1 m d⟩])
      (x2S.view.writes (Elt F) s3 [⟨Rect.unit ![0] S21280.size inb_S21296_S21280_0, tile_body.sl.dma0_2 m d⟩])
      (y2S.view.writes (Elt F) s4 [⟨Rect.unit ![0] S21280.size inb_S21296_S21280_0, tile_body.sl.dma0_3 m d⟩]) :=
    ⟨fetched x1S.view s1 _, fetched y1S.view s2 _, fetched x2S.view s3 _, fetched y2S.view s4 _⟩
  have h5 : Holds kS.view (kS.view.writes (Elt F) s5 [⟨Rect.unit ![0] S21280.size inb_S21296_S21280_0, tile_body.sl.dma0_4 m d⟩]) (flags m d) :=
    fetched kS.view s5 _
  have h6 : ∀ c, (rd 96 (sgS.view.read (Elt F) (View.write (Elt F) sgS.view s6 (tile_body.sl.dma0_5 m d) Finset.univ)) c).toNat = pst m d c := by
    intro c; rw [View.write_whole_univ]; rfl
  have h7 : ∀ c, (rd 96 (vcS.view.read (Elt F) (View.write (Elt F) vcS.view s7 (tile_body.sl.dma0_6 m d) Finset.univ)) c).toNat = vct m d c := by
    intro c; rw [View.write_whole_univ]; rfl
  generalize x1S.view.writes (Elt F) s1 [⟨Rect.unit ![0] S21280.size inb_S21296_S21280_0, tile_body.sl.dma0 m d⟩] = f1 at *
  generalize y1S.view.writes (Elt F) s2 [⟨Rect.unit ![0] S21280.size inb_S21296_S21280_0, tile_body.sl.dma0_1 m d⟩] = f2 at *
  generalize x2S.view.writes (Elt F) s3 [⟨Rect.unit ![0] S21280.size inb_S21296_S21280_0, tile_body.sl.dma0_2 m d⟩] = f3 at *
  generalize y2S.view.writes (Elt F) s4 [⟨Rect.unit ![0] S21280.size inb_S21296_S21280_0, tile_body.sl.dma0_3 m d⟩] = f4 at *
  generalize kS.view.writes (Elt F) s5 [⟨Rect.unit ![0] S21280.size inb_S21296_S21280_0, tile_body.sl.dma0_4 m d⟩] = f5 at *
  generalize View.write (Elt F) sgS.view s6 (tile_body.sl.dma0_5 m d) Finset.univ = f6 at *
  generalize View.write (Elt F) vcS.view s7 (tile_body.sl.dma0_6 m d) Finset.univ = f7 at *
  dsimp only
  sl_for (fun n _ => iprop((sgS.view.loc (tl d L) ↦{fullShare} f6) ∗ (vcS.view.loc (tl d L) ↦{fullShare} f7)
    ∗ state d L f1 f2 f3 f4 (kall (boxes m d) (pst m d) (vct m d) (lo (wid L)) (flags m d) n))) $$ [H1 H2 H3 H4 H5 H6 H7]
  case region =>
    intro k acc
    refine t1_region d L (boxes m d) T (flags m d) _ f1 f2 f3 f4 hX f6 f7 (fun c _ => h6 c) (fun c _ => h7 c) ?_ k acc
    intro x
    unfold tile_body.sl.v39
    rw [iota_single_apply]
  · beta_reduce
    unfold state
    isplitl [H6]; · iexact H6
    isplitl [H7]; · iexact H7
    isplitl [H1]; · iexact H1
    isplitl [H2]; · iexact H2
    isplitl [H3]; · iexact H3
    isplitl [H4]; · iexact H4
    iexists f5; isplitr
    · ipureintro; exact h5
    · iexact H5
  iintro %_ HI
  beta_reduce
  rw [show Scf.trips (k0_t1_loop L).lb (k0_t1_loop L).ub (k0_t1_loop L).st = lo (wid L + 1) - lo (wid L) from t1_trips L]
  unfold state
  icases HI with ⟨H6, H7, H1, H2, H3, H4, %f8, %h8, H5⟩
  have ea : (extractAt ![0] (k0_pay53 (sgS.view.readAt (Elt F) (Rect.unit (s := S96) (k0_off15 L) S16.size (k0_off15_inb L)).toLoadRect f6)) inpos_S1_p0).toNat
      = pst m d (lo (wid L)) := by
    unfold k0_pay53
    rw [shapeCast_self, extract_lane0, ld16_zero _ _ _ _ _ (off15_eq L) lane0 rfl]
    exact h6 _
  have eb : (extractAt ![0] (k0_pay54 (sgS.view.readAt (Elt F) (Rect.unit (s := S96) (k0_off16 L) S16.size (k0_off16_inb L)).toLoadRect f6)) inpos_S1_p0).toNat
      = pst m d (lo (wid L + 1)) := by
    unfold k0_pay54
    rw [shapeCast_self, extract_lane0, ld16_zero _ _ _ _ _ (off16_eq L) lane0 rfl]
    exact h6 _
  have hchk : ∀ a b : BitVec 32, a.toNat = pst m d (lo (wid L)) → b.toNat = pst m d (lo (wid L + 1)) → k0_chk7 a b := by
    intro a b h1 h2
    exact chk7 a b (by rw [h1]; exact T.dvd _ (by omega)) (by omega) (by omega)
  sl_exec (disch := exact hchk _ _ ea eb)
  have hd1 := T.dvd _ (show lo (wid L) ≤ 80 by omega)
  have hd2 := T.dvd _ hl
  sl_for (fun n _ => iprop(Transfers.MayWaits (tl d L) (none : HIx 1) O ∗ (kS.view.loc (tl d L) ↦{fullShare} f8)
      ∗ (outLoc d ↦[outSet m d (wid L)]{fullShare} part m d (pst m d (lo (wid L)) + 16 * n)) ∗ semVal (tl d L, SemLoc.dma cc0_scoped7.sem) 0
      ∗ ∃ W', ⌜∀ p ∈ W', p ∈ W ∨ p.2 = none⌝ ∗ owes (tl d L) O W')) $$ [Hmw H5 Ho C7 HO]
  case region =>
    intro k acc
    have key := t15_region m d L T _ _ (hchk _ _ ea eb) ea eb f8 _ h8 (fun j h1 h2 => kall_eq_final (boxes m d) T (flags m d) _ _ hlh hl j h1 h2) O W k acc
    rw [ea] at key
    exact key
  · beta_reduce
    isplitl [Hmw]; · iexact Hmw
    isplitl [H5]; · iexact H5
    isplitl [Ho]
    · iapply (Entails.of_eq (pointsTo_congr (q := fullShare) (ℓ := outLoc d) (I := outSet m d (wid L)) (f := m (outLoc d)) ?_))
      rotate_left
      · iexact Ho
      · intro i hi
        have := (mem_outSet m d (wid L) i).mp hi
        unfold part
        rw [if_neg (by omega)]
    isplitl [C7]; · iexact C7
    iapply (owes_some ?_)
    rotate_left
    · iexact HO
    · intro p hp
      simp only [Finset.mem_insert] at hp
      rcases hp with h | h | h | h | h | h | h | h
      iterate 7 (first | (right; rw [h]; rfl))
      exact Or.inl h
  iintro %_ HI
  beta_reduce
  rw [show Scf.trips (k0_t15_loop _ _).lb (k0_t15_loop _ _).ub (k0_t15_loop _ _).st = _ from t15_trips _ _ (by rw [ea, eb]; exact hmono) (by rw [eb]; exact hle)]
  rw [ea, eb]
  icases HI with ⟨-, H5, Ho, C7, %W', %hW', HO⟩
  sl_exec
  sl_step
  isplitl [G1 G2 G3 G4 G5 G6 G7 Ho]
  · isplitl [G1]; · iexact G1
    isplitl [G2]; · iexact G2
    isplitl [G3]; · iexact G3
    isplitl [G4]; · iexact G4
    isplitl [G5]; · iexact G5
    isplitl [G6]; · iexact G6
    isplitl [G7]; · iexact G7
    iapply (Entails.of_eq (pointsTo_congr (q := fullShare) (ℓ := outLoc d) (I := outSet m d (wid L)) (g := result m d) ?_))
    rotate_left
    · iexact Ho
    · intro i hi
      have := (mem_outSet m d (wid L) i).mp hi
      unfold part
      rw [if_pos (by omega)]
  isplitl [H1 H2 H3 H4 H5 H6 H7 Hbufs]
  · isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    iexact Hbufs
  isplitl [C0 C1 C2 C3 C4 C5 C6 C7 C8 Hsems]
  · isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    iexact Hsems
  iexists W'; isplitr
  · ipureintro; exact hW'
  · iexact HO

end Cert.Proof.Nms

end
-- ==== Proof.Ops.lean ====
/-
  The host operations around the SparseCore call, as lists: the ones before it and the ones after it, the operations of
  the module-local functions in their places.
-/
module

public import proofs.«01_k».proof.Proof.Base

@[expose] public section

noncomputable section

namespace Cert.Proof.Nms

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Words

variable {F : FTy → Type} [FloatOps F]

local notation "𝕄" => MT nD τ sig (HIx 1) (Elt F) ℕ UU ℕ

open Idealize.ShloMosaic.StableHlo

/-- The contents of a buffer of a shape and an element type. -/
abbrev C (F : FTy → Type) (s : Shape) (e : EltTy) : Type := (⟨s, e⟩ : BufTy).Contents (Elt F)

/-- The operations of the first stretch: the two sorts and the rows they order. -/
abbrev ops0 : List (HloOp τ sig (Elt F)) :=
  (StableHlo.unary main_arg1 main_v0 (Host.negf : C F S20000 .f32 → C F S20000 .f32)
  :: StableHlo.nullary main_call0_v0 (iotaInDim S20000 32 0)
  :: StableHlo.binary main_v0 main_call0_v0 main_call0_v1_0 ((fun x y => (Host.sort2 S20000 0 comparator_f32_i32_d0 x y).1) : C F S20000 .f32 → C F S20000 .i32 → C F S20000 .f32)
  :: StableHlo.binary main_v0 main_call0_v0 main_v1 ((fun x y => (Host.sort2 S20000 0 comparator_f32_i32_d0 x y).2) : C F S20000 .f32 → C F S20000 .i32 → C F S20000 .i32)
  :: StableHlo.nullary main_c (constantI S_ 32 0#32)
  :: StableHlo.unary main_c main_v2 (broadcastInDim S20000 ![] bcast_S_S20000 : C F S_ .i32 → C F S20000 .i32)
  :: StableHlo.binary main_v1 main_v2 main_v3 (cmpi .slt : C F S20000 .i32 → C F S20000 .i32 → C F S20000 .i1)
  :: StableHlo.nullary main_c_0 (constantI S_ 32 20000#32)
  :: StableHlo.unary main_c_0 main_v4 (broadcastInDim S20000 ![] bcast_S_S20000 : C F S_ .i32 → C F S20000 .i32)
  :: StableHlo.binary main_v1 main_v4 main_v5 (addi : C F S20000 .i32 → C F S20000 .i32 → C F S20000 .i32)
  :: StableHlo.ternary main_v3 main_v5 main_v1 main_v6 (select : C F S20000 .i1 → C F S20000 .i32 → C F S20000 .i32 → C F S20000 .i32)
  :: StableHlo.unary main_v6 main_v7 (broadcastInDim S20000x1 ![0] bcast_S20000_S20000x1_0 : C F S20000 .i32 → C F S20000x1 .i32)
  :: StableHlo.binary main_arg0 main_v7 main_v8 ((fun x i => Host.gather gather_S20000x4_S20000x1_S20000x4_1_0_n_n_0_1_14 x i) : C F S20000x4 .f32 → C F S20000x1 .i32 → C F S20000x4 .f32)
  :: StableHlo.nullary main_c_1 (constantI S_ 32 0#32)
  :: StableHlo.unary main_c_1 main_v9 (broadcastInDim S20000 ![] bcast_S_S20000 : C F S_ .i32 → C F S20000 .i32)
  :: StableHlo.binary main_v1 main_v9 main_v10 (cmpi .slt : C F S20000 .i32 → C F S20000 .i32 → C F S20000 .i1)
  :: StableHlo.nullary main_c_2 (constantI S_ 32 20000#32)
  :: StableHlo.unary main_c_2 main_v11 (broadcastInDim S20000 ![] bcast_S_S20000 : C F S_ .i32 → C F S20000 .i32)
  :: StableHlo.binary main_v1 main_v11 main_v12 (addi : C F S20000 .i32 → C F S20000 .i32 → C F S20000 .i32)
  :: StableHlo.ternary main_v10 main_v12 main_v1 main_v13 (select : C F S20000 .i1 → C F S20000 .i32 → C F S20000 .i32 → C F S20000 .i32)
  :: StableHlo.unary main_v13 main_v14 (broadcastInDim S20000x1 ![0] bcast_S20000_S20000x1_0 : C F S20000 .i32 → C F S20000x1 .i32)
  :: StableHlo.binary main_arg1 main_v14 main_v15 ((fun x i => Host.gather gather_S20000_S20000x1_S20000_n_0_n_n_0_1_1 x i) : C F S20000 .f32 → C F S20000x1 .i32 → C F S20000 .f32)
  :: StableHlo.nullary main_c_3 (constantI S_ 32 0#32)
  :: StableHlo.unary main_c_3 main_v16 (broadcastInDim S20000 ![] bcast_S_S20000 : C F S_ .i32 → C F S20000 .i32)
  :: StableHlo.binary main_v1 main_v16 main_v17 (cmpi .slt : C F S20000 .i32 → C F S20000 .i32 → C F S20000 .i1)
  :: StableHlo.nullary main_c_4 (constantI S_ 32 20000#32)
  :: StableHlo.unary main_c_4 main_v18 (broadcastInDim S20000 ![] bcast_S_S20000 : C F S_ .i32 → C F S20000 .i32)
  :: StableHlo.binary main_v1 main_v18 main_v19 (addi : C F S20000 .i32 → C F S20000 .i32 → C F S20000 .i32)
  :: StableHlo.ternary main_v17 main_v19 main_v1 main_v20 (select : C F S20000 .i1 → C F S20000 .i32 → C F S20000 .i32 → C F S20000 .i32)
  :: StableHlo.unary main_v20 main_v21 (broadcastInDim S20000x1 ![0] bcast_S20000_S20000x1_0 : C F S20000 .i32 → C F S20000x1 .i32)
  :: StableHlo.binary main_arg2 main_v21 main_v22 ((fun x i => Host.gather gather_S20000_S20000x1_S20000_n_0_n_n_0_1_1 x i) : C F S20000 .i32 → C F S20000x1 .i32 → C F S20000 .i32)
  :: StableHlo.nullary main_call1_v0 (iotaInDim S20000 32 0)
  :: StableHlo.binary main_v22 main_call1_v0 main_call1_v1_0 ((fun x y => (Host.sort2 S20000 0 comparator_i32_i32_d0 x y).1) : C F S20000 .i32 → C F S20000 .i32 → C F S20000 .i32)
  :: StableHlo.binary main_v22 main_call1_v0 main_v23 ((fun x y => (Host.sort2 S20000 0 comparator_i32_i32_d0 x y).2) : C F S20000 .i32 → C F S20000 .i32 → C F S20000 .i32)
  :: StableHlo.nullary main_c_5 (constantI S_ 32 0#32)
  :: StableHlo.unary main_c_5 main_v24 (broadcastInDim S20000 ![] bcast_S_S20000 : C F S_ .i32 → C F S20000 .i32)
  :: StableHlo.binary main_v23 main_v24 main_v25 (cmpi .slt : C F S20000 .i32 → C F S20000 .i32 → C F S20000 .i1)
  :: StableHlo.nullary main_c_6 (constantI S_ 32 20000#32)
  :: StableHlo.unary main_c_6 main_v26 (broadcastInDim S20000 ![] bcast_S_S20000 : C F S_ .i32 → C F S20000 .i32)
  :: StableHlo.binary main_v23 main_v26 main_v27 (addi : C F S20000 .i32 → C F S20000 .i32 → C F S20000 .i32)
  :: StableHlo.ternary main_v25 main_v27 main_v23 main_v28 (select : C F S20000 .i1 → C F S20000 .i32 → C F S20000 .i32 → C F S20000 .i32)
  :: StableHlo.unary main_v28 main_v29 (broadcastInDim S20000x1 ![0] bcast_S20000_S20000x1_0 : C F S20000 .i32 → C F S20000x1 .i32)
  :: StableHlo.binary main_v8 main_v29 main_v30 ((fun x i => Host.gather gather_S20000x4_S20000x1_S20000x4_1_0_n_n_0_1_14 x i) : C F S20000x4 .f32 → C F S20000x1 .i32 → C F S20000x4 .f32)
  :: StableHlo.nullary main_c_7 (constantI S_ 32 0#32)
  :: StableHlo.unary main_c_7 main_v31 (broadcastInDim S20000 ![] bcast_S_S20000 : C F S_ .i32 → C F S20000 .i32)
  :: StableHlo.binary main_v23 main_v31 main_v32 (cmpi .slt : C F S20000 .i32 → C F S20000 .i32 → C F S20000 .i1)
  :: StableHlo.nullary main_c_8 (constantI S_ 32 20000#32)
  :: StableHlo.unary main_c_8 main_v33 (broadcastInDim S20000 ![] bcast_S_S20000 : C F S_ .i32 → C F S20000 .i32)
  :: StableHlo.binary main_v23 main_v33 main_v34 (addi : C F S20000 .i32 → C F S20000 .i32 → C F S20000 .i32)
  :: StableHlo.ternary main_v32 main_v34 main_v23 main_v35 (select : C F S20000 .i1 → C F S20000 .i32 → C F S20000 .i32 → C F S20000 .i32)
  :: StableHlo.unary main_v35 main_v36 (broadcastInDim S20000x1 ![0] bcast_S20000_S20000x1_0 : C F S20000 .i32 → C F S20000x1 .i32)
  :: StableHlo.binary main_v15 main_v36 main_v37 ((fun x i => Host.gather gather_S20000_S20000x1_S20000_n_0_n_n_0_1_1 x i) : C F S20000 .f32 → C F S20000x1 .i32 → C F S20000 .f32)
  :: StableHlo.nullary main_c_9 (constantI S_ 32 0#32)
  :: StableHlo.unary main_c_9 main_v38 (broadcastInDim S20000 ![] bcast_S_S20000 : C F S_ .i32 → C F S20000 .i32)
  :: StableHlo.binary main_v23 main_v38 main_v39 (cmpi .slt : C F S20000 .i32 → C F S20000 .i32 → C F S20000 .i1)
  :: StableHlo.nullary main_c_10 (constantI S_ 32 20000#32)
  :: StableHlo.unary main_c_10 main_v40 (broadcastInDim S20000 ![] bcast_S_S20000 : C F S_ .i32 → C F S20000 .i32)
  :: StableHlo.binary main_v23 main_v40 main_v41 (addi : C F S20000 .i32 → C F S20000 .i32 → C F S20000 .i32)
  :: StableHlo.ternary main_v39 main_v41 main_v23 main_v42 (select : C F S20000 .i1 → C F S20000 .i32 → C F S20000 .i32 → C F S20000 .i32)
  :: StableHlo.unary main_v42 main_v43 (broadcastInDim S20000x1 ![0] bcast_S20000_S20000x1_0 : C F S20000 .i32 → C F S20000x1 .i32)
  :: StableHlo.binary main_v22 main_v43 main_v44 ((fun x i => Host.gather gather_S20000_S20000x1_S20000_n_0_n_n_0_1_1 x i) : C F S20000 .i32 → C F S20000x1 .i32 → C F S20000 .i32)
  :: StableHlo.nullary main_c_11 (constantI S_ 32 1#32)
  :: StableHlo.unary main_c_11 main_v45 (broadcastInDim S20000 ![] bcast_S_S20000 : C F S_ .i32 → C F S20000 .i32)
  :: StableHlo.nullary main_c_12 (constantI S_ 32 0#32) :: [])

/-- The buffers they write, in order. -/
abbrev ops0_W : List (Ref sig .tc) :=
  [main_v0, main_call0_v0, main_call0_v1_0, main_v1, main_c, main_v2, main_v3, main_c_0, main_v4, main_v5, main_v6, main_v7, main_v8, main_c_1, main_v9, main_v10, main_c_2, main_v11, main_v12, main_v13, main_v14, main_v15, main_c_3, main_v16, main_v17, main_c_4, main_v18, main_v19, main_v20, main_v21, main_v22, main_call1_v0, main_call1_v1_0, main_v23, main_c_5, main_v24, main_v25, main_c_6, main_v26, main_v27, main_v28, main_v29, main_v30, main_c_7, main_v31, main_v32, main_c_8, main_v33, main_v34, main_v35, main_v36, main_v37, main_c_9, main_v38, main_v39, main_c_10, main_v40, main_v41, main_v42, main_v43, main_v44, main_c_11, main_v45, main_c_12]

/-- The second stretch: the counts, the boundaries and the positions. -/
abbrev ops1 : List (HloOp τ sig (Elt F)) :=
  (StableHlo.unary main_c_12 main_v46 (broadcastInDim S80 ![] bcast_S_S80 : C F S_ .i32 → C F S80 .i32)
  :: StableHlo.nullary main_c_13 (constantI S_ 32 0#32)
  :: StableHlo.unary main_c_13 main_v47 (broadcastInDim S20000 ![] bcast_S_S20000 : C F S_ .i32 → C F S20000 .i32)
  :: StableHlo.binary main_v22 main_v47 main_v48 (cmpi .slt : C F S20000 .i32 → C F S20000 .i32 → C F S20000 .i1)
  :: StableHlo.nullary main_c_14 (constantI S_ 32 80#32)
  :: StableHlo.unary main_c_14 main_v49 (broadcastInDim S20000 ![] bcast_S_S20000 : C F S_ .i32 → C F S20000 .i32)
  :: StableHlo.binary main_v22 main_v49 main_v50 (addi : C F S20000 .i32 → C F S20000 .i32 → C F S20000 .i32)
  :: StableHlo.ternary main_v48 main_v50 main_v22 main_v51 (select : C F S20000 .i1 → C F S20000 .i32 → C F S20000 .i32 → C F S20000 .i32)
  :: StableHlo.unary main_v51 main_v52 (broadcastInDim S20000x1 ![0] bcast_S20000_S20000x1_0 : C F S20000 .i32 → C F S20000x1 .i32)
  :: StableHlo.ternary main_v46 main_v52 main_v45 main_v53 ((fun x i u => Host.scatter scatter_S80_S20000x1_S20000_n_0_0_1 IntOp.addi x i u) : C F S80 .i32 → C F S20000x1 .i32 → C F S20000 .i32 → C F S80 .i32)
  :: StableHlo.nullary main_cst (constant S_ .f32 0x3F000000#32)
  :: StableHlo.unary main_cst main_v54 (broadcastInDim S20000 ![] bcast_S_S20000 : C F S_ .f32 → C F S20000 .f32)
  :: StableHlo.binary main_v15 main_v54 main_v55 (cmpf .oge : C F S20000 .f32 → C F S20000 .f32 → C F S20000 .i1)
  :: StableHlo.unary main_v55 main_v56 ((extui 32 · natLt_1_32) : C F S20000 .i1 → C F S20000 .i32)
  :: StableHlo.nullary main_c_15 (constantI S_ 32 0#32)
  :: StableHlo.unary main_c_15 main_v57 (broadcastInDim S80 ![] bcast_S_S80 : C F S_ .i32 → C F S80 .i32)
  :: StableHlo.nullary main_c_16 (constantI S_ 32 0#32)
  :: StableHlo.unary main_c_16 main_v58 (broadcastInDim S20000 ![] bcast_S_S20000 : C F S_ .i32 → C F S20000 .i32)
  :: StableHlo.binary main_v22 main_v58 main_v59 (cmpi .slt : C F S20000 .i32 → C F S20000 .i32 → C F S20000 .i1)
  :: StableHlo.nullary main_c_17 (constantI S_ 32 80#32)
  :: StableHlo.unary main_c_17 main_v60 (broadcastInDim S20000 ![] bcast_S_S20000 : C F S_ .i32 → C F S20000 .i32)
  :: StableHlo.binary main_v22 main_v60 main_v61 (addi : C F S20000 .i32 → C F S20000 .i32 → C F S20000 .i32)
  :: StableHlo.ternary main_v59 main_v61 main_v22 main_v62 (select : C F S20000 .i1 → C F S20000 .i32 → C F S20000 .i32 → C F S20000 .i32)
  :: StableHlo.unary main_v62 main_v63 (broadcastInDim S20000x1 ![0] bcast_S20000_S20000x1_0 : C F S20000 .i32 → C F S20000x1 .i32)
  :: StableHlo.ternary main_v57 main_v63 main_v56 main_v64 ((fun x i u => Host.scatter scatter_S80_S20000x1_S20000_n_0_0_1 IntOp.addi x i u) : C F S80 .i32 → C F S20000x1 .i32 → C F S20000 .i32 → C F S80 .i32)
  :: StableHlo.nullary main_c_18 (constantI S_ 32 15#32)
  :: StableHlo.unary main_c_18 main_v65 (broadcastInDim S80 ![] bcast_S_S80 : C F S_ .i32 → C F S80 .i32)
  :: StableHlo.binary main_v53 main_v65 main_v66 (addi : C F S80 .i32 → C F S80 .i32 → C F S80 .i32)
  :: StableHlo.nullary main_c_19 (constantI S_ 32 16#32)
  :: StableHlo.unary main_c_19 main_call2_v0 (id : C F S_ .i32 → C F S_ .i32)
  :: StableHlo.unary main_call2_v0 main_call2_v1 ((broadcastInDim S80 ![] bcast_S_S80) : C F S_ .i32 → C F S80 .i32)
  :: StableHlo.binary main_v66 main_call2_v1 main_call2_v2 (Host.divsi : C F S80 .i32 → C F S80 .i32 → C F S80 .i32)
  :: StableHlo.unary main_v66 main_call2_v3 (signi : C F S80 .i32 → C F S80 .i32)
  :: StableHlo.unary main_call2_v0 main_call2_v4 (signi : C F S_ .i32 → C F S_ .i32)
  :: StableHlo.unary main_call2_v4 main_call2_v5 ((broadcastInDim S80 ![] bcast_S_S80) : C F S_ .i32 → C F S80 .i32)
  :: StableHlo.binary main_call2_v3 main_call2_v5 main_call2_v6 ((cmpi .ne) : C F S80 .i32 → C F S80 .i32 → C F S80 .i1)
  :: StableHlo.unary main_call2_v0 main_call2_v7 ((broadcastInDim S80 ![] bcast_S_S80) : C F S_ .i32 → C F S80 .i32)
  :: StableHlo.binary main_v66 main_call2_v7 main_call2_v8 (Host.remsi : C F S80 .i32 → C F S80 .i32 → C F S80 .i32)
  :: StableHlo.nullary main_call2_c (constantI S_ 32 0#32)
  :: StableHlo.unary main_call2_c main_call2_v9 ((broadcastInDim S80 ![] bcast_S_S80) : C F S_ .i32 → C F S80 .i32)
  :: StableHlo.binary main_call2_v8 main_call2_v9 main_call2_v10 ((cmpi .ne) : C F S80 .i32 → C F S80 .i32 → C F S80 .i1)
  :: StableHlo.binary main_call2_v6 main_call2_v10 main_call2_v11 (andi : C F S80 .i1 → C F S80 .i1 → C F S80 .i1)
  :: StableHlo.nullary main_call2_c_0 (constantI S_ 32 1#32)
  :: StableHlo.unary main_call2_c_0 main_call2_v12 ((broadcastInDim S80 ![] bcast_S_S80) : C F S_ .i32 → C F S80 .i32)
  :: StableHlo.binary main_call2_v2 main_call2_v12 main_call2_v13 (subi : C F S80 .i32 → C F S80 .i32 → C F S80 .i32)
  :: StableHlo.ternary main_call2_v11 main_call2_v13 main_call2_v2 main_v67 (select : C F S80 .i1 → C F S80 .i32 → C F S80 .i32 → C F S80 .i32)
  :: StableHlo.nullary main_c_20 (constantI S_ 32 16#32)
  :: StableHlo.unary main_c_20 main_v68 (broadcastInDim S80 ![] bcast_S_S80 : C F S_ .i32 → C F S80 .i32)
  :: StableHlo.binary main_v67 main_v68 main_v69 (muli : C F S80 .i32 → C F S80 .i32 → C F S80 .i32)
  :: StableHlo.nullary main_c_21 (constantI S_ 32 0#32)
  :: StableHlo.unary main_c_21 main_v70 (broadcastInDim S1 ![] bcast_S_S1 : C F S_ .i32 → C F S1 .i32)
  :: StableHlo.nullary main_call3_call0_c (constantI S_ 32 0#32)
  :: StableHlo.unary main_call3_call0_c main_call3_call0_v0 ((broadcastInDim S_ ![] bcast_S_S_) : C F S_ .i32 → C F S_ .i32)
  :: StableHlo.binary main_v69 main_call3_call0_v0 main_v71 ((fun x v => Host.reduceWindow IntOp.addi ![80] ![1] ![79] ![0] x v reduceWindows_S80_S80_w80s1p79_0 h_S_) : C F S80 .i32 → C F S_ .i32 → C F S80 .i32)
  :: StableHlo.binary main_v70 main_v71 main_v72 ((fun a b => concatenate S81 0 [⟨S1, a⟩, ⟨S80, b⟩] concatenates_S1_S80_S81_d0) : C F S1 .i32 → C F S80 .i32 → C F S81 .i32)
  :: StableHlo.nullary main_c_22 (constantI S_ 32 0#32)
  :: StableHlo.unary main_c_22 main_v73 (broadcastInDim S1 ![] bcast_S_S1 : C F S_ .i32 → C F S1 .i32)
  :: StableHlo.nullary main_call4_call0_c (constantI S_ 32 0#32)
  :: StableHlo.unary main_call4_call0_c main_call4_call0_v0 ((broadcastInDim S_ ![] bcast_S_S_) : C F S_ .i32 → C F S_ .i32)
  :: StableHlo.binary main_v53 main_call4_call0_v0 main_v74 ((fun x v => Host.reduceWindow IntOp.addi ![80] ![1] ![79] ![0] x v reduceWindows_S80_S80_w80s1p79_0 h_S_) : C F S80 .i32 → C F S_ .i32 → C F S80 .i32)
  :: StableHlo.unary main_v74 main_v75 ((extractStridedSlice S79 ![0] · slices_S80_S79_0) : C F S80 .i32 → C F S79 .i32)
  :: StableHlo.binary main_v73 main_v75 main_v76 ((fun a b => concatenate S80 0 [⟨S1, a⟩, ⟨S79, b⟩] concatenates_S1_S79_S80_d0) : C F S1 .i32 → C F S79 .i32 → C F S80 .i32)
  :: StableHlo.nullary main_c_23 (constantI S_ 32 0#32)
  :: StableHlo.unary main_c_23 main_v77 (broadcastInDim S20000 ![] bcast_S_S20000 : C F S_ .i32 → C F S20000 .i32)
  :: StableHlo.binary main_v44 main_v77 main_v78 (cmpi .slt : C F S20000 .i32 → C F S20000 .i32 → C F S20000 .i1)
  :: StableHlo.nullary main_c_24 (constantI S_ 32 81#32)
  :: StableHlo.unary main_c_24 main_v79 (broadcastInDim S20000 ![] bcast_S_S20000 : C F S_ .i32 → C F S20000 .i32)
  :: StableHlo.binary main_v44 main_v79 main_v80 (addi : C F S20000 .i32 → C F S20000 .i32 → C F S20000 .i32)
  :: StableHlo.ternary main_v78 main_v80 main_v44 main_v81 (select : C F S20000 .i1 → C F S20000 .i32 → C F S20000 .i32 → C F S20000 .i32)
  :: StableHlo.unary main_v81 main_v82 (broadcastInDim S20000x1 ![0] bcast_S20000_S20000x1_0 : C F S20000 .i32 → C F S20000x1 .i32)
  :: StableHlo.binary main_v72 main_v82 main_v83 ((fun x i => Host.gather gather_S81_S20000x1_S20000_n_0_n_n_0_1_1 x i) : C F S81 .i32 → C F S20000x1 .i32 → C F S20000 .i32)
  :: StableHlo.nullary main_v84 (iotaInDim S20000 32 0)
  :: StableHlo.nullary main_c_25 (constantI S_ 32 0#32)
  :: StableHlo.unary main_c_25 main_v85 (broadcastInDim S20000 ![] bcast_S_S20000 : C F S_ .i32 → C F S20000 .i32)
  :: StableHlo.binary main_v44 main_v85 main_v86 (cmpi .slt : C F S20000 .i32 → C F S20000 .i32 → C F S20000 .i1)
  :: StableHlo.nullary main_c_26 (constantI S_ 32 80#32)
  :: StableHlo.unary main_c_26 main_v87 (broadcastInDim S20000 ![] bcast_S_S20000 : C F S_ .i32 → C F S20000 .i32)
  :: StableHlo.binary main_v44 main_v87 main_v88 (addi : C F S20000 .i32 → C F S20000 .i32 → C F S20000 .i32)
  :: StableHlo.ternary main_v86 main_v88 main_v44 main_v89 (select : C F S20000 .i1 → C F S20000 .i32 → C F S20000 .i32 → C F S20000 .i32)
  :: StableHlo.unary main_v89 main_v90 (broadcastInDim S20000x1 ![0] bcast_S20000_S20000x1_0 : C F S20000 .i32 → C F S20000x1 .i32) :: [])

/-- The buffers they write, in order. -/
abbrev ops1_W : List (Ref sig .tc) :=
  [main_v46, main_c_13, main_v47, main_v48, main_c_14, main_v49, main_v50, main_v51, main_v52, main_v53, main_cst, main_v54, main_v55, main_v56, main_c_15, main_v57, main_c_16, main_v58, main_v59, main_c_17, main_v60, main_v61, main_v62, main_v63, main_v64, main_c_18, main_v65, main_v66, main_c_19, main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v67, main_c_20, main_v68, main_v69, main_c_21, main_v70, main_call3_call0_c, main_call3_call0_v0, main_v71, main_v72, main_c_22, main_v73, main_call4_call0_c, main_call4_call0_v0, main_v74, main_v75, main_v76, main_c_23, main_v77, main_v78, main_c_24, main_v79, main_v80, main_v81, main_v82, main_v83, main_v84, main_c_25, main_v85, main_v86, main_c_26, main_v87, main_v88, main_v89, main_v90]

/-- The third stretch: the coordinates at their positions. -/
abbrev ops2 : List (HloOp τ sig (Elt F)) :=
  (StableHlo.binary main_v76 main_v90 main_v91 ((fun x i => Host.gather gather_S80_S20000x1_S20000_n_0_n_n_0_1_1 x i) : C F S80 .i32 → C F S20000x1 .i32 → C F S20000 .i32)
  :: StableHlo.binary main_v84 main_v91 main_v92 (subi : C F S20000 .i32 → C F S20000 .i32 → C F S20000 .i32)
  :: StableHlo.binary main_v83 main_v92 main_v93 (addi : C F S20000 .i32 → C F S20000 .i32 → C F S20000 .i32)
  :: StableHlo.nullary main_cst_27 (constant S_ .f32 0x00000000#32)
  :: StableHlo.unary main_cst_27 main_v94 (broadcastInDim S21280 ![] bcast_S_S21280 : C F S_ .f32 → C F S21280 .f32)
  :: StableHlo.unary main_v30 main_v95 ((extractStridedSlice S20000x1 ![0, 0] · slices_S20000x4_S20000x1_0_0) : C F S20000x4 .f32 → C F S20000x1 .f32)
  :: StableHlo.reshape main_v95 main_v96 (rfl : (.f32 : EltTy) = .f32) shapeCasts_S20000x1_S20000
  :: StableHlo.nullary main_c_28 (constantI S_ 32 0#32)
  :: StableHlo.unary main_c_28 main_v97 (broadcastInDim S20000 ![] bcast_S_S20000 : C F S_ .i32 → C F S20000 .i32)
  :: StableHlo.binary main_v93 main_v97 main_v98 (cmpi .slt : C F S20000 .i32 → C F S20000 .i32 → C F S20000 .i1)
  :: StableHlo.nullary main_c_29 (constantI S_ 32 21280#32)
  :: StableHlo.unary main_c_29 main_v99 (broadcastInDim S20000 ![] bcast_S_S20000 : C F S_ .i32 → C F S20000 .i32)
  :: StableHlo.binary main_v93 main_v99 main_v100 (addi : C F S20000 .i32 → C F S20000 .i32 → C F S20000 .i32)
  :: StableHlo.ternary main_v98 main_v100 main_v93 main_v101 (select : C F S20000 .i1 → C F S20000 .i32 → C F S20000 .i32 → C F S20000 .i32)
  :: StableHlo.unary main_v101 main_v102 (broadcastInDim S20000x1 ![0] bcast_S20000_S20000x1_0 : C F S20000 .i32 → C F S20000x1 .i32)
  :: StableHlo.ternary main_v94 main_v102 main_v96 main_v103 ((fun x i u => Host.scatter scatter_S21280_S20000x1_S20000_n_0_0_1 (fun _ b => b) x i u) : C F S21280 .f32 → C F S20000x1 .i32 → C F S20000 .f32 → C F S21280 .f32)
  :: StableHlo.nullary main_cst_30 (constant S_ .f32 0x00000000#32)
  :: StableHlo.unary main_cst_30 main_v104 (broadcastInDim S21280 ![] bcast_S_S21280 : C F S_ .f32 → C F S21280 .f32)
  :: StableHlo.unary main_v30 main_v105 ((extractStridedSlice S20000x1 ![0, 1] · slices_S20000x4_S20000x1_0_1) : C F S20000x4 .f32 → C F S20000x1 .f32)
  :: StableHlo.reshape main_v105 main_v106 (rfl : (.f32 : EltTy) = .f32) shapeCasts_S20000x1_S20000
  :: StableHlo.nullary main_c_31 (constantI S_ 32 0#32)
  :: StableHlo.unary main_c_31 main_v107 (broadcastInDim S20000 ![] bcast_S_S20000 : C F S_ .i32 → C F S20000 .i32)
  :: StableHlo.binary main_v93 main_v107 main_v108 (cmpi .slt : C F S20000 .i32 → C F S20000 .i32 → C F S20000 .i1)
  :: StableHlo.nullary main_c_32 (constantI S_ 32 21280#32)
  :: StableHlo.unary main_c_32 main_v109 (broadcastInDim S20000 ![] bcast_S_S20000 : C F S_ .i32 → C F S20000 .i32)
  :: StableHlo.binary main_v93 main_v109 main_v110 (addi : C F S20000 .i32 → C F S20000 .i32 → C F S20000 .i32)
  :: StableHlo.ternary main_v108 main_v110 main_v93 main_v111 (select : C F S20000 .i1 → C F S20000 .i32 → C F S20000 .i32 → C F S20000 .i32)
  :: StableHlo.unary main_v111 main_v112 (broadcastInDim S20000x1 ![0] bcast_S20000_S20000x1_0 : C F S20000 .i32 → C F S20000x1 .i32)
  :: StableHlo.ternary main_v104 main_v112 main_v106 main_v113 ((fun x i u => Host.scatter scatter_S21280_S20000x1_S20000_n_0_0_1 (fun _ b => b) x i u) : C F S21280 .f32 → C F S20000x1 .i32 → C F S20000 .f32 → C F S21280 .f32)
  :: StableHlo.nullary main_cst_33 (constant S_ .f32 0x00000000#32)
  :: StableHlo.unary main_cst_33 main_v114 (broadcastInDim S21280 ![] bcast_S_S21280 : C F S_ .f32 → C F S21280 .f32)
  :: StableHlo.unary main_v30 main_v115 ((extractStridedSlice S20000x1 ![0, 2] · slices_S20000x4_S20000x1_0_2) : C F S20000x4 .f32 → C F S20000x1 .f32)
  :: StableHlo.reshape main_v115 main_v116 (rfl : (.f32 : EltTy) = .f32) shapeCasts_S20000x1_S20000
  :: StableHlo.nullary main_c_34 (constantI S_ 32 0#32)
  :: StableHlo.unary main_c_34 main_v117 (broadcastInDim S20000 ![] bcast_S_S20000 : C F S_ .i32 → C F S20000 .i32)
  :: StableHlo.binary main_v93 main_v117 main_v118 (cmpi .slt : C F S20000 .i32 → C F S20000 .i32 → C F S20000 .i1)
  :: StableHlo.nullary main_c_35 (constantI S_ 32 21280#32)
  :: StableHlo.unary main_c_35 main_v119 (broadcastInDim S20000 ![] bcast_S_S20000 : C F S_ .i32 → C F S20000 .i32)
  :: StableHlo.binary main_v93 main_v119 main_v120 (addi : C F S20000 .i32 → C F S20000 .i32 → C F S20000 .i32)
  :: StableHlo.ternary main_v118 main_v120 main_v93 main_v121 (select : C F S20000 .i1 → C F S20000 .i32 → C F S20000 .i32 → C F S20000 .i32)
  :: StableHlo.unary main_v121 main_v122 (broadcastInDim S20000x1 ![0] bcast_S20000_S20000x1_0 : C F S20000 .i32 → C F S20000x1 .i32)
  :: StableHlo.ternary main_v114 main_v122 main_v116 main_v123 ((fun x i u => Host.scatter scatter_S21280_S20000x1_S20000_n_0_0_1 (fun _ b => b) x i u) : C F S21280 .f32 → C F S20000x1 .i32 → C F S20000 .f32 → C F S21280 .f32)
  :: StableHlo.nullary main_cst_36 (constant S_ .f32 0x00000000#32)
  :: StableHlo.unary main_cst_36 main_v124 (broadcastInDim S21280 ![] bcast_S_S21280 : C F S_ .f32 → C F S21280 .f32)
  :: StableHlo.unary main_v30 main_v125 ((extractStridedSlice S20000x1 ![0, 3] · slices_S20000x4_S20000x1_0_3) : C F S20000x4 .f32 → C F S20000x1 .f32)
  :: StableHlo.reshape main_v125 main_v126 (rfl : (.f32 : EltTy) = .f32) shapeCasts_S20000x1_S20000
  :: StableHlo.nullary main_c_37 (constantI S_ 32 0#32)
  :: StableHlo.unary main_c_37 main_v127 (broadcastInDim S20000 ![] bcast_S_S20000 : C F S_ .i32 → C F S20000 .i32)
  :: StableHlo.binary main_v93 main_v127 main_v128 (cmpi .slt : C F S20000 .i32 → C F S20000 .i32 → C F S20000 .i1)
  :: StableHlo.nullary main_c_38 (constantI S_ 32 21280#32)
  :: StableHlo.unary main_c_38 main_v129 (broadcastInDim S20000 ![] bcast_S_S20000 : C F S_ .i32 → C F S20000 .i32)
  :: StableHlo.binary main_v93 main_v129 main_v130 (addi : C F S20000 .i32 → C F S20000 .i32 → C F S20000 .i32)
  :: StableHlo.ternary main_v128 main_v130 main_v93 main_v131 (select : C F S20000 .i1 → C F S20000 .i32 → C F S20000 .i32 → C F S20000 .i32)
  :: StableHlo.unary main_v131 main_v132 (broadcastInDim S20000x1 ![0] bcast_S20000_S20000x1_0 : C F S20000 .i32 → C F S20000x1 .i32)
  :: StableHlo.ternary main_v124 main_v132 main_v126 main_v133 ((fun x i u => Host.scatter scatter_S21280_S20000x1_S20000_n_0_0_1 (fun _ b => b) x i u) : C F S21280 .f32 → C F S20000x1 .i32 → C F S20000 .f32 → C F S21280 .f32)
  :: StableHlo.nullary main_cst_39 (constant S_ .f32 0x00000000#32)
  :: StableHlo.unary main_cst_39 main_v134 (broadcastInDim S21280 ![] bcast_S_S21280 : C F S_ .f32 → C F S21280 .f32)
  :: StableHlo.nullary main_cst_40 (constant S_ .f32 0x3F000000#32)
  :: StableHlo.unary main_cst_40 main_v135 (broadcastInDim S20000 ![] bcast_S_S20000 : C F S_ .f32 → C F S20000 .f32)
  :: StableHlo.binary main_v37 main_v135 main_v136 (cmpf .oge : C F S20000 .f32 → C F S20000 .f32 → C F S20000 .i1) :: [])

/-- The buffers they write, in order. -/
abbrev ops2_W : List (Ref sig .tc) :=
  [main_v91, main_v92, main_v93, main_cst_27, main_v94, main_v95, main_v96, main_c_28, main_v97, main_v98, main_c_29, main_v99, main_v100, main_v101, main_v102, main_v103, main_cst_30, main_v104, main_v105, main_v106, main_c_31, main_v107, main_v108, main_c_32, main_v109, main_v110, main_v111, main_v112, main_v113, main_cst_33, main_v114, main_v115, main_v116, main_c_34, main_v117, main_v118, main_c_35, main_v119, main_v120, main_v121, main_v122, main_v123, main_cst_36, main_v124, main_v125, main_v126, main_c_37, main_v127, main_v128, main_c_38, main_v129, main_v130, main_v131, main_v132, main_v133, main_cst_39, main_v134, main_cst_40, main_v135, main_v136]

/-- The last stretch before the call: the starting flags and the two tables. -/
abbrev ops3 : List (HloOp τ sig (Elt F)) :=
  (StableHlo.unary main_v136 main_v137 (uitofp .f32 : C F S20000 .i1 → C F S20000 .f32)
  :: StableHlo.nullary main_c_41 (constantI S_ 32 0#32)
  :: StableHlo.unary main_c_41 main_v138 (broadcastInDim S20000 ![] bcast_S_S20000 : C F S_ .i32 → C F S20000 .i32)
  :: StableHlo.binary main_v93 main_v138 main_v139 (cmpi .slt : C F S20000 .i32 → C F S20000 .i32 → C F S20000 .i1)
  :: StableHlo.nullary main_c_42 (constantI S_ 32 21280#32)
  :: StableHlo.unary main_c_42 main_v140 (broadcastInDim S20000 ![] bcast_S_S20000 : C F S_ .i32 → C F S20000 .i32)
  :: StableHlo.binary main_v93 main_v140 main_v141 (addi : C F S20000 .i32 → C F S20000 .i32 → C F S20000 .i32)
  :: StableHlo.ternary main_v139 main_v141 main_v93 main_v142 (select : C F S20000 .i1 → C F S20000 .i32 → C F S20000 .i32 → C F S20000 .i32)
  :: StableHlo.unary main_v142 main_v143 (broadcastInDim S20000x1 ![0] bcast_S20000_S20000x1_0 : C F S20000 .i32 → C F S20000x1 .i32)
  :: StableHlo.ternary main_v134 main_v143 main_v137 main_v144 ((fun x i u => Host.scatter scatter_S21280_S20000x1_S20000_n_0_0_1 (fun _ b => b) x i u) : C F S21280 .f32 → C F S20000x1 .i32 → C F S20000 .f32 → C F S21280 .f32)
  :: StableHlo.nullary main_c_43 (constantI S_ 32 0#32)
  :: StableHlo.unary main_c_43 main_v145 (broadcastInDim S96 ![] bcast_S_S96 : C F S_ .i32 → C F S96 .i32)
  :: StableHlo.nullary main_c_44 (constantI S_ 32 0#32)
  :: StableHlo.unary main_c_44 main_v146 (broadcastInDim S1 ![] bcast_S_S1 : C F S_ .i32 → C F S1 .i32)
  :: StableHlo.ternary main_v145 main_v146 main_v72 main_v147 ((fun x i u => Host.scatter scatter_S96_S1_S81_0_n_0_0 (fun _ b => b) x i u) : C F S96 .i32 → C F S1 .i32 → C F S81 .i32 → C F S96 .i32)
  :: StableHlo.nullary main_c_45 (constantI S_ 32 0#32)
  :: StableHlo.unary main_c_45 main_v148 (broadcastInDim S96 ![] bcast_S_S96 : C F S_ .i32 → C F S96 .i32)
  :: StableHlo.nullary main_c_46 (constantI S_ 32 0#32)
  :: StableHlo.unary main_c_46 main_v149 (broadcastInDim S1 ![] bcast_S_S1 : C F S_ .i32 → C F S1 .i32)
  :: StableHlo.ternary main_v148 main_v149 main_v64 main_v150 ((fun x i u => Host.scatter scatter_S96_S1_S80_0_n_0_0 (fun _ b => b) x i u) : C F S96 .i32 → C F S1 .i32 → C F S80 .i32 → C F S96 .i32) :: [])

/-- The buffers they write, in order. -/
abbrev ops3_W : List (Ref sig .tc) :=
  [main_v137, main_c_41, main_v138, main_v139, main_c_42, main_v140, main_v141, main_v142, main_v143, main_v144, main_c_43, main_v145, main_c_44, main_v146, main_v147, main_c_45, main_v148, main_c_46, main_v149, main_v150]

/-- The operations after the call. -/
abbrev opsE : List (HloOp τ sig (Elt F)) :=
  (StableHlo.nullary main_cst_47 (constant S_ .f32 0x00000000#32)
  :: StableHlo.unary main_cst_47 main_v152 (broadcastInDim S20000 ![] bcast_S_S20000 : C F S_ .f32 → C F S20000 .f32)
  :: StableHlo.nullary main_c_48 (constantI S_ 32 0#32)
  :: StableHlo.unary main_c_48 main_v153 (broadcastInDim S20000 ![] bcast_S_S20000 : C F S_ .i32 → C F S20000 .i32)
  :: StableHlo.binary main_v93 main_v153 main_v154 (cmpi .slt : C F S20000 .i32 → C F S20000 .i32 → C F S20000 .i1)
  :: StableHlo.nullary main_c_49 (constantI S_ 32 21280#32)
  :: StableHlo.unary main_c_49 main_v155 (broadcastInDim S20000 ![] bcast_S_S20000 : C F S_ .i32 → C F S20000 .i32)
  :: StableHlo.binary main_v93 main_v155 main_v156 (addi : C F S20000 .i32 → C F S20000 .i32 → C F S20000 .i32)
  :: StableHlo.ternary main_v154 main_v156 main_v93 main_v157 (select : C F S20000 .i1 → C F S20000 .i32 → C F S20000 .i32 → C F S20000 .i32)
  :: StableHlo.unary main_v157 main_v158 (broadcastInDim S20000x1 ![0] bcast_S20000_S20000x1_0 : C F S20000 .i32 → C F S20000x1 .i32)
  :: StableHlo.binary main_v151 main_v158 main_v159 ((fun x i => Host.gather gather_S21280_S20000x1_S20000_n_0_n_n_0_1_1 x i) : C F S21280 .f32 → C F S20000x1 .i32 → C F S20000 .f32)
  :: StableHlo.nullary main_c_50 (constantI S_ 32 0#32)
  :: StableHlo.unary main_c_50 main_v160 (broadcastInDim S20000 ![] bcast_S_S20000 : C F S_ .i32 → C F S20000 .i32)
  :: StableHlo.binary main_v23 main_v160 main_v161 (cmpi .slt : C F S20000 .i32 → C F S20000 .i32 → C F S20000 .i1)
  :: StableHlo.nullary main_c_51 (constantI S_ 32 20000#32)
  :: StableHlo.unary main_c_51 main_v162 (broadcastInDim S20000 ![] bcast_S_S20000 : C F S_ .i32 → C F S20000 .i32)
  :: StableHlo.binary main_v23 main_v162 main_v163 (addi : C F S20000 .i32 → C F S20000 .i32 → C F S20000 .i32)
  :: StableHlo.ternary main_v161 main_v163 main_v23 main_v164 (select : C F S20000 .i1 → C F S20000 .i32 → C F S20000 .i32 → C F S20000 .i32)
  :: StableHlo.unary main_v164 main_v165 (broadcastInDim S20000x1 ![0] bcast_S20000_S20000x1_0 : C F S20000 .i32 → C F S20000x1 .i32)
  :: StableHlo.ternary main_v152 main_v165 main_v159 main_v166 ((fun x i u => Host.scatter scatter_S20000_S20000x1_S20000_n_0_0_1 (fun _ b => b) x i u) : C F S20000 .f32 → C F S20000x1 .i32 → C F S20000 .f32 → C F S20000 .f32)
  :: StableHlo.unary main_v15 main_v167 (broadcastInDim S20000x1 ![0] bcast_S20000_S20000x1_0 : C F S20000 .f32 → C F S20000x1 .f32)
  :: StableHlo.binary main_v8 main_v167 main_v168 ((fun a b => concatenate S20000x5 1 [⟨S20000x4, a⟩, ⟨S20000x1, b⟩] concatenates_S20000x4_S20000x1_S20000x5_d1) : C F S20000x4 .f32 → C F S20000x1 .f32 → C F S20000x5 .f32)
  :: StableHlo.unary main_v166 main_v169 (broadcastInDim S20000x1 ![0] bcast_S20000_S20000x1_0 : C F S20000 .f32 → C F S20000x1 .f32)
  :: StableHlo.nullary main_cst_52 (constant S_ .f32 0x00000000#32)
  :: StableHlo.unary main_cst_52 main_v170 (broadcastInDim S20000x1 ![] bcast_S_S20000x1 : C F S_ .f32 → C F S20000x1 .f32)
  :: StableHlo.binary main_v169 main_v170 main_v171 (cmpf .ogt : C F S20000x1 .f32 → C F S20000x1 .f32 → C F S20000x1 .i1)
  :: StableHlo.nullary main_cst_53 (constant S_ .f32 0x00000000#32)
  :: StableHlo.unary main_cst_53 main_call5_v0 (id : C F S_ .f32 → C F S_ .f32)
  :: StableHlo.unary main_v171 main_call5_v1 ((broadcastInDim S20000x5 ![0, 1] bcast_S20000x1_S20000x5_0_1) : C F S20000x1 .i1 → C F S20000x5 .i1)
  :: StableHlo.unary main_call5_v0 main_call5_v2 ((broadcastInDim S20000x5 ![] bcast_S_S20000x5) : C F S_ .f32 → C F S20000x5 .f32)
  :: StableHlo.ternary main_call5_v1 main_v168 main_call5_v2 main_v172 (select : C F S20000x5 .i1 → C F S20000x5 .f32 → C F S20000x5 .f32 → C F S20000x5 .f32) :: [])

/-- The buffers they write, in order. -/
abbrev opsE_W : List (Ref sig .tc) :=
  [main_cst_47, main_v152, main_c_48, main_v153, main_v154, main_c_49, main_v155, main_v156, main_v157, main_v158, main_v159, main_c_50, main_v160, main_v161, main_c_51, main_v162, main_v163, main_v164, main_v165, main_v166, main_v167, main_v168, main_v169, main_cst_52, main_v170, main_v171, main_cst_53, main_call5_v0, main_call5_v1, main_call5_v2, main_v172]

theorem ops0_writes : (ops0 (F := F)).map HloOp.writes = ops0_W.map (fun r => {Proc.devRef (τ := τ) .tc r}) := rfl
theorem ops0_fresh : (ops0 (F := F)).Forall fun op => op.fresh = ∅ := forall_fresh_of_map rfl
theorem ops0_sub : (ops0 (F := F)).Forall fun op => op.bufs ⊆ tcRefs τ sig :=
  ⟨StableHlo.unary_bufs_sub .., StableHlo.nullary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.nullary_bufs_sub ..⟩
theorem ops1_writes : (ops1 (F := F)).map HloOp.writes = ops1_W.map (fun r => {Proc.devRef (τ := τ) .tc r}) := rfl
theorem ops1_fresh : (ops1 (F := F)).Forall fun op => op.fresh = ∅ := forall_fresh_of_map rfl
theorem ops1_sub : (ops1 (F := F)).Forall fun op => op.bufs ⊆ tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.binary_bufs_sub .., StableHlo.nullary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub ..⟩
theorem ops2_writes : (ops2 (F := F)).map HloOp.writes = ops2_W.map (fun r => {Proc.devRef (τ := τ) .tc r}) := rfl
theorem ops2_fresh : (ops2 (F := F)).Forall fun op => op.fresh = ∅ := forall_fresh_of_map rfl
theorem ops2_sub : (ops2 (F := F)).Forall fun op => op.bufs ⊆ tcRefs τ sig :=
  ⟨StableHlo.binary_bufs_sub .., StableHlo.binary_bufs_sub .., StableHlo.binary_bufs_sub .., StableHlo.nullary_bufs_sub .., StableHlo.unary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.nullary_bufs_sub .., StableHlo.unary_bufs_sub .., StableHlo.binary_bufs_sub ..⟩
theorem ops3_writes : (ops3 (F := F)).map HloOp.writes = ops3_W.map (fun r => {Proc.devRef (τ := τ) .tc r}) := rfl
theorem ops3_fresh : (ops3 (F := F)).Forall fun op => op.fresh = ∅ := forall_fresh_of_map rfl
theorem ops3_sub : (ops3 (F := F)).Forall fun op => op.bufs ⊆ tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.nullary_bufs_sub .., StableHlo.unary_bufs_sub .., StableHlo.ternary_bufs_sub .., StableHlo.nullary_bufs_sub .., StableHlo.unary_bufs_sub .., StableHlo.nullary_bufs_sub .., StableHlo.unary_bufs_sub .., StableHlo.ternary_bufs_sub ..⟩
theorem opsE_writes : (opsE (F := F)).map HloOp.writes = opsE_W.map (fun r => {Proc.devRef (τ := τ) .tc r}) := rfl
theorem opsE_fresh : (opsE (F := F)).Forall fun op => op.fresh = ∅ := forall_fresh_of_map rfl
theorem opsE_sub : (opsE (F := F)).Forall fun op => op.bufs ⊆ tcRefs τ sig :=
  ⟨StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.ternary_bufs_sub ..⟩

end Cert.Proof.Nms

end
-- ==== Proof.Parts.lean ====
/-
  The program's stretches are their lists.
-/
module

public import proofs.«01_k».proof.Proof.Ops
public import Idealize.ShloMosaic.Lib.Pipeline.Regions

@[expose] public section

noncomputable section

namespace Cert.Proof.Nms

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Words

variable {F : FTy → Type} [FloatOps F]

local notation "𝕄" => MT nD τ sig (HIx 1) (Elt F) ℕ UU ℕ

open Idealize.ShloMosaic.StableHlo

theorem part0_eq (d : Dev nD) : main_part0 (F := F) d = seq ops0 := rfl
theorem part1_eq (d : Dev nD) : main_part1 (F := F) d = seq ops1 := by
  chain_rfl
theorem part2_eq (d : Dev nD) : main_part2 (F := F) d = seq ops2 := rfl
theorem part3_eq (d : Dev nD) : main_part3 (F := F) d = (seq ops3 >>= fun _ => (sc (F := F)).run d 0 >>= fun _ => seq opsE) := by
  rw [seq_bind_seqK]; rfl

end Cert.Proof.Nms

end
-- ==== Proof.Launch.lean ====
/-
  The launch: what the call's handshakes carry, the split of the operands between the tiles, the program on the
  TensorCore, and the run it gives.
-/
module

public import proofs.«01_k».proof.Proof.Tile
public import proofs.«01_k».proof.Proof.Parts

@[expose] public section

noncomputable section

namespace Cert.Proof.Nms

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Words

variable {F : FTy → Type} [FloatOps F]

local notation "𝕄" => MT nD τ sig (HIx 1) (Elt F) ℕ UU ℕ

open Idealize.ShloMosaic.StableHlo

section Call

variable (m : (ℓ : Loc nD τ sig) → Buf (Elt F) ℓ) (d : Dev nD)

/-! ## What the handshakes carry -/

/-- A tile's share of an operand. -/
def sh (w : ℕ) : PosShare TreeShare := ShareLeaves.leaf 5 fullShare (Fin.ofNat 32 w)

/-- What a tile takes, and what it brings back. -/
def goPts (c : ℕ) (i : ℕ) (f : Buf (Elt F) (outLoc d)) : sProp 𝕄 := tilePts m d (i * 2 + c) (sh (i * 2 + c)) f

/-- What a SparseCore takes, and what it brings back: its tiles' all. -/
def corePts (c : ℕ) (f : Buf (Elt F) (outLoc d)) : sProp 𝕄 := bigSep Finset.univ fun i : Fin 16 => goPts m d c i.val f

instance goPts_storable (c i : ℕ) (f : Buf (Elt F) (outLoc d)) : BI.Storable (upEmb : UEmb _ 𝕄) (goPts m d c i f) := by
  unfold goPts tilePts; infer_instance
instance corePts_storable (c : ℕ) (f : Buf (Elt F) (outLoc d)) : BI.Storable (upEmb : UEmb _ 𝕄) (corePts m d c f) := by
  unfold corePts; infer_instance

end Call

section Pays

variable (m : (ℓ : Loc nD τ sig) → Buf (Elt F) ℓ)

/-- The call's payments, over the memory at the call. -/
def P : (K (F := F)).Pay (nD := nD) (Val := Elt F) (Name := ℕ) (U := UU) where
  st := fun q d c => match q with | 0 => corePts m d c.val (m (outLoc d))
  dn := fun q d c => match q with | 0 => corePts m d c.val (result m d)
  go := fun q d c i => match q with | 0 => goPts m d c.val i.val (m (outLoc d))
  td := fun q d c i => match q with | 0 => goPts m d c.val i.val (result m d)
  x := fun _ _ => iprop(emp)

instance P_storable : (P (F := F) m).IsStorable where
  st q d c := match q with | 0 => (inferInstance : BI.Storable (upEmb : UEmb _ 𝕄) (corePts m d c.val (m (outLoc d))))
  dn q d c := match q with | 0 => (inferInstance : BI.Storable (upEmb : UEmb _ 𝕄) (corePts m d c.val (result m d)))
  go q d c i := match q with | 0 => (inferInstance : BI.Storable (upEmb : UEmb _ 𝕄) (goPts m d c.val i.val (m (outLoc d))))
  td q d c i := match q with | 0 => (inferInstance : BI.Storable (upEmb : UEmb _ 𝕄) (goPts m d c.val i.val (result m d)))

/-- What the proof asks of the two tables: the classes' blocks in order, from zero. -/
structure Tabs : Prop where
  tab : ∀ d, Tab (pst m d) (vct m d)
  zero : ∀ d, pst m d 0 = 0

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__nms_body (coordsV c s) x1H (Memref.isWhole_whole _) y1H (Memref.isWhole_whole _) x2H (Memref.isWhole_whole _) y2H (Memref.isWhole_whole _) k0H (Memref.isWhole_whole _) sgH (Memref.isWhole_whole _) vcH (Memref.isWhole_whole _) outH (Memref.isWhole_whole _) x1S (Memref.isWhole_whole _) y1S (Memref.isWhole_whole _) x2S (Memref.isWhole_whole _) y2S (Memref.isWhole_whole _) kS (Memref.isWhole_whole _) sgS (Memref.isWhole_whole _) vcS (Memref.isWhole_whole _) cc0_scoped0 cc0_scoped1 cc0_scoped2 cc0_scoped3 cc0_scoped4 cc0_scoped5 cc0_scoped6 cc0_scoped7 cc0_scoped8) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile runs its body from its share to its share of the result. -/
theorem tileObl (hF : (K (F := F)).Facts) (hT : Tabs m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF (sh (i.val * 2 + c.val)) (hT.tab d) O W hO).trans (wp_mono frame _ _ fun _ => obl_post)

theorem vecSplit : (K (F := F)).VecSplit' (P m) 0 := by
  intro d c
  show corePts m d c.val (m (outLoc d)) ⊢ |={Set.univ}=> iprop(corePts m d c.val (m (outLoc d)) ∗ (corePts m d c.val (result m d) -∗ corePts m d c.val (result m d)))
  iintro H; imodintro
  isplitl [H]; · iexact H
  iintro H; iexact H

end Pays

end Cert.Proof.Nms

end
-- ==== Proof.Split.lean ====
/-
  The operands split between the tiles: a thirty-second share of each operand, and the tile's own positions of the
  result; the positions behind the last class stay where they were.
-/
module

public import proofs.«01_k».proof.Proof.Launch

@[expose] public section

noncomputable section

namespace Cert.Proof.Nms

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Words

variable {F : FTy → Type} [FloatOps F]

local notation "𝕄" => MT nD τ sig (HIx 1) (Elt F) ℕ UU ℕ

open Idealize.ShloMosaic.StableHlo

variable (m : (ℓ : Loc nD τ sig) → Buf (Elt F) ℓ) (d : Dev nD)

/-- The positions behind the last class. -/
def tailSet : Finset S21280.Idx := Finset.univ \ (Finset.univ : Finset (Fin (2 ^ 5))).biUnion fun w => outSet m d w.val

theorem outSets_disjoint (T : Tab (pst m d) (vct m d)) :
    ∀ i ∈ (Finset.univ : Finset (Fin (2 ^ 5))), ∀ j ∈ (Finset.univ : Finset (Fin (2 ^ 5))), i ≠ j → Disjoint (outSet m d i.val) (outSet m d j.val) := by
  intro i _ j _ h
  rw [Finset.disjoint_left]
  intro x hx hy
  rw [mem_outSet] at hx hy
  have hi : i.val < 32 := i.isLt
  have hj : j.val < 32 := j.isLt
  rcases Nat.lt_or_ge i.val j.val with hl | hl
  · have := T.mono (lo_mono (show i.val + 1 ≤ j.val by omega)) (by unfold lo; omega); omega
  · have hne : i.val ≠ j.val := fun e => h (Fin.ext e)
    have := T.mono (lo_mono (show j.val + 1 ≤ i.val by omega)) (by unfold lo; omega); omega

/-- Every class has its tile. -/
theorem tile_of_class : ∀ c < 80, ∃ w < 32, lo w ≤ c ∧ c + 1 ≤ lo (w + 1) := by unfold lo; decide

/-- The positions behind the last class are at or behind its end. -/
theorem le_of_mem_tail (T : Tab (pst m d) (vct m d)) (h0 : pst m d 0 = 0) (x : S21280.Idx) (hx : x ∈ tailSet m d) : pst m d 80 ≤ (x 0).val := by
  by_contra hlt
  obtain ⟨k, hk, h1, h2⟩ := exists_class T 0 80 (by omega) (by omega) (x 0).val (by omega) (by omega)
  obtain ⟨w, hw, h3, h4⟩ := tile_of_class (0 + k) (by omega)
  have e1 := T.mono h3 (by omega)
  have e2 := T.mono h4 (by unfold lo; omega)
  refine (Finset.mem_sdiff.mp hx).2 (Finset.mem_biUnion.mpr ⟨⟨w, hw⟩, Finset.mem_univ _, (mem_outSet m d w x).mpr ⟨?_, ?_⟩⟩)
  · omega
  · omega

/-- The call's operands and its result whole. -/
def allPts (f : Buf (Elt F) (outLoc d)) : sProp 𝕄 :=
  iprop((x1Loc d ↦{fullShare} m (x1Loc d)) ∗ (y1Loc d ↦{fullShare} m (y1Loc d)) ∗ (x2Loc d ↦{fullShare} m (x2Loc d)) ∗ (y2Loc d ↦{fullShare} m (y2Loc d))
    ∗ (k0Loc d ↦{fullShare} m (k0Loc d)) ∗ (sgLoc d ↦{fullShare} m (sgLoc d)) ∗ (vcLoc d ↦{fullShare} m (vcLoc d)) ∗ (outLoc d ↦{fullShare} f))

theorem cores_eq (f : Buf (Elt F) (outLoc d)) :
    (bigSep Finset.univ fun c : Fin 2 => corePts m d c.val f)
      = bigSep Finset.univ fun w : Fin (2 ^ 5) => tilePts m d w.val (ShareLeaves.leaf 5 fullShare w) f := by
  have e : (bigSep Finset.univ fun w : Fin (2 ^ 5) => tilePts m d w.val (ShareLeaves.leaf 5 fullShare w) f)
      = bigSep Finset.univ fun p : Fin 16 × Fin 2 => goPts m d p.2.val p.1.val f := by
    rw [bigSep_univ_equiv (show Fin 16 × Fin 2 ≃ Fin (2 ^ 5) from finProdFinEquiv)]
    refine bigSep_congr fun p _ => ?_
    have h1 := p.1.isLt; have h2 := p.2.isLt
    have hv : ((show Fin 16 × Fin 2 ≃ Fin (2 ^ 5) from finProdFinEquiv) p).val = p.1.val * 2 + p.2.val := by
      show p.2.val + 2 * p.1.val = _; omega
    unfold goPts sh
    rw [hv]
    congr 2
    refine Fin.ext (hv.trans ?_)
    show _ = (p.1.val * 2 + p.2.val) % 32
    omega
  rw [e, bigSep_univ_prod, bigSep_univ_comm]
  rfl

theorem assoc8 (A1 A2 A3 A4 A5 A6 A7 A8 A9 : sProp 𝕄) :
    iprop(A1 ∗ A2 ∗ A3 ∗ A4 ∗ A5 ∗ A6 ∗ A7 ∗ A8 ∗ A9) = iprop((A1 ∗ A2 ∗ A3 ∗ A4 ∗ A5 ∗ A6 ∗ A7 ∗ A8) ∗ A9) := by
  have h1 : iprop(A1 ∗ A2 ∗ A3 ∗ A4 ∗ A5 ∗ A6 ∗ A7 ∗ A8 ∗ A9) ⊢ iprop((A1 ∗ A2 ∗ A3 ∗ A4 ∗ A5 ∗ A6 ∗ A7 ∗ A8) ∗ A9) := by
    iintro ⟨H1, H2, H3, H4, H5, H6, H7, H8, H9⟩
    isplitr [H9]
    · isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · iexact H9
  have h2 : iprop((A1 ∗ A2 ∗ A3 ∗ A4 ∗ A5 ∗ A6 ∗ A7 ∗ A8) ∗ A9) ⊢ iprop(A1 ∗ A2 ∗ A3 ∗ A4 ∗ A5 ∗ A6 ∗ A7 ∗ A8 ∗ A9) := by
    iintro ⟨⟨H1, H2, H3, H4, H5, H6, H7, H8⟩, H9⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  exact BI.Entails.antisymm h1 h2

/-- The whole splits between the tiles, the positions behind the last class left over. -/
theorem all_split (T : Tab (pst m d) (vct m d)) (f : Buf (Elt F) (outLoc d)) :
    allPts m d f = iprop((bigSep Finset.univ fun c : Fin 2 => corePts m d c.val f) ∗ (outLoc d ↦[tailSet m d]{fullShare} f)) := by
  have leaves : ∀ (ℓ : Loc nD τ sig) (g : Buf (Elt F) ℓ), (ℓ ↦{fullShare} g : sProp 𝕄)
      = bigSep Finset.univ fun w : Fin (2 ^ 5) => ℓ ↦{ShareLeaves.leaf 5 fullShare w} g := fun ℓ g => ShareLeaves.pointsTo_leaves Finset.univ g 5 fullShare
  have ho : (outLoc d ↦{fullShare} f : sProp 𝕄) = iprop((bigSep Finset.univ fun w : Fin (2 ^ 5) => outLoc d ↦[outSet m d w.val]{fullShare} f)
      ∗ (outLoc d ↦[tailSet m d]{fullShare} f)) := by
    have h := pointsTo_split_subset (nD := nD) (τ := τ) (sig := sig) (Ix := HIx 1) (Val := Elt F) (Name := ℕ) (U := UU) (Lvl := ℕ) (ℓ := outLoc d) (q := fullShare) (f := f) (Finset.subset_univ ((Finset.univ : Finset (Fin (2 ^ 5))).biUnion fun w => outSet m d w.val))
    rw [BI.Entails.antisymm h.1 h.2, pointsTo_biUnion Finset.univ (ℓ := outLoc d) (fun w : Fin (2 ^ 5) => outSet m d w.val) (outSets_disjoint m d T)]
    rfl
  rw [cores_eq]
  unfold tilePts allPts
  rw [bigSep_sep', bigSep_sep', bigSep_sep', bigSep_sep', bigSep_sep', bigSep_sep', bigSep_sep', ← leaves, ← leaves, ← leaves, ← leaves, ← leaves, ← leaves, ← leaves, ho]
  exact assoc8 _ _ _ _ _ _ _ _ _

/-- Behind the last class the result is what was there. -/
theorem tail_result (hT : Tabs m) : (outLoc d ↦[tailSet m d]{fullShare} m (outLoc d) : sProp 𝕄) = (outLoc d ↦[tailSet m d]{fullShare} result m d) := by
  refine pointsTo_congr fun i hi => ?_
  have := le_of_mem_tail m d (hT.tab d) (hT.zero d) i hi
  unfold result
  rw [if_neg (by omega)]

end Cert.Proof.Nms

end
-- ==== Proof.Main.lean ====
/-
  The program on the TensorCore: the operations before the call, the call, the operations behind it; the launch and the
  run it gives.
-/
module

public import proofs.«01_k».proof.Proof.Split

@[expose] public section

noncomputable section

namespace Cert.Proof.Nms

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Words

variable {F : FTy → Type} [FloatOps F]

local notation "𝕄" => MT nD τ sig (HIx 1) (Elt F) ℕ UU ℕ

open Idealize.ShloMosaic.StableHlo

section Vals

variable (m : (ℓ : Loc nD τ sig) → Buf (Elt F) ℓ)

/-- The buffers' contents at the call. -/
def callVal (d : Dev nD) : Valuation τ sig (Elt F) := after ops3 (after ops2 (after ops1 (after ops0 (launchContents m d))))
/-- The memory at the call. -/
def callMem : (ℓ : Loc nD τ sig) → Buf (Elt F) ℓ := fun ℓ => callVal m ℓ.1 ℓ.2
/-- The buffers' contents behind the call. -/
def resVal (d : Dev nD) : Valuation τ sig (Elt F) := Function.update (callVal m d) (Proc.devRef .tc main_v151) (result (callMem m) d)
/-- The buffers' contents at the end. -/
def endVal (d : Dev nD) : Valuation τ sig (Elt F) := after opsE (resVal m d)

theorem arg_after (r : Ref sig .tc) (h0 : r ∉ ops0_W) (h1 : r ∉ ops1_W) (h2 : r ∉ ops2_W) (h3 : r ∉ ops3_W) (hE : r ∉ opsE_W) (ho : r ≠ main_v151)
    (d : Dev nD) : endVal m d (Proc.devRef .tc r) = m (d, Proc.devRef .tc r) := by
  unfold endVal resVal callVal
  rw [after_of_writes_sub opsE _ (forall_writes_sub_of_map opsE_writes) hE, Function.update_of_ne (fun e => ho (Proc.devRef_injective _ e)),
    after_of_writes_sub ops3 _ (forall_writes_sub_of_map ops3_writes) h3, after_of_writes_sub ops2 _ (forall_writes_sub_of_map ops2_writes) h2,
    after_of_writes_sub ops1 _ (forall_writes_sub_of_map ops1_writes) h1, after_of_writes_sub ops0 _ (forall_writes_sub_of_map ops0_writes) h0]

/-- The arguments end as they were. -/
theorem arg0_end (d : Dev nD) : endVal m d (Proc.devRef .tc main_arg0) = m (d, Proc.devRef .tc main_arg0) :=
  arg_after m main_arg0 (by decide) (by decide) (by decide) (by decide) (by decide) (by decide) d
theorem arg1_end (d : Dev nD) : endVal m d (Proc.devRef .tc main_arg1) = m (d, Proc.devRef .tc main_arg1) :=
  arg_after m main_arg1 (by decide) (by decide) (by decide) (by decide) (by decide) (by decide) d
theorem arg2_end (d : Dev nD) : endVal m d (Proc.devRef .tc main_arg2) = m (d, Proc.devRef .tc main_arg2) :=
  arg_after m main_arg2 (by decide) (by decide) (by decide) (by decide) (by decide) (by decide) d

end Vals

/-! ## The launch's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ (m : (ℓ : Loc nD τ sig) → Buf (Elt F) ℓ) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The operands among the buffers -/

/-- The call's operands and its result. -/
def refs8 : Finset (DevRef τ sig) :=
  {Proc.devRef .tc main_v103, Proc.devRef .tc main_v113, Proc.devRef .tc main_v123, Proc.devRef .tc main_v133, Proc.devRef .tc main_v144, Proc.devRef .tc main_v147, Proc.devRef .tc main_v150, Proc.devRef .tc main_v151}
/-- The arguments and the program's result. -/
def refs4 : Finset (DevRef τ sig) :=
  {Proc.devRef .tc main_arg0, Proc.devRef .tc main_arg1, Proc.devRef .tc main_arg2, Proc.devRef .tc main_v172}

theorem mem_uc (r : Ref sig .tc) (h : (Proc.devRef (τ := τ) .tc r).isScoped = false) : Proc.devRef (τ := τ) .tc r ∈ Pipeline.ucRefs τ sig :=
  Finset.mem_filter.mpr ⟨Finset.mem_map.mpr ⟨r, Finset.mem_univ _, rfl⟩, by rw [h]; exact Bool.false_ne_true⟩

theorem refs8_sub : refs8 ⊆ Pipeline.ucRefs τ sig := by
  intro b hb
  simp only [refs8, Finset.mem_insert, Finset.mem_singleton] at hb
  rcases hb with rfl | rfl | rfl | rfl | rfl | rfl | rfl | rfl <;> exact mem_uc _ rfl
theorem refs4_sub : refs4 ⊆ Pipeline.ucRefs τ sig := by
  intro b hb
  simp only [refs4, Finset.mem_insert, Finset.mem_singleton] at hb
  rcases hb with rfl | rfl | rfl | rfl <;> exact mem_uc _ rfl

variable (m : (ℓ : Loc nD τ sig) → Buf (Elt F) ℓ) (ρ : Dev nD → PrngReg)

theorem held8 (d : Dev nD) (V : Valuation τ sig (Elt F)) : (held d.tc refs8 V : sProp 𝕄)
    = iprop((x1Loc d ↦{fullShare} V (Proc.devRef .tc main_v103)) ∗ (y1Loc d ↦{fullShare} V (Proc.devRef .tc main_v113)) ∗ (x2Loc d ↦{fullShare} V (Proc.devRef .tc main_v123))
      ∗ (y2Loc d ↦{fullShare} V (Proc.devRef .tc main_v133)) ∗ (k0Loc d ↦{fullShare} V (Proc.devRef .tc main_v144)) ∗ (sgLoc d ↦{fullShare} V (Proc.devRef .tc main_v147))
      ∗ (vcLoc d ↦{fullShare} V (Proc.devRef .tc main_v150)) ∗ (outLoc d ↦{fullShare} V (Proc.devRef .tc main_v151))) := by
  unfold held refs8
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem held_call (d : Dev nD) : (held d.tc (Pipeline.ucRefs τ sig) (callVal m d) : sProp 𝕄)
    = iprop(allPts (callMem m) d (callMem m (outLoc d)) ∗ held d.tc (Pipeline.ucRefs τ sig \ refs8) (callVal m d)) := by
  rw [held_sub_split d.tc refs8_sub, held8]; rfl

theorem held_res (d : Dev nD) : (held d.tc (Pipeline.ucRefs τ sig) (resVal m d) : sProp 𝕄)
    = iprop(allPts (callMem m) d (result (callMem m) d) ∗ held d.tc (Pipeline.ucRefs τ sig \ refs8) (callVal m d)) := by
  have hne : ∀ r : Ref sig .tc, r ≠ main_v151 → resVal m d (Proc.devRef .tc r) = callVal m d (Proc.devRef .tc r) :=
    fun r h => Function.update_of_ne (fun e => h (Proc.devRef_injective _ e)) _ _
  rw [held_sub_split d.tc refs8_sub, held8, hne _ (by decide), hne _ (by decide), hne _ (by decide), hne _ (by decide), hne _ (by decide), hne _ (by decide), hne _ (by decide),
    held_congr d.tc (V := resVal m d) (V' := callVal m d) (S := Pipeline.ucRefs τ sig \ refs8) fun b hb =>
      Function.update_of_ne (fun e => (Finset.mem_sdiff.mp hb).2 (by rw [e]; decide)) _ _]
  rw [show resVal m d (Proc.devRef .tc main_v151) = result (callMem m) d from Function.update_self _ _ _]
  rfl

/-- What the program ends with. -/
abbrev FIN (d : Dev nD) : sProp 𝕄 := held d.tc refs4 (endVal m d)

theorem st0_eq (d : Dev nD) : (bigSep Finset.univ fun c : Fin ((K (F := F)).nCore 0) => (P (callMem m)).st 0 d c)
    = bigSep Finset.univ fun c : Fin 2 => corePts (callMem m) d c.val (callMem m (outLoc d)) := rfl
theorem dn0_eq (d : Dev nD) : (bigSep Finset.univ fun c : Fin ((K (F := F)).nCore 0) => (P (callMem m)).dn 0 d c)
    = bigSep Finset.univ fun c : Fin 2 => corePts (callMem m) d c.val (result (callMem m) d) := rfl

theorem main_eq (d : Dev nD) : main (F := F) d
    = (seq ops0 >>= fun _ => seq ops1 >>= fun _ => seq ops2 >>= fun _ => seq ops3 >>= fun _ => (sc (F := F)).run d 0 >>= fun _ => seq opsE >>= fun _ => pure ⟨⟩) := by
  unfold main
  rw [part0_eq, part1_eq, part2_eq, part3_eq]
  have e : ∀ p : Prog (TpuEff nD τ sig (Elt F) (SparseCore.Sig (Pipeline.Sig Λ₀ (Fin 0) fun p => (pcfgs (F := F) p).Adm) 1) .tc) PUnit, (p >>= fun _ => pure ⟨⟩) = p := fun p => bind_pure p
  rw [e]

/-- @main on device `d`'s TensorCore: the operations before the call, the call, the operations behind it. -/
theorem hmain (hT : Tabs (callMem m)) (κ : GSem nD τ sig → ℕ) (d : Dev nD) :
    iprop((K (F := F)).ctx EH (P (callMem m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = held d.tc (Pipeline.ucRefs τ sig) (launchContents m d) from
    Pipeline.unscopedBufs_held d (launchContents m d)]
  iintro ⟨#Hctx, Hst, ⟨Hb, Hh, Hts, -⟩, -⟩
  ihave H := (wp_seq 𝒱 none Set.univ d (Pipeline.ucRefs τ sig) _ ops0 (fun op h => Pipeline.sub_ucRefs op ((List.forall_iff_forall_mem.mp ops0_sub) op h)) (fun op h => (List.forall_iff_forall_mem.mp ops0_fresh) op h) _) $$ [Hb Hh]
  · isplitl [Hb] <;> iassumption
  iapply H
  iintro ⟨Hb, Hh⟩
  ihave H := (wp_seq 𝒱 none Set.univ d (Pipeline.ucRefs τ sig) _ ops1 (fun op h => Pipeline.sub_ucRefs op ((List.forall_iff_forall_mem.mp ops1_sub) op h)) (fun op h => (List.forall_iff_forall_mem.mp ops1_fresh) op h) _) $$ [Hb Hh]
  · isplitl [Hb] <;> iassumption
  iapply H
  iintro ⟨Hb, Hh⟩
  ihave H := (wp_seq 𝒱 none Set.univ d (Pipeline.ucRefs τ sig) _ ops2 (fun op h => Pipeline.sub_ucRefs op ((List.forall_iff_forall_mem.mp ops2_sub) op h)) (fun op h => (List.forall_iff_forall_mem.mp ops2_fresh) op h) _) $$ [Hb Hh]
  · isplitl [Hb] <;> iassumption
  iapply H
  iintro ⟨Hb, Hh⟩
  ihave H := (wp_seq 𝒱 none Set.univ d (Pipeline.ucRefs τ sig) _ ops3 (fun op h => Pipeline.sub_ucRefs op ((List.forall_iff_forall_mem.mp ops3_sub) op h)) (fun op h => (List.forall_iff_forall_mem.mp ops3_fresh) op h) _) $$ [Hb Hh]
  · isplitl [Hb] <;> iassumption
  iapply H
  iintro ⟨Hb, Hh⟩
  ihave Hh0 := (Entails.of_eq (show (held d.tc (Pipeline.ucRefs τ sig) (after ops3 (after ops2 (after ops1 (after ops0 (launchContents m d))))) : sProp 𝕄) = held d.tc (Pipeline.ucRefs τ sig) (callVal m d) from rfl)) $$ Hh
  ihave Hh' := (Entails.of_eq (held_call m d)) $$ Hh0
  icases Hh' with ⟨Ha, Hrest⟩
  ihave Ha' := (Entails.of_eq (all_split (callMem m) d (hT.tab d) _)) $$ Ha
  icases Ha' with ⟨Hc, Ht⟩
  rw [wp_bind]
  iapply ((K (F := F)).wp_run (D (F := F)) 𝒱 (EH := EH) (P := P (callMem m)) κ d 0) $$ [Hst Hc Ht Hrest Hb Hts]
  isplitr; · iexact Hctx
  isplitl [Hst]; · iexact Hst
  isplitl [Hc]
  · rw [st0_eq]; iexact Hc
  iintro ⟨Hst, Hdn⟩
  ihave Hc := (Entails.of_eq (dn0_eq m d)) $$ Hdn
  ihave Ht' := (Entails.of_eq (tail_result (callMem m) d hT)) $$ Ht
  ihave Ha := (Entails.of_eq (all_split (callMem m) d (hT.tab d) (result (callMem m) d)).symm) $$ [Hc Ht']
  · isplitl [Hc] <;> iassumption
  ihave Hh := (Entails.of_eq (held_res m d).symm) $$ [Ha Hrest]
  · isplitl [Ha] <;> iassumption
  ihave H := (wp_seq 𝒱 none Set.univ d (Pipeline.ucRefs τ sig) _ opsE (fun op h => Pipeline.sub_ucRefs op ((List.forall_iff_forall_mem.mp opsE_sub) op h)) (fun op h => (List.forall_iff_forall_mem.mp opsE_fresh) op h) _) $$ [Hb Hh]
  · isplitl [Hb] <;> iassumption
  iapply H
  iintro ⟨Hb, Hh⟩
  ihave Hh0 := (Entails.of_eq (show (held d.tc (Pipeline.ucRefs τ sig) (after opsE (resVal m d)) : sProp 𝕄) = held d.tc (Pipeline.ucRefs τ sig) (endVal m d) from rfl)) $$ Hh
  ihave Hh' := (Entails.of_eq (held_sub_split d.tc refs4_sub (endVal m d))) $$ Hh0
  icases Hh' with ⟨Hf, -⟩
  rw [wp_pure]
  imodintro
  isplitl [Hst]; · iexact Hst
  isplitl [Hf]; · iexact Hf
  isplitl [Hb] <;> iassumption

def fq (d : Dev nD) (s' : Phys nD τ sig (Elt F)) : Prop := ∀ r ∈ refs4, s'.mem.mem (d, r) = endVal m d r

theorem held4 (d : Dev nD) (V : Valuation τ sig (Elt F)) : (held d.tc refs4 V : sProp 𝕄)
    = iprop(((d, Proc.devRef .tc main_arg0) ↦{fullShare} V (Proc.devRef .tc main_arg0)) ∗ ((d, Proc.devRef .tc main_arg1) ↦{fullShare} V (Proc.devRef .tc main_arg1))
      ∗ ((d, Proc.devRef .tc main_arg2) ↦{fullShare} V (Proc.devRef .tc main_arg2)) ∗ ((d, Proc.devRef .tc main_v172) ↦{fullShare} V (Proc.devRef .tc main_v172))) := by
  unfold held refs4
  rw [SparseCore.bigSep_insert' (by decide), SparseCore.bigSep_insert' (by decide), SparseCore.bigSep_insert' (by decide), bigSep_singleton]

set_option maxRecDepth 16384 in
theorem hfin (d : Dev nD) (s' : Phys nD τ sig (Elt F)) : iprop(FIN m d ∗ SI s') ⊢ (⌜fq m d s'⌝ : sProp 𝕄) := by
  unfold FIN
  rw [held4]
  iintro ⟨⟨H0, H1, H2, H3⟩, HSI⟩
  ihave H := (persistent_entails_right (SI_pointsTo_agree (st := s') (ℓ := (d, Proc.devRef .tc main_arg0)) (I := Finset.univ) (q := fullShare) (f := endVal m d (Proc.devRef .tc main_arg0)))) $$ [HSI H0]
  · isplitl [HSI] <;> iassumption
  icases H with ⟨%h0, HSI, -⟩
  ihave H := (persistent_entails_right (SI_pointsTo_agree (st := s') (ℓ := (d, Proc.devRef .tc main_arg1)) (I := Finset.univ) (q := fullShare) (f := endVal m d (Proc.devRef .tc main_arg1)))) $$ [HSI H1]
  · isplitl [HSI] <;> iassumption
  icases H with ⟨%h1, HSI, -⟩
  ihave H := (persistent_entails_right (SI_pointsTo_agree (st := s') (ℓ := (d, Proc.devRef .tc main_arg2)) (I := Finset.univ) (q := fullShare) (f := endVal m d (Proc.devRef .tc main_arg2)))) $$ [HSI H2]
  · isplitl [HSI] <;> iassumption
  icases H with ⟨%h2, HSI, -⟩
  ihave H := (SI_pointsTo_agree (st := s') (ℓ := (d, Proc.devRef .tc main_v172)) (I := Finset.univ) (q := fullShare) (f := endVal m d (Proc.devRef .tc main_v172))) $$ [HSI H3]
  · isplitl [HSI] <;> iassumption
  icases H with %h3
  ipureintro
  intro r hr
  simp only [refs4, Finset.mem_insert, Finset.mem_singleton] at hr
  rcases hr with rfl | rfl | rfl | rfl
  · exact funext fun i => h0 i (Finset.mem_univ i)
  · exact funext fun i => h1 i (Finset.mem_univ i)
  · exact funext fun i => h2 i (Finset.mem_univ i)
  · exact funext fun i => h3 i (Finset.mem_univ i)

/-! ## The program's run -/

/-- What the run ends with: the result, the arguments as they were, every counter at zero. -/
def QC : PUnit × MemSt nD τ sig (Elt F) → Prop := fun r =>
  (∀ d : Dev nD, r.2.mem (d, Proc.devRef .tc main_v172) = endVal m d (Proc.devRef .tc main_v172) ∧ r.2.mem (d, Proc.devRef .tc main_arg0) = m (d, Proc.devRef .tc main_arg0)
    ∧ r.2.mem (d, Proc.devRef .tc main_arg1) = m (d, Proc.devRef .tc main_arg1) ∧ r.2.mem (d, Proc.devRef .tc main_arg2) = m (d, Proc.devRef .tc main_arg2))
  ∧ r.2.sem = fun _ => 0

/-- From any memory whose two tables at the call are in order, the program runs, ends with its operations' result and
    leaves its arguments, every semaphore at zero. -/
theorem run_main [∀ e, Nonempty (Elt F e)] (hT : Tabs (callMem m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (callMem m)) (A := ∅) facts v₀
    (fun q hq => match q with | 0 => nomatch hq)
    (fun q _ => match q with | 0 => tileObl (callMem m) facts hT)
    (fun q _ => match q with | 0 => SparseCore.Cfg.VecSplit.of_plain (vecSplit (callMem m)))
    m ρ main (fun _ => iprop(emp)) (FIN m) (u₀ (F := F)) (sep_elim_left.trans (hu₀ (callMem m))) (hmain m ρ hT) (fq m) (hfin m) (QC m)
    (fun r h hz => ⟨fun d => ⟨h d _ (by decide), (h d _ (by decide)).trans (arg0_end m d), (h d _ (by decide)).trans (arg1_end m d), (h d _ (by decide)).trans (arg2_end m d)⟩, hz⟩)

end Cert.Proof.Nms

end
-- ==== Proof.After.lean ====
/-
  A line of host operations, each writing a buffer of its own: at the end every buffer written is its operation's
  function of its operands' contents at the end.
-/
module

public import proofs.«01_k».proof.Proof.Main

@[expose] public section

noncomputable section

namespace Cert.Proof.Nms

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Words

variable {F : FTy → Type} [FloatOps F]

local notation "𝕄" => MT nD τ sig (HIx 1) (Elt F) ℕ UU ℕ

open Idealize.ShloMosaic.StableHlo

section Line

variable {ops : List (HloOp τ sig (Elt F))} {L : List (Ref sig .tc)}

/-- The line writes exactly the listed buffers, each once. -/
structure Line (ops : List (HloOp τ sig (Elt F))) (L : List (Ref sig .tc)) : Prop where
  writes : ops.map HloOp.writes = L.map (fun r => {Proc.devRef (τ := τ) .tc r})
  once : L.Nodup

/-- The buffer is not written at or behind a place. -/
def Still (L : List (Ref sig .tc)) (n : ℕ) (x : Ref sig .tc) : Prop := x ∉ L.drop n

theorem still_of_not {n : ℕ} {x : Ref sig .tc} (h : x ∉ L) : Still L n x := fun hx => h (List.mem_of_mem_drop hx)

theorem Line.still_at (H : Line ops L) {n k : ℕ} {x : Ref sig .tc} (h : L[k]? = some x) (hk : k < n) : Still L n x := by
  intro hx
  obtain ⟨j, hj, e⟩ := List.mem_iff_getElem.mp hx
  rw [List.getElem_drop] at e
  obtain ⟨hk', ek⟩ := List.getElem?_eq_some_iff.mp h
  have := (List.Nodup.getElem_inj_iff H.once).mp (ek.trans e.symm)
  omega

theorem after_app : ∀ (a b : List (HloOp τ sig (Elt F))) (V : Valuation τ sig (Elt F)), after (a ++ b) V = after b (after a V)
  | [], _, _ => rfl
  | op :: a, b, V => by simp only [List.cons_append, after_cons]; exact after_app a b _

/-- A buffer written no more has at the end what it had there. -/
theorem Line.still (H : Line ops L) {n : ℕ} {x : Ref sig .tc} (h : Still L n x) (V : Valuation τ sig (Elt F)) :
    after ops V (Proc.devRef .tc x) = after (ops.take n) V (Proc.devRef .tc x) := by
  conv_lhs => rw [← List.take_append_drop n ops, after_app]
  have hw : (ops.drop n).map HloOp.writes = (L.drop n).map (fun r => {Proc.devRef (τ := τ) .tc r}) := by
    rw [List.map_drop, H.writes, List.map_drop]
  exact after_of_writes_sub _ _ (forall_writes_sub_of_map hw) h

/-- What an operation writes is at the end what the operation gave. -/
theorem Line.at (H : Line ops L) {n : ℕ} {op : HloOp τ sig (Elt F)} {y : Ref sig .tc} (h : ops[n]? = some op) (hy : L[n]? = some y) (V : Valuation τ sig (Elt F)) :
    after ops V (Proc.devRef .tc y) = op.result (after (ops.take n) V) (Proc.devRef .tc y) := by
  rw [H.still (H.still_at hy (Nat.lt_succ_self n)) V, List.take_add_one, h, after_app]
  rfl

theorem Line.nullary (H : Line ops L) (V : Valuation τ sig (Elt F)) (n : ℕ) {y : Ref sig .tc} {v : y.ty.Contents (Elt F)} {hy} (h : ops[n]? = some (StableHlo.nullary y v hy)) (hL : L[n]? = some y) :
    after ops V (Proc.devRef .tc y) = v := by
  rw [H.at h hL]; exact nullary_result y v hy _
theorem Line.unary (H : Line ops L) (V : Valuation τ sig (Elt F)) (n : ℕ) {x y : Ref sig .tc} {f : x.ty.Contents (Elt F) → y.ty.Contents (Elt F)} {hx hy} (h : ops[n]? = some (StableHlo.unary x y f hx hy)) (hL : L[n]? = some y)
    (sx : Still L n x) : after ops V (Proc.devRef .tc y) = f (after ops V (Proc.devRef .tc x)) := by
  rw [H.at h hL, H.still sx]; exact unary_result x y f hx hy _
theorem Line.binary (H : Line ops L) (V : Valuation τ sig (Elt F)) (n : ℕ) {a b y : Ref sig .tc} {f : a.ty.Contents (Elt F) → b.ty.Contents (Elt F) → y.ty.Contents (Elt F)} {ha hb hy}
    (h : ops[n]? = some (StableHlo.binary a b y f ha hb hy)) (hL : L[n]? = some y)
    (sa : Still L n a) (sb : Still L n b) : after ops V (Proc.devRef .tc y) = f (after ops V (Proc.devRef .tc a)) (after ops V (Proc.devRef .tc b)) := by
  rw [H.at h hL, H.still sa, H.still sb]; exact binary_result a b y f ha hb hy _
theorem Line.ternary (H : Line ops L) (V : Valuation τ sig (Elt F)) (n : ℕ) {c a b y : Ref sig .tc} {f : c.ty.Contents (Elt F) → a.ty.Contents (Elt F) → b.ty.Contents (Elt F) → y.ty.Contents (Elt F)} {hc ha hb hy}
    (h : ops[n]? = some (StableHlo.ternary c a b y f hc ha hb hy)) (hL : L[n]? = some y)
    (sc : Still L n c) (sa : Still L n a) (sb : Still L n b) :
    after ops V (Proc.devRef .tc y) = f (after ops V (Proc.devRef .tc c)) (after ops V (Proc.devRef .tc a)) (after ops V (Proc.devRef .tc b)) := by
  rw [H.at h hL, H.still sc, H.still sa, H.still sb]; exact ternary_result c a b y f hc ha hb hy _
theorem Line.reshape (H : Line ops L) (V : Valuation τ sig (Elt F)) (n : ℕ) {x y : Ref sig .tc} {he hn hx hy} (h : ops[n]? = some (StableHlo.reshape x y he hn hx hy)) (hL : L[n]? = some y)
    (sx : Still L n x) : after ops V (Proc.devRef .tc y) = fun i => he ▸ shapeCast y.ty.shape (after ops V (Proc.devRef .tc x)) hn i := by
  rw [H.at h hL, H.still sx]; exact reshape_result x y he hn hx hy _

end Line

/-! ## The line before the call, and the one behind it -/

abbrev preOps : List (HloOp τ sig (Elt F)) := ops0 ++ (ops1 ++ (ops2 ++ ops3))
abbrev preL : List (Ref sig .tc) := ops0_W ++ (ops1_W ++ (ops2_W ++ ops3_W))

set_option maxRecDepth 100000 in
theorem preLine : Line (F := F) preOps preL where
  writes := by rw [List.map_append, List.map_append, List.map_append, ops0_writes, ops1_writes, ops2_writes, ops3_writes]; rfl
  once := by decide +kernel
set_option maxRecDepth 100000 in
theorem endLine : Line (F := F) opsE opsE_W where
  writes := opsE_writes
  once := by decide +kernel

theorem callVal_eq (m : (ℓ : Loc nD τ sig) → Buf (Elt F) ℓ) (d : Dev nD) : callVal m d = after preOps (launchContents m d) := by
  unfold callVal preOps
  rw [after_app, after_app, after_app]

end Cert.Proof.Nms

end
-- ==== Proof.Eqs.lean ====
/-
  Every buffer before the call holds at the call its operation's function of its operands.
-/
module

public import proofs.«01_k».proof.Proof.After

@[expose] public section

noncomputable section

namespace Cert.Proof.Nms

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Words

variable {F : FTy → Type} [FloatOps F]

local notation "𝕄" => MT nD τ sig (HIx 1) (Elt F) ℕ UU ℕ

open Idealize.ShloMosaic.StableHlo

variable (V : Valuation τ sig (Elt F))

set_option maxRecDepth 100000

theorem q_v0 : (after preOps V (Proc.devRef .tc main_v0) : C F S20000 .f32) = (Host.negf : C F S20000 .f32 → C F S20000 .f32) (after preOps V (Proc.devRef .tc main_arg1) : C F S20000 .f32) := by
  have h := preLine.unary V 0 rfl rfl (still_of_not (by decide))
  exact h
theorem q_call0_v0 : (after preOps V (Proc.devRef .tc main_call0_v0) : C F S20000 .i32) = (iotaInDim S20000 32 0) := by
  have h := preLine.nullary V 1 rfl rfl
  exact h
theorem q_call0_v1_0 : (after preOps V (Proc.devRef .tc main_call0_v1_0) : C F S20000 .f32) = ((fun x y => (Host.sort2 S20000 0 comparator_f32_i32_d0 x y).1) : C F S20000 .f32 → C F S20000 .i32 → C F S20000 .f32) (after preOps V (Proc.devRef .tc main_v0) : C F S20000 .f32) (after preOps V (Proc.devRef .tc main_call0_v0) : C F S20000 .i32) := by
  have h := preLine.binary V 2 rfl rfl ((preLine (F := F)).still_at (k := 0) rfl (by decide)) ((preLine (F := F)).still_at (k := 1) rfl (by decide))
  exact h
theorem q_v1 : (after preOps V (Proc.devRef .tc main_v1) : C F S20000 .i32) = ((fun x y => (Host.sort2 S20000 0 comparator_f32_i32_d0 x y).2) : C F S20000 .f32 → C F S20000 .i32 → C F S20000 .i32) (after preOps V (Proc.devRef .tc main_v0) : C F S20000 .f32) (after preOps V (Proc.devRef .tc main_call0_v0) : C F S20000 .i32) := by
  have h := preLine.binary V 3 rfl rfl ((preLine (F := F)).still_at (k := 0) rfl (by decide)) ((preLine (F := F)).still_at (k := 1) rfl (by decide))
  exact h
theorem q_c : (after preOps V (Proc.devRef .tc main_c) : C F S_ .i32) = (constantI S_ 32 0#32) := by
  have h := preLine.nullary V 4 rfl rfl
  exact h
theorem q_v2 : (after preOps V (Proc.devRef .tc main_v2) : C F S20000 .i32) = (broadcastInDim S20000 ![] bcast_S_S20000 : C F S_ .i32 → C F S20000 .i32) (after preOps V (Proc.devRef .tc main_c) : C F S_ .i32) := by
  have h := preLine.unary V 5 rfl rfl ((preLine (F := F)).still_at (k := 4) rfl (by decide))
  exact h
theorem q_v3 : (after preOps V (Proc.devRef .tc main_v3) : C F S20000 .i1) = (cmpi .slt : C F S20000 .i32 → C F S20000 .i32 → C F S20000 .i1) (after preOps V (Proc.devRef .tc main_v1) : C F S20000 .i32) (after preOps V (Proc.devRef .tc main_v2) : C F S20000 .i32) := by
  have h := preLine.binary V 6 rfl rfl ((preLine (F := F)).still_at (k := 3) rfl (by decide)) ((preLine (F := F)).still_at (k := 5) rfl (by decide))
  exact h
theorem q_c_0 : (after preOps V (Proc.devRef .tc main_c_0) : C F S_ .i32) = (constantI S_ 32 20000#32) := by
  have h := preLine.nullary V 7 rfl rfl
  exact h
theorem q_v4 : (after preOps V (Proc.devRef .tc main_v4) : C F S20000 .i32) = (broadcastInDim S20000 ![] bcast_S_S20000 : C F S_ .i32 → C F S20000 .i32) (after preOps V (Proc.devRef .tc main_c_0) : C F S_ .i32) := by
  have h := preLine.unary V 8 rfl rfl ((preLine (F := F)).still_at (k := 7) rfl (by decide))
  exact h
theorem q_v5 : (after preOps V (Proc.devRef .tc main_v5) : C F S20000 .i32) = (addi : C F S20000 .i32 → C F S20000 .i32 → C F S20000 .i32) (after preOps V (Proc.devRef .tc main_v1) : C F S20000 .i32) (after preOps V (Proc.devRef .tc main_v4) : C F S20000 .i32) := by
  have h := preLine.binary V 9 rfl rfl ((preLine (F := F)).still_at (k := 3) rfl (by decide)) ((preLine (F := F)).still_at (k := 8) rfl (by decide))
  exact h
theorem q_v6 : (after preOps V (Proc.devRef .tc main_v6) : C F S20000 .i32) = (select : C F S20000 .i1 → C F S20000 .i32 → C F S20000 .i32 → C F S20000 .i32) (after preOps V (Proc.devRef .tc main_v3) : C F S20000 .i1) (after preOps V (Proc.devRef .tc main_v5) : C F S20000 .i32) (after preOps V (Proc.devRef .tc main_v1) : C F S20000 .i32) := by
  have h := preLine.ternary V 10 rfl rfl ((preLine (F := F)).still_at (k := 6) rfl (by decide)) ((preLine (F := F)).still_at (k := 9) rfl (by decide)) ((preLine (F := F)).still_at (k := 3) rfl (by decide))
  exact h
theorem q_v7 : (after preOps V (Proc.devRef .tc main_v7) : C F S20000x1 .i32) = (broadcastInDim S20000x1 ![0] bcast_S20000_S20000x1_0 : C F S20000 .i32 → C F S20000x1 .i32) (after preOps V (Proc.devRef .tc main_v6) : C F S20000 .i32) := by
  have h := preLine.unary V 11 rfl rfl ((preLine (F := F)).still_at (k := 10) rfl (by decide))
  exact h
theorem q_v8 : (after preOps V (Proc.devRef .tc main_v8) : C F S20000x4 .f32) = ((fun x i => Host.gather gather_S20000x4_S20000x1_S20000x4_1_0_n_n_0_1_14 x i) : C F S20000x4 .f32 → C F S20000x1 .i32 → C F S20000x4 .f32) (after preOps V (Proc.devRef .tc main_arg0) : C F S20000x4 .f32) (after preOps V (Proc.devRef .tc main_v7) : C F S20000x1 .i32) := by
  have h := preLine.binary V 12 rfl rfl (still_of_not (by decide)) ((preLine (F := F)).still_at (k := 11) rfl (by decide))
  exact h
theorem q_c_1 : (after preOps V (Proc.devRef .tc main_c_1) : C F S_ .i32) = (constantI S_ 32 0#32) := by
  have h := preLine.nullary V 13 rfl rfl
  exact h
theorem q_v9 : (after preOps V (Proc.devRef .tc main_v9) : C F S20000 .i32) = (broadcastInDim S20000 ![] bcast_S_S20000 : C F S_ .i32 → C F S20000 .i32) (after preOps V (Proc.devRef .tc main_c_1) : C F S_ .i32) := by
  have h := preLine.unary V 14 rfl rfl ((preLine (F := F)).still_at (k := 13) rfl (by decide))
  exact h
theorem q_v10 : (after preOps V (Proc.devRef .tc main_v10) : C F S20000 .i1) = (cmpi .slt : C F S20000 .i32 → C F S20000 .i32 → C F S20000 .i1) (after preOps V (Proc.devRef .tc main_v1) : C F S20000 .i32) (after preOps V (Proc.devRef .tc main_v9) : C F S20000 .i32) := by
  have h := preLine.binary V 15 rfl rfl ((preLine (F := F)).still_at (k := 3) rfl (by decide)) ((preLine (F := F)).still_at (k := 14) rfl (by decide))
  exact h
theorem q_c_2 : (after preOps V (Proc.devRef .tc main_c_2) : C F S_ .i32) = (constantI S_ 32 20000#32) := by
  have h := preLine.nullary V 16 rfl rfl
  exact h
theorem q_v11 : (after preOps V (Proc.devRef .tc main_v11) : C F S20000 .i32) = (broadcastInDim S20000 ![] bcast_S_S20000 : C F S_ .i32 → C F S20000 .i32) (after preOps V (Proc.devRef .tc main_c_2) : C F S_ .i32) := by
  have h := preLine.unary V 17 rfl rfl ((preLine (F := F)).still_at (k := 16) rfl (by decide))
  exact h
theorem q_v12 : (after preOps V (Proc.devRef .tc main_v12) : C F S20000 .i32) = (addi : C F S20000 .i32 → C F S20000 .i32 → C F S20000 .i32) (after preOps V (Proc.devRef .tc main_v1) : C F S20000 .i32) (after preOps V (Proc.devRef .tc main_v11) : C F S20000 .i32) := by
  have h := preLine.binary V 18 rfl rfl ((preLine (F := F)).still_at (k := 3) rfl (by decide)) ((preLine (F := F)).still_at (k := 17) rfl (by decide))
  exact h
theorem q_v13 : (after preOps V (Proc.devRef .tc main_v13) : C F S20000 .i32) = (select : C F S20000 .i1 → C F S20000 .i32 → C F S20000 .i32 → C F S20000 .i32) (after preOps V (Proc.devRef .tc main_v10) : C F S20000 .i1) (after preOps V (Proc.devRef .tc main_v12) : C F S20000 .i32) (after preOps V (Proc.devRef .tc main_v1) : C F S20000 .i32) := by
  have h := preLine.ternary V 19 rfl rfl ((preLine (F := F)).still_at (k := 15) rfl (by decide)) ((preLine (F := F)).still_at (k := 18) rfl (by decide)) ((preLine (F := F)).still_at (k := 3) rfl (by decide))
  exact h
theorem q_v14 : (after preOps V (Proc.devRef .tc main_v14) : C F S20000x1 .i32) = (broadcastInDim S20000x1 ![0] bcast_S20000_S20000x1_0 : C F S20000 .i32 → C F S20000x1 .i32) (after preOps V (Proc.devRef .tc main_v13) : C F S20000 .i32) := by
  have h := preLine.unary V 20 rfl rfl ((preLine (F := F)).still_at (k := 19) rfl (by decide))
  exact h
theorem q_v15 : (after preOps V (Proc.devRef .tc main_v15) : C F S20000 .f32) = ((fun x i => Host.gather gather_S20000_S20000x1_S20000_n_0_n_n_0_1_1 x i) : C F S20000 .f32 → C F S20000x1 .i32 → C F S20000 .f32) (after preOps V (Proc.devRef .tc main_arg1) : C F S20000 .f32) (after preOps V (Proc.devRef .tc main_v14) : C F S20000x1 .i32) := by
  have h := preLine.binary V 21 rfl rfl (still_of_not (by decide)) ((preLine (F := F)).still_at (k := 20) rfl (by decide))
  exact h
theorem q_c_3 : (after preOps V (Proc.devRef .tc main_c_3) : C F S_ .i32) = (constantI S_ 32 0#32) := by
  have h := preLine.nullary V 22 rfl rfl
  exact h
theorem q_v16 : (after preOps V (Proc.devRef .tc main_v16) : C F S20000 .i32) = (broadcastInDim S20000 ![] bcast_S_S20000 : C F S_ .i32 → C F S20000 .i32) (after preOps V (Proc.devRef .tc main_c_3) : C F S_ .i32) := by
  have h := preLine.unary V 23 rfl rfl ((preLine (F := F)).still_at (k := 22) rfl (by decide))
  exact h
theorem q_v17 : (after preOps V (Proc.devRef .tc main_v17) : C F S20000 .i1) = (cmpi .slt : C F S20000 .i32 → C F S20000 .i32 → C F S20000 .i1) (after preOps V (Proc.devRef .tc main_v1) : C F S20000 .i32) (after preOps V (Proc.devRef .tc main_v16) : C F S20000 .i32) := by
  have h := preLine.binary V 24 rfl rfl ((preLine (F := F)).still_at (k := 3) rfl (by decide)) ((preLine (F := F)).still_at (k := 23) rfl (by decide))
  exact h
theorem q_c_4 : (after preOps V (Proc.devRef .tc main_c_4) : C F S_ .i32) = (constantI S_ 32 20000#32) := by
  have h := preLine.nullary V 25 rfl rfl
  exact h
theorem q_v18 : (after preOps V (Proc.devRef .tc main_v18) : C F S20000 .i32) = (broadcastInDim S20000 ![] bcast_S_S20000 : C F S_ .i32 → C F S20000 .i32) (after preOps V (Proc.devRef .tc main_c_4) : C F S_ .i32) := by
  have h := preLine.unary V 26 rfl rfl ((preLine (F := F)).still_at (k := 25) rfl (by decide))
  exact h
theorem q_v19 : (after preOps V (Proc.devRef .tc main_v19) : C F S20000 .i32) = (addi : C F S20000 .i32 → C F S20000 .i32 → C F S20000 .i32) (after preOps V (Proc.devRef .tc main_v1) : C F S20000 .i32) (after preOps V (Proc.devRef .tc main_v18) : C F S20000 .i32) := by
  have h := preLine.binary V 27 rfl rfl ((preLine (F := F)).still_at (k := 3) rfl (by decide)) ((preLine (F := F)).still_at (k := 26) rfl (by decide))
  exact h
theorem q_v20 : (after preOps V (Proc.devRef .tc main_v20) : C F S20000 .i32) = (select : C F S20000 .i1 → C F S20000 .i32 → C F S20000 .i32 → C F S20000 .i32) (after preOps V (Proc.devRef .tc main_v17) : C F S20000 .i1) (after preOps V (Proc.devRef .tc main_v19) : C F S20000 .i32) (after preOps V (Proc.devRef .tc main_v1) : C F S20000 .i32) := by
  have h := preLine.ternary V 28 rfl rfl ((preLine (F := F)).still_at (k := 24) rfl (by decide)) ((preLine (F := F)).still_at (k := 27) rfl (by decide)) ((preLine (F := F)).still_at (k := 3) rfl (by decide))
  exact h
theorem q_v21 : (after preOps V (Proc.devRef .tc main_v21) : C F S20000x1 .i32) = (broadcastInDim S20000x1 ![0] bcast_S20000_S20000x1_0 : C F S20000 .i32 → C F S20000x1 .i32) (after preOps V (Proc.devRef .tc main_v20) : C F S20000 .i32) := by
  have h := preLine.unary V 29 rfl rfl ((preLine (F := F)).still_at (k := 28) rfl (by decide))
  exact h
theorem q_v22 : (after preOps V (Proc.devRef .tc main_v22) : C F S20000 .i32) = ((fun x i => Host.gather gather_S20000_S20000x1_S20000_n_0_n_n_0_1_1 x i) : C F S20000 .i32 → C F S20000x1 .i32 → C F S20000 .i32) (after preOps V (Proc.devRef .tc main_arg2) : C F S20000 .i32) (after preOps V (Proc.devRef .tc main_v21) : C F S20000x1 .i32) := by
  have h := preLine.binary V 30 rfl rfl (still_of_not (by decide)) ((preLine (F := F)).still_at (k := 29) rfl (by decide))
  exact h
theorem q_call1_v0 : (after preOps V (Proc.devRef .tc main_call1_v0) : C F S20000 .i32) = (iotaInDim S20000 32 0) := by
  have h := preLine.nullary V 31 rfl rfl
  exact h
theorem q_call1_v1_0 : (after preOps V (Proc.devRef .tc main_call1_v1_0) : C F S20000 .i32) = ((fun x y => (Host.sort2 S20000 0 comparator_i32_i32_d0 x y).1) : C F S20000 .i32 → C F S20000 .i32 → C F S20000 .i32) (after preOps V (Proc.devRef .tc main_v22) : C F S20000 .i32) (after preOps V (Proc.devRef .tc main_call1_v0) : C F S20000 .i32) := by
  have h := preLine.binary V 32 rfl rfl ((preLine (F := F)).still_at (k := 30) rfl (by decide)) ((preLine (F := F)).still_at (k := 31) rfl (by decide))
  exact h
theorem q_v23 : (after preOps V (Proc.devRef .tc main_v23) : C F S20000 .i32) = ((fun x y => (Host.sort2 S20000 0 comparator_i32_i32_d0 x y).2) : C F S20000 .i32 → C F S20000 .i32 → C F S20000 .i32) (after preOps V (Proc.devRef .tc main_v22) : C F S20000 .i32) (after preOps V (Proc.devRef .tc main_call1_v0) : C F S20000 .i32) := by
  have h := preLine.binary V 33 rfl rfl ((preLine (F := F)).still_at (k := 30) rfl (by decide)) ((preLine (F := F)).still_at (k := 31) rfl (by decide))
  exact h
theorem q_c_5 : (after preOps V (Proc.devRef .tc main_c_5) : C F S_ .i32) = (constantI S_ 32 0#32) := by
  have h := preLine.nullary V 34 rfl rfl
  exact h
theorem q_v24 : (after preOps V (Proc.devRef .tc main_v24) : C F S20000 .i32) = (broadcastInDim S20000 ![] bcast_S_S20000 : C F S_ .i32 → C F S20000 .i32) (after preOps V (Proc.devRef .tc main_c_5) : C F S_ .i32) := by
  have h := preLine.unary V 35 rfl rfl ((preLine (F := F)).still_at (k := 34) rfl (by decide))
  exact h
theorem q_v25 : (after preOps V (Proc.devRef .tc main_v25) : C F S20000 .i1) = (cmpi .slt : C F S20000 .i32 → C F S20000 .i32 → C F S20000 .i1) (after preOps V (Proc.devRef .tc main_v23) : C F S20000 .i32) (after preOps V (Proc.devRef .tc main_v24) : C F S20000 .i32) := by
  have h := preLine.binary V 36 rfl rfl ((preLine (F := F)).still_at (k := 33) rfl (by decide)) ((preLine (F := F)).still_at (k := 35) rfl (by decide))
  exact h
theorem q_c_6 : (after preOps V (Proc.devRef .tc main_c_6) : C F S_ .i32) = (constantI S_ 32 20000#32) := by
  have h := preLine.nullary V 37 rfl rfl
  exact h
theorem q_v26 : (after preOps V (Proc.devRef .tc main_v26) : C F S20000 .i32) = (broadcastInDim S20000 ![] bcast_S_S20000 : C F S_ .i32 → C F S20000 .i32) (after preOps V (Proc.devRef .tc main_c_6) : C F S_ .i32) := by
  have h := preLine.unary V 38 rfl rfl ((preLine (F := F)).still_at (k := 37) rfl (by decide))
  exact h
theorem q_v27 : (after preOps V (Proc.devRef .tc main_v27) : C F S20000 .i32) = (addi : C F S20000 .i32 → C F S20000 .i32 → C F S20000 .i32) (after preOps V (Proc.devRef .tc main_v23) : C F S20000 .i32) (after preOps V (Proc.devRef .tc main_v26) : C F S20000 .i32) := by
  have h := preLine.binary V 39 rfl rfl ((preLine (F := F)).still_at (k := 33) rfl (by decide)) ((preLine (F := F)).still_at (k := 38) rfl (by decide))
  exact h
theorem q_v28 : (after preOps V (Proc.devRef .tc main_v28) : C F S20000 .i32) = (select : C F S20000 .i1 → C F S20000 .i32 → C F S20000 .i32 → C F S20000 .i32) (after preOps V (Proc.devRef .tc main_v25) : C F S20000 .i1) (after preOps V (Proc.devRef .tc main_v27) : C F S20000 .i32) (after preOps V (Proc.devRef .tc main_v23) : C F S20000 .i32) := by
  have h := preLine.ternary V 40 rfl rfl ((preLine (F := F)).still_at (k := 36) rfl (by decide)) ((preLine (F := F)).still_at (k := 39) rfl (by decide)) ((preLine (F := F)).still_at (k := 33) rfl (by decide))
  exact h
theorem q_v29 : (after preOps V (Proc.devRef .tc main_v29) : C F S20000x1 .i32) = (broadcastInDim S20000x1 ![0] bcast_S20000_S20000x1_0 : C F S20000 .i32 → C F S20000x1 .i32) (after preOps V (Proc.devRef .tc main_v28) : C F S20000 .i32) := by
  have h := preLine.unary V 41 rfl rfl ((preLine (F := F)).still_at (k := 40) rfl (by decide))
  exact h
theorem q_v30 : (after preOps V (Proc.devRef .tc main_v30) : C F S20000x4 .f32) = ((fun x i => Host.gather gather_S20000x4_S20000x1_S20000x4_1_0_n_n_0_1_14 x i) : C F S20000x4 .f32 → C F S20000x1 .i32 → C F S20000x4 .f32) (after preOps V (Proc.devRef .tc main_v8) : C F S20000x4 .f32) (after preOps V (Proc.devRef .tc main_v29) : C F S20000x1 .i32) := by
  have h := preLine.binary V 42 rfl rfl ((preLine (F := F)).still_at (k := 12) rfl (by decide)) ((preLine (F := F)).still_at (k := 41) rfl (by decide))
  exact h
theorem q_c_7 : (after preOps V (Proc.devRef .tc main_c_7) : C F S_ .i32) = (constantI S_ 32 0#32) := by
  have h := preLine.nullary V 43 rfl rfl
  exact h
theorem q_v31 : (after preOps V (Proc.devRef .tc main_v31) : C F S20000 .i32) = (broadcastInDim S20000 ![] bcast_S_S20000 : C F S_ .i32 → C F S20000 .i32) (after preOps V (Proc.devRef .tc main_c_7) : C F S_ .i32) := by
  have h := preLine.unary V 44 rfl rfl ((preLine (F := F)).still_at (k := 43) rfl (by decide))
  exact h
theorem q_v32 : (after preOps V (Proc.devRef .tc main_v32) : C F S20000 .i1) = (cmpi .slt : C F S20000 .i32 → C F S20000 .i32 → C F S20000 .i1) (after preOps V (Proc.devRef .tc main_v23) : C F S20000 .i32) (after preOps V (Proc.devRef .tc main_v31) : C F S20000 .i32) := by
  have h := preLine.binary V 45 rfl rfl ((preLine (F := F)).still_at (k := 33) rfl (by decide)) ((preLine (F := F)).still_at (k := 44) rfl (by decide))
  exact h
theorem q_c_8 : (after preOps V (Proc.devRef .tc main_c_8) : C F S_ .i32) = (constantI S_ 32 20000#32) := by
  have h := preLine.nullary V 46 rfl rfl
  exact h
theorem q_v33 : (after preOps V (Proc.devRef .tc main_v33) : C F S20000 .i32) = (broadcastInDim S20000 ![] bcast_S_S20000 : C F S_ .i32 → C F S20000 .i32) (after preOps V (Proc.devRef .tc main_c_8) : C F S_ .i32) := by
  have h := preLine.unary V 47 rfl rfl ((preLine (F := F)).still_at (k := 46) rfl (by decide))
  exact h
theorem q_v34 : (after preOps V (Proc.devRef .tc main_v34) : C F S20000 .i32) = (addi : C F S20000 .i32 → C F S20000 .i32 → C F S20000 .i32) (after preOps V (Proc.devRef .tc main_v23) : C F S20000 .i32) (after preOps V (Proc.devRef .tc main_v33) : C F S20000 .i32) := by
  have h := preLine.binary V 48 rfl rfl ((preLine (F := F)).still_at (k := 33) rfl (by decide)) ((preLine (F := F)).still_at (k := 47) rfl (by decide))
  exact h
theorem q_v35 : (after preOps V (Proc.devRef .tc main_v35) : C F S20000 .i32) = (select : C F S20000 .i1 → C F S20000 .i32 → C F S20000 .i32 → C F S20000 .i32) (after preOps V (Proc.devRef .tc main_v32) : C F S20000 .i1) (after preOps V (Proc.devRef .tc main_v34) : C F S20000 .i32) (after preOps V (Proc.devRef .tc main_v23) : C F S20000 .i32) := by
  have h := preLine.ternary V 49 rfl rfl ((preLine (F := F)).still_at (k := 45) rfl (by decide)) ((preLine (F := F)).still_at (k := 48) rfl (by decide)) ((preLine (F := F)).still_at (k := 33) rfl (by decide))
  exact h
theorem q_v36 : (after preOps V (Proc.devRef .tc main_v36) : C F S20000x1 .i32) = (broadcastInDim S20000x1 ![0] bcast_S20000_S20000x1_0 : C F S20000 .i32 → C F S20000x1 .i32) (after preOps V (Proc.devRef .tc main_v35) : C F S20000 .i32) := by
  have h := preLine.unary V 50 rfl rfl ((preLine (F := F)).still_at (k := 49) rfl (by decide))
  exact h
theorem q_v37 : (after preOps V (Proc.devRef .tc main_v37) : C F S20000 .f32) = ((fun x i => Host.gather gather_S20000_S20000x1_S20000_n_0_n_n_0_1_1 x i) : C F S20000 .f32 → C F S20000x1 .i32 → C F S20000 .f32) (after preOps V (Proc.devRef .tc main_v15) : C F S20000 .f32) (after preOps V (Proc.devRef .tc main_v36) : C F S20000x1 .i32) := by
  have h := preLine.binary V 51 rfl rfl ((preLine (F := F)).still_at (k := 21) rfl (by decide)) ((preLine (F := F)).still_at (k := 50) rfl (by decide))
  exact h
theorem q_c_9 : (after preOps V (Proc.devRef .tc main_c_9) : C F S_ .i32) = (constantI S_ 32 0#32) := by
  have h := preLine.nullary V 52 rfl rfl
  exact h
theorem q_v38 : (after preOps V (Proc.devRef .tc main_v38) : C F S20000 .i32) = (broadcastInDim S20000 ![] bcast_S_S20000 : C F S_ .i32 → C F S20000 .i32) (after preOps V (Proc.devRef .tc main_c_9) : C F S_ .i32) := by
  have h := preLine.unary V 53 rfl rfl ((preLine (F := F)).still_at (k := 52) rfl (by decide))
  exact h
theorem q_v39 : (after preOps V (Proc.devRef .tc main_v39) : C F S20000 .i1) = (cmpi .slt : C F S20000 .i32 → C F S20000 .i32 → C F S20000 .i1) (after preOps V (Proc.devRef .tc main_v23) : C F S20000 .i32) (after preOps V (Proc.devRef .tc main_v38) : C F S20000 .i32) := by
  have h := preLine.binary V 54 rfl rfl ((preLine (F := F)).still_at (k := 33) rfl (by decide)) ((preLine (F := F)).still_at (k := 53) rfl (by decide))
  exact h
theorem q_c_10 : (after preOps V (Proc.devRef .tc main_c_10) : C F S_ .i32) = (constantI S_ 32 20000#32) := by
  have h := preLine.nullary V 55 rfl rfl
  exact h
theorem q_v40 : (after preOps V (Proc.devRef .tc main_v40) : C F S20000 .i32) = (broadcastInDim S20000 ![] bcast_S_S20000 : C F S_ .i32 → C F S20000 .i32) (after preOps V (Proc.devRef .tc main_c_10) : C F S_ .i32) := by
  have h := preLine.unary V 56 rfl rfl ((preLine (F := F)).still_at (k := 55) rfl (by decide))
  exact h
theorem q_v41 : (after preOps V (Proc.devRef .tc main_v41) : C F S20000 .i32) = (addi : C F S20000 .i32 → C F S20000 .i32 → C F S20000 .i32) (after preOps V (Proc.devRef .tc main_v23) : C F S20000 .i32) (after preOps V (Proc.devRef .tc main_v40) : C F S20000 .i32) := by
  have h := preLine.binary V 57 rfl rfl ((preLine (F := F)).still_at (k := 33) rfl (by decide)) ((preLine (F := F)).still_at (k := 56) rfl (by decide))
  exact h
theorem q_v42 : (after preOps V (Proc.devRef .tc main_v42) : C F S20000 .i32) = (select : C F S20000 .i1 → C F S20000 .i32 → C F S20000 .i32 → C F S20000 .i32) (after preOps V (Proc.devRef .tc main_v39) : C F S20000 .i1) (after preOps V (Proc.devRef .tc main_v41) : C F S20000 .i32) (after preOps V (Proc.devRef .tc main_v23) : C F S20000 .i32) := by
  have h := preLine.ternary V 58 rfl rfl ((preLine (F := F)).still_at (k := 54) rfl (by decide)) ((preLine (F := F)).still_at (k := 57) rfl (by decide)) ((preLine (F := F)).still_at (k := 33) rfl (by decide))
  exact h
theorem q_v43 : (after preOps V (Proc.devRef .tc main_v43) : C F S20000x1 .i32) = (broadcastInDim S20000x1 ![0] bcast_S20000_S20000x1_0 : C F S20000 .i32 → C F S20000x1 .i32) (after preOps V (Proc.devRef .tc main_v42) : C F S20000 .i32) := by
  have h := preLine.unary V 59 rfl rfl ((preLine (F := F)).still_at (k := 58) rfl (by decide))
  exact h
theorem q_v44 : (after preOps V (Proc.devRef .tc main_v44) : C F S20000 .i32) = ((fun x i => Host.gather gather_S20000_S20000x1_S20000_n_0_n_n_0_1_1 x i) : C F S20000 .i32 → C F S20000x1 .i32 → C F S20000 .i32) (after preOps V (Proc.devRef .tc main_v22) : C F S20000 .i32) (after preOps V (Proc.devRef .tc main_v43) : C F S20000x1 .i32) := by
  have h := preLine.binary V 60 rfl rfl ((preLine (F := F)).still_at (k := 30) rfl (by decide)) ((preLine (F := F)).still_at (k := 59) rfl (by decide))
  exact h
theorem q_c_11 : (after preOps V (Proc.devRef .tc main_c_11) : C F S_ .i32) = (constantI S_ 32 1#32) := by
  have h := preLine.nullary V 61 rfl rfl
  exact h
theorem q_v45 : (after preOps V (Proc.devRef .tc main_v45) : C F S20000 .i32) = (broadcastInDim S20000 ![] bcast_S_S20000 : C F S_ .i32 → C F S20000 .i32) (after preOps V (Proc.devRef .tc main_c_11) : C F S_ .i32) := by
  have h := preLine.unary V 62 rfl rfl ((preLine (F := F)).still_at (k := 61) rfl (by decide))
  exact h
theorem q_c_12 : (after preOps V (Proc.devRef .tc main_c_12) : C F S_ .i32) = (constantI S_ 32 0#32) := by
  have h := preLine.nullary V 63 rfl rfl
  exact h
theorem q_v46 : (after preOps V (Proc.devRef .tc main_v46) : C F S80 .i32) = (broadcastInDim S80 ![] bcast_S_S80 : C F S_ .i32 → C F S80 .i32) (after preOps V (Proc.devRef .tc main_c_12) : C F S_ .i32) := by
  have h := preLine.unary V 64 rfl rfl ((preLine (F := F)).still_at (k := 63) rfl (by decide))
  exact h
theorem q_c_13 : (after preOps V (Proc.devRef .tc main_c_13) : C F S_ .i32) = (constantI S_ 32 0#32) := by
  have h := preLine.nullary V 65 rfl rfl
  exact h
theorem q_v47 : (after preOps V (Proc.devRef .tc main_v47) : C F S20000 .i32) = (broadcastInDim S20000 ![] bcast_S_S20000 : C F S_ .i32 → C F S20000 .i32) (after preOps V (Proc.devRef .tc main_c_13) : C F S_ .i32) := by
  have h := preLine.unary V 66 rfl rfl ((preLine (F := F)).still_at (k := 65) rfl (by decide))
  exact h
theorem q_v48 : (after preOps V (Proc.devRef .tc main_v48) : C F S20000 .i1) = (cmpi .slt : C F S20000 .i32 → C F S20000 .i32 → C F S20000 .i1) (after preOps V (Proc.devRef .tc main_v22) : C F S20000 .i32) (after preOps V (Proc.devRef .tc main_v47) : C F S20000 .i32) := by
  have h := preLine.binary V 67 rfl rfl ((preLine (F := F)).still_at (k := 30) rfl (by decide)) ((preLine (F := F)).still_at (k := 66) rfl (by decide))
  exact h
theorem q_c_14 : (after preOps V (Proc.devRef .tc main_c_14) : C F S_ .i32) = (constantI S_ 32 80#32) := by
  have h := preLine.nullary V 68 rfl rfl
  exact h
theorem q_v49 : (after preOps V (Proc.devRef .tc main_v49) : C F S20000 .i32) = (broadcastInDim S20000 ![] bcast_S_S20000 : C F S_ .i32 → C F S20000 .i32) (after preOps V (Proc.devRef .tc main_c_14) : C F S_ .i32) := by
  have h := preLine.unary V 69 rfl rfl ((preLine (F := F)).still_at (k := 68) rfl (by decide))
  exact h
theorem q_v50 : (after preOps V (Proc.devRef .tc main_v50) : C F S20000 .i32) = (addi : C F S20000 .i32 → C F S20000 .i32 → C F S20000 .i32) (after preOps V (Proc.devRef .tc main_v22) : C F S20000 .i32) (after preOps V (Proc.devRef .tc main_v49) : C F S20000 .i32) := by
  have h := preLine.binary V 70 rfl rfl ((preLine (F := F)).still_at (k := 30) rfl (by decide)) ((preLine (F := F)).still_at (k := 69) rfl (by decide))
  exact h
theorem q_v51 : (after preOps V (Proc.devRef .tc main_v51) : C F S20000 .i32) = (select : C F S20000 .i1 → C F S20000 .i32 → C F S20000 .i32 → C F S20000 .i32) (after preOps V (Proc.devRef .tc main_v48) : C F S20000 .i1) (after preOps V (Proc.devRef .tc main_v50) : C F S20000 .i32) (after preOps V (Proc.devRef .tc main_v22) : C F S20000 .i32) := by
  have h := preLine.ternary V 71 rfl rfl ((preLine (F := F)).still_at (k := 67) rfl (by decide)) ((preLine (F := F)).still_at (k := 70) rfl (by decide)) ((preLine (F := F)).still_at (k := 30) rfl (by decide))
  exact h
theorem q_v52 : (after preOps V (Proc.devRef .tc main_v52) : C F S20000x1 .i32) = (broadcastInDim S20000x1 ![0] bcast_S20000_S20000x1_0 : C F S20000 .i32 → C F S20000x1 .i32) (after preOps V (Proc.devRef .tc main_v51) : C F S20000 .i32) := by
  have h := preLine.unary V 72 rfl rfl ((preLine (F := F)).still_at (k := 71) rfl (by decide))
  exact h
theorem q_v53 : (after preOps V (Proc.devRef .tc main_v53) : C F S80 .i32) = ((fun x i u => Host.scatter scatter_S80_S20000x1_S20000_n_0_0_1 IntOp.addi x i u) : C F S80 .i32 → C F S20000x1 .i32 → C F S20000 .i32 → C F S80 .i32) (after preOps V (Proc.devRef .tc main_v46) : C F S80 .i32) (after preOps V (Proc.devRef .tc main_v52) : C F S20000x1 .i32) (after preOps V (Proc.devRef .tc main_v45) : C F S20000 .i32) := by
  have h := preLine.ternary V 73 rfl rfl ((preLine (F := F)).still_at (k := 64) rfl (by decide)) ((preLine (F := F)).still_at (k := 72) rfl (by decide)) ((preLine (F := F)).still_at (k := 62) rfl (by decide))
  exact h
theorem q_cst : (after preOps V (Proc.devRef .tc main_cst) : C F S_ .f32) = (constant S_ .f32 0x3F000000#32) := by
  have h := preLine.nullary V 74 rfl rfl
  exact h
theorem q_v54 : (after preOps V (Proc.devRef .tc main_v54) : C F S20000 .f32) = (broadcastInDim S20000 ![] bcast_S_S20000 : C F S_ .f32 → C F S20000 .f32) (after preOps V (Proc.devRef .tc main_cst) : C F S_ .f32) := by
  have h := preLine.unary V 75 rfl rfl ((preLine (F := F)).still_at (k := 74) rfl (by decide))
  exact h
theorem q_v55 : (after preOps V (Proc.devRef .tc main_v55) : C F S20000 .i1) = (cmpf .oge : C F S20000 .f32 → C F S20000 .f32 → C F S20000 .i1) (after preOps V (Proc.devRef .tc main_v15) : C F S20000 .f32) (after preOps V (Proc.devRef .tc main_v54) : C F S20000 .f32) := by
  have h := preLine.binary V 76 rfl rfl ((preLine (F := F)).still_at (k := 21) rfl (by decide)) ((preLine (F := F)).still_at (k := 75) rfl (by decide))
  exact h
theorem q_v56 : (after preOps V (Proc.devRef .tc main_v56) : C F S20000 .i32) = ((extui 32 · natLt_1_32) : C F S20000 .i1 → C F S20000 .i32) (after preOps V (Proc.devRef .tc main_v55) : C F S20000 .i1) := by
  have h := preLine.unary V 77 rfl rfl ((preLine (F := F)).still_at (k := 76) rfl (by decide))
  exact h
theorem q_c_15 : (after preOps V (Proc.devRef .tc main_c_15) : C F S_ .i32) = (constantI S_ 32 0#32) := by
  have h := preLine.nullary V 78 rfl rfl
  exact h
theorem q_v57 : (after preOps V (Proc.devRef .tc main_v57) : C F S80 .i32) = (broadcastInDim S80 ![] bcast_S_S80 : C F S_ .i32 → C F S80 .i32) (after preOps V (Proc.devRef .tc main_c_15) : C F S_ .i32) := by
  have h := preLine.unary V 79 rfl rfl ((preLine (F := F)).still_at (k := 78) rfl (by decide))
  exact h
theorem q_c_16 : (after preOps V (Proc.devRef .tc main_c_16) : C F S_ .i32) = (constantI S_ 32 0#32) := by
  have h := preLine.nullary V 80 rfl rfl
  exact h
theorem q_v58 : (after preOps V (Proc.devRef .tc main_v58) : C F S20000 .i32) = (broadcastInDim S20000 ![] bcast_S_S20000 : C F S_ .i32 → C F S20000 .i32) (after preOps V (Proc.devRef .tc main_c_16) : C F S_ .i32) := by
  have h := preLine.unary V 81 rfl rfl ((preLine (F := F)).still_at (k := 80) rfl (by decide))
  exact h
theorem q_v59 : (after preOps V (Proc.devRef .tc main_v59) : C F S20000 .i1) = (cmpi .slt : C F S20000 .i32 → C F S20000 .i32 → C F S20000 .i1) (after preOps V (Proc.devRef .tc main_v22) : C F S20000 .i32) (after preOps V (Proc.devRef .tc main_v58) : C F S20000 .i32) := by
  have h := preLine.binary V 82 rfl rfl ((preLine (F := F)).still_at (k := 30) rfl (by decide)) ((preLine (F := F)).still_at (k := 81) rfl (by decide))
  exact h
theorem q_c_17 : (after preOps V (Proc.devRef .tc main_c_17) : C F S_ .i32) = (constantI S_ 32 80#32) := by
  have h := preLine.nullary V 83 rfl rfl
  exact h
theorem q_v60 : (after preOps V (Proc.devRef .tc main_v60) : C F S20000 .i32) = (broadcastInDim S20000 ![] bcast_S_S20000 : C F S_ .i32 → C F S20000 .i32) (after preOps V (Proc.devRef .tc main_c_17) : C F S_ .i32) := by
  have h := preLine.unary V 84 rfl rfl ((preLine (F := F)).still_at (k := 83) rfl (by decide))
  exact h
theorem q_v61 : (after preOps V (Proc.devRef .tc main_v61) : C F S20000 .i32) = (addi : C F S20000 .i32 → C F S20000 .i32 → C F S20000 .i32) (after preOps V (Proc.devRef .tc main_v22) : C F S20000 .i32) (after preOps V (Proc.devRef .tc main_v60) : C F S20000 .i32) := by
  have h := preLine.binary V 85 rfl rfl ((preLine (F := F)).still_at (k := 30) rfl (by decide)) ((preLine (F := F)).still_at (k := 84) rfl (by decide))
  exact h
theorem q_v62 : (after preOps V (Proc.devRef .tc main_v62) : C F S20000 .i32) = (select : C F S20000 .i1 → C F S20000 .i32 → C F S20000 .i32 → C F S20000 .i32) (after preOps V (Proc.devRef .tc main_v59) : C F S20000 .i1) (after preOps V (Proc.devRef .tc main_v61) : C F S20000 .i32) (after preOps V (Proc.devRef .tc main_v22) : C F S20000 .i32) := by
  have h := preLine.ternary V 86 rfl rfl ((preLine (F := F)).still_at (k := 82) rfl (by decide)) ((preLine (F := F)).still_at (k := 85) rfl (by decide)) ((preLine (F := F)).still_at (k := 30) rfl (by decide))
  exact h
theorem q_v63 : (after preOps V (Proc.devRef .tc main_v63) : C F S20000x1 .i32) = (broadcastInDim S20000x1 ![0] bcast_S20000_S20000x1_0 : C F S20000 .i32 → C F S20000x1 .i32) (after preOps V (Proc.devRef .tc main_v62) : C F S20000 .i32) := by
  have h := preLine.unary V 87 rfl rfl ((preLine (F := F)).still_at (k := 86) rfl (by decide))
  exact h
theorem q_v64 : (after preOps V (Proc.devRef .tc main_v64) : C F S80 .i32) = ((fun x i u => Host.scatter scatter_S80_S20000x1_S20000_n_0_0_1 IntOp.addi x i u) : C F S80 .i32 → C F S20000x1 .i32 → C F S20000 .i32 → C F S80 .i32) (after preOps V (Proc.devRef .tc main_v57) : C F S80 .i32) (after preOps V (Proc.devRef .tc main_v63) : C F S20000x1 .i32) (after preOps V (Proc.devRef .tc main_v56) : C F S20000 .i32) := by
  have h := preLine.ternary V 88 rfl rfl ((preLine (F := F)).still_at (k := 79) rfl (by decide)) ((preLine (F := F)).still_at (k := 87) rfl (by decide)) ((preLine (F := F)).still_at (k := 77) rfl (by decide))
  exact h
theorem q_c_18 : (after preOps V (Proc.devRef .tc main_c_18) : C F S_ .i32) = (constantI S_ 32 15#32) := by
  have h := preLine.nullary V 89 rfl rfl
  exact h
theorem q_v65 : (after preOps V (Proc.devRef .tc main_v65) : C F S80 .i32) = (broadcastInDim S80 ![] bcast_S_S80 : C F S_ .i32 → C F S80 .i32) (after preOps V (Proc.devRef .tc main_c_18) : C F S_ .i32) := by
  have h := preLine.unary V 90 rfl rfl ((preLine (F := F)).still_at (k := 89) rfl (by decide))
  exact h
theorem q_v66 : (after preOps V (Proc.devRef .tc main_v66) : C F S80 .i32) = (addi : C F S80 .i32 → C F S80 .i32 → C F S80 .i32) (after preOps V (Proc.devRef .tc main_v53) : C F S80 .i32) (after preOps V (Proc.devRef .tc main_v65) : C F S80 .i32) := by
  have h := preLine.binary V 91 rfl rfl ((preLine (F := F)).still_at (k := 73) rfl (by decide)) ((preLine (F := F)).still_at (k := 90) rfl (by decide))
  exact h
theorem q_c_19 : (after preOps V (Proc.devRef .tc main_c_19) : C F S_ .i32) = (constantI S_ 32 16#32) := by
  have h := preLine.nullary V 92 rfl rfl
  exact h
theorem q_call2_v0 : (after preOps V (Proc.devRef .tc main_call2_v0) : C F S_ .i32) = (id : C F S_ .i32 → C F S_ .i32) (after preOps V (Proc.devRef .tc main_c_19) : C F S_ .i32) := by
  have h := preLine.unary V 93 rfl rfl ((preLine (F := F)).still_at (k := 92) rfl (by decide))
  exact h
theorem q_call2_v1 : (after preOps V (Proc.devRef .tc main_call2_v1) : C F S80 .i32) = ((broadcastInDim S80 ![] bcast_S_S80) : C F S_ .i32 → C F S80 .i32) (after preOps V (Proc.devRef .tc main_call2_v0) : C F S_ .i32) := by
  have h := preLine.unary V 94 rfl rfl ((preLine (F := F)).still_at (k := 93) rfl (by decide))
  exact h
theorem q_call2_v2 : (after preOps V (Proc.devRef .tc main_call2_v2) : C F S80 .i32) = (Host.divsi : C F S80 .i32 → C F S80 .i32 → C F S80 .i32) (after preOps V (Proc.devRef .tc main_v66) : C F S80 .i32) (after preOps V (Proc.devRef .tc main_call2_v1) : C F S80 .i32) := by
  have h := preLine.binary V 95 rfl rfl ((preLine (F := F)).still_at (k := 91) rfl (by decide)) ((preLine (F := F)).still_at (k := 94) rfl (by decide))
  exact h
theorem q_call2_v3 : (after preOps V (Proc.devRef .tc main_call2_v3) : C F S80 .i32) = (signi : C F S80 .i32 → C F S80 .i32) (after preOps V (Proc.devRef .tc main_v66) : C F S80 .i32) := by
  have h := preLine.unary V 96 rfl rfl ((preLine (F := F)).still_at (k := 91) rfl (by decide))
  exact h
theorem q_call2_v4 : (after preOps V (Proc.devRef .tc main_call2_v4) : C F S_ .i32) = (signi : C F S_ .i32 → C F S_ .i32) (after preOps V (Proc.devRef .tc main_call2_v0) : C F S_ .i32) := by
  have h := preLine.unary V 97 rfl rfl ((preLine (F := F)).still_at (k := 93) rfl (by decide))
  exact h
theorem q_call2_v5 : (after preOps V (Proc.devRef .tc main_call2_v5) : C F S80 .i32) = ((broadcastInDim S80 ![] bcast_S_S80) : C F S_ .i32 → C F S80 .i32) (after preOps V (Proc.devRef .tc main_call2_v4) : C F S_ .i32) := by
  have h := preLine.unary V 98 rfl rfl ((preLine (F := F)).still_at (k := 97) rfl (by decide))
  exact h
theorem q_call2_v6 : (after preOps V (Proc.devRef .tc main_call2_v6) : C F S80 .i1) = ((cmpi .ne) : C F S80 .i32 → C F S80 .i32 → C F S80 .i1) (after preOps V (Proc.devRef .tc main_call2_v3) : C F S80 .i32) (after preOps V (Proc.devRef .tc main_call2_v5) : C F S80 .i32) := by
  have h := preLine.binary V 99 rfl rfl ((preLine (F := F)).still_at (k := 96) rfl (by decide)) ((preLine (F := F)).still_at (k := 98) rfl (by decide))
  exact h
theorem q_call2_v7 : (after preOps V (Proc.devRef .tc main_call2_v7) : C F S80 .i32) = ((broadcastInDim S80 ![] bcast_S_S80) : C F S_ .i32 → C F S80 .i32) (after preOps V (Proc.devRef .tc main_call2_v0) : C F S_ .i32) := by
  have h := preLine.unary V 100 rfl rfl ((preLine (F := F)).still_at (k := 93) rfl (by decide))
  exact h
theorem q_call2_v8 : (after preOps V (Proc.devRef .tc main_call2_v8) : C F S80 .i32) = (Host.remsi : C F S80 .i32 → C F S80 .i32 → C F S80 .i32) (after preOps V (Proc.devRef .tc main_v66) : C F S80 .i32) (after preOps V (Proc.devRef .tc main_call2_v7) : C F S80 .i32) := by
  have h := preLine.binary V 101 rfl rfl ((preLine (F := F)).still_at (k := 91) rfl (by decide)) ((preLine (F := F)).still_at (k := 100) rfl (by decide))
  exact h
theorem q_call2_c : (after preOps V (Proc.devRef .tc main_call2_c) : C F S_ .i32) = (constantI S_ 32 0#32) := by
  have h := preLine.nullary V 102 rfl rfl
  exact h
theorem q_call2_v9 : (after preOps V (Proc.devRef .tc main_call2_v9) : C F S80 .i32) = ((broadcastInDim S80 ![] bcast_S_S80) : C F S_ .i32 → C F S80 .i32) (after preOps V (Proc.devRef .tc main_call2_c) : C F S_ .i32) := by
  have h := preLine.unary V 103 rfl rfl ((preLine (F := F)).still_at (k := 102) rfl (by decide))
  exact h
theorem q_call2_v10 : (after preOps V (Proc.devRef .tc main_call2_v10) : C F S80 .i1) = ((cmpi .ne) : C F S80 .i32 → C F S80 .i32 → C F S80 .i1) (after preOps V (Proc.devRef .tc main_call2_v8) : C F S80 .i32) (after preOps V (Proc.devRef .tc main_call2_v9) : C F S80 .i32) := by
  have h := preLine.binary V 104 rfl rfl ((preLine (F := F)).still_at (k := 101) rfl (by decide)) ((preLine (F := F)).still_at (k := 103) rfl (by decide))
  exact h
theorem q_call2_v11 : (after preOps V (Proc.devRef .tc main_call2_v11) : C F S80 .i1) = (andi : C F S80 .i1 → C F S80 .i1 → C F S80 .i1) (after preOps V (Proc.devRef .tc main_call2_v6) : C F S80 .i1) (after preOps V (Proc.devRef .tc main_call2_v10) : C F S80 .i1) := by
  have h := preLine.binary V 105 rfl rfl ((preLine (F := F)).still_at (k := 99) rfl (by decide)) ((preLine (F := F)).still_at (k := 104) rfl (by decide))
  exact h
theorem q_call2_c_0 : (after preOps V (Proc.devRef .tc main_call2_c_0) : C F S_ .i32) = (constantI S_ 32 1#32) := by
  have h := preLine.nullary V 106 rfl rfl
  exact h
theorem q_call2_v12 : (after preOps V (Proc.devRef .tc main_call2_v12) : C F S80 .i32) = ((broadcastInDim S80 ![] bcast_S_S80) : C F S_ .i32 → C F S80 .i32) (after preOps V (Proc.devRef .tc main_call2_c_0) : C F S_ .i32) := by
  have h := preLine.unary V 107 rfl rfl ((preLine (F := F)).still_at (k := 106) rfl (by decide))
  exact h
theorem q_call2_v13 : (after preOps V (Proc.devRef .tc main_call2_v13) : C F S80 .i32) = (subi : C F S80 .i32 → C F S80 .i32 → C F S80 .i32) (after preOps V (Proc.devRef .tc main_call2_v2) : C F S80 .i32) (after preOps V (Proc.devRef .tc main_call2_v12) : C F S80 .i32) := by
  have h := preLine.binary V 108 rfl rfl ((preLine (F := F)).still_at (k := 95) rfl (by decide)) ((preLine (F := F)).still_at (k := 107) rfl (by decide))
  exact h
theorem q_v67 : (after preOps V (Proc.devRef .tc main_v67) : C F S80 .i32) = (select : C F S80 .i1 → C F S80 .i32 → C F S80 .i32 → C F S80 .i32) (after preOps V (Proc.devRef .tc main_call2_v11) : C F S80 .i1) (after preOps V (Proc.devRef .tc main_call2_v13) : C F S80 .i32) (after preOps V (Proc.devRef .tc main_call2_v2) : C F S80 .i32) := by
  have h := preLine.ternary V 109 rfl rfl ((preLine (F := F)).still_at (k := 105) rfl (by decide)) ((preLine (F := F)).still_at (k := 108) rfl (by decide)) ((preLine (F := F)).still_at (k := 95) rfl (by decide))
  exact h
theorem q_c_20 : (after preOps V (Proc.devRef .tc main_c_20) : C F S_ .i32) = (constantI S_ 32 16#32) := by
  have h := preLine.nullary V 110 rfl rfl
  exact h
theorem q_v68 : (after preOps V (Proc.devRef .tc main_v68) : C F S80 .i32) = (broadcastInDim S80 ![] bcast_S_S80 : C F S_ .i32 → C F S80 .i32) (after preOps V (Proc.devRef .tc main_c_20) : C F S_ .i32) := by
  have h := preLine.unary V 111 rfl rfl ((preLine (F := F)).still_at (k := 110) rfl (by decide))
  exact h
theorem q_v69 : (after preOps V (Proc.devRef .tc main_v69) : C F S80 .i32) = (muli : C F S80 .i32 → C F S80 .i32 → C F S80 .i32) (after preOps V (Proc.devRef .tc main_v67) : C F S80 .i32) (after preOps V (Proc.devRef .tc main_v68) : C F S80 .i32) := by
  have h := preLine.binary V 112 rfl rfl ((preLine (F := F)).still_at (k := 109) rfl (by decide)) ((preLine (F := F)).still_at (k := 111) rfl (by decide))
  exact h
theorem q_c_21 : (after preOps V (Proc.devRef .tc main_c_21) : C F S_ .i32) = (constantI S_ 32 0#32) := by
  have h := preLine.nullary V 113 rfl rfl
  exact h
theorem q_v70 : (after preOps V (Proc.devRef .tc main_v70) : C F S1 .i32) = (broadcastInDim S1 ![] bcast_S_S1 : C F S_ .i32 → C F S1 .i32) (after preOps V (Proc.devRef .tc main_c_21) : C F S_ .i32) := by
  have h := preLine.unary V 114 rfl rfl ((preLine (F := F)).still_at (k := 113) rfl (by decide))
  exact h
theorem q_call3_call0_c : (after preOps V (Proc.devRef .tc main_call3_call0_c) : C F S_ .i32) = (constantI S_ 32 0#32) := by
  have h := preLine.nullary V 115 rfl rfl
  exact h
theorem q_call3_call0_v0 : (after preOps V (Proc.devRef .tc main_call3_call0_v0) : C F S_ .i32) = ((broadcastInDim S_ ![] bcast_S_S_) : C F S_ .i32 → C F S_ .i32) (after preOps V (Proc.devRef .tc main_call3_call0_c) : C F S_ .i32) := by
  have h := preLine.unary V 116 rfl rfl ((preLine (F := F)).still_at (k := 115) rfl (by decide))
  exact h
theorem q_v71 : (after preOps V (Proc.devRef .tc main_v71) : C F S80 .i32) = ((fun x v => Host.reduceWindow IntOp.addi ![80] ![1] ![79] ![0] x v reduceWindows_S80_S80_w80s1p79_0 h_S_) : C F S80 .i32 → C F S_ .i32 → C F S80 .i32) (after preOps V (Proc.devRef .tc main_v69) : C F S80 .i32) (after preOps V (Proc.devRef .tc main_call3_call0_v0) : C F S_ .i32) := by
  have h := preLine.binary V 117 rfl rfl ((preLine (F := F)).still_at (k := 112) rfl (by decide)) ((preLine (F := F)).still_at (k := 116) rfl (by decide))
  exact h
theorem q_v72 : (after preOps V (Proc.devRef .tc main_v72) : C F S81 .i32) = ((fun a b => concatenate S81 0 [⟨S1, a⟩, ⟨S80, b⟩] concatenates_S1_S80_S81_d0) : C F S1 .i32 → C F S80 .i32 → C F S81 .i32) (after preOps V (Proc.devRef .tc main_v70) : C F S1 .i32) (after preOps V (Proc.devRef .tc main_v71) : C F S80 .i32) := by
  have h := preLine.binary V 118 rfl rfl ((preLine (F := F)).still_at (k := 114) rfl (by decide)) ((preLine (F := F)).still_at (k := 117) rfl (by decide))
  exact h
theorem q_c_22 : (after preOps V (Proc.devRef .tc main_c_22) : C F S_ .i32) = (constantI S_ 32 0#32) := by
  have h := preLine.nullary V 119 rfl rfl
  exact h
theorem q_v73 : (after preOps V (Proc.devRef .tc main_v73) : C F S1 .i32) = (broadcastInDim S1 ![] bcast_S_S1 : C F S_ .i32 → C F S1 .i32) (after preOps V (Proc.devRef .tc main_c_22) : C F S_ .i32) := by
  have h := preLine.unary V 120 rfl rfl ((preLine (F := F)).still_at (k := 119) rfl (by decide))
  exact h
theorem q_call4_call0_c : (after preOps V (Proc.devRef .tc main_call4_call0_c) : C F S_ .i32) = (constantI S_ 32 0#32) := by
  have h := preLine.nullary V 121 rfl rfl
  exact h
theorem q_call4_call0_v0 : (after preOps V (Proc.devRef .tc main_call4_call0_v0) : C F S_ .i32) = ((broadcastInDim S_ ![] bcast_S_S_) : C F S_ .i32 → C F S_ .i32) (after preOps V (Proc.devRef .tc main_call4_call0_c) : C F S_ .i32) := by
  have h := preLine.unary V 122 rfl rfl ((preLine (F := F)).still_at (k := 121) rfl (by decide))
  exact h
theorem q_v74 : (after preOps V (Proc.devRef .tc main_v74) : C F S80 .i32) = ((fun x v => Host.reduceWindow IntOp.addi ![80] ![1] ![79] ![0] x v reduceWindows_S80_S80_w80s1p79_0 h_S_) : C F S80 .i32 → C F S_ .i32 → C F S80 .i32) (after preOps V (Proc.devRef .tc main_v53) : C F S80 .i32) (after preOps V (Proc.devRef .tc main_call4_call0_v0) : C F S_ .i32) := by
  have h := preLine.binary V 123 rfl rfl ((preLine (F := F)).still_at (k := 73) rfl (by decide)) ((preLine (F := F)).still_at (k := 122) rfl (by decide))
  exact h
theorem q_v75 : (after preOps V (Proc.devRef .tc main_v75) : C F S79 .i32) = ((extractStridedSlice S79 ![0] · slices_S80_S79_0) : C F S80 .i32 → C F S79 .i32) (after preOps V (Proc.devRef .tc main_v74) : C F S80 .i32) := by
  have h := preLine.unary V 124 rfl rfl ((preLine (F := F)).still_at (k := 123) rfl (by decide))
  exact h
theorem q_v76 : (after preOps V (Proc.devRef .tc main_v76) : C F S80 .i32) = ((fun a b => concatenate S80 0 [⟨S1, a⟩, ⟨S79, b⟩] concatenates_S1_S79_S80_d0) : C F S1 .i32 → C F S79 .i32 → C F S80 .i32) (after preOps V (Proc.devRef .tc main_v73) : C F S1 .i32) (after preOps V (Proc.devRef .tc main_v75) : C F S79 .i32) := by
  have h := preLine.binary V 125 rfl rfl ((preLine (F := F)).still_at (k := 120) rfl (by decide)) ((preLine (F := F)).still_at (k := 124) rfl (by decide))
  exact h
theorem q_c_23 : (after preOps V (Proc.devRef .tc main_c_23) : C F S_ .i32) = (constantI S_ 32 0#32) := by
  have h := preLine.nullary V 126 rfl rfl
  exact h
theorem q_v77 : (after preOps V (Proc.devRef .tc main_v77) : C F S20000 .i32) = (broadcastInDim S20000 ![] bcast_S_S20000 : C F S_ .i32 → C F S20000 .i32) (after preOps V (Proc.devRef .tc main_c_23) : C F S_ .i32) := by
  have h := preLine.unary V 127 rfl rfl ((preLine (F := F)).still_at (k := 126) rfl (by decide))
  exact h
theorem q_v78 : (after preOps V (Proc.devRef .tc main_v78) : C F S20000 .i1) = (cmpi .slt : C F S20000 .i32 → C F S20000 .i32 → C F S20000 .i1) (after preOps V (Proc.devRef .tc main_v44) : C F S20000 .i32) (after preOps V (Proc.devRef .tc main_v77) : C F S20000 .i32) := by
  have h := preLine.binary V 128 rfl rfl ((preLine (F := F)).still_at (k := 60) rfl (by decide)) ((preLine (F := F)).still_at (k := 127) rfl (by decide))
  exact h
theorem q_c_24 : (after preOps V (Proc.devRef .tc main_c_24) : C F S_ .i32) = (constantI S_ 32 81#32) := by
  have h := preLine.nullary V 129 rfl rfl
  exact h
theorem q_v79 : (after preOps V (Proc.devRef .tc main_v79) : C F S20000 .i32) = (broadcastInDim S20000 ![] bcast_S_S20000 : C F S_ .i32 → C F S20000 .i32) (after preOps V (Proc.devRef .tc main_c_24) : C F S_ .i32) := by
  have h := preLine.unary V 130 rfl rfl ((preLine (F := F)).still_at (k := 129) rfl (by decide))
  exact h
theorem q_v80 : (after preOps V (Proc.devRef .tc main_v80) : C F S20000 .i32) = (addi : C F S20000 .i32 → C F S20000 .i32 → C F S20000 .i32) (after preOps V (Proc.devRef .tc main_v44) : C F S20000 .i32) (after preOps V (Proc.devRef .tc main_v79) : C F S20000 .i32) := by
  have h := preLine.binary V 131 rfl rfl ((preLine (F := F)).still_at (k := 60) rfl (by decide)) ((preLine (F := F)).still_at (k := 130) rfl (by decide))
  exact h
theorem q_v81 : (after preOps V (Proc.devRef .tc main_v81) : C F S20000 .i32) = (select : C F S20000 .i1 → C F S20000 .i32 → C F S20000 .i32 → C F S20000 .i32) (after preOps V (Proc.devRef .tc main_v78) : C F S20000 .i1) (after preOps V (Proc.devRef .tc main_v80) : C F S20000 .i32) (after preOps V (Proc.devRef .tc main_v44) : C F S20000 .i32) := by
  have h := preLine.ternary V 132 rfl rfl ((preLine (F := F)).still_at (k := 128) rfl (by decide)) ((preLine (F := F)).still_at (k := 131) rfl (by decide)) ((preLine (F := F)).still_at (k := 60) rfl (by decide))
  exact h
theorem q_v82 : (after preOps V (Proc.devRef .tc main_v82) : C F S20000x1 .i32) = (broadcastInDim S20000x1 ![0] bcast_S20000_S20000x1_0 : C F S20000 .i32 → C F S20000x1 .i32) (after preOps V (Proc.devRef .tc main_v81) : C F S20000 .i32) := by
  have h := preLine.unary V 133 rfl rfl ((preLine (F := F)).still_at (k := 132) rfl (by decide))
  exact h
theorem q_v83 : (after preOps V (Proc.devRef .tc main_v83) : C F S20000 .i32) = ((fun x i => Host.gather gather_S81_S20000x1_S20000_n_0_n_n_0_1_1 x i) : C F S81 .i32 → C F S20000x1 .i32 → C F S20000 .i32) (after preOps V (Proc.devRef .tc main_v72) : C F S81 .i32) (after preOps V (Proc.devRef .tc main_v82) : C F S20000x1 .i32) := by
  have h := preLine.binary V 134 rfl rfl ((preLine (F := F)).still_at (k := 118) rfl (by decide)) ((preLine (F := F)).still_at (k := 133) rfl (by decide))
  exact h
theorem q_v84 : (after preOps V (Proc.devRef .tc main_v84) : C F S20000 .i32) = (iotaInDim S20000 32 0) := by
  have h := preLine.nullary V 135 rfl rfl
  exact h
theorem q_c_25 : (after preOps V (Proc.devRef .tc main_c_25) : C F S_ .i32) = (constantI S_ 32 0#32) := by
  have h := preLine.nullary V 136 rfl rfl
  exact h
theorem q_v85 : (after preOps V (Proc.devRef .tc main_v85) : C F S20000 .i32) = (broadcastInDim S20000 ![] bcast_S_S20000 : C F S_ .i32 → C F S20000 .i32) (after preOps V (Proc.devRef .tc main_c_25) : C F S_ .i32) := by
  have h := preLine.unary V 137 rfl rfl ((preLine (F := F)).still_at (k := 136) rfl (by decide))
  exact h
theorem q_v86 : (after preOps V (Proc.devRef .tc main_v86) : C F S20000 .i1) = (cmpi .slt : C F S20000 .i32 → C F S20000 .i32 → C F S20000 .i1) (after preOps V (Proc.devRef .tc main_v44) : C F S20000 .i32) (after preOps V (Proc.devRef .tc main_v85) : C F S20000 .i32) := by
  have h := preLine.binary V 138 rfl rfl ((preLine (F := F)).still_at (k := 60) rfl (by decide)) ((preLine (F := F)).still_at (k := 137) rfl (by decide))
  exact h
theorem q_c_26 : (after preOps V (Proc.devRef .tc main_c_26) : C F S_ .i32) = (constantI S_ 32 80#32) := by
  have h := preLine.nullary V 139 rfl rfl
  exact h
theorem q_v87 : (after preOps V (Proc.devRef .tc main_v87) : C F S20000 .i32) = (broadcastInDim S20000 ![] bcast_S_S20000 : C F S_ .i32 → C F S20000 .i32) (after preOps V (Proc.devRef .tc main_c_26) : C F S_ .i32) := by
  have h := preLine.unary V 140 rfl rfl ((preLine (F := F)).still_at (k := 139) rfl (by decide))
  exact h
theorem q_v88 : (after preOps V (Proc.devRef .tc main_v88) : C F S20000 .i32) = (addi : C F S20000 .i32 → C F S20000 .i32 → C F S20000 .i32) (after preOps V (Proc.devRef .tc main_v44) : C F S20000 .i32) (after preOps V (Proc.devRef .tc main_v87) : C F S20000 .i32) := by
  have h := preLine.binary V 141 rfl rfl ((preLine (F := F)).still_at (k := 60) rfl (by decide)) ((preLine (F := F)).still_at (k := 140) rfl (by decide))
  exact h
theorem q_v89 : (after preOps V (Proc.devRef .tc main_v89) : C F S20000 .i32) = (select : C F S20000 .i1 → C F S20000 .i32 → C F S20000 .i32 → C F S20000 .i32) (after preOps V (Proc.devRef .tc main_v86) : C F S20000 .i1) (after preOps V (Proc.devRef .tc main_v88) : C F S20000 .i32) (after preOps V (Proc.devRef .tc main_v44) : C F S20000 .i32) := by
  have h := preLine.ternary V 142 rfl rfl ((preLine (F := F)).still_at (k := 138) rfl (by decide)) ((preLine (F := F)).still_at (k := 141) rfl (by decide)) ((preLine (F := F)).still_at (k := 60) rfl (by decide))
  exact h
theorem q_v90 : (after preOps V (Proc.devRef .tc main_v90) : C F S20000x1 .i32) = (broadcastInDim S20000x1 ![0] bcast_S20000_S20000x1_0 : C F S20000 .i32 → C F S20000x1 .i32) (after preOps V (Proc.devRef .tc main_v89) : C F S20000 .i32) := by
  have h := preLine.unary V 143 rfl rfl ((preLine (F := F)).still_at (k := 142) rfl (by decide))
  exact h
theorem q_v91 : (after preOps V (Proc.devRef .tc main_v91) : C F S20000 .i32) = ((fun x i => Host.gather gather_S80_S20000x1_S20000_n_0_n_n_0_1_1 x i) : C F S80 .i32 → C F S20000x1 .i32 → C F S20000 .i32) (after preOps V (Proc.devRef .tc main_v76) : C F S80 .i32) (after preOps V (Proc.devRef .tc main_v90) : C F S20000x1 .i32) := by
  have h := preLine.binary V 144 rfl rfl ((preLine (F := F)).still_at (k := 125) rfl (by decide)) ((preLine (F := F)).still_at (k := 143) rfl (by decide))
  exact h
theorem q_v92 : (after preOps V (Proc.devRef .tc main_v92) : C F S20000 .i32) = (subi : C F S20000 .i32 → C F S20000 .i32 → C F S20000 .i32) (after preOps V (Proc.devRef .tc main_v84) : C F S20000 .i32) (after preOps V (Proc.devRef .tc main_v91) : C F S20000 .i32) := by
  have h := preLine.binary V 145 rfl rfl ((preLine (F := F)).still_at (k := 135) rfl (by decide)) ((preLine (F := F)).still_at (k := 144) rfl (by decide))
  exact h
theorem q_v93 : (after preOps V (Proc.devRef .tc main_v93) : C F S20000 .i32) = (addi : C F S20000 .i32 → C F S20000 .i32 → C F S20000 .i32) (after preOps V (Proc.devRef .tc main_v83) : C F S20000 .i32) (after preOps V (Proc.devRef .tc main_v92) : C F S20000 .i32) := by
  have h := preLine.binary V 146 rfl rfl ((preLine (F := F)).still_at (k := 134) rfl (by decide)) ((preLine (F := F)).still_at (k := 145) rfl (by decide))
  exact h
theorem q_cst_27 : (after preOps V (Proc.devRef .tc main_cst_27) : C F S_ .f32) = (constant S_ .f32 0x00000000#32) := by
  have h := preLine.nullary V 147 rfl rfl
  exact h
theorem q_v94 : (after preOps V (Proc.devRef .tc main_v94) : C F S21280 .f32) = (broadcastInDim S21280 ![] bcast_S_S21280 : C F S_ .f32 → C F S21280 .f32) (after preOps V (Proc.devRef .tc main_cst_27) : C F S_ .f32) := by
  have h := preLine.unary V 148 rfl rfl ((preLine (F := F)).still_at (k := 147) rfl (by decide))
  exact h
theorem q_v95 : (after preOps V (Proc.devRef .tc main_v95) : C F S20000x1 .f32) = ((extractStridedSlice S20000x1 ![0, 0] · slices_S20000x4_S20000x1_0_0) : C F S20000x4 .f32 → C F S20000x1 .f32) (after preOps V (Proc.devRef .tc main_v30) : C F S20000x4 .f32) := by
  have h := preLine.unary V 149 rfl rfl ((preLine (F := F)).still_at (k := 42) rfl (by decide))
  exact h
theorem q_v96 : (after preOps V (Proc.devRef .tc main_v96) : C F S20000 .f32) = shapeCast S20000 (after preOps V (Proc.devRef .tc main_v95) : C F S20000x1 .f32) shapeCasts_S20000x1_S20000 := by
  have h := preLine.reshape V 150 rfl rfl ((preLine (F := F)).still_at (k := 149) rfl (by decide))
  exact h
theorem q_c_28 : (after preOps V (Proc.devRef .tc main_c_28) : C F S_ .i32) = (constantI S_ 32 0#32) := by
  have h := preLine.nullary V 151 rfl rfl
  exact h
theorem q_v97 : (after preOps V (Proc.devRef .tc main_v97) : C F S20000 .i32) = (broadcastInDim S20000 ![] bcast_S_S20000 : C F S_ .i32 → C F S20000 .i32) (after preOps V (Proc.devRef .tc main_c_28) : C F S_ .i32) := by
  have h := preLine.unary V 152 rfl rfl ((preLine (F := F)).still_at (k := 151) rfl (by decide))
  exact h
theorem q_v98 : (after preOps V (Proc.devRef .tc main_v98) : C F S20000 .i1) = (cmpi .slt : C F S20000 .i32 → C F S20000 .i32 → C F S20000 .i1) (after preOps V (Proc.devRef .tc main_v93) : C F S20000 .i32) (after preOps V (Proc.devRef .tc main_v97) : C F S20000 .i32) := by
  have h := preLine.binary V 153 rfl rfl ((preLine (F := F)).still_at (k := 146) rfl (by decide)) ((preLine (F := F)).still_at (k := 152) rfl (by decide))
  exact h
theorem q_c_29 : (after preOps V (Proc.devRef .tc main_c_29) : C F S_ .i32) = (constantI S_ 32 21280#32) := by
  have h := preLine.nullary V 154 rfl rfl
  exact h
theorem q_v99 : (after preOps V (Proc.devRef .tc main_v99) : C F S20000 .i32) = (broadcastInDim S20000 ![] bcast_S_S20000 : C F S_ .i32 → C F S20000 .i32) (after preOps V (Proc.devRef .tc main_c_29) : C F S_ .i32) := by
  have h := preLine.unary V 155 rfl rfl ((preLine (F := F)).still_at (k := 154) rfl (by decide))
  exact h
theorem q_v100 : (after preOps V (Proc.devRef .tc main_v100) : C F S20000 .i32) = (addi : C F S20000 .i32 → C F S20000 .i32 → C F S20000 .i32) (after preOps V (Proc.devRef .tc main_v93) : C F S20000 .i32) (after preOps V (Proc.devRef .tc main_v99) : C F S20000 .i32) := by
  have h := preLine.binary V 156 rfl rfl ((preLine (F := F)).still_at (k := 146) rfl (by decide)) ((preLine (F := F)).still_at (k := 155) rfl (by decide))
  exact h
theorem q_v101 : (after preOps V (Proc.devRef .tc main_v101) : C F S20000 .i32) = (select : C F S20000 .i1 → C F S20000 .i32 → C F S20000 .i32 → C F S20000 .i32) (after preOps V (Proc.devRef .tc main_v98) : C F S20000 .i1) (after preOps V (Proc.devRef .tc main_v100) : C F S20000 .i32) (after preOps V (Proc.devRef .tc main_v93) : C F S20000 .i32) := by
  have h := preLine.ternary V 157 rfl rfl ((preLine (F := F)).still_at (k := 153) rfl (by decide)) ((preLine (F := F)).still_at (k := 156) rfl (by decide)) ((preLine (F := F)).still_at (k := 146) rfl (by decide))
  exact h
theorem q_v102 : (after preOps V (Proc.devRef .tc main_v102) : C F S20000x1 .i32) = (broadcastInDim S20000x1 ![0] bcast_S20000_S20000x1_0 : C F S20000 .i32 → C F S20000x1 .i32) (after preOps V (Proc.devRef .tc main_v101) : C F S20000 .i32) := by
  have h := preLine.unary V 158 rfl rfl ((preLine (F := F)).still_at (k := 157) rfl (by decide))
  exact h
theorem q_v103 : (after preOps V (Proc.devRef .tc main_v103) : C F S21280 .f32) = ((fun x i u => Host.scatter scatter_S21280_S20000x1_S20000_n_0_0_1 (fun _ b => b) x i u) : C F S21280 .f32 → C F S20000x1 .i32 → C F S20000 .f32 → C F S21280 .f32) (after preOps V (Proc.devRef .tc main_v94) : C F S21280 .f32) (after preOps V (Proc.devRef .tc main_v102) : C F S20000x1 .i32) (after preOps V (Proc.devRef .tc main_v96) : C F S20000 .f32) := by
  have h := preLine.ternary V 159 rfl rfl ((preLine (F := F)).still_at (k := 148) rfl (by decide)) ((preLine (F := F)).still_at (k := 158) rfl (by decide)) ((preLine (F := F)).still_at (k := 150) rfl (by decide))
  exact h
theorem q_cst_30 : (after preOps V (Proc.devRef .tc main_cst_30) : C F S_ .f32) = (constant S_ .f32 0x00000000#32) := by
  have h := preLine.nullary V 160 rfl rfl
  exact h
theorem q_v104 : (after preOps V (Proc.devRef .tc main_v104) : C F S21280 .f32) = (broadcastInDim S21280 ![] bcast_S_S21280 : C F S_ .f32 → C F S21280 .f32) (after preOps V (Proc.devRef .tc main_cst_30) : C F S_ .f32) := by
  have h := preLine.unary V 161 rfl rfl ((preLine (F := F)).still_at (k := 160) rfl (by decide))
  exact h
theorem q_v105 : (after preOps V (Proc.devRef .tc main_v105) : C F S20000x1 .f32) = ((extractStridedSlice S20000x1 ![0, 1] · slices_S20000x4_S20000x1_0_1) : C F S20000x4 .f32 → C F S20000x1 .f32) (after preOps V (Proc.devRef .tc main_v30) : C F S20000x4 .f32) := by
  have h := preLine.unary V 162 rfl rfl ((preLine (F := F)).still_at (k := 42) rfl (by decide))
  exact h
theorem q_v106 : (after preOps V (Proc.devRef .tc main_v106) : C F S20000 .f32) = shapeCast S20000 (after preOps V (Proc.devRef .tc main_v105) : C F S20000x1 .f32) shapeCasts_S20000x1_S20000 := by
  have h := preLine.reshape V 163 rfl rfl ((preLine (F := F)).still_at (k := 162) rfl (by decide))
  exact h
theorem q_c_31 : (after preOps V (Proc.devRef .tc main_c_31) : C F S_ .i32) = (constantI S_ 32 0#32) := by
  have h := preLine.nullary V 164 rfl rfl
  exact h
theorem q_v107 : (after preOps V (Proc.devRef .tc main_v107) : C F S20000 .i32) = (broadcastInDim S20000 ![] bcast_S_S20000 : C F S_ .i32 → C F S20000 .i32) (after preOps V (Proc.devRef .tc main_c_31) : C F S_ .i32) := by
  have h := preLine.unary V 165 rfl rfl ((preLine (F := F)).still_at (k := 164) rfl (by decide))
  exact h
theorem q_v108 : (after preOps V (Proc.devRef .tc main_v108) : C F S20000 .i1) = (cmpi .slt : C F S20000 .i32 → C F S20000 .i32 → C F S20000 .i1) (after preOps V (Proc.devRef .tc main_v93) : C F S20000 .i32) (after preOps V (Proc.devRef .tc main_v107) : C F S20000 .i32) := by
  have h := preLine.binary V 166 rfl rfl ((preLine (F := F)).still_at (k := 146) rfl (by decide)) ((preLine (F := F)).still_at (k := 165) rfl (by decide))
  exact h
theorem q_c_32 : (after preOps V (Proc.devRef .tc main_c_32) : C F S_ .i32) = (constantI S_ 32 21280#32) := by
  have h := preLine.nullary V 167 rfl rfl
  exact h
theorem q_v109 : (after preOps V (Proc.devRef .tc main_v109) : C F S20000 .i32) = (broadcastInDim S20000 ![] bcast_S_S20000 : C F S_ .i32 → C F S20000 .i32) (after preOps V (Proc.devRef .tc main_c_32) : C F S_ .i32) := by
  have h := preLine.unary V 168 rfl rfl ((preLine (F := F)).still_at (k := 167) rfl (by decide))
  exact h
theorem q_v110 : (after preOps V (Proc.devRef .tc main_v110) : C F S20000 .i32) = (addi : C F S20000 .i32 → C F S20000 .i32 → C F S20000 .i32) (after preOps V (Proc.devRef .tc main_v93) : C F S20000 .i32) (after preOps V (Proc.devRef .tc main_v109) : C F S20000 .i32) := by
  have h := preLine.binary V 169 rfl rfl ((preLine (F := F)).still_at (k := 146) rfl (by decide)) ((preLine (F := F)).still_at (k := 168) rfl (by decide))
  exact h
theorem q_v111 : (after preOps V (Proc.devRef .tc main_v111) : C F S20000 .i32) = (select : C F S20000 .i1 → C F S20000 .i32 → C F S20000 .i32 → C F S20000 .i32) (after preOps V (Proc.devRef .tc main_v108) : C F S20000 .i1) (after preOps V (Proc.devRef .tc main_v110) : C F S20000 .i32) (after preOps V (Proc.devRef .tc main_v93) : C F S20000 .i32) := by
  have h := preLine.ternary V 170 rfl rfl ((preLine (F := F)).still_at (k := 166) rfl (by decide)) ((preLine (F := F)).still_at (k := 169) rfl (by decide)) ((preLine (F := F)).still_at (k := 146) rfl (by decide))
  exact h
theorem q_v112 : (after preOps V (Proc.devRef .tc main_v112) : C F S20000x1 .i32) = (broadcastInDim S20000x1 ![0] bcast_S20000_S20000x1_0 : C F S20000 .i32 → C F S20000x1 .i32) (after preOps V (Proc.devRef .tc main_v111) : C F S20000 .i32) := by
  have h := preLine.unary V 171 rfl rfl ((preLine (F := F)).still_at (k := 170) rfl (by decide))
  exact h
theorem q_v113 : (after preOps V (Proc.devRef .tc main_v113) : C F S21280 .f32) = ((fun x i u => Host.scatter scatter_S21280_S20000x1_S20000_n_0_0_1 (fun _ b => b) x i u) : C F S21280 .f32 → C F S20000x1 .i32 → C F S20000 .f32 → C F S21280 .f32) (after preOps V (Proc.devRef .tc main_v104) : C F S21280 .f32) (after preOps V (Proc.devRef .tc main_v112) : C F S20000x1 .i32) (after preOps V (Proc.devRef .tc main_v106) : C F S20000 .f32) := by
  have h := preLine.ternary V 172 rfl rfl ((preLine (F := F)).still_at (k := 161) rfl (by decide)) ((preLine (F := F)).still_at (k := 171) rfl (by decide)) ((preLine (F := F)).still_at (k := 163) rfl (by decide))
  exact h
theorem q_cst_33 : (after preOps V (Proc.devRef .tc main_cst_33) : C F S_ .f32) = (constant S_ .f32 0x00000000#32) := by
  have h := preLine.nullary V 173 rfl rfl
  exact h
theorem q_v114 : (after preOps V (Proc.devRef .tc main_v114) : C F S21280 .f32) = (broadcastInDim S21280 ![] bcast_S_S21280 : C F S_ .f32 → C F S21280 .f32) (after preOps V (Proc.devRef .tc main_cst_33) : C F S_ .f32) := by
  have h := preLine.unary V 174 rfl rfl ((preLine (F := F)).still_at (k := 173) rfl (by decide))
  exact h
theorem q_v115 : (after preOps V (Proc.devRef .tc main_v115) : C F S20000x1 .f32) = ((extractStridedSlice S20000x1 ![0, 2] · slices_S20000x4_S20000x1_0_2) : C F S20000x4 .f32 → C F S20000x1 .f32) (after preOps V (Proc.devRef .tc main_v30) : C F S20000x4 .f32) := by
  have h := preLine.unary V 175 rfl rfl ((preLine (F := F)).still_at (k := 42) rfl (by decide))
  exact h
theorem q_v116 : (after preOps V (Proc.devRef .tc main_v116) : C F S20000 .f32) = shapeCast S20000 (after preOps V (Proc.devRef .tc main_v115) : C F S20000x1 .f32) shapeCasts_S20000x1_S20000 := by
  have h := preLine.reshape V 176 rfl rfl ((preLine (F := F)).still_at (k := 175) rfl (by decide))
  exact h
theorem q_c_34 : (after preOps V (Proc.devRef .tc main_c_34) : C F S_ .i32) = (constantI S_ 32 0#32) := by
  have h := preLine.nullary V 177 rfl rfl
  exact h
theorem q_v117 : (after preOps V (Proc.devRef .tc main_v117) : C F S20000 .i32) = (broadcastInDim S20000 ![] bcast_S_S20000 : C F S_ .i32 → C F S20000 .i32) (after preOps V (Proc.devRef .tc main_c_34) : C F S_ .i32) := by
  have h := preLine.unary V 178 rfl rfl ((preLine (F := F)).still_at (k := 177) rfl (by decide))
  exact h
theorem q_v118 : (after preOps V (Proc.devRef .tc main_v118) : C F S20000 .i1) = (cmpi .slt : C F S20000 .i32 → C F S20000 .i32 → C F S20000 .i1) (after preOps V (Proc.devRef .tc main_v93) : C F S20000 .i32) (after preOps V (Proc.devRef .tc main_v117) : C F S20000 .i32) := by
  have h := preLine.binary V 179 rfl rfl ((preLine (F := F)).still_at (k := 146) rfl (by decide)) ((preLine (F := F)).still_at (k := 178) rfl (by decide))
  exact h
theorem q_c_35 : (after preOps V (Proc.devRef .tc main_c_35) : C F S_ .i32) = (constantI S_ 32 21280#32) := by
  have h := preLine.nullary V 180 rfl rfl
  exact h
theorem q_v119 : (after preOps V (Proc.devRef .tc main_v119) : C F S20000 .i32) = (broadcastInDim S20000 ![] bcast_S_S20000 : C F S_ .i32 → C F S20000 .i32) (after preOps V (Proc.devRef .tc main_c_35) : C F S_ .i32) := by
  have h := preLine.unary V 181 rfl rfl ((preLine (F := F)).still_at (k := 180) rfl (by decide))
  exact h
theorem q_v120 : (after preOps V (Proc.devRef .tc main_v120) : C F S20000 .i32) = (addi : C F S20000 .i32 → C F S20000 .i32 → C F S20000 .i32) (after preOps V (Proc.devRef .tc main_v93) : C F S20000 .i32) (after preOps V (Proc.devRef .tc main_v119) : C F S20000 .i32) := by
  have h := preLine.binary V 182 rfl rfl ((preLine (F := F)).still_at (k := 146) rfl (by decide)) ((preLine (F := F)).still_at (k := 181) rfl (by decide))
  exact h
theorem q_v121 : (after preOps V (Proc.devRef .tc main_v121) : C F S20000 .i32) = (select : C F S20000 .i1 → C F S20000 .i32 → C F S20000 .i32 → C F S20000 .i32) (after preOps V (Proc.devRef .tc main_v118) : C F S20000 .i1) (after preOps V (Proc.devRef .tc main_v120) : C F S20000 .i32) (after preOps V (Proc.devRef .tc main_v93) : C F S20000 .i32) := by
  have h := preLine.ternary V 183 rfl rfl ((preLine (F := F)).still_at (k := 179) rfl (by decide)) ((preLine (F := F)).still_at (k := 182) rfl (by decide)) ((preLine (F := F)).still_at (k := 146) rfl (by decide))
  exact h
theorem q_v122 : (after preOps V (Proc.devRef .tc main_v122) : C F S20000x1 .i32) = (broadcastInDim S20000x1 ![0] bcast_S20000_S20000x1_0 : C F S20000 .i32 → C F S20000x1 .i32) (after preOps V (Proc.devRef .tc main_v121) : C F S20000 .i32) := by
  have h := preLine.unary V 184 rfl rfl ((preLine (F := F)).still_at (k := 183) rfl (by decide))
  exact h
theorem q_v123 : (after preOps V (Proc.devRef .tc main_v123) : C F S21280 .f32) = ((fun x i u => Host.scatter scatter_S21280_S20000x1_S20000_n_0_0_1 (fun _ b => b) x i u) : C F S21280 .f32 → C F S20000x1 .i32 → C F S20000 .f32 → C F S21280 .f32) (after preOps V (Proc.devRef .tc main_v114) : C F S21280 .f32) (after preOps V (Proc.devRef .tc main_v122) : C F S20000x1 .i32) (after preOps V (Proc.devRef .tc main_v116) : C F S20000 .f32) := by
  have h := preLine.ternary V 185 rfl rfl ((preLine (F := F)).still_at (k := 174) rfl (by decide)) ((preLine (F := F)).still_at (k := 184) rfl (by decide)) ((preLine (F := F)).still_at (k := 176) rfl (by decide))
  exact h
theorem q_cst_36 : (after preOps V (Proc.devRef .tc main_cst_36) : C F S_ .f32) = (constant S_ .f32 0x00000000#32) := by
  have h := preLine.nullary V 186 rfl rfl
  exact h
theorem q_v124 : (after preOps V (Proc.devRef .tc main_v124) : C F S21280 .f32) = (broadcastInDim S21280 ![] bcast_S_S21280 : C F S_ .f32 → C F S21280 .f32) (after preOps V (Proc.devRef .tc main_cst_36) : C F S_ .f32) := by
  have h := preLine.unary V 187 rfl rfl ((preLine (F := F)).still_at (k := 186) rfl (by decide))
  exact h
theorem q_v125 : (after preOps V (Proc.devRef .tc main_v125) : C F S20000x1 .f32) = ((extractStridedSlice S20000x1 ![0, 3] · slices_S20000x4_S20000x1_0_3) : C F S20000x4 .f32 → C F S20000x1 .f32) (after preOps V (Proc.devRef .tc main_v30) : C F S20000x4 .f32) := by
  have h := preLine.unary V 188 rfl rfl ((preLine (F := F)).still_at (k := 42) rfl (by decide))
  exact h
theorem q_v126 : (after preOps V (Proc.devRef .tc main_v126) : C F S20000 .f32) = shapeCast S20000 (after preOps V (Proc.devRef .tc main_v125) : C F S20000x1 .f32) shapeCasts_S20000x1_S20000 := by
  have h := preLine.reshape V 189 rfl rfl ((preLine (F := F)).still_at (k := 188) rfl (by decide))
  exact h
theorem q_c_37 : (after preOps V (Proc.devRef .tc main_c_37) : C F S_ .i32) = (constantI S_ 32 0#32) := by
  have h := preLine.nullary V 190 rfl rfl
  exact h
theorem q_v127 : (after preOps V (Proc.devRef .tc main_v127) : C F S20000 .i32) = (broadcastInDim S20000 ![] bcast_S_S20000 : C F S_ .i32 → C F S20000 .i32) (after preOps V (Proc.devRef .tc main_c_37) : C F S_ .i32) := by
  have h := preLine.unary V 191 rfl rfl ((preLine (F := F)).still_at (k := 190) rfl (by decide))
  exact h
theorem q_v128 : (after preOps V (Proc.devRef .tc main_v128) : C F S20000 .i1) = (cmpi .slt : C F S20000 .i32 → C F S20000 .i32 → C F S20000 .i1) (after preOps V (Proc.devRef .tc main_v93) : C F S20000 .i32) (after preOps V (Proc.devRef .tc main_v127) : C F S20000 .i32) := by
  have h := preLine.binary V 192 rfl rfl ((preLine (F := F)).still_at (k := 146) rfl (by decide)) ((preLine (F := F)).still_at (k := 191) rfl (by decide))
  exact h
theorem q_c_38 : (after preOps V (Proc.devRef .tc main_c_38) : C F S_ .i32) = (constantI S_ 32 21280#32) := by
  have h := preLine.nullary V 193 rfl rfl
  exact h
theorem q_v129 : (after preOps V (Proc.devRef .tc main_v129) : C F S20000 .i32) = (broadcastInDim S20000 ![] bcast_S_S20000 : C F S_ .i32 → C F S20000 .i32) (after preOps V (Proc.devRef .tc main_c_38) : C F S_ .i32) := by
  have h := preLine.unary V 194 rfl rfl ((preLine (F := F)).still_at (k := 193) rfl (by decide))
  exact h
theorem q_v130 : (after preOps V (Proc.devRef .tc main_v130) : C F S20000 .i32) = (addi : C F S20000 .i32 → C F S20000 .i32 → C F S20000 .i32) (after preOps V (Proc.devRef .tc main_v93) : C F S20000 .i32) (after preOps V (Proc.devRef .tc main_v129) : C F S20000 .i32) := by
  have h := preLine.binary V 195 rfl rfl ((preLine (F := F)).still_at (k := 146) rfl (by decide)) ((preLine (F := F)).still_at (k := 194) rfl (by decide))
  exact h
theorem q_v131 : (after preOps V (Proc.devRef .tc main_v131) : C F S20000 .i32) = (select : C F S20000 .i1 → C F S20000 .i32 → C F S20000 .i32 → C F S20000 .i32) (after preOps V (Proc.devRef .tc main_v128) : C F S20000 .i1) (after preOps V (Proc.devRef .tc main_v130) : C F S20000 .i32) (after preOps V (Proc.devRef .tc main_v93) : C F S20000 .i32) := by
  have h := preLine.ternary V 196 rfl rfl ((preLine (F := F)).still_at (k := 192) rfl (by decide)) ((preLine (F := F)).still_at (k := 195) rfl (by decide)) ((preLine (F := F)).still_at (k := 146) rfl (by decide))
  exact h
theorem q_v132 : (after preOps V (Proc.devRef .tc main_v132) : C F S20000x1 .i32) = (broadcastInDim S20000x1 ![0] bcast_S20000_S20000x1_0 : C F S20000 .i32 → C F S20000x1 .i32) (after preOps V (Proc.devRef .tc main_v131) : C F S20000 .i32) := by
  have h := preLine.unary V 197 rfl rfl ((preLine (F := F)).still_at (k := 196) rfl (by decide))
  exact h
theorem q_v133 : (after preOps V (Proc.devRef .tc main_v133) : C F S21280 .f32) = ((fun x i u => Host.scatter scatter_S21280_S20000x1_S20000_n_0_0_1 (fun _ b => b) x i u) : C F S21280 .f32 → C F S20000x1 .i32 → C F S20000 .f32 → C F S21280 .f32) (after preOps V (Proc.devRef .tc main_v124) : C F S21280 .f32) (after preOps V (Proc.devRef .tc main_v132) : C F S20000x1 .i32) (after preOps V (Proc.devRef .tc main_v126) : C F S20000 .f32) := by
  have h := preLine.ternary V 198 rfl rfl ((preLine (F := F)).still_at (k := 187) rfl (by decide)) ((preLine (F := F)).still_at (k := 197) rfl (by decide)) ((preLine (F := F)).still_at (k := 189) rfl (by decide))
  exact h
theorem q_cst_39 : (after preOps V (Proc.devRef .tc main_cst_39) : C F S_ .f32) = (constant S_ .f32 0x00000000#32) := by
  have h := preLine.nullary V 199 rfl rfl
  exact h
theorem q_v134 : (after preOps V (Proc.devRef .tc main_v134) : C F S21280 .f32) = (broadcastInDim S21280 ![] bcast_S_S21280 : C F S_ .f32 → C F S21280 .f32) (after preOps V (Proc.devRef .tc main_cst_39) : C F S_ .f32) := by
  have h := preLine.unary V 200 rfl rfl ((preLine (F := F)).still_at (k := 199) rfl (by decide))
  exact h
theorem q_cst_40 : (after preOps V (Proc.devRef .tc main_cst_40) : C F S_ .f32) = (constant S_ .f32 0x3F000000#32) := by
  have h := preLine.nullary V 201 rfl rfl
  exact h
theorem q_v135 : (after preOps V (Proc.devRef .tc main_v135) : C F S20000 .f32) = (broadcastInDim S20000 ![] bcast_S_S20000 : C F S_ .f32 → C F S20000 .f32) (after preOps V (Proc.devRef .tc main_cst_40) : C F S_ .f32) := by
  have h := preLine.unary V 202 rfl rfl ((preLine (F := F)).still_at (k := 201) rfl (by decide))
  exact h
theorem q_v136 : (after preOps V (Proc.devRef .tc main_v136) : C F S20000 .i1) = (cmpf .oge : C F S20000 .f32 → C F S20000 .f32 → C F S20000 .i1) (after preOps V (Proc.devRef .tc main_v37) : C F S20000 .f32) (after preOps V (Proc.devRef .tc main_v135) : C F S20000 .f32) := by
  have h := preLine.binary V 203 rfl rfl ((preLine (F := F)).still_at (k := 51) rfl (by decide)) ((preLine (F := F)).still_at (k := 202) rfl (by decide))
  exact h
theorem q_v137 : (after preOps V (Proc.devRef .tc main_v137) : C F S20000 .f32) = (uitofp .f32 : C F S20000 .i1 → C F S20000 .f32) (after preOps V (Proc.devRef .tc main_v136) : C F S20000 .i1) := by
  have h := preLine.unary V 204 rfl rfl ((preLine (F := F)).still_at (k := 203) rfl (by decide))
  exact h
theorem q_c_41 : (after preOps V (Proc.devRef .tc main_c_41) : C F S_ .i32) = (constantI S_ 32 0#32) := by
  have h := preLine.nullary V 205 rfl rfl
  exact h
theorem q_v138 : (after preOps V (Proc.devRef .tc main_v138) : C F S20000 .i32) = (broadcastInDim S20000 ![] bcast_S_S20000 : C F S_ .i32 → C F S20000 .i32) (after preOps V (Proc.devRef .tc main_c_41) : C F S_ .i32) := by
  have h := preLine.unary V 206 rfl rfl ((preLine (F := F)).still_at (k := 205) rfl (by decide))
  exact h
theorem q_v139 : (after preOps V (Proc.devRef .tc main_v139) : C F S20000 .i1) = (cmpi .slt : C F S20000 .i32 → C F S20000 .i32 → C F S20000 .i1) (after preOps V (Proc.devRef .tc main_v93) : C F S20000 .i32) (after preOps V (Proc.devRef .tc main_v138) : C F S20000 .i32) := by
  have h := preLine.binary V 207 rfl rfl ((preLine (F := F)).still_at (k := 146) rfl (by decide)) ((preLine (F := F)).still_at (k := 206) rfl (by decide))
  exact h
theorem q_c_42 : (after preOps V (Proc.devRef .tc main_c_42) : C F S_ .i32) = (constantI S_ 32 21280#32) := by
  have h := preLine.nullary V 208 rfl rfl
  exact h
theorem q_v140 : (after preOps V (Proc.devRef .tc main_v140) : C F S20000 .i32) = (broadcastInDim S20000 ![] bcast_S_S20000 : C F S_ .i32 → C F S20000 .i32) (after preOps V (Proc.devRef .tc main_c_42) : C F S_ .i32) := by
  have h := preLine.unary V 209 rfl rfl ((preLine (F := F)).still_at (k := 208) rfl (by decide))
  exact h
theorem q_v141 : (after preOps V (Proc.devRef .tc main_v141) : C F S20000 .i32) = (addi : C F S20000 .i32 → C F S20000 .i32 → C F S20000 .i32) (after preOps V (Proc.devRef .tc main_v93) : C F S20000 .i32) (after preOps V (Proc.devRef .tc main_v140) : C F S20000 .i32) := by
  have h := preLine.binary V 210 rfl rfl ((preLine (F := F)).still_at (k := 146) rfl (by decide)) ((preLine (F := F)).still_at (k := 209) rfl (by decide))
  exact h
theorem q_v142 : (after preOps V (Proc.devRef .tc main_v142) : C F S20000 .i32) = (select : C F S20000 .i1 → C F S20000 .i32 → C F S20000 .i32 → C F S20000 .i32) (after preOps V (Proc.devRef .tc main_v139) : C F S20000 .i1) (after preOps V (Proc.devRef .tc main_v141) : C F S20000 .i32) (after preOps V (Proc.devRef .tc main_v93) : C F S20000 .i32) := by
  have h := preLine.ternary V 211 rfl rfl ((preLine (F := F)).still_at (k := 207) rfl (by decide)) ((preLine (F := F)).still_at (k := 210) rfl (by decide)) ((preLine (F := F)).still_at (k := 146) rfl (by decide))
  exact h
theorem q_v143 : (after preOps V (Proc.devRef .tc main_v143) : C F S20000x1 .i32) = (broadcastInDim S20000x1 ![0] bcast_S20000_S20000x1_0 : C F S20000 .i32 → C F S20000x1 .i32) (after preOps V (Proc.devRef .tc main_v142) : C F S20000 .i32) := by
  have h := preLine.unary V 212 rfl rfl ((preLine (F := F)).still_at (k := 211) rfl (by decide))
  exact h
theorem q_v144 : (after preOps V (Proc.devRef .tc main_v144) : C F S21280 .f32) = ((fun x i u => Host.scatter scatter_S21280_S20000x1_S20000_n_0_0_1 (fun _ b => b) x i u) : C F S21280 .f32 → C F S20000x1 .i32 → C F S20000 .f32 → C F S21280 .f32) (after preOps V (Proc.devRef .tc main_v134) : C F S21280 .f32) (after preOps V (Proc.devRef .tc main_v143) : C F S20000x1 .i32) (after preOps V (Proc.devRef .tc main_v137) : C F S20000 .f32) := by
  have h := preLine.ternary V 213 rfl rfl ((preLine (F := F)).still_at (k := 200) rfl (by decide)) ((preLine (F := F)).still_at (k := 212) rfl (by decide)) ((preLine (F := F)).still_at (k := 204) rfl (by decide))
  exact h
theorem q_c_43 : (after preOps V (Proc.devRef .tc main_c_43) : C F S_ .i32) = (constantI S_ 32 0#32) := by
  have h := preLine.nullary V 214 rfl rfl
  exact h
theorem q_v145 : (after preOps V (Proc.devRef .tc main_v145) : C F S96 .i32) = (broadcastInDim S96 ![] bcast_S_S96 : C F S_ .i32 → C F S96 .i32) (after preOps V (Proc.devRef .tc main_c_43) : C F S_ .i32) := by
  have h := preLine.unary V 215 rfl rfl ((preLine (F := F)).still_at (k := 214) rfl (by decide))
  exact h
theorem q_c_44 : (after preOps V (Proc.devRef .tc main_c_44) : C F S_ .i32) = (constantI S_ 32 0#32) := by
  have h := preLine.nullary V 216 rfl rfl
  exact h
theorem q_v146 : (after preOps V (Proc.devRef .tc main_v146) : C F S1 .i32) = (broadcastInDim S1 ![] bcast_S_S1 : C F S_ .i32 → C F S1 .i32) (after preOps V (Proc.devRef .tc main_c_44) : C F S_ .i32) := by
  have h := preLine.unary V 217 rfl rfl ((preLine (F := F)).still_at (k := 216) rfl (by decide))
  exact h
theorem q_v147 : (after preOps V (Proc.devRef .tc main_v147) : C F S96 .i32) = ((fun x i u => Host.scatter scatter_S96_S1_S81_0_n_0_0 (fun _ b => b) x i u) : C F S96 .i32 → C F S1 .i32 → C F S81 .i32 → C F S96 .i32) (after preOps V (Proc.devRef .tc main_v145) : C F S96 .i32) (after preOps V (Proc.devRef .tc main_v146) : C F S1 .i32) (after preOps V (Proc.devRef .tc main_v72) : C F S81 .i32) := by
  have h := preLine.ternary V 218 rfl rfl ((preLine (F := F)).still_at (k := 215) rfl (by decide)) ((preLine (F := F)).still_at (k := 217) rfl (by decide)) ((preLine (F := F)).still_at (k := 118) rfl (by decide))
  exact h
theorem q_c_45 : (after preOps V (Proc.devRef .tc main_c_45) : C F S_ .i32) = (constantI S_ 32 0#32) := by
  have h := preLine.nullary V 219 rfl rfl
  exact h
theorem q_v148 : (after preOps V (Proc.devRef .tc main_v148) : C F S96 .i32) = (broadcastInDim S96 ![] bcast_S_S96 : C F S_ .i32 → C F S96 .i32) (after preOps V (Proc.devRef .tc main_c_45) : C F S_ .i32) := by
  have h := preLine.unary V 220 rfl rfl ((preLine (F := F)).still_at (k := 219) rfl (by decide))
  exact h
theorem q_c_46 : (after preOps V (Proc.devRef .tc main_c_46) : C F S_ .i32) = (constantI S_ 32 0#32) := by
  have h := preLine.nullary V 221 rfl rfl
  exact h
theorem q_v149 : (after preOps V (Proc.devRef .tc main_v149) : C F S1 .i32) = (broadcastInDim S1 ![] bcast_S_S1 : C F S_ .i32 → C F S1 .i32) (after preOps V (Proc.devRef .tc main_c_46) : C F S_ .i32) := by
  have h := preLine.unary V 222 rfl rfl ((preLine (F := F)).still_at (k := 221) rfl (by decide))
  exact h
theorem q_v150 : (after preOps V (Proc.devRef .tc main_v150) : C F S96 .i32) = ((fun x i u => Host.scatter scatter_S96_S1_S80_0_n_0_0 (fun _ b => b) x i u) : C F S96 .i32 → C F S1 .i32 → C F S80 .i32 → C F S96 .i32) (after preOps V (Proc.devRef .tc main_v148) : C F S96 .i32) (after preOps V (Proc.devRef .tc main_v149) : C F S1 .i32) (after preOps V (Proc.devRef .tc main_v64) : C F S80 .i32) := by
  have h := preLine.ternary V 223 rfl rfl ((preLine (F := F)).still_at (k := 220) rfl (by decide)) ((preLine (F := F)).still_at (k := 222) rfl (by decide)) ((preLine (F := F)).still_at (k := 88) rfl (by decide))
  exact h

end Cert.Proof.Nms

end
-- ==== Proof.Moves.lean ====
/-
  Takes, writes and sums by index at any extents: what an index-normalised gather reads, what a scatter by one index
  word per update leaves, and what a scatter of one block at offset zero leaves.
-/
module

public import proofs.«01_k».proof.Proof.Words
public import Idealize.ShloMosaic.Lib.Routing.OpsSearch
public import Idealize.ShloMosaic.Lib.Routing.OpsPair
public import Idealize.ShloMosaic.Lib.Routing.OpsSet
public import Idealize.ShloMosaic.Lib.Routing.OpsOne

@[expose] public section

noncomputable section

namespace Cert.Proof.Moves

open Idealize.ShloMosaic Idealize.ShloMosaic.ValueIdx
open Idealize.ShloMosaic.Routing (shape0 shape1 shape2)

/-- A natural below `2 ^ 31` read signed off its word. -/
theorem toInt_word {k : ℕ} (h : k < 2 ^ 31) : (BitVec.ofNat 32 k).toInt = (k : ℤ) := by
  rw [BitVec.toInt_eq_toNat_cond, BitVec.toNat_ofNat, Nat.mod_eq_of_lt (by omega)]
  split <;> omega

/-- A natural below `2 ^ 32` read off its word. -/
theorem toNat_word {k : ℕ} (h : k < 2 ^ 32) : (BitVec.ofNat 32 k).toNat = k := by
  rw [BitVec.toNat_ofNat, Nat.mod_eq_of_lt h]

/-- An index column made by raising the negative indices holds the indices themselves when none is negative. -/
theorem column_at {n : ℕ} (x z y : IVec (shape1 n) 32) (hb : (shape1 n).BroadcastsInDim (shape2 n 1) (![0] : Fin 1 → Fin (shape2 n 1).rank)) (p : Fin n) {k : ℕ}
    (hx : x (ix1 p) = BitVec.ofNat 32 k) (hk : k < 2 ^ 31) (hz : z (ix1 p) = 0#32) :
    broadcastInDim (shape2 n 1) ![0] hb (select (cmpi .slt x z) y x) (ix2 p (0 : Fin 1)) = BitVec.ofNat 32 k := by
  rw [broadcastInDim_apply _ hb _ _ (ix1 p) (fun a => by
    match a with
    | ⟨0, _⟩ =>
      show p.val = if n = 1 then 0 else p.val
      have := p.isLt
      split <;> omega)]
  rw [select_apply]
  have h0 : cmpi .slt x z (ix1 p) = 0#1 := by
    show IntOp.cmpi .slt (x (ix1 p)) (z (ix1 p)) = 0#1
    rw [hx, hz]
    show BitVec.ofBool (BitVec.slt _ _) = _
    rw [BitVec.slt_eq_decide, toInt_word hk, decide_eq_false (by show ¬ ((k : ℤ) < 0); omega)]
    rfl
  rw [h0]
  exact hx

/-- An update by one index word lands where its word, read signed, points. -/
theorem lands_vec {N n : ℕ} (d : ScatterDims (shape1 N) (shape2 n 1) (shape1 n)) (hiw : d.insertedWindowDims = [0]) (hsd : d.scatterDimsToOperandDims = [0])
    (hivd : d.indexVectorDim = 1) (idx : IVec (shape2 n 1) 32) (i : Fin n) (x : Fin N) :
    d.resultIdx? (ix1 i) idx = some (ix1 x) ↔ (idx (ix2 i (0 : Fin 1))).toInt = (x.val : ℤ) := by
  have hmem : (0 : Fin 1) ∈ d.scatterDimsToOperandDims := by rw [hsd]; exact List.mem_cons_self
  have hw : d.window (ix1 i) 0 = 0 := dif_neg fun h => by
    have := (List.mem_filter.1 h).2
    rw [hiw] at this
    simp at this
  have hs : d.start (ix1 i) idx 0 = (idx (ix2 i (0 : Fin 1))).toInt := by
    refine (dif_pos hmem).trans (congrArg (fun q => (idx q).toInt) (funext fun b => Fin.ext ?_))
    match b with
    | ⟨0, _⟩ =>
      unfold ScatterDims.siIdx
      rw [dif_neg (by rw [hivd]; exact Nat.zero_ne_one)]
      have e : ∀ X : Fin 1, (ix1 i X).val = i.val := fun X => by rw [Subsingleton.elim X 0]
      exact e _
    | ⟨1, _⟩ =>
      have : ∀ q : Fin 1, q.val = (0 : Fin 1).val := fun q => by rw [Subsingleton.elim q 0]
      exact this _
  rw [Routing.resultIdx?_ix1, hw, hs]
  simp

/-- The element one update writes, all writers of the same place agreeing. -/
theorem set_at {α : Type} {N n : ℕ} (d : ScatterDims (shape1 N) (shape2 n 1) (shape1 n)) (hiw : d.insertedWindowDims = [0]) (hsd : d.scatterDimsToOperandDims = [0])
    (hivd : d.indexVectorDim = 1) (x0 : (shape1 N).Idx → α) (idx : IVec (shape2 n 1) 32) (upd : (shape1 n).Idx → α) (g : Fin n → ℕ)
    (hidx : ∀ i, idx (ix2 i (0 : Fin 1)) = BitVec.ofNat 32 (g i)) (hg : ∀ i, g i < 2 ^ 31) (i : Fin n) (x : Fin N) (hx : g i = x.val)
    (hu : ∀ i', g i' = x.val → upd (ix1 i') = upd (ix1 i)) : Host.scatter d (fun _ b => b) x0 idx upd (ix1 x) = upd (ix1 i) := by
  refine Routing.scatter_set_hit d x0 idx upd (ix1 x) (upd (ix1 i)) (fun k hk => ?_) (ix1 i) ?_
  · obtain ⟨q, rfl⟩ : ∃ q : Fin n, k = ix1 q := ⟨k 0, eq_ix1 k⟩
    have := (lands_vec d hiw hsd hivd idx q x).1 hk
    rw [hidx, toInt_word (hg _)] at this
    exact hu _ (by omega)
  · rw [lands_vec d hiw hsd hivd, hidx, toInt_word (hg _), hx]

/-- A fold that adds the values of the updates that hit is the start plus their sum. -/
theorem fold_add {ι : Type} (hit : ι → Prop) [DecidablePred hit] (v : ι → BitVec 32) (l : List ι) (a : BitVec 32) :
    l.foldl (fun a n => if hit n then IntOp.addi a (v n) else a) a = a + (l.map fun n => if hit n then v n else 0).sum := by
  induction l generalizing a with
  | nil => simp
  | cons n l ih =>
    rw [List.foldl_cons, ih, List.map_cons, List.sum_cons]
    by_cases h : hit n
    · rw [if_pos h, if_pos h]
      show a + v n + _ = _
      rw [add_assoc]
    · rw [if_neg h, if_neg h, zero_add]

/-- A scatter that adds, from zero: the sum of the updates whose index is the place. -/
theorem add_at {N n : ℕ} (d : ScatterDims (shape1 N) (shape2 n 1) (shape1 n)) (hiw : d.insertedWindowDims = [0]) (hsd : d.scatterDimsToOperandDims = [0])
    (hivd : d.indexVectorDim = 1) (x0 : IVec (shape1 N) 32) (idx : IVec (shape2 n 1) 32) (upd : IVec (shape1 n) 32) (g u : Fin n → ℕ)
    (hidx : ∀ i, idx (ix2 i (0 : Fin 1)) = BitVec.ofNat 32 (g i)) (hg : ∀ i, g i < 2 ^ 31) (hu : ∀ i, upd (ix1 i) = BitVec.ofNat 32 (u i)) (x : Fin N)
    (hx0 : x0 (ix1 x) = 0#32) :
    Host.scatter d IntOp.addi x0 idx upd (ix1 x) = BitVec.ofNat 32 (∑ i : Fin n, if g i = x.val then u i else 0) := by
  classical
  rw [Routing.scatter_at, fold_add, hx0]
  rw [show (0#32 : BitVec 32) = 0 from rfl, zero_add, ← List.ofFn_eq_map, List.sum_ofFn]
  let e : Fin (shape1 n).numel ≃ Fin n := (shape1 n).rowMajor.symm.trans
    ⟨fun j => j 0, fun i => ix1 i, fun j => (eq_ix1 j).symm, fun _ => rfl⟩
  rw [← Equiv.sum_comp e.symm]
  have hcast : ∀ s : Finset (Fin n), ∀ f : Fin n → ℕ, BitVec.ofNat 32 (∑ i ∈ s, f i) = ∑ i ∈ s, BitVec.ofNat 32 (f i) := by
    intro s f
    induction s using Finset.induction_on with
    | empty => rfl
    | insert a s ha ih => rw [Finset.sum_insert ha, Finset.sum_insert ha, ← ih, BitVec.ofNat_add]
  rw [hcast]
  refine Finset.sum_congr rfl fun i _ => ?_
  have he : (shape1 n).rowMajor.symm (e.symm i) = ix1 i := by
    show (shape1 n).rowMajor.symm ((shape1 n).rowMajor (ix1 i)) = ix1 i
    exact Equiv.symm_apply_apply _ _
  rw [he]
  have hl := lands_vec d hiw hsd hivd idx i x
  rw [hidx, toInt_word (hg i)] at hl
  by_cases h : g i = x.val
  · rw [if_pos (hl.2 (by omega)), if_pos h, hu]
  · rw [if_neg (fun q => h (by have := hl.1 q; omega)), if_neg h]
    rfl

/-- A block written at offset zero: its entries at their own places. -/
theorem block_at {α : Type} {N n : ℕ} (d : ScatterDims (shape1 N) (shape1 1) (shape1 n)) (huw : d.updateWindowDims = [0]) (hiw : d.insertedWindowDims = [])
    (x0 : (shape1 N).Idx → α) (idx : IVec (shape1 1) 32) (hidx : ∀ q, idx q = 0#32)
    (upd : (shape1 n).Idx → α) (i : Fin n) (x : Fin N) (hx : i.val = x.val) : Host.scatter d (fun _ b => b) x0 idx upd (ix1 x) = upd (ix1 i) := by
  have hl : ∀ k : Fin n, d.resultIdx? (ix1 k) idx = some (ix1 x) ↔ k.val = x.val := by
    intro k
    have hs : d.start (ix1 k) idx 0 = 0 := by
      unfold ScatterDims.start
      split
      · rw [hidx]; rfl
      · rfl
    have hw : d.window (ix1 k) 0 = k.val := by
      unfold ScatterDims.window
      have hm : (0 : Fin 1) ∈ d.sKept := List.mem_filter.2 ⟨List.mem_finRange _, by rw [hiw]; simp⟩
      refine (dif_pos hm).trans ?_
      have e : ∀ X : Fin 1, (ix1 k X).val = k.val := fun X => by rw [Subsingleton.elim X 0]
      exact e _
    rw [Routing.resultIdx?_ix1, hs, hw]
    omega
  refine Routing.scatter_set_hit d x0 idx upd (ix1 x) (upd (ix1 i)) (fun k hk => ?_) (ix1 i) ((hl i).2 hx)
  obtain ⟨q, rfl⟩ : ∃ q : Fin n, k = ix1 q := ⟨k 0, eq_ix1 k⟩
  have := (hl q).1 hk
  exact congrArg (fun q => upd (ix1 q)) (Fin.ext (by omega))

/-- A take whose index column holds a place inside the table. -/
theorem take_at {α : Type} {N n : ℕ} (d : GatherDims (shape1 N) (shape2 n 1) (shape1 n)) (hcoll : d.collapsedSliceDims = [0]) (hob : d.operandBatchingDims = [])
    (hsim : d.startIndexMap = [0]) (hivd : d.indexVectorDim = 1) (x : (shape1 N).Idx → α) (idx : IVec (shape2 n 1) 32) (p : Fin n) (k : Fin N)
    (hN : N < 2 ^ 31) (hidx : idx (ix2 p (0 : Fin 1)) = BitVec.ofNat 32 k.val) : Host.gather d x idx (ix1 p) = x (ix1 k) :=
  Routing.take_ap d hcoll hob hsim hivd x idx p k.isLt (by have := k.isLt; omega) hidx

end Cert.Proof.Moves

end
-- ==== Proof.Slots.lean ====
/-
  Counting a vector of classes: how many of each class there are, where each class's padded block starts, and where the
  members of a class lie when the classes are laid out one behind the other.
-/
module

public import proofs.«01_k».proof.Proof.Words
public import Mathlib.Algebra.BigOperators.Fin
public import Mathlib.Algebra.Order.BigOperators.Group.Finset

@[expose] public section

noncomputable section

namespace Cert.Proof.Slots

open Cert.Proof.Words

variable {n : ℕ} (cls : Fin n → ℕ) (ok : Fin n → Prop) [DecidablePred ok]

/-- How many members class `c` has. -/
def cnt (c : ℕ) : ℕ := ∑ j : Fin n, if cls j = c then 1 else 0
/-- How many of class `c`'s members are to be kept at the start. -/
def vcn (c : ℕ) : ℕ := ∑ j : Fin n, if cls j = c then (if ok j then 1 else 0) else 0
/-- The length of class `c`'s block: its members, up to a multiple of sixteen. -/
def pad (c : ℕ) : ℕ := up (cnt cls c) * 16
/-- Where class `c`'s block starts. -/
def blk (c : ℕ) : ℕ := ∑ c' ∈ Finset.range c, pad cls c'
/-- How many members the classes before `c` have. -/
def bef (c : ℕ) : ℕ := ∑ c' ∈ Finset.range c, cnt cls c'

theorem vcn_le (c : ℕ) : vcn cls ok c ≤ cnt cls c := Finset.sum_le_sum fun j _ => by split <;> [split; skip] <;> simp

theorem cnt_le (c : ℕ) : cnt cls c ≤ n := by
  refine (Finset.sum_le_sum (g := fun _ => 1) fun j _ => by split <;> simp).trans ?_
  simp

/-- The members of the classes before `c` are those whose class is less than `c`. -/
theorem bef_eq (c : ℕ) : bef cls c = ∑ j : Fin n, if cls j < c then 1 else 0 := by
  induction c with
  | zero => simp [bef]
  | succ c ih =>
    unfold bef at ih ⊢
    rw [Finset.sum_range_succ, ih]
    unfold cnt
    rw [← Finset.sum_add_distrib]
    refine Finset.sum_congr rfl fun j _ => ?_
    rcases lt_trichotomy (cls j) c with h | h | h
    · rw [if_pos h, if_neg (by omega), if_pos (by omega)]
    · rw [if_neg (by omega), if_pos h, if_pos (by omega)]
    · rw [if_neg (by omega), if_neg (by omega), if_neg (by omega)]

theorem bef_le (c : ℕ) : bef cls c ≤ n := by
  rw [bef_eq]
  refine (Finset.sum_le_sum (g := fun _ => 1) fun j _ => by split <;> simp).trans ?_
  simp

theorem blk_zero : blk cls 0 = 0 := rfl
theorem blk_succ (c : ℕ) : blk cls (c + 1) = blk cls c + up (cnt cls c) * 16 := Finset.sum_range_succ _ _
theorem bef_succ (c : ℕ) : bef cls (c + 1) = bef cls c + cnt cls c := Finset.sum_range_succ _ _

theorem blk_le (c : ℕ) : blk cls c ≤ bef cls c + 15 * c := by
  induction c with
  | zero => simp [blk, bef]
  | succ c ih =>
    rw [blk_succ, bef_succ]
    have : up (cnt cls c) * 16 ≤ cnt cls c + 15 := by unfold up; omega
    omega

theorem blk_bound (c : ℕ) (h : c ≤ 80) : blk cls c ≤ n + 1200 := by
  have := blk_le cls c
  have := bef_le cls c
  omega

theorem blk_dvd (c : ℕ) : 16 ∣ blk cls c := Finset.dvd_sum fun c _ => Dvd.intro_left _ rfl

theorem blk_mono {c c' : ℕ} (h : c ≤ c') : blk cls c ≤ blk cls c' := by
  induction h with
  | refl => exact le_refl _
  | step _ ih => exact ih.trans (by rw [blk_succ]; omega)

theorem up_mono {a b : ℕ} (h : a ≤ b) : up a ≤ up b := by unfold up; omega

/-- Class `c`'s block has room for what is kept of it. -/
theorem blk_room (c : ℕ) : blk cls c + 16 * up (vcn cls ok c) ≤ blk cls (c + 1) := by
  rw [blk_succ]
  have := up_mono (vcn_le cls ok c)
  omega

end Cert.Proof.Slots

end
-- ==== Proof.Tables.lean ====
/-
  The two tables the call reads, in terms of the classes of the sorted boxes: where each class's block starts, and how
  many of its boxes can be kept.
-/
module

public import proofs.«01_k».proof.Proof.Eqs
public import proofs.«01_k».proof.Proof.Moves
public import proofs.«01_k».proof.Proof.Slots

@[expose] public section

noncomputable section

namespace Cert.Proof.Nms

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Words

variable {F : FTy → Type} [FloatOps F]

local notation "𝕄" => MT nD τ sig (HIx 1) (Elt F) ℕ UU ℕ

open Idealize.ShloMosaic.StableHlo Idealize.ShloMosaic.ValueIdx
open Cert.Proof.Moves Cert.Proof.Slots

variable (V : Valuation τ sig (Elt F))

/-- A scalar constant spread over a shape. -/
theorem spread {t : Shape} (h : S_.BroadcastsInDim t (![] : Fin 0 → Fin t.rank)) (c : IVec S_ 32) (k : BitVec 32) (hc : c = constantI S_ 32 k) (i : t.Idx) :
    broadcastInDim t ![] h c i = k := by
  subst hc; rfl

/-- The sorted boxes' classes. -/
def clsW : IVec S20000 32 := after preOps V (Proc.devRef .tc main_v22)
def cls (j : Fin 20000) : ℕ := (clsW V (ix1 j)).toNat
/-- The sorted boxes whose score reaches the threshold. -/
def okW : IVec S20000 1 := after preOps V (Proc.devRef .tc main_v55)
def ok (j : Fin 20000) : Prop := okW V (ix1 j) = 1#1
instance : DecidablePred (ok V) := fun _ => inferInstanceAs (Decidable (_ = _))

/-- Every label is the number of a class. -/
def Small : Prop := ∀ i : S20000.Idx, BitVec.toNat ((after preOps V (Proc.devRef .tc main_arg2) : IVec S20000 32) i) < 80

variable {V}

theorem cls_lt (hL : Small V) (j : Fin 20000) : cls V j < 80 := by
  have h : clsW V (ix1 j) = (after preOps V (Proc.devRef .tc main_arg2) : IVec S20000 32) (ix1 ⟨min ((after preOps V (Proc.devRef .tc main_v21) : IVec S20000x1 32) (StableHlo.Predicate.ixP j)).toInt.toNat (20000 - 1), by omega⟩) := by
    refine (congrFun (q_v22 V) (ix1 j)).trans ?_
    rw [← Routing.ofFin_eq_ix1, ← Routing.ofFin_eq_ix1]
    exact StableHlo.Predicate.gather_take gather_S20000_S20000x1_S20000_n_0_n_n_0_1_1 rfl rfl rfl rfl _ _ j (by decide)
  unfold cls
  rw [h]
  exact hL _

theorem cls_word (j : Fin 20000) : clsW V (ix1 j) = BitVec.ofNat 32 (cls V j) := by
  unfold cls
  rw [BitVec.ofNat_toNat, BitVec.setWidth_eq]

/-- The index column of the class counts. -/
theorem col_v52 (hL : Small V) (j : Fin 20000) : (after preOps V (Proc.devRef .tc main_v52) : IVec S20000x1 32) (ix2 j (0 : Fin 1)) = BitVec.ofNat 32 (cls V j) := by
  rw [q_v52, q_v51, q_v48]
  exact column_at _ _ _ _ j (cls_word j) (by have := cls_lt hL j; omega) ((congrFun (q_v47 V) (ix1 j)).trans (spread _ _ _ (q_c_13 V) _))

/-- The class counts. -/
theorem at_v53 (hL : Small V) (c : Fin 80) : (after preOps V (Proc.devRef .tc main_v53) : IVec S80 32) (ix1 c) = BitVec.ofNat 32 (cnt (cls V) c.val) := by
  refine (congrFun (q_v53 V) (ix1 c)).trans ?_
  exact add_at scatter_S80_S20000x1_S20000_n_0_0_1 rfl rfl rfl _ _ _ (cls V) (fun _ => 1) (col_v52 hL) (fun j => by have := cls_lt hL j; omega)
    (fun j => (congrFun (q_v45 V) (ix1 j)).trans (spread _ _ _ (q_c_11 V) _)) c ((congrFun (q_v46 V) (ix1 c)).trans (spread _ _ _ (q_c_12 V) _))

theorem col_v63 (hL : Small V) (j : Fin 20000) : (after preOps V (Proc.devRef .tc main_v63) : IVec S20000x1 32) (ix2 j (0 : Fin 1)) = BitVec.ofNat 32 (cls V j) := by
  rw [q_v63, q_v62, q_v59]
  exact column_at _ _ _ _ j (cls_word j) (by have := cls_lt hL j; omega) ((congrFun (q_v58 V) (ix1 j)).trans (spread _ _ _ (q_c_16 V) _))

/-- The counts of what can be kept. -/
theorem at_v64 (hL : Small V) (c : Fin 80) : (after preOps V (Proc.devRef .tc main_v64) : IVec S80 32) (ix1 c) = BitVec.ofNat 32 (vcn (cls V) (ok V) c.val) := by
  refine (congrFun (q_v64 V) (ix1 c)).trans ?_
  refine add_at scatter_S80_S20000x1_S20000_n_0_0_1 rfl rfl rfl _ _ _ (cls V) (fun j => if ok V j then 1 else 0) (col_v63 hL) (fun j => by have := cls_lt hL j; omega)
    (fun j => (congrFun (q_v56 V) (ix1 j)).trans ?_) c ((congrFun (q_v57 V) (ix1 c)).trans (spread _ _ _ (q_c_15 V) _))
  show (okW V (ix1 j)).setWidth 32 = _
  have two : ∀ b : BitVec 1, b ≠ 1#1 → b = 0#1 := by decide
  by_cases h : ok V j
  · rw [if_pos h, show okW V (ix1 j) = 1#1 from h]; rfl
  · rw [if_neg h, two _ h]; rfl

/-- The padded counts. -/
theorem at_v69 (hL : Small V) (c : Fin 80) : (after preOps V (Proc.devRef .tc main_v69) : IVec S80 32) (ix1 c) = BitVec.ofNat 32 (Slots.pad (cls V) c.val) := by
  have hn := cnt_le (cls V) c.val
  have h66 : (after preOps V (Proc.devRef .tc main_v66) : IVec S80 32) (ix1 c) = BitVec.ofNat 32 (cnt (cls V) c.val + 15) := by
    refine (congrFun (q_v66 V) (ix1 c)).trans ?_
    show IntOp.addi _ _ = _
    rw [at_v53 hL c, (congrFun (q_v65 V) (ix1 c)).trans (spread _ _ _ (q_c_18 V) _), BitVec.ofNat_add]
    rfl
  have h0 : (after preOps V (Proc.devRef .tc main_call2_v0) : IVec S_ 32) = constantI S_ 32 16#32 := (q_call2_v0 V).trans (q_c_19 V)
  have h2 : (after preOps V (Proc.devRef .tc main_call2_v2) : IVec S80 32) (ix1 c) = BitVec.ofNat 32 ((cnt (cls V) c.val + 15) / 16) := by
    refine (congrFun (q_call2_v2 V) (ix1 c)).trans ?_
    show IntOp.divsi .host _ _ = _
    rw [h66, (congrFun (q_call2_v1 V) (ix1 c)).trans (spread _ _ _ h0 _)]
    exact Routing.divsi_word .host (b := 16) (by omega) (by omega) (by omega)
  have h3 : (after preOps V (Proc.devRef .tc main_call2_v3) : IVec S80 32) (ix1 c) = 1#32 := by
    refine (congrFun (q_call2_v3 V) (ix1 c)).trans ?_
    unfold signi
    rw [h66, if_neg (Routing.ofNat32_ne_zero (by omega) (by omega)), Routing.msb_ofNat32 (by omega)]
    rfl
  have h5 : (after preOps V (Proc.devRef .tc main_call2_v5) : IVec S80 32) (ix1 c) = 1#32 := by
    refine (congrFun (q_call2_v5 V) (ix1 c)).trans (spread _ _ _ ((q_call2_v4 V).trans ?_) _)
    rw [h0]; funext i; decide +revert
  have h11 : (after preOps V (Proc.devRef .tc main_call2_v11) : IVec S80 1) (ix1 c) = 0#1 := by
    refine (congrFun (q_call2_v11 V) (ix1 c)).trans ?_
    show IntOp.andi ((after preOps V (Proc.devRef .tc main_call2_v6) : IVec S80 1) (ix1 c)) _ = _
    rw [congrFun (q_call2_v6 V) (ix1 c)]
    show IntOp.andi (IntOp.cmpi .ne ((after preOps V (Proc.devRef .tc main_call2_v3) : IVec S80 32) (ix1 c)) ((after preOps V (Proc.devRef .tc main_call2_v5) : IVec S80 32) (ix1 c))) _ = _
    rw [h3, h5]
    exact BitVec.zero_and
  have h67 : (after preOps V (Proc.devRef .tc main_v67) : IVec S80 32) (ix1 c) = BitVec.ofNat 32 ((cnt (cls V) c.val + 15) / 16) := by
    refine (congrFun (q_v67 V) (ix1 c)).trans ?_
    rw [select_apply, h11]
    exact h2
  refine (congrFun (q_v69 V) (ix1 c)).trans ?_
  show IntOp.muli _ _ = _
  rw [h67, (congrFun (q_v68 V) (ix1 c)).trans (spread _ _ _ (q_c_20 V) _)]
  unfold Slots.pad up
  rw [BitVec.ofNat_mul]
  rfl

/-- A running sum of natural entries. -/
theorem sum_range_map (f : ℕ → ℕ) (k : ℕ) : ((List.range k).map f).sum = ∑ i ∈ Finset.range k, f i := by
  induction k with
  | zero => rfl
  | succ k ih => rw [List.range_succ, List.map_append, List.sum_append, ih, Finset.sum_range_succ]; simp

/-- The blocks' ends. -/
theorem at_v71 (hL : Small V) (c : Fin 80) : (after preOps V (Proc.devRef .tc main_v71) : IVec S80 32) (ix1 c) = BitVec.ofNat 32 (blk (cls V) (c.val + 1)) := by
  refine (congrFun (q_v71 V) (ix1 c)).trans ?_
  refine (Routing.cumsum1 (N := 80) (Nm1 := 79) rfl _ (Slots.pad (cls V)) (at_v69 hL) _ ((congrFun (q_call3_call0_v0 V) _).trans (spread _ _ _ (q_call3_call0_c V) _)) _ _ c).trans ?_
  rw [sum_range_map]
  rfl

/-- The blocks' starts. -/
theorem at_v72 (hL : Small V) (c : Fin 81) : (after preOps V (Proc.devRef .tc main_v72) : IVec S81 32) (ix1 c) = BitVec.ofNat 32 (blk (cls V) c.val) := by
  refine (congrFun (q_v72 V) (ix1 c)).trans ?_
  by_cases h : c.val = 0
  · refine (concatenate_pair_apply_left (t := S81) (s₁ := S1) (s₂ := S80) 0 _ _ _ (ix1 c) rfl (ix1 (0 : Fin 1)) (fun b => by
      match b with
      | ⟨0, _⟩ => exact h.symm)).trans ?_
    rw [h, (congrFun (q_v70 V) _).trans (spread _ _ _ (q_c_21 V) _)]
    rfl
  · refine (concatenate_pair_apply_right (t := S81) (s₁ := S1) (s₂ := S80) 0 _ _ _ (ix1 c) rfl rfl (ix1 (⟨c.val - 1, by omega⟩ : Fin 80)) (fun b hb => by
      match b with
      | ⟨0, _⟩ => exact absurd rfl hb) (by show c.val - 1 + 1 = c.val; omega)).trans ?_
    rw [at_v71 hL]
    show BitVec.ofNat 32 (blk (cls V) (c.val - 1 + 1)) = _
    rw [show c.val - 1 + 1 = c.val by omega]

/-- The table of the blocks' starts. -/
theorem at_v147 (hL : Small V) (c : ℕ) (h : c < 81) : rd 96 (after preOps V (Proc.devRef .tc main_v147) : IVec S96 32) c = BitVec.ofNat 32 (blk (cls V) c) := by
  unfold rd
  refine (congrFun (q_v147 V) _).trans ?_
  refine (block_at scatter_S96_S1_S81_0_n_0_0 rfl rfl _ _ (fun q => (congrFun (q_v146 V) q).trans (spread _ _ _ (q_c_44 V) _)) _ (⟨c, h⟩ : Fin 81) _ ?_).trans (at_v72 hL ⟨c, h⟩)
  show c = c % 96
  omega

/-- The table of what can be kept. -/
theorem at_v150 (hL : Small V) (c : ℕ) (h : c < 80) : rd 96 (after preOps V (Proc.devRef .tc main_v150) : IVec S96 32) c = BitVec.ofNat 32 (vcn (cls V) (ok V) c) := by
  unfold rd
  refine (congrFun (q_v150 V) _).trans ?_
  refine (block_at scatter_S96_S1_S80_0_n_0_0 rfl rfl _ _ (fun q => (congrFun (q_v149 V) q).trans (spread _ _ _ (q_c_46 V) _)) _ (⟨c, h⟩ : Fin 80) _ ?_).trans (at_v64 hL ⟨c, h⟩)
  show c = c % 96
  omega

variable {m : (ℓ : Loc nD τ sig) → Buf (Elt F) ℓ} {d : Dev nD}

theorem pst_eq (hL : Small (launchContents m d)) (c : ℕ) (h : c < 81) : pst (callMem m) d c = blk (cls (launchContents m d)) c := by
  unfold pst
  rw [show callMem m (sgLoc d) = after preOps (launchContents m d) (Proc.devRef .tc main_v147) from congrFun (callVal_eq m d) _]
  rw [at_v147 hL c h, toNat_word]
  have := blk_bound (cls (launchContents m d)) c (by omega)
  omega

theorem vct_eq (hL : Small (launchContents m d)) (c : ℕ) (h : c < 80) : vct (callMem m) d c = vcn (cls (launchContents m d)) (ok (launchContents m d)) c := by
  unfold vct
  rw [show callMem m (vcLoc d) = after preOps (launchContents m d) (Proc.devRef .tc main_v150) from congrFun (callVal_eq m d) _]
  rw [at_v150 hL c h, toNat_word]
  have := vcn_le (cls (launchContents m d)) (ok (launchContents m d)) c
  have := cnt_le (cls (launchContents m d)) c
  omega

/-- The tables are as the tasks need them. -/
theorem tabs (hL : ∀ d, Small (launchContents m d)) : Tabs (callMem m) where
  tab d :=
    { step := fun c h => by
        rw [pst_eq (hL d) c (by omega), pst_eq (hL d) (c + 1) (by omega), vct_eq (hL d) c h]
        exact blk_room _ _ c
      dvd := fun c h => by rw [pst_eq (hL d) c (by omega)]; exact blk_dvd _ c
      last := by
        rw [pst_eq (hL d) 80 (by omega)]
        have := blk_bound (cls (launchContents m d)) 80 le_rfl
        omega }
  zero d := by rw [pst_eq (hL d) 0 (by omega)]; rfl

/-- The labels are not written before the call. -/
theorem small_of (m : (ℓ : Loc nD τ sig) → Buf (Elt F) ℓ) (d : Dev nD) (h : ∀ i, BitVec.toNat (m (d, Proc.devRef .tc main_arg2) i) < 80) : Small (launchContents m d) := by
  intro i
  have e : after preOps (launchContents m d) (Proc.devRef .tc main_arg2) = launchContents m d (Proc.devRef .tc main_arg2) := by
    unfold preOps
    rw [after_app, after_app, after_app,
      after_of_writes_sub ops3 _ (forall_writes_sub_of_map ops3_writes) (by decide), after_of_writes_sub ops2 _ (forall_writes_sub_of_map ops2_writes) (by decide),
      after_of_writes_sub ops1 _ (forall_writes_sub_of_map ops1_writes) (by decide), after_of_writes_sub ops0 _ (forall_writes_sub_of_map ops0_writes) (by decide)]
  rw [e]
  exact h i

end Cert.Proof.Nms

end
-- ==== Proof.Ref.lean ====
/-
  The reference's run: it terminates, its arguments end as they were, and its program declares no semaphore.
-/
module

public import proofs.«01_k».proof.Proof.Gen.ReferenceIdeal.Run
public import Idealize.ShloMosaic.Lib.Quiescent

@[expose] public section

noncomputable section

namespace Cert.Proof.Ref

open Cert.ReferenceIdeal Cert.ReferenceIdeal.Gen Cert.ReferenceIdeal.Value
open Idealize.ShloMosaic Idealize.ShloMosaic.StableHlo Idealize.SL.Sem

variable {F : FTy → Type} [FloatOps F]
variable (m : (ℓ : Loc nD τ sig) → Buf (Elt F) ℓ) (ρ : Dev nD → PrngReg)

abbrev hostOps0_3_W : List (Ref sig .tc) := [main_v27, main_v28, main_v29, main_cst_7]
theorem hostOps0_3_writes : (hostOps0_3 : List (HloOp τ sig (Elt F))).Forall fun op => op.writes ⊆ (hostOps0_3_W.map (Proc.devRef (τ := τ) .tc)).toFinset :=
  StableHlo.forall_writes_sub_of_map rfl
abbrev hostOps0_4_W : List (Ref sig .tc) := [main_call3_v0, main_call3_v1, main_call3_v2, main_v30]
theorem hostOps0_4_writes : (hostOps0_4 : List (HloOp τ sig (Elt F))).Forall fun op => op.writes ⊆ (hostOps0_4_W.map (Proc.devRef (τ := τ) .tc)).toFinset :=
  StableHlo.forall_writes_sub_of_map rfl

/-- What a trip writes. -/
abbrev tripW : List (Ref sig .tc) := condOps_W ++ (while0Ops0_W ++ (while0Ops0_1_W ++ (while0Ops0_2_W ++ (while0Ops0_3_W ++ while0Ops0_4_W))))

/-- A buffer no trip writes is as it was at the loop's entry. -/
theorem still_loop (r : Ref sig .tc) (h : r ∉ tripW) (k : ℕ) (c : Dev nD) : atK m k c (Proc.devRef .tc r) = entryContents preI m c (Proc.devRef .tc r) := by
  have hh : r ∉ condOps_W ∧ r ∉ while0Ops0_W ∧ r ∉ while0Ops0_1_W ∧ r ∉ while0Ops0_2_W ∧ r ∉ while0Ops0_3_W ∧ r ∉ while0Ops0_4_W := by
    simpa only [tripW, List.mem_append, not_or] using h
  obtain ⟨h0, h1, h2, h3, h4, h5⟩ := hh
  induction k with
  | zero => rfl
  | succ k ih =>
    rw [← ih]
    unfold atK
    rw [atTrip_succ]
    unfold bodyI
    rw [afterL_cons, afterL_cons, afterL_cons, afterL_cons, afterL_cons, afterL_nil,
      after_of_writes_sub while0Ops0_4 _ while0Ops0_4_writes h5, after_of_writes_sub while0Ops0_3 _ while0Ops0_3_writes h4,
      after_of_writes_sub while0Ops0_2 _ while0Ops0_2_writes h3, after_of_writes_sub while0Ops0_1 _ while0Ops0_1_writes h2,
      after_of_writes_sub while0Ops0 _ while0Ops0_writes h1, after_of_writes_sub condOps _ condOps_writes h0]

/-- A buffer nothing writes ends as it started. -/
theorem still_all (r : Ref sig .tc) (h : r ∉ tripW) (ha : r ∉ hostOps0_W) (hb : r ∉ hostOps0_1_W) (hc : r ∉ hostOps0_2_W) (hd : r ∉ hostOps0_3_W) (he : r ∉ hostOps0_4_W)
    (hf : r ∉ condOps_W) (c : Dev nD) : finalContents condOps preI bodyI postI 20000 m c (Proc.devRef .tc r) = m ((c.tc : Thread nD τ).loc r) := by
  unfold finalContents postI
  rw [afterL_cons, afterL_cons, afterL_nil, after_of_writes_sub hostOps0_4 _ hostOps0_4_writes he, after_of_writes_sub hostOps0_3 _ hostOps0_3_writes hd,
    after_of_writes_sub condOps _ condOps_writes hf]
  refine (still_loop m r h 20000 c).trans ?_
  unfold entryContents preI
  rw [afterL_cons, afterL_cons, afterL_cons, afterL_nil, after_of_writes_sub hostOps0_2 _ hostOps0_2_writes hc, after_of_writes_sub hostOps0_1 _ hostOps0_1_writes hb,
    after_of_writes_sub hostOps0 _ hostOps0_writes ha]

set_option maxRecDepth 100000 in
/-- The run: the result at the fold, the arguments as they were, no counter raised. -/
theorem run_ref : θ_run (defs (F := F)) (onTc (τ := τ) (main (F := F))) ⟨m, fun _ => 0, ρ⟩ (fun r =>
    (∀ c : Dev nD, r.2.mem ((c.tc : Thread nD τ).loc main_v30) = finalContents condOps preI bodyI postI 20000 m c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  (θ_run defs _ _).mono (fun r h => ⟨fun c => ⟨h c main_v30 rfl,
      (h c main_arg0 rfl).trans (still_all m main_arg0 (by decide) (by decide) (by decide) (by decide) (by decide) (by decide) (by decide) c),
      (h c main_arg1 rfl).trans (still_all m main_arg1 (by decide) (by decide) (by decide) (by decide) (by decide) (by decide) (by decide) c),
      (h c main_arg2 rfl).trans (still_all m main_arg2 (by decide) (by decide) (by decide) (by decide) (by decide) (by decide) (by decide) c)⟩,
    sem_eq_zero_of_no_sems (by decide) r.2⟩) (run_fold m ρ)

end Cert.Proof.Ref

end
-- ==== Proof.Frames.lean ====
/-
  The frames: from labels that name classes, the kernel's run, its arguments unchanged and its counters at zero, read at
  bits and at the ideal values; and the reference's.
-/
module

public import proofs.«01_k».proof.Proof.Tables
public import proofs.«01_k».proof.Proof.Ref
public import proofs.«01_k».proof.Defs
public import proofs.«01_k».proof.Proof.Gen.Kernel
public import proofs.«01_k».proof.Proof.Gen.Pre_pre
public import Idealize.ShloMosaic.Lib.ReduceAll

@[expose] public section

noncomputable section

namespace Cert.Proof.Nms

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Words

variable {F : FTy → Type} [FloatOps F]

local notation "𝕄" => MT nD τ sig (HIx 1) (Elt F) ℕ UU ℕ

/-- The precondition makes every label the number of a class. -/
theorem label_lt (b : FVec F Cert.Pre_pre.S20000x4 .f32) (s : FVec F Cert.Pre_pre.S20000 .f32) (l : IVec Cert.Pre_pre.S20000 32) (h : Cert.Pre_pre.fn b s l = fun _ => 1#1)
    (i : Cert.Pre_pre.S20000.Idx) : (l i).toNat < 80 := by
  haveI : Subsingleton Cert.Pre_pre.S_.Idx := ⟨fun a b => funext fun k => k.elim0⟩
  have e := congrFun h ValueIdx.ix0
  unfold Cert.Pre_pre.fn at e
  have e := Host.reduce_andi_all _ _ _ _ _ e i
  have e : IntOp.andi (IntOp.cmpi .sge (l i) 0#32) (IntOp.cmpi .slt (l i) (BitVec.ofNat 32 80)) = 1#1 := e
  rw [WordCmp.andi_sge_zero_slt_ofNat (by decide)] at e
  by_contra hn
  rw [decide_eq_false hn] at e
  exact absurd e (by decide)

theorem tabs_bits (m : (ℓ : Loc nD τ sig) → Buf (Elt Bits) ℓ) (h : ∀ c : Dev nD, Cert.Pre_pre.fn (F := Bits) (m ((c.tc : Thread nD τ).loc main_arg0)) (m ((c.tc : Thread nD τ).loc main_arg1)) (m ((c.tc : Thread nD τ).loc main_arg2)) = fun _ => 1#1) :
    Tabs (callMem m) := tabs fun d => small_of m d (label_lt _ _ _ (h d))
theorem tabs_ideal (m : (ℓ : Loc nD τ sig) → Buf (Elt Ideal) ℓ) (h : Cert.Pre_KernelIdeal m) :
    Tabs (callMem m) := tabs fun d => small_of m d (label_lt _ _ _ (h d))

/-- The idealized kernel's frame. -/
theorem frame_ideal : Cert.quiescent_KernelIdeal := fun m ρ h =>
  (θ_run Cert.KernelIdeal.defs _ _).mono (fun _ q => ⟨fun c => (q.1 c).2, q.2⟩) (run_main (F := Ideal) m ρ (tabs_ideal m h))

set_option maxHeartbeats 0 in
/-- The kernel's frame at bits. -/
theorem frame_kernel : Cert.quiescent_Kernel := fun m ρ h =>
  (θ_run Cert.KernelIdeal.defs _ _).mono (fun _ q => ⟨fun c => (q.1 c).2, q.2⟩) (run_main (F := Bits) m ρ (tabs_bits m h))

/-- The reference's frame, from any memory. -/
theorem frame_ref : Cert.quiescent_ReferenceIdeal := fun m ρ _ =>
  (θ_run Cert.ReferenceIdeal.defs _ _).mono (fun _ q => ⟨fun c => (q.1 c).2, q.2⟩) (Ref.run_ref (F := Ideal) m ρ)

end Cert.Proof.Nms

end
-- ==== Proof.Places.lean ====
/-
  Where a member of a class lies: its rank among the members before it, its place in the class's padded block, and its
  place when the members are sorted by class, ties in their order; and that of a vector whose members to be kept come
  first, a class's first members are those to be kept.
-/
module

public import proofs.«01_k».proof.Proof.Slots
public import Idealize.ShloMosaic.Lib.SortFacts

@[expose] public section

noncomputable section

namespace Cert.Proof.Slots

open Cert.Proof.Words
open Idealize.ShloMosaic (sortedFrom sortPositions stableSort insertBefore)

variable {n : ℕ} (cls : Fin n → ℕ) (ok : Fin n → Prop) [DecidablePred ok]

/-- How many members of its class are before a member. -/
def rk (j : Fin n) : ℕ := ∑ i : Fin n, if i < j ∧ cls i = cls j then 1 else 0
/-- A member's place in the padded layout. -/
def slot (j : Fin n) : ℕ := blk cls (cls j) + rk cls j

/-- One is the sum of the indicator of one place. -/
theorem one_sum (j : Fin n) : (∑ i : Fin n, if i = j then 1 else 0) = 1 := by
  rw [Finset.sum_ite_eq' Finset.univ j (fun _ => 1), if_pos (Finset.mem_univ _)]

theorem rk_lt (j : Fin n) : rk cls j < cnt cls (cls j) := by
  have h : rk cls j + (∑ i : Fin n, if i = j then 1 else 0) ≤ cnt cls (cls j) := by
    unfold rk cnt
    rw [← Finset.sum_add_distrib]
    refine Finset.sum_le_sum fun i _ => ?_
    by_cases h1 : i = j
    · subst h1; rw [if_neg (fun h => lt_irrefl _ h.1), if_pos rfl, if_pos rfl]
    · rw [if_neg h1]
      by_cases h2 : i < j ∧ cls i = cls j
      · rw [if_pos h2, if_pos h2.2]
      · rw [if_neg h2]; exact Nat.zero_le _
  rw [one_sum] at h
  omega

theorem rk_strict {i j : Fin n} (hc : cls i = cls j) (h : i < j) : rk cls i < rk cls j := by
  have h : rk cls i + (∑ k : Fin n, if k = i then 1 else 0) ≤ rk cls j := by
    unfold rk
    rw [← Finset.sum_add_distrib]
    refine Finset.sum_le_sum fun k _ => ?_
    by_cases h1 : k = i
    · subst h1; rw [if_neg (fun h => lt_irrefl _ h.1), if_pos rfl, if_pos ⟨h, hc⟩]
    · rw [if_neg h1]
      by_cases h2 : k < i ∧ cls k = cls i
      · rw [if_pos h2, if_pos ⟨h2.1.trans h, h2.2.trans hc⟩]
      · rw [if_neg h2]; exact Nat.zero_le _
  rw [one_sum] at h
  omega

theorem rk_inj {i j : Fin n} (hc : cls i = cls j) (h : rk cls i = rk cls j) : i = j := by
  rcases lt_trichotomy i j with h1 | h1 | h1
  · have := rk_strict cls hc h1; omega
  · exact h1
  · have := rk_strict cls hc.symm h1; omega

theorem lt_of_rk {i j : Fin n} (hc : cls i = cls j) (h : rk cls i < rk cls j) : i < j := by
  rcases lt_trichotomy i j with h1 | h1 | h1
  · exact h1
  · subst h1; omega
  · have := rk_strict cls hc.symm h1; omega

/-- Every rank below a class's count is a member's. -/
theorem exists_rk (c t : ℕ) (h : t < cnt cls c) : ∃ j, cls j = c ∧ rk cls j = t := by
  have hcard : (Finset.univ.filter fun j => cls j = c).card = cnt cls c := by
    rw [Finset.card_filter]; rfl
  have hi : ((Finset.univ.filter fun j => cls j = c).image (rk cls)) = Finset.range (cnt cls c) := by
    refine Finset.eq_of_subset_of_card_le (fun t ht => ?_) ?_
    · obtain ⟨j, hj, rfl⟩ := Finset.mem_image.1 ht
      have := (Finset.mem_filter.1 hj).2
      rw [Finset.mem_range, ← this]
      exact rk_lt cls j
    · rw [Finset.card_range, Finset.card_image_of_injOn, hcard]
      intro i h1 j h2 e
      have h1 := (Finset.mem_filter.1 h1).2
      have h2 := (Finset.mem_filter.1 h2).2
      exact rk_inj cls (h1.trans h2.symm) e
  have ht : t ∈ (Finset.univ.filter fun j => cls j = c).image (rk cls) := by rw [hi]; exact Finset.mem_range.2 h
  obtain ⟨j, hj, e⟩ := Finset.mem_image.1 ht
  exact ⟨j, (Finset.mem_filter.1 hj).2, e⟩

theorem cnt_up (c : ℕ) : cnt cls c ≤ up (cnt cls c) * 16 := by unfold up; omega

theorem slot_lt (j : Fin n) : slot cls j < blk cls (cls j + 1) := by
  rw [blk_succ]
  have := rk_lt cls j
  have := cnt_up cls (cls j)
  unfold slot
  omega

theorem slot_inj {i j : Fin n} (h : slot cls i = slot cls j) : i = j := by
  rcases lt_trichotomy (cls i) (cls j) with hc | hc | hc
  · have h1 := slot_lt cls i
    have h2 := blk_mono cls (show cls i + 1 ≤ cls j from hc)
    have h3 : blk cls (cls j) ≤ slot cls j := Nat.le_add_right _ _
    omega
  · refine rk_inj cls hc ?_
    unfold slot at h
    rw [hc] at h
    omega
  · have h1 := slot_lt cls j
    have h2 := blk_mono cls (show cls j + 1 ≤ cls i from hc)
    have h3 : blk cls (cls i) ≤ slot cls i := Nat.le_add_right _ _
    omega

/-! ## What is to be kept comes first -/

/-- Of members sorted so that those to be kept come first, one is to be kept exactly when its rank is below its class's count of them. -/
theorem ok_iff (hd : ∀ i j, i < j → ok j → ok i) (j : Fin n) : ok j ↔ rk cls j < vcn cls ok (cls j) := by
  constructor
  · intro hj
    have h : rk cls j + (∑ i : Fin n, if i = j then 1 else 0) ≤ vcn cls ok (cls j) := by
      unfold rk vcn
      rw [← Finset.sum_add_distrib]
      refine Finset.sum_le_sum fun i _ => ?_
      by_cases h1 : i = j
      · subst h1; rw [if_neg (fun h => lt_irrefl _ h.1), if_pos rfl, if_pos rfl, if_pos hj]
      · rw [if_neg h1]
        by_cases h2 : i < j ∧ cls i = cls j
        · rw [if_pos h2, if_pos h2.2, if_pos (hd i j h2.1 hj)]
        · rw [if_neg h2]; exact Nat.zero_le _
    rw [one_sum] at h
    omega
  · intro h
    by_contra hj
    have h' : vcn cls ok (cls j) ≤ rk cls j := by
      unfold rk vcn
      refine Finset.sum_le_sum fun i _ => ?_
      by_cases h1 : cls i = cls j
      · rw [if_pos h1]
        by_cases h2 : ok i
        · rw [if_pos h2]
          rcases lt_trichotomy i j with h3 | h3 | h3
          · rw [if_pos ⟨h3, h1⟩]
          · subst h3; exact absurd h2 hj
          · exact absurd (hd j i h3 h2) hj
        · rw [if_neg h2]; exact Nat.zero_le _
      · rw [if_neg h1]; exact Nat.zero_le _
    omega

/-! ## The stable sort by class -/

/-- First by class, then by place. -/
def Bef (i j : Fin n) : Prop := cls i < cls j ∨ (cls i = cls j ∧ i < j)

theorem insert_bef (a : Fin n) (l : List (Fin n)) (hl : l.Pairwise (Bef cls)) (ha : ∀ b ∈ l, a < b) :
    (insertBefore (fun a b => decide (cls a < cls b)) a l).Pairwise (Bef cls) := by
  induction l with
  | nil => exact List.pairwise_singleton _ _
  | cons b l ih =>
    have hl' := List.pairwise_cons.1 hl
    unfold insertBefore
    split
    · rename_i h
      have h : cls b < cls a := of_decide_eq_true h
      refine List.pairwise_cons.2 ⟨fun c hc => ?_, ih hl'.2 fun c hc => ha c (List.mem_cons_of_mem _ hc)⟩
      rcases List.mem_cons.1 ((Idealize.ShloMosaic.perm_insertBefore _ a l).mem_iff.1 hc) with rfl | hc'
      · exact Or.inl h
      · exact hl'.1 c hc'
    · rename_i h
      have h : ¬ cls b < cls a := fun q => h (decide_eq_true q)
      refine List.pairwise_cons.2 ⟨fun c hc => ?_, hl⟩
      have hac := ha c hc
      have hbc : cls b ≤ cls c := by
        rcases List.mem_cons.1 hc with rfl | hc'
        · exact le_refl _
        · rcases hl'.1 c hc' with q | q
          · exact Nat.le_of_lt q
          · exact Nat.le_of_eq q.1
      by_cases e : cls a = cls c
      · exact Or.inr ⟨e, hac⟩
      · exact Or.inl (by omega)

theorem sort_bef (l : List (Fin n)) (h : l.Pairwise (· < ·)) : (stableSort (fun a b => decide (cls a < cls b)) l).Pairwise (Bef cls) := by
  induction l with
  | nil => exact List.Pairwise.nil
  | cons a l ih =>
    have h' := List.pairwise_cons.1 h
    unfold stableSort
    exact insert_bef cls a _ (ih h'.2) fun b hb => h'.1 b ((Idealize.ShloMosaic.perm_stableSort _ l).mem_iff.1 hb)

/-- Which member the sort puts at a place. -/
def ord (r : Fin n) : Fin n := sortedFrom (fun a b => decide (cls a < cls b)) r

theorem ord_bef {i j : Fin n} (h : i < j) : Bef cls (ord cls i) (ord cls j) := by
  have hp := List.pairwise_iff_get.1 (sort_bef cls (List.finRange n) (List.pairwise_lt_finRange n))
  unfold ord sortedFrom
  exact hp _ _ (Fin.lt_def.2 (Fin.lt_def.1 h))

theorem ord_bij : Function.Bijective (ord cls) :=
  ⟨Idealize.ShloMosaic.sortedFrom_injective _, Idealize.ShloMosaic.sortedFrom_surjective _⟩

theorem bef_irrefl (i : Fin n) : ¬ Bef cls i i := by
  rintro (h | h)
  · omega
  · exact lt_irrefl _ h.2
theorem bef_asymm {i j : Fin n} (h : Bef cls i j) : ¬ Bef cls j i := by
  rintro (h' | h') <;> rcases h with h | h
  · omega
  · omega
  · omega
  · exact lt_asymm h.2 h'.2

theorem ord_lt_iff (i j : Fin n) : i < j ↔ Bef cls (ord cls i) (ord cls j) := by
  refine ⟨ord_bef cls, fun h => ?_⟩
  rcases lt_trichotomy i j with h1 | h1 | h1
  · exact h1
  · subst h1; exact absurd h (bef_irrefl cls _)
  · exact absurd (ord_bef cls h1) (bef_asymm cls h)

/-- A member's place in the sort: the members of the classes before, and the members of its class before it. -/
theorem ord_place (r : Fin n) : r.val = bef cls (cls (ord cls r)) + rk cls (ord cls r) := by
  classical
  rw [bef_eq]
  unfold rk
  rw [← Finset.sum_add_distrib]
  have h1 : ∀ j : Fin n, ((if cls j < cls (ord cls r) then 1 else 0) + (if j < ord cls r ∧ cls j = cls (ord cls r) then 1 else 0) : ℕ)
      = if Bef cls j (ord cls r) then 1 else 0 := by
    intro j
    by_cases h : cls j < cls (ord cls r)
    · rw [if_pos h, if_neg (by rintro ⟨-, q⟩; omega), if_pos (show Bef cls j _ from Or.inl h)]
    · rw [if_neg h]
      by_cases h' : j < ord cls r ∧ cls j = cls (ord cls r)
      · rw [if_pos h', if_pos (show Bef cls j _ from Or.inr ⟨h'.2, h'.1⟩)]
      · rw [if_neg h', if_neg]
        rintro (q | q)
        · exact h q
        · exact h' ⟨q.2, q.1⟩
  rw [Finset.sum_congr rfl fun j _ => h1 j]
  rw [← Equiv.sum_comp (Equiv.ofBijective _ (ord_bij cls))]
  have h2 : ∀ i : Fin n, (if Bef cls ((Equiv.ofBijective _ (ord_bij cls)) i) (ord cls r) then 1 else 0 : ℕ) = if i < r then 1 else 0 := by
    intro i
    have := ord_lt_iff cls i r
    by_cases h : i < r
    · rw [if_pos h]; exact if_pos (this.1 h)
    · rw [if_neg h]; exact if_neg fun q => h (this.2 q)
  rw [Finset.sum_congr rfl fun j _ => h2 j]
  rw [← Finset.card_filter]
  have : (Finset.univ.filter fun i : Fin n => i < r) = Finset.Iio r := by ext; simp
  rw [this, Fin.card_Iio]

/-! ## Greedy passes -/

/-- Passes that each take down, if their own member is up, what it hits behind it: a member is up after some passes exactly when it was
    up and none of the passed members before it, up at its own pass, hits it. -/
theorem greedy (P : ℕ → ℕ → Prop) (h : ℕ → ℕ → Prop) (N M : ℕ) (hs : ∀ k < N, ∀ j < M, P (k + 1) j ↔ P k j ∧ ¬ (P k k ∧ k < j ∧ h k j))
    (m : ℕ) (hm : m ≤ N) (j : ℕ) (hj : j < M) : P m j ↔ P 0 j ∧ ∀ k < m, k < j → ¬ (P k k ∧ h k j) := by
  induction m with
  | zero => exact ⟨fun q => ⟨q, fun k hk => absurd hk (Nat.not_lt_zero k)⟩, fun q => q.1⟩
  | succ m ih =>
    rw [hs m (by omega) j hj, ih (by omega)]
    constructor
    · rintro ⟨⟨h0, h1⟩, h2⟩
      refine ⟨h0, fun k hk hkj q => ?_⟩
      rcases Nat.lt_succ_iff_lt_or_eq.1 hk with e | e
      · exact h1 k e hkj q
      · subst e; exact h2 ⟨q.1, hkj, q.2⟩
    · rintro ⟨h0, h1⟩
      exact ⟨⟨h0, fun k hk => h1 k (by omega)⟩, fun q => h1 m (Nat.lt_succ_self m) q.2.1 ⟨q.1, q.2.2⟩⟩

/-- From its own pass on a member's state does not change. -/
theorem greedy_settled (P : ℕ → ℕ → Prop) (h : ℕ → ℕ → Prop) (N M : ℕ) (hs : ∀ k < N, ∀ j < M, P (k + 1) j ↔ P k j ∧ ¬ (P k k ∧ k < j ∧ h k j))
    (m : ℕ) (hm : m ≤ N) (j : ℕ) (hj : j < M) (hjm : j ≤ m) : P m j ↔ P j j := by
  rw [greedy P h N M hs m hm j hj, greedy P h N M hs j (hjm.trans hm) j hj]
  exact and_congr_right fun _ => ⟨fun q k hk hkj => q k (by omega) hkj, fun q k hk hkj => q k hkj hkj⟩

/-- All members passed at once, hits counting inside a class, or a class's members passed alone, up to the last to be kept: the same
    members stay up. -/
theorem greedy_class (hd : ∀ i j, i < j → ok j → ok i) (hit : Fin n → Fin n → Prop) (R : ℕ → ℕ → Prop) (H : ℕ → ℕ → Prop)
    (hR : ∀ k < n, ∀ j < n, R (k + 1) j ↔ R k j ∧ ¬ (R k k ∧ k < j ∧ H k j))
    (hH : ∀ i j : Fin n, H i.val j.val ↔ cls i = cls j ∧ hit i j) (hR0 : ∀ j : Fin n, R 0 j.val ↔ ok j)
    (c : ℕ) (G : ℕ → ℕ → Prop) (h : ℕ → ℕ → Prop)
    (hG : ∀ k < vcn cls ok c, ∀ t, G (k + 1) t ↔ G k t ∧ ¬ (G k k ∧ k < t ∧ h k t))
    (hh : ∀ i j : Fin n, cls i = c → cls j = c → rk cls j < vcn cls ok c → (h (rk cls i) (rk cls j) ↔ hit i j))
    (hG0 : ∀ j : Fin n, cls j = c → (G 0 (rk cls j) ↔ ok j)) (j : Fin n) (hj : cls j = c) :
    G (vcn cls ok c) (rk cls j) ↔ R n j.val := by
  have hG' : ∀ M, ∀ k < vcn cls ok c, ∀ t < M, G (k + 1) t ↔ G k t ∧ ¬ (G k k ∧ k < t ∧ h k t) := fun _ k hk t _ => hG k hk t
  have hA : ∀ q : ℕ, ∀ j : Fin n, j.val = q → cls j = c → rk cls j < vcn cls ok c → (G (rk cls j) (rk cls j) ↔ R j.val j.val) := by
    intro q
    induction q using Nat.strong_induction_on with
    | _ q ih =>
      intro j hq hj hv
      rw [greedy G h _ (rk cls j + 1) (hG' _) (rk cls j) (Nat.le_of_lt hv) (rk cls j) (Nat.lt_succ_self _),
        greedy R H n n hR j.val (Nat.le_of_lt j.isLt) j.val j.isLt, hG0 j hj, hR0 j]
      refine and_congr_right fun _ => ⟨fun a k hk _ => ?_, fun a t ht _ => ?_⟩
      · rintro ⟨hkk, hkj⟩
        have hkn : k < n := hk.trans j.isLt
        obtain ⟨e, hhit⟩ := (hH ⟨k, hkn⟩ j).1 hkj
        have e' : cls ⟨k, hkn⟩ = c := e.trans hj
        have hr : rk cls ⟨k, hkn⟩ < rk cls j := rk_strict cls e (Fin.lt_def.2 hk)
        exact a _ hr hr ⟨(ih k (by omega) ⟨k, hkn⟩ rfl e' (hr.trans hv)).2 hkk, (hh ⟨k, hkn⟩ j e' hj hv).2 hhit⟩
      · rintro ⟨htt, hhit⟩
        obtain ⟨i, hi, rfl⟩ := exists_rk cls c t (by have := vcn_le cls ok c; omega)
        have hij : i < j := lt_of_rk cls (hi.trans hj.symm) ht
        have hij' : i.val < j.val := hij
        exact a i.val hij' hij' ⟨(ih i.val (by omega) i rfl hi (ht.trans hv)).1 htt, (hH i j).2 ⟨hi.trans hj.symm, (hh i j hi hj hv).1 hhit⟩⟩
  by_cases hv : rk cls j < vcn cls ok c
  · rw [greedy_settled G h _ (rk cls j + 1) (hG' _) _ (le_refl _) (rk cls j) (Nat.lt_succ_self _) (Nat.le_of_lt hv), hA _ j rfl hj hv,
      greedy_settled R H n n hR n (le_refl _) j.val j.isLt (Nat.le_of_lt j.isLt)]
  · have hno : ¬ ok j := fun q => hv (by have := (ok_iff cls ok hd j).1 q; rwa [hj] at this)
    refine iff_of_false (fun q => ?_) fun q => ?_
    · exact hno ((hG0 j hj).1 ((greedy G h _ (rk cls j + 1) (hG' _) _ (le_refl _) (rk cls j) (Nat.lt_succ_self _)).1 q).1)
    · exact hno ((hR0 j).1 ((greedy R H n n hR n (le_refl _) j.val j.isLt).1 q).1)

end Cert.Proof.Slots

end
-- ==== Proof.Pos.lean ====
/-
  The sort by class, and where it puts every box: what each array the call reads holds at a box's place.
-/
module

public import proofs.«01_k».proof.Proof.Tables
public import proofs.«01_k».proof.Proof.Places

@[expose] public section

noncomputable section

namespace Cert.Proof.Nms

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Words

variable {F : FTy → Type} [FloatOps F]

local notation "𝕄" => MT nD τ sig (HIx 1) (Elt F) ℕ UU ℕ

open Idealize.ShloMosaic.StableHlo Idealize.ShloMosaic.ValueIdx
open Cert.Proof.Moves Cert.Proof.Slots

/-- One column of an array of four, as a vector. -/
theorem column_of {α : Type} (x : S20000x4.Idx → α) (q : Fin 4) (off : Fin 2 → ℕ) (h0 : off 0 = 0) (h1 : off 1 = q.val) (hs : S20000x4.Slices off S20000x1)
    (hc : S20000x1.ShapeCasts S20000) (r : Fin 20000) :
    shapeCast S20000 (extractStridedSlice S20000x1 off x hs) hc (ix1 r) = x (ix2 r q) := by
  rw [Routing.cast21 (a := 20000) (b := 1) (n := 20000) _ hc r (0 : Fin 1) r (by show r.val = r.val * 1 + 0; omega)]
  refine extractStridedSlice_apply off x hs (ix2 r (0 : Fin 1)) (ix2 r q) fun a => ?_
  match a with
  | ⟨0, _⟩ => show r.val = off 0 + r.val; omega
  | ⟨1, _⟩ => show q.val = off 1 + 0; omega

/-- The second result of a sort of a vector by the first: at a place, the entry of the element the sort puts there. -/
theorem sort_read {α β : Type} (cmp : α × β → α × β → BitVec 1) (x : S20000.Idx → α) (y : S20000.Idx → β) (R : Fin 20000 → Fin 20000 → Bool)
    (hR : ∀ a b, (cmp (x (ix1 a), y (ix1 a)) (x (ix1 b), y (ix1 b)) == 1#1) = R a b) (r : Fin 20000) :
    (Host.sort2 S20000 0 cmp x y).2 (ix1 r) = y (ix1 (sortedFrom R r)) := by
  have hd : 0 < S20000.rank := Nat.zero_lt_one
  have e : ∀ (j : S20000.Idx) (c : Fin 20000), j.along (⟨0, hd⟩ : Fin S20000.rank) c = ix1 c := fun j c =>
    (Shape.Idx.along_rank1 j c).trans (Routing.ofFin_eq_ix1 c)
  have hb : (fun a b : Fin 20000 => cmp (x ((ix1 r).along ⟨0, hd⟩ a), y ((ix1 r).along ⟨0, hd⟩ a)) (x ((ix1 r).along ⟨0, hd⟩ b), y ((ix1 r).along ⟨0, hd⟩ b)) == 1#1) = R := by
    funext a b
    rw [e, e]
    exact hR a b
  have hsrc : sortedFrom (n := 20000) (fun a b : Fin 20000 => cmp (x ((ix1 r).along ⟨0, hd⟩ a), y ((ix1 r).along ⟨0, hd⟩ a)) (x ((ix1 r).along ⟨0, hd⟩ b), y ((ix1 r).along ⟨0, hd⟩ b)) == 1#1) r
      = sortedFrom R r := by rw [hb]
  unfold Host.sort2
  rw [dif_pos hd]
  exact (congrArg (fun c : Fin 20000 => y ((ix1 r).along ⟨0, hd⟩ c)) hsrc).trans (congrArg y (e _ _))

/-- A scalar float constant spread over a shape. -/
theorem spreadf {t : Shape} (h : S_.BroadcastsInDim t (![] : Fin 0 → Fin t.rank)) (c : FVec F S_ .f32) (k : BitVec 32) (hc : c = constant S_ .f32 k) (i : t.Idx) :
    broadcastInDim t ![] h c i = FloatOps.ofBits .f32 k := by
  subst hc; rfl

variable (V : Valuation τ sig (Elt F))

/-- Which of the sorted boxes the sort by class puts at a place. -/
abbrev sg (r : Fin 20000) : Fin 20000 := ord (cls V) r
/-- A box's place in the padded layout. -/
abbrev sl (j : Fin 20000) : ℕ := slot (cls V) j

variable {V}

theorem at_v23 (hL : Small V) (r : Fin 20000) : (after preOps V (Proc.devRef .tc main_v23) : IVec S20000 32) (ix1 r) = BitVec.ofNat 32 (sg V r).val := by
  refine (congrFun (q_v23 V) (ix1 r)).trans ?_
  refine (sort_read comparator_i32_i32_d0 _ _ (fun a b => decide (cls V a < cls V b)) (fun a b => ?_) r).trans ?_
  · have ha : (after preOps V (Proc.devRef .tc main_v22) : IVec S20000 32) (ix1 a) = BitVec.ofNat 32 (cls V a) := cls_word a
    have hb : (after preOps V (Proc.devRef .tc main_v22) : IVec S20000 32) (ix1 b) = BitVec.ofNat 32 (cls V b) := cls_word b
    rw [ha, hb]
    unfold comparator_i32_i32_d0
    show (BitVec.ofBool (BitVec.slt (BitVec.ofNat 32 (cls V a)) (BitVec.ofNat 32 (cls V b))) == 1#1) = _
    rw [BitVec.slt_eq_decide, toInt_word (by have := cls_lt hL a; omega), toInt_word (by have := cls_lt hL b; omega)]
    by_cases h : cls V a < cls V b
    · rw [decide_eq_true h, decide_eq_true (by exact_mod_cast h)]; rfl
    · rw [decide_eq_false h, decide_eq_false (by exact_mod_cast h)]; rfl
  · exact congrFun (q_call1_v0 V) _

theorem sg_bij : Function.Bijective (sg V) := ord_bij _

/-- An index column over the sort by class. -/
theorem col_ord (hL : Small V) (z y : IVec S20000 32) (hz : ∀ r, z (ix1 r) = 0#32) (r : Fin 20000) :
    broadcastInDim S20000x1 ![0] bcast_S20000_S20000x1_0 (select (cmpi .slt (after preOps V (Proc.devRef .tc main_v23) : IVec S20000 32) z) y (after preOps V (Proc.devRef .tc main_v23) : IVec S20000 32)) (ix2 r (0 : Fin 1))
      = BitVec.ofNat 32 (sg V r).val :=
  column_at _ _ _ _ r (at_v23 hL r) (by have := (sg V r).isLt; omega) (hz r)

theorem at_v30 (hL : Small V) (r : Fin 20000) (q : Fin 4) : (after preOps V (Proc.devRef .tc main_v30) : FVec F S20000x4 .f32) (ix2 r q) = (after preOps V (Proc.devRef .tc main_v8) : FVec F S20000x4 .f32) (ix2 (sg V r) q) := by
  refine (congrFun (q_v30 V) (ix2 r q)).trans ?_
  refine Routing.gather_row gather_S20000x4_S20000x1_S20000x4_1_0_n_n_0_1_14 rfl rfl rfl rfl rfl _ _ r q (sg V r) ?_ (by omega)
  rw [q_v29, q_v28, q_v25]
  exact col_ord hL _ _ (fun r => (congrFun (q_v24 V) (ix1 r)).trans (spread _ _ _ (q_c_5 V) _)) r

theorem at_v37 (hL : Small V) (r : Fin 20000) : (after preOps V (Proc.devRef .tc main_v37) : FVec F S20000 .f32) (ix1 r) = (after preOps V (Proc.devRef .tc main_v15) : FVec F S20000 .f32) (ix1 (sg V r)) := by
  refine (congrFun (q_v37 V) (ix1 r)).trans ?_
  refine take_at gather_S20000_S20000x1_S20000_n_0_n_n_0_1_1 rfl rfl rfl rfl _ _ r (sg V r) (by omega) ?_
  rw [q_v36, q_v35, q_v32]
  exact col_ord hL _ _ (fun r => (congrFun (q_v31 V) (ix1 r)).trans (spread _ _ _ (q_c_7 V) _)) r

theorem at_v44 (hL : Small V) (r : Fin 20000) : (after preOps V (Proc.devRef .tc main_v44) : IVec S20000 32) (ix1 r) = BitVec.ofNat 32 (cls V (sg V r)) := by
  refine (congrFun (q_v44 V) (ix1 r)).trans ?_
  refine (take_at gather_S20000_S20000x1_S20000_n_0_n_n_0_1_1 rfl rfl rfl rfl _ _ r (sg V r) (by omega) ?_).trans (cls_word _)
  rw [q_v43, q_v42, q_v39]
  exact col_ord hL _ _ (fun r => (congrFun (q_v38 V) (ix1 r)).trans (spread _ _ _ (q_c_9 V) _)) r

/-- An index column over the sorted boxes' classes. -/
theorem col_cls (hL : Small V) (z y : IVec S20000 32) (hz : ∀ r, z (ix1 r) = 0#32) (r : Fin 20000) :
    broadcastInDim S20000x1 ![0] bcast_S20000_S20000x1_0 (select (cmpi .slt (after preOps V (Proc.devRef .tc main_v44) : IVec S20000 32) z) y (after preOps V (Proc.devRef .tc main_v44) : IVec S20000 32)) (ix2 r (0 : Fin 1))
      = BitVec.ofNat 32 (cls V (sg V r)) :=
  column_at _ _ _ _ r (at_v44 hL r) (by have := cls_lt hL (sg V r); omega) (hz r)

/-- The classes' ends when laid one behind the other. -/
theorem at_v74 (hL : Small V) (c : Fin 80) : (after preOps V (Proc.devRef .tc main_v74) : IVec S80 32) (ix1 c) = BitVec.ofNat 32 (bef (cls V) (c.val + 1)) := by
  refine (congrFun (q_v74 V) (ix1 c)).trans ?_
  refine (Routing.cumsum1 (N := 80) (Nm1 := 79) rfl _ (cnt (cls V)) (at_v53 hL) _ ((congrFun (q_call4_call0_v0 V) _).trans (spread _ _ _ (q_call4_call0_c V) _)) _ _ c).trans ?_
  rw [sum_range_map]
  rfl

/-- The classes' starts when laid one behind the other. -/
theorem at_v76 (hL : Small V) (c : Fin 80) : (after preOps V (Proc.devRef .tc main_v76) : IVec S80 32) (ix1 c) = BitVec.ofNat 32 (bef (cls V) c.val) := by
  refine (congrFun (q_v76 V) (ix1 c)).trans ?_
  by_cases h : c.val = 0
  · refine (concatenate_pair_apply_left (t := S80) (s₁ := S1) (s₂ := S79) 0 _ _ _ (ix1 c) rfl (ix1 (0 : Fin 1)) (fun b => by
      match b with
      | ⟨0, _⟩ => exact h.symm)).trans ?_
    rw [h, (congrFun (q_v73 V) _).trans (spread _ _ _ (q_c_22 V) _)]
    rfl
  · refine (concatenate_pair_apply_right (t := S80) (s₁ := S1) (s₂ := S79) 0 _ _ _ (ix1 c) rfl rfl (ix1 (⟨c.val - 1, by omega⟩ : Fin 79)) (fun b hb => by
      match b with
      | ⟨0, _⟩ => exact absurd rfl hb) (by show c.val - 1 + 1 = c.val; omega)).trans ?_
    refine (congrFun (q_v75 V) _).trans ((extractStridedSlice_apply ![0] _ slices_S80_S79_0 _ (ix1 (⟨c.val - 1, by omega⟩ : Fin 80)) fun a => ?_).trans ?_)
    · match a with
      | ⟨0, _⟩ => show c.val - 1 = 0 + (c.val - 1); omega
    · rw [at_v74 hL]
      show BitVec.ofNat 32 (bef (cls V) (c.val - 1 + 1)) = _
      rw [show c.val - 1 + 1 = c.val by omega]

theorem at_v83 (hL : Small V) (r : Fin 20000) : (after preOps V (Proc.devRef .tc main_v83) : IVec S20000 32) (ix1 r) = BitVec.ofNat 32 (blk (cls V) (cls V (sg V r))) := by
  have hc := cls_lt hL (sg V r)
  refine (congrFun (q_v83 V) (ix1 r)).trans ?_
  refine (take_at gather_S81_S20000x1_S20000_n_0_n_n_0_1_1 rfl rfl rfl rfl _ _ r (⟨cls V (sg V r), by omega⟩ : Fin 81) (by omega) ?_).trans (at_v72 hL _)
  rw [q_v82, q_v81, q_v78]
  exact col_cls hL _ _ (fun r => (congrFun (q_v77 V) (ix1 r)).trans (spread _ _ _ (q_c_23 V) _)) r

theorem at_v91 (hL : Small V) (r : Fin 20000) : (after preOps V (Proc.devRef .tc main_v91) : IVec S20000 32) (ix1 r) = BitVec.ofNat 32 (bef (cls V) (cls V (sg V r))) := by
  have hc := cls_lt hL (sg V r)
  refine (congrFun (q_v91 V) (ix1 r)).trans ?_
  refine (take_at gather_S80_S20000x1_S20000_n_0_n_n_0_1_1 rfl rfl rfl rfl _ _ r (⟨cls V (sg V r), by omega⟩ : Fin 80) (by omega) ?_).trans (at_v76 hL _)
  rw [q_v90, q_v89, q_v86]
  exact col_cls hL _ _ (fun r => (congrFun (q_v85 V) (ix1 r)).trans (spread _ _ _ (q_c_25 V) _)) r

/-- Every box's place in the padded layout, in the order of the sort by class. -/
theorem at_v93 (hL : Small V) (r : Fin 20000) : (after preOps V (Proc.devRef .tc main_v93) : IVec S20000 32) (ix1 r) = BitVec.ofNat 32 (sl V (sg V r)) := by
  have h92 : (after preOps V (Proc.devRef .tc main_v92) : IVec S20000 32) (ix1 r) = BitVec.ofNat 32 (rk (cls V) (sg V r)) := by
    refine (congrFun (q_v92 V) (ix1 r)).trans ?_
    show IntOp.subi _ _ = _
    rw [at_v91 hL r, show (after preOps V (Proc.devRef .tc main_v84) : IVec S20000 32) (ix1 r) = BitVec.ofNat 32 r.val from congrFun (q_v84 V) (ix1 r)]
    conv_lhs => rw [ord_place (cls V) r]
    show BitVec.ofNat 32 _ - BitVec.ofNat 32 _ = _
    rw [BitVec.ofNat_add, add_sub_cancel_left]
  refine (congrFun (q_v93 V) (ix1 r)).trans ?_
  show IntOp.addi _ _ = _
  rw [at_v83 hL r, h92]
  show BitVec.ofNat 32 _ + BitVec.ofNat 32 _ = _
  rw [← BitVec.ofNat_add]
  rfl

theorem sl_end (hL : Small V) (j : Fin 20000) : sl V j < blk (cls V) 80 :=
  (slot_lt (cls V) j).trans_le (blk_mono (cls V) (cls_lt hL j))

theorem sl_lt (hL : Small V) (j : Fin 20000) : sl V j < 21280 := by
  have h1 := sl_end hL j
  have h2 := blk_bound (cls V) 80 le_rfl
  omega

/-- An index column over the boxes' places. -/
theorem col_pos (hL : Small V) (z y : IVec S20000 32) (hz : ∀ r, z (ix1 r) = 0#32) (r : Fin 20000) :
    broadcastInDim S20000x1 ![0] bcast_S20000_S20000x1_0 (select (cmpi .slt (after preOps V (Proc.devRef .tc main_v93) : IVec S20000 32) z) y (after preOps V (Proc.devRef .tc main_v93) : IVec S20000 32)) (ix2 r (0 : Fin 1))
      = BitVec.ofNat 32 (sl V (sg V r)) :=
  column_at _ _ _ _ r (at_v93 hL r) (by have := sl_lt hL (sg V r); omega) (hz r)

/-- What the writes at the boxes' places leave there: at a box's place, its own value. -/
theorem put_at {α : Type} (hL : Small V) (x0 : S21280.Idx → α) (idx : IVec S20000x1 32) (u : S20000.Idx → α) (w : Fin 20000 → α)
    (hidx : ∀ r : Fin 20000, idx (ix2 r (0 : Fin 1)) = BitVec.ofNat 32 (sl V (sg V r))) (hu : ∀ r : Fin 20000, u (ix1 r) = w (sg V r)) (j : Fin 20000) :
    rd 21280 (Host.scatter scatter_S21280_S20000x1_S20000_n_0_0_1 (fun _ b => b) x0 idx u) (sl V j) = w j := by
  obtain ⟨r, rfl⟩ := (sg_bij (V := V)).2 j
  have hlt := sl_lt hL (sg V r)
  unfold rd
  rw [← hu r]
  refine set_at scatter_S21280_S20000x1_S20000_n_0_0_1 rfl rfl rfl x0 idx u (fun r => sl V (sg V r)) hidx (fun r => by have := sl_lt hL (sg V r); omega) r _ ?_ fun i h => ?_
  · show sl V (sg V r) = sl V (sg V r) % 21280
    omega
  · have h : sl V (sg V i) = sl V (sg V r) % 21280 := h
    have h' : sg V i = sg V r := slot_inj (cls V) (by show sl V (sg V i) = sl V (sg V r); omega)
    rw [(sg_bij (V := V)).1 h']

abbrev boxW (V : Valuation τ sig (Elt F)) : FVec F S20000x4 .f32 := after preOps V (Proc.devRef .tc main_v8)

theorem at_v103 (hL : Small V) (j : Fin 20000) : rd 21280 (after preOps V (Proc.devRef .tc main_v103) : FVec F S21280 .f32) (sl V j) = boxW V (ix2 j (0 : Fin 4)) := by
  rw [q_v103]
  refine put_at hL _ _ _ (fun j => boxW V (ix2 j (0 : Fin 4))) (fun r => ?_) (fun r => ?_) j
  · rw [q_v102, q_v101, q_v98]
    exact col_pos hL _ _ (fun r => (congrFun (q_v97 V) (ix1 r)).trans (spread _ _ _ (q_c_28 V) _)) r
  · rw [q_v96, q_v95]
    exact (column_of _ 0 ![0, 0] rfl rfl _ _ r).trans (at_v30 hL r 0)
theorem at_v113 (hL : Small V) (j : Fin 20000) : rd 21280 (after preOps V (Proc.devRef .tc main_v113) : FVec F S21280 .f32) (sl V j) = boxW V (ix2 j (1 : Fin 4)) := by
  rw [q_v113]
  refine put_at hL _ _ _ (fun j => boxW V (ix2 j (1 : Fin 4))) (fun r => ?_) (fun r => ?_) j
  · rw [q_v112, q_v111, q_v108]
    exact col_pos hL _ _ (fun r => (congrFun (q_v107 V) (ix1 r)).trans (spread _ _ _ (q_c_31 V) _)) r
  · rw [q_v106, q_v105]
    exact (column_of _ 1 ![0, 1] rfl rfl _ _ r).trans (at_v30 hL r 1)
theorem at_v123 (hL : Small V) (j : Fin 20000) : rd 21280 (after preOps V (Proc.devRef .tc main_v123) : FVec F S21280 .f32) (sl V j) = boxW V (ix2 j (2 : Fin 4)) := by
  rw [q_v123]
  refine put_at hL _ _ _ (fun j => boxW V (ix2 j (2 : Fin 4))) (fun r => ?_) (fun r => ?_) j
  · rw [q_v122, q_v121, q_v118]
    exact col_pos hL _ _ (fun r => (congrFun (q_v117 V) (ix1 r)).trans (spread _ _ _ (q_c_34 V) _)) r
  · rw [q_v116, q_v115]
    exact (column_of _ 2 ![0, 2] rfl rfl _ _ r).trans (at_v30 hL r 2)
theorem at_v133 (hL : Small V) (j : Fin 20000) : rd 21280 (after preOps V (Proc.devRef .tc main_v133) : FVec F S21280 .f32) (sl V j) = boxW V (ix2 j (3 : Fin 4)) := by
  rw [q_v133]
  refine put_at hL _ _ _ (fun j => boxW V (ix2 j (3 : Fin 4))) (fun r => ?_) (fun r => ?_) j
  · rw [q_v132, q_v131, q_v128]
    exact col_pos hL _ _ (fun r => (congrFun (q_v127 V) (ix1 r)).trans (spread _ _ _ (q_c_37 V) _)) r
  · rw [q_v126, q_v125]
    exact (column_of _ 3 ![0, 3] rfl rfl _ _ r).trans (at_v30 hL r 3)

/-- The flags as the call finds them: up where the score reaches the threshold. -/
theorem at_v144 (hL : Small V) (j : Fin 20000) : rd 21280 (after preOps V (Proc.devRef .tc main_v144) : FVec F S21280 .f32) (sl V j) = FloatOps.uitofp .f32 (okW V (ix1 j)) := by
  rw [q_v144]
  refine put_at hL _ _ _ (fun j => FloatOps.uitofp .f32 (okW V (ix1 j))) (fun r => ?_) (fun r => ?_) j
  · rw [q_v143, q_v142, q_v139]
    exact col_pos hL _ _ (fun r => (congrFun (q_v138 V) (ix1 r)).trans (spread _ _ _ (q_c_41 V) _)) r
  · refine (congrFun (q_v137 V) (ix1 r)).trans (congrArg (FloatOps.uitofp .f32) ?_)
    refine (congrFun (q_v136 V) (ix1 r)).trans (Eq.trans ?_ (congrFun (q_v55 V) (ix1 (sg V r))).symm)
    exact congrArg₂ (FloatOps.cmpf .oge) (at_v37 hL r)
      (((congrFun (q_v135 V) (ix1 r)).trans (spreadf _ _ _ (q_cst_40 V) _)).trans ((congrFun (q_v54 V) (ix1 (sg V r))).trans (spreadf _ _ _ (q_cst V) _)).symm)

end Cert.Proof.Nms

end
-- ==== Proof.EqsE.lean ====
/-
  Every buffer behind the call holds at the end its operation's function of its operands.
-/
module

public import proofs.«01_k».proof.Proof.After

@[expose] public section

noncomputable section

namespace Cert.Proof.Nms

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Words

variable {F : FTy → Type} [FloatOps F]

local notation "𝕄" => MT nD τ sig (HIx 1) (Elt F) ℕ UU ℕ

open Idealize.ShloMosaic.StableHlo

variable (V : Valuation τ sig (Elt F))

set_option maxRecDepth 100000

theorem z_cst_47 : (after opsE V (Proc.devRef .tc main_cst_47) : C F S_ .f32) = (constant S_ .f32 0x00000000#32) := by
  have h := endLine.nullary V 0 rfl rfl
  exact h
theorem z_v152 : (after opsE V (Proc.devRef .tc main_v152) : C F S20000 .f32) = (broadcastInDim S20000 ![] bcast_S_S20000 : C F S_ .f32 → C F S20000 .f32) (after opsE V (Proc.devRef .tc main_cst_47) : C F S_ .f32) := by
  have h := endLine.unary V 1 rfl rfl ((endLine (F := F)).still_at (k := 0) rfl (by decide))
  exact h
theorem z_c_48 : (after opsE V (Proc.devRef .tc main_c_48) : C F S_ .i32) = (constantI S_ 32 0#32) := by
  have h := endLine.nullary V 2 rfl rfl
  exact h
theorem z_v153 : (after opsE V (Proc.devRef .tc main_v153) : C F S20000 .i32) = (broadcastInDim S20000 ![] bcast_S_S20000 : C F S_ .i32 → C F S20000 .i32) (after opsE V (Proc.devRef .tc main_c_48) : C F S_ .i32) := by
  have h := endLine.unary V 3 rfl rfl ((endLine (F := F)).still_at (k := 2) rfl (by decide))
  exact h
theorem z_v154 : (after opsE V (Proc.devRef .tc main_v154) : C F S20000 .i1) = (cmpi .slt : C F S20000 .i32 → C F S20000 .i32 → C F S20000 .i1) (after opsE V (Proc.devRef .tc main_v93) : C F S20000 .i32) (after opsE V (Proc.devRef .tc main_v153) : C F S20000 .i32) := by
  have h := endLine.binary V 4 rfl rfl (still_of_not (by decide)) ((endLine (F := F)).still_at (k := 3) rfl (by decide))
  exact h
theorem z_c_49 : (after opsE V (Proc.devRef .tc main_c_49) : C F S_ .i32) = (constantI S_ 32 21280#32) := by
  have h := endLine.nullary V 5 rfl rfl
  exact h
theorem z_v155 : (after opsE V (Proc.devRef .tc main_v155) : C F S20000 .i32) = (broadcastInDim S20000 ![] bcast_S_S20000 : C F S_ .i32 → C F S20000 .i32) (after opsE V (Proc.devRef .tc main_c_49) : C F S_ .i32) := by
  have h := endLine.unary V 6 rfl rfl ((endLine (F := F)).still_at (k := 5) rfl (by decide))
  exact h
theorem z_v156 : (after opsE V (Proc.devRef .tc main_v156) : C F S20000 .i32) = (addi : C F S20000 .i32 → C F S20000 .i32 → C F S20000 .i32) (after opsE V (Proc.devRef .tc main_v93) : C F S20000 .i32) (after opsE V (Proc.devRef .tc main_v155) : C F S20000 .i32) := by
  have h := endLine.binary V 7 rfl rfl (still_of_not (by decide)) ((endLine (F := F)).still_at (k := 6) rfl (by decide))
  exact h
theorem z_v157 : (after opsE V (Proc.devRef .tc main_v157) : C F S20000 .i32) = (select : C F S20000 .i1 → C F S20000 .i32 → C F S20000 .i32 → C F S20000 .i32) (after opsE V (Proc.devRef .tc main_v154) : C F S20000 .i1) (after opsE V (Proc.devRef .tc main_v156) : C F S20000 .i32) (after opsE V (Proc.devRef .tc main_v93) : C F S20000 .i32) := by
  have h := endLine.ternary V 8 rfl rfl ((endLine (F := F)).still_at (k := 4) rfl (by decide)) ((endLine (F := F)).still_at (k := 7) rfl (by decide)) (still_of_not (by decide))
  exact h
theorem z_v158 : (after opsE V (Proc.devRef .tc main_v158) : C F S20000x1 .i32) = (broadcastInDim S20000x1 ![0] bcast_S20000_S20000x1_0 : C F S20000 .i32 → C F S20000x1 .i32) (after opsE V (Proc.devRef .tc main_v157) : C F S20000 .i32) := by
  have h := endLine.unary V 9 rfl rfl ((endLine (F := F)).still_at (k := 8) rfl (by decide))
  exact h
theorem z_v159 : (after opsE V (Proc.devRef .tc main_v159) : C F S20000 .f32) = ((fun x i => Host.gather gather_S21280_S20000x1_S20000_n_0_n_n_0_1_1 x i) : C F S21280 .f32 → C F S20000x1 .i32 → C F S20000 .f32) (after opsE V (Proc.devRef .tc main_v151) : C F S21280 .f32) (after opsE V (Proc.devRef .tc main_v158) : C F S20000x1 .i32) := by
  have h := endLine.binary V 10 rfl rfl (still_of_not (by decide)) ((endLine (F := F)).still_at (k := 9) rfl (by decide))
  exact h
theorem z_c_50 : (after opsE V (Proc.devRef .tc main_c_50) : C F S_ .i32) = (constantI S_ 32 0#32) := by
  have h := endLine.nullary V 11 rfl rfl
  exact h
theorem z_v160 : (after opsE V (Proc.devRef .tc main_v160) : C F S20000 .i32) = (broadcastInDim S20000 ![] bcast_S_S20000 : C F S_ .i32 → C F S20000 .i32) (after opsE V (Proc.devRef .tc main_c_50) : C F S_ .i32) := by
  have h := endLine.unary V 12 rfl rfl ((endLine (F := F)).still_at (k := 11) rfl (by decide))
  exact h
theorem z_v161 : (after opsE V (Proc.devRef .tc main_v161) : C F S20000 .i1) = (cmpi .slt : C F S20000 .i32 → C F S20000 .i32 → C F S20000 .i1) (after opsE V (Proc.devRef .tc main_v23) : C F S20000 .i32) (after opsE V (Proc.devRef .tc main_v160) : C F S20000 .i32) := by
  have h := endLine.binary V 13 rfl rfl (still_of_not (by decide)) ((endLine (F := F)).still_at (k := 12) rfl (by decide))
  exact h
theorem z_c_51 : (after opsE V (Proc.devRef .tc main_c_51) : C F S_ .i32) = (constantI S_ 32 20000#32) := by
  have h := endLine.nullary V 14 rfl rfl
  exact h
theorem z_v162 : (after opsE V (Proc.devRef .tc main_v162) : C F S20000 .i32) = (broadcastInDim S20000 ![] bcast_S_S20000 : C F S_ .i32 → C F S20000 .i32) (after opsE V (Proc.devRef .tc main_c_51) : C F S_ .i32) := by
  have h := endLine.unary V 15 rfl rfl ((endLine (F := F)).still_at (k := 14) rfl (by decide))
  exact h
theorem z_v163 : (after opsE V (Proc.devRef .tc main_v163) : C F S20000 .i32) = (addi : C F S20000 .i32 → C F S20000 .i32 → C F S20000 .i32) (after opsE V (Proc.devRef .tc main_v23) : C F S20000 .i32) (after opsE V (Proc.devRef .tc main_v162) : C F S20000 .i32) := by
  have h := endLine.binary V 16 rfl rfl (still_of_not (by decide)) ((endLine (F := F)).still_at (k := 15) rfl (by decide))
  exact h
theorem z_v164 : (after opsE V (Proc.devRef .tc main_v164) : C F S20000 .i32) = (select : C F S20000 .i1 → C F S20000 .i32 → C F S20000 .i32 → C F S20000 .i32) (after opsE V (Proc.devRef .tc main_v161) : C F S20000 .i1) (after opsE V (Proc.devRef .tc main_v163) : C F S20000 .i32) (after opsE V (Proc.devRef .tc main_v23) : C F S20000 .i32) := by
  have h := endLine.ternary V 17 rfl rfl ((endLine (F := F)).still_at (k := 13) rfl (by decide)) ((endLine (F := F)).still_at (k := 16) rfl (by decide)) (still_of_not (by decide))
  exact h
theorem z_v165 : (after opsE V (Proc.devRef .tc main_v165) : C F S20000x1 .i32) = (broadcastInDim S20000x1 ![0] bcast_S20000_S20000x1_0 : C F S20000 .i32 → C F S20000x1 .i32) (after opsE V (Proc.devRef .tc main_v164) : C F S20000 .i32) := by
  have h := endLine.unary V 18 rfl rfl ((endLine (F := F)).still_at (k := 17) rfl (by decide))
  exact h
theorem z_v166 : (after opsE V (Proc.devRef .tc main_v166) : C F S20000 .f32) = ((fun x i u => Host.scatter scatter_S20000_S20000x1_S20000_n_0_0_1 (fun _ b => b) x i u) : C F S20000 .f32 → C F S20000x1 .i32 → C F S20000 .f32 → C F S20000 .f32) (after opsE V (Proc.devRef .tc main_v152) : C F S20000 .f32) (after opsE V (Proc.devRef .tc main_v165) : C F S20000x1 .i32) (after opsE V (Proc.devRef .tc main_v159) : C F S20000 .f32) := by
  have h := endLine.ternary V 19 rfl rfl ((endLine (F := F)).still_at (k := 1) rfl (by decide)) ((endLine (F := F)).still_at (k := 18) rfl (by decide)) ((endLine (F := F)).still_at (k := 10) rfl (by decide))
  exact h
theorem z_v167 : (after opsE V (Proc.devRef .tc main_v167) : C F S20000x1 .f32) = (broadcastInDim S20000x1 ![0] bcast_S20000_S20000x1_0 : C F S20000 .f32 → C F S20000x1 .f32) (after opsE V (Proc.devRef .tc main_v15) : C F S20000 .f32) := by
  have h := endLine.unary V 20 rfl rfl (still_of_not (by decide))
  exact h
theorem z_v168 : (after opsE V (Proc.devRef .tc main_v168) : C F S20000x5 .f32) = ((fun a b => concatenate S20000x5 1 [⟨S20000x4, a⟩, ⟨S20000x1, b⟩] concatenates_S20000x4_S20000x1_S20000x5_d1) : C F S20000x4 .f32 → C F S20000x1 .f32 → C F S20000x5 .f32) (after opsE V (Proc.devRef .tc main_v8) : C F S20000x4 .f32) (after opsE V (Proc.devRef .tc main_v167) : C F S20000x1 .f32) := by
  have h := endLine.binary V 21 rfl rfl (still_of_not (by decide)) ((endLine (F := F)).still_at (k := 20) rfl (by decide))
  exact h
theorem z_v169 : (after opsE V (Proc.devRef .tc main_v169) : C F S20000x1 .f32) = (broadcastInDim S20000x1 ![0] bcast_S20000_S20000x1_0 : C F S20000 .f32 → C F S20000x1 .f32) (after opsE V (Proc.devRef .tc main_v166) : C F S20000 .f32) := by
  have h := endLine.unary V 22 rfl rfl ((endLine (F := F)).still_at (k := 19) rfl (by decide))
  exact h
theorem z_cst_52 : (after opsE V (Proc.devRef .tc main_cst_52) : C F S_ .f32) = (constant S_ .f32 0x00000000#32) := by
  have h := endLine.nullary V 23 rfl rfl
  exact h
theorem z_v170 : (after opsE V (Proc.devRef .tc main_v170) : C F S20000x1 .f32) = (broadcastInDim S20000x1 ![] bcast_S_S20000x1 : C F S_ .f32 → C F S20000x1 .f32) (after opsE V (Proc.devRef .tc main_cst_52) : C F S_ .f32) := by
  have h := endLine.unary V 24 rfl rfl ((endLine (F := F)).still_at (k := 23) rfl (by decide))
  exact h
theorem z_v171 : (after opsE V (Proc.devRef .tc main_v171) : C F S20000x1 .i1) = (cmpf .ogt : C F S20000x1 .f32 → C F S20000x1 .f32 → C F S20000x1 .i1) (after opsE V (Proc.devRef .tc main_v169) : C F S20000x1 .f32) (after opsE V (Proc.devRef .tc main_v170) : C F S20000x1 .f32) := by
  have h := endLine.binary V 25 rfl rfl ((endLine (F := F)).still_at (k := 22) rfl (by decide)) ((endLine (F := F)).still_at (k := 24) rfl (by decide))
  exact h
theorem z_cst_53 : (after opsE V (Proc.devRef .tc main_cst_53) : C F S_ .f32) = (constant S_ .f32 0x00000000#32) := by
  have h := endLine.nullary V 26 rfl rfl
  exact h
theorem z_call5_v0 : (after opsE V (Proc.devRef .tc main_call5_v0) : C F S_ .f32) = (id : C F S_ .f32 → C F S_ .f32) (after opsE V (Proc.devRef .tc main_cst_53) : C F S_ .f32) := by
  have h := endLine.unary V 27 rfl rfl ((endLine (F := F)).still_at (k := 26) rfl (by decide))
  exact h
theorem z_call5_v1 : (after opsE V (Proc.devRef .tc main_call5_v1) : C F S20000x5 .i1) = ((broadcastInDim S20000x5 ![0, 1] bcast_S20000x1_S20000x5_0_1) : C F S20000x1 .i1 → C F S20000x5 .i1) (after opsE V (Proc.devRef .tc main_v171) : C F S20000x1 .i1) := by
  have h := endLine.unary V 28 rfl rfl ((endLine (F := F)).still_at (k := 25) rfl (by decide))
  exact h
theorem z_call5_v2 : (after opsE V (Proc.devRef .tc main_call5_v2) : C F S20000x5 .f32) = ((broadcastInDim S20000x5 ![] bcast_S_S20000x5) : C F S_ .f32 → C F S20000x5 .f32) (after opsE V (Proc.devRef .tc main_call5_v0) : C F S_ .f32) := by
  have h := endLine.unary V 29 rfl rfl ((endLine (F := F)).still_at (k := 27) rfl (by decide))
  exact h
theorem z_v172 : (after opsE V (Proc.devRef .tc main_v172) : C F S20000x5 .f32) = (select : C F S20000x5 .i1 → C F S20000x5 .f32 → C F S20000x5 .f32 → C F S20000x5 .f32) (after opsE V (Proc.devRef .tc main_call5_v1) : C F S20000x5 .i1) (after opsE V (Proc.devRef .tc main_v168) : C F S20000x5 .f32) (after opsE V (Proc.devRef .tc main_call5_v2) : C F S20000x5 .f32) := by
  have h := endLine.ternary V 30 rfl rfl ((endLine (F := F)).still_at (k := 28) rfl (by decide)) ((endLine (F := F)).still_at (k := 21) rfl (by decide)) ((endLine (F := F)).still_at (k := 29) rfl (by decide))
  exact h

end Cert.Proof.Nms

end
-- ==== Proof.Keep.lean ====
/-
  The kernel's result at a box: the flag its class's pass leaves at the box's place, read back in the boxes' order, decides
  whether the box's row is its coordinates and score or zero.
-/
module

public import proofs.«01_k».proof.Proof.Pos
public import proofs.«01_k».proof.Proof.EqsE

@[expose] public section

noncomputable section

namespace Cert.Proof.Nms

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Words

variable {F : FTy → Type} [FloatOps F]

local notation "𝕄" => MT nD τ sig (HIx 1) (Elt F) ℕ UU ℕ

open Idealize.ShloMosaic.StableHlo Idealize.ShloMosaic.ValueIdx
open Cert.Proof.Moves Cert.Proof.Slots

/-- Whether two boxes overlap depends on their coordinates alone. -/
theorem hit_congr (X Y : Boxes F) (i j i' j' : ℕ) (h1 : X.x1 i = Y.x1 i') (h2 : X.y1 i = Y.y1 i') (h3 : X.x2 i = Y.x2 i') (h4 : X.y2 i = Y.y2 i')
    (g1 : X.x1 j = Y.x1 j') (g2 : X.y1 j = Y.y1 j') (g3 : X.x2 j = Y.x2 j') (g4 : X.y2 j = Y.y2 j') : hit X i j = hit Y i' j' := by
  unfold hit inter area
  rw [h1, h2, h3, h4, g1, g2, g3, g4]

/-- The first and the second of two. -/
def sel2 (i j : Fin 20000) : ℕ → Fin 20000
  | 0 => i
  | _ + 1 => j

/-- Two rows of an array as two boxes. -/
def pairX (B : FVec F S20000x4 .f32) (i j : Fin 20000) : Boxes F where
  x1 n := B (ix2 (sel2 i j n) (0 : Fin 4))
  y1 n := B (ix2 (sel2 i j n) (1 : Fin 4))
  x2 n := B (ix2 (sel2 i j n) (2 : Fin 4))
  y2 n := B (ix2 (sel2 i j n) (3 : Fin 4))

theorem hit_pair (X : Boxes F) (B : FVec F S20000x4 .f32) (i j : Fin 20000) (p q : ℕ) (h1 : X.x1 p = B (ix2 i (0 : Fin 4))) (h2 : X.y1 p = B (ix2 i (1 : Fin 4)))
    (h3 : X.x2 p = B (ix2 i (2 : Fin 4))) (h4 : X.y2 p = B (ix2 i (3 : Fin 4))) (g1 : X.x1 q = B (ix2 j (0 : Fin 4))) (g2 : X.y1 q = B (ix2 j (1 : Fin 4)))
    (g3 : X.x2 q = B (ix2 j (2 : Fin 4))) (g4 : X.y2 q = B (ix2 j (3 : Fin 4))) : hit X p q = hit (pairX B i j) 0 1 :=
  hit_congr X (pairX B i j) p q 0 1 h1 h2 h3 h4 g1 g2 g3 g4

theorem boxes_x1 (m : (ℓ : Loc nD τ sig) → Buf (Elt F) ℓ) (d : Dev nD) : (boxes m d).x1 = rd 21280 (m (x1Loc d)) := rfl
theorem boxes_y1 (m : (ℓ : Loc nD τ sig) → Buf (Elt F) ℓ) (d : Dev nD) : (boxes m d).y1 = rd 21280 (m (y1Loc d)) := rfl
theorem boxes_x2 (m : (ℓ : Loc nD τ sig) → Buf (Elt F) ℓ) (d : Dev nD) : (boxes m d).x2 = rd 21280 (m (x2Loc d)) := rfl
theorem boxes_y2 (m : (ℓ : Loc nD τ sig) → Buf (Elt F) ℓ) (d : Dev nD) : (boxes m d).y2 = rd 21280 (m (y2Loc d)) := rfl

variable {m : (ℓ : Loc nD τ sig) → Buf (Elt F) ℓ} {d : Dev nD}

/-- The boxes at their places. -/
theorem hit_places (hL : Small (launchContents m d)) (i j : Fin 20000) :
    hit (boxes (callMem m) d) (sl (launchContents m d) i) (sl (launchContents m d) j) = hit (pairX (boxW (launchContents m d)) i j) 0 1 := by
  have e1 : ∀ k : Fin 20000, (boxes (callMem m) d).x1 (sl (launchContents m d) k) = boxW (launchContents m d) (ix2 k (0 : Fin 4)) := fun k => by
    rw [boxes_x1, show callMem m (x1Loc d) = after preOps (launchContents m d) (Proc.devRef .tc main_v103) from congrFun (callVal_eq m d) _]
    exact at_v103 hL k
  have e2 : ∀ k : Fin 20000, (boxes (callMem m) d).y1 (sl (launchContents m d) k) = boxW (launchContents m d) (ix2 k (1 : Fin 4)) := fun k => by
    rw [boxes_y1, show callMem m (y1Loc d) = after preOps (launchContents m d) (Proc.devRef .tc main_v113) from congrFun (callVal_eq m d) _]
    exact at_v113 hL k
  have e3 : ∀ k : Fin 20000, (boxes (callMem m) d).x2 (sl (launchContents m d) k) = boxW (launchContents m d) (ix2 k (2 : Fin 4)) := fun k => by
    rw [boxes_x2, show callMem m (x2Loc d) = after preOps (launchContents m d) (Proc.devRef .tc main_v123) from congrFun (callVal_eq m d) _]
    exact at_v123 hL k
  have e4 : ∀ k : Fin 20000, (boxes (callMem m) d).y2 (sl (launchContents m d) k) = boxW (launchContents m d) (ix2 k (3 : Fin 4)) := fun k => by
    rw [boxes_y2, show callMem m (y2Loc d) = after preOps (launchContents m d) (Proc.devRef .tc main_v133) from congrFun (callVal_eq m d) _]
    exact at_v133 hL k
  exact hit_pair _ _ i j _ _ (e1 i) (e2 i) (e3 i) (e4 i) (e1 j) (e2 j) (e3 j) (e4 j)

/-- The flags at the boxes' places, as the call finds them. -/
theorem flags_place (hL : Small (launchContents m d)) (j : Fin 20000) :
    flags (callMem m) d (sl (launchContents m d) j) = FloatOps.uitofp .f32 (okW (launchContents m d) (ix1 j)) := by
  unfold flags
  rw [show callMem m (k0Loc d) = after preOps (launchContents m d) (Proc.devRef .tc main_v144) from congrFun (callVal_eq m d) _]
  exact at_v144 hL j

/-- The flag the call leaves at a box's place. -/
theorem kept_place (hL : Small (launchContents m d)) (hT : Tab (pst (callMem m) d) (vct (callMem m) d)) (j : Fin 20000) (c : ℕ) (hc : cls (launchContents m d) j = c) :
    kept (callMem m) d (sl (launchContents m d) j)
      = kcls (boxes (callMem m) d) (blk (cls (launchContents m d)) c) (vcn (cls (launchContents m d)) (ok (launchContents m d)) c) (flags (callMem m) d) (sl (launchContents m d) j) := by
  have h80 : c < 80 := hc ▸ cls_lt hL j
  have h1 : pst (callMem m) d c ≤ sl (launchContents m d) j := by
    rw [pst_eq hL c (by omega), ← hc]; exact Nat.le_add_right _ _
  have h2 : sl (launchContents m d) j < pst (callMem m) d (c + 1) := by
    rw [pst_eq hL (c + 1) (by omega), ← hc]; exact slot_lt _ j
  unfold kept
  rw [final_at _ hT _ c h80 _ h1 h2, pst_eq hL c (by omega), vct_eq hL c h80]

section Class

/-- The flags of a class after some of its boxes' passes, as statements. -/
def standing (X : Boxes F) (s e : ℕ) (K : ℕ → F .f32) (k t : ℕ) : Prop := live (kfor X e s K k (s + t)) = 1#1

theorem standing_step (X : Boxes F) (s e : ℕ) (K : ℕ → F .f32) (hz : live (zf : F .f32) ≠ 1#1) (k t : ℕ) :
    standing X s e K (k + 1) t ↔ standing X s e K k t ∧ ¬(standing X s e K k k ∧ k < t ∧ (s + t < e ∧ hit X (s + k) (s + t) = 1#1)) := by
  unfold standing
  show live (kstep X e (s + k) (kfor X e s K k) (s + t)) = 1#1 ↔ _
  unfold kstep
  by_cases h : live (kfor X e s K k (s + k)) = 1#1 ∧ s + k < s + t ∧ s + t < e ∧ hit X (s + k) (s + t) = 1#1
  · rw [if_pos h]
    exact ⟨fun h' => absurd h' hz, fun h' => absurd ⟨h.1, by omega, h.2.2⟩ h'.2⟩
  · rw [if_neg h]
    exact ⟨fun h' => ⟨h', fun g => h ⟨g.1, by omega, g.2.2⟩⟩, fun h' => h'.1⟩

end Class

section End

/-- A buffer written neither by the call nor behind it ends as the call found it. -/
theorem still_end (r : Ref sig .tc) (hE : r ∉ opsE_W) (ho : r ≠ main_v151) : after opsE (resVal m d) (Proc.devRef .tc r) = after preOps (launchContents m d) (Proc.devRef .tc r) := by
  rw [after_of_writes_sub opsE _ (forall_writes_sub_of_map opsE_writes) hE]
  unfold resVal
  rw [Function.update_of_ne (fun e => ho (Proc.devRef_injective _ e))]
  exact congrFun (callVal_eq m d) _

theorem result_end : after opsE (resVal m d) (Proc.devRef .tc main_v151) = result (callMem m) d := by
  rw [after_of_writes_sub opsE _ (forall_writes_sub_of_map opsE_writes) (by decide)]
  unfold resVal
  rw [Function.update_self]

theorem at_v159 (hL : Small (launchContents m d)) (r : Fin 20000) :
    (after opsE (resVal m d) (Proc.devRef .tc main_v159) : FVec F S20000 .f32) (ix1 r) = kept (callMem m) d (sl (launchContents m d) (sg (launchContents m d) r)) := by
  have hlt := sl_lt hL (sg (launchContents m d) r)
  have hend := sl_end hL (sg (launchContents m d) r)
  refine (congrFun (z_v159 (resVal m d)) (ix1 r)).trans ?_
  refine (take_at gather_S21280_S20000x1_S20000_n_0_n_n_0_1_1 rfl rfl rfl rfl _ _ r (⟨sl (launchContents m d) (sg (launchContents m d) r), hlt⟩ : Fin 21280) (by omega) ?_).trans ?_
  · rw [z_v158, z_v157, z_v154, still_end main_v93 (by decide) (by decide)]
    exact column_at _ _ _ _ r (at_v93 hL r) (by omega) ((congrFun (z_v153 (resVal m d)) (ix1 r)).trans (spread _ _ _ (z_c_48 (resVal m d)) _))
  · rw [result_end]
    unfold result
    have hb : sl (launchContents m d) (sg (launchContents m d) r) < pst (callMem m) d 80 := by rw [pst_eq hL 80 (by omega)]; exact hend
    exact if_pos hb

theorem at_v166 (hL : Small (launchContents m d)) (j : Fin 20000) :
    (after opsE (resVal m d) (Proc.devRef .tc main_v166) : FVec F S20000 .f32) (ix1 j) = kept (callMem m) d (sl (launchContents m d) j) := by
  obtain ⟨r, rfl⟩ := (sg_bij (V := launchContents m d)).2 j
  refine (congrFun (z_v166 (resVal m d)) (ix1 (sg (launchContents m d) r))).trans (Eq.trans ?_ (at_v159 hL r))
  refine set_at scatter_S20000_S20000x1_S20000_n_0_0_1 rfl rfl rfl _ _ _ (fun r => (sg (launchContents m d) r).val) (fun r => ?_) (fun r => by have := (sg (launchContents m d) r).isLt; omega) r _ rfl fun i h => ?_
  · rw [z_v165, z_v164, z_v161, still_end main_v23 (by decide) (by decide)]
    exact col_ord hL _ _ (fun r => (congrFun (z_v160 (resVal m d)) (ix1 r)).trans (spread _ _ _ (z_c_50 (resVal m d)) _)) r
  · rw [(sg_bij (V := launchContents m d)).1 (Fin.ext h)]

/-- The rows of the boxes kept, with their scores; the others zero. -/
def outF (k : IVec S20000 1) (b : FVec F S20000x4 .f32) (s : FVec F S20000 .f32) : FVec F S20000x5 .f32 :=
  select (broadcastInDim S20000x5 ![0, 1] bcast_S20000x1_S20000x5_0_1 (broadcastInDim S20000x1 ![0] bcast_S20000_S20000x1_0 k))
    (concatenate S20000x5 1 [⟨S20000x4, b⟩, ⟨S20000x1, broadcastInDim S20000x1 ![0] bcast_S20000_S20000x1_0 s⟩] concatenates_S20000x4_S20000x1_S20000x5_d1)
    (broadcastInDim S20000x5 ![] bcast_S_S20000x5 (id (constant S_ .f32 0x00000000#32)))

/-- The kernel's result. -/
theorem end_v172 (hL : Small (launchContents m d)) (k : IVec S20000 1) (hk : ∀ j : Fin 20000, k (ix1 j) = FloatOps.cmpf .ogt (kept (callMem m) d (sl (launchContents m d) j)) zf) :
    (endVal m d (Proc.devRef .tc main_v172) : FVec F S20000x5 .f32)
      = outF k (after preOps (launchContents m d) (Proc.devRef .tc main_v8)) (after preOps (launchContents m d) (Proc.devRef .tc main_v15)) := by
  have e : k = cmpf .ogt (after opsE (resVal m d) (Proc.devRef .tc main_v166) : FVec F S20000 .f32) (fun _ => zf) := by
    funext q
    obtain ⟨j, rfl⟩ : ∃ j : Fin 20000, q = ix1 j := ⟨q 0, eq_ix1 q⟩
    rw [hk j]
    exact congrArg (fun x : F .f32 => FloatOps.cmpf .ogt x zf) (at_v166 hL j).symm
  unfold endVal outF
  rw [z_v172, z_call5_v1, z_call5_v2, z_call5_v0, z_cst_53, z_v171, z_v170, z_cst_52, z_v169, z_v168, z_v167, still_end main_v8 (by decide) (by decide),
    still_end main_v15 (by decide) (by decide), e]
  rfl

end End

end Cert.Proof.Nms

end
-- ==== Proof.RefVal.lean ====
/-
  What the reference's loop starts from and what one trip makes of the flags.
-/
module

public import proofs.«01_k».proof.Proof.Pos
public import proofs.«01_k».proof.Proof.Ref

@[expose] public section

noncomputable section

namespace Cert.Proof.Ref

open Cert.ReferenceIdeal Cert.ReferenceIdeal.Gen Cert.ReferenceIdeal.Value
open Idealize.ShloMosaic Idealize.ShloMosaic.StableHlo Idealize.ShloMosaic.ValueIdx Idealize.SL.Sem

variable {F : FTy → Type} [FloatOps F]

/-- The order of the scores, largest first. -/
def ordW (s : FVec F S20000 .f32) : IVec S20000 32 := (Host.sort2 S20000 0 comparator_f32_i32_d0 (Host.negf s) (iotaInDim S20000 32 0)).2
/-- An order as a column of indices. -/
def colW (o : IVec S20000 32) : IVec S20000x1 32 :=
  broadcastInDim S20000x1 ![0] bcast_S20000_S20000x1_0 (select (cmpi .slt o (broadcastInDim S20000 ![] bcast_S_S20000 (constantI S_ 32 0#32))) (addi o (broadcastInDim S20000 ![] bcast_S_S20000 (constantI S_ 32 20000#32))) o)
/-- The boxes in an order. -/
def boxO (b : FVec F S20000x4 .f32) (o : IVec S20000 32) : FVec F S20000x4 .f32 := Host.gather gather_S20000x4_S20000x1_S20000x4_1_0_n_n_0_1_14 b (colW o)
/-- A vector in an order. -/
def vecO {α : Type} (x : S20000.Idx → α) (o : IVec S20000 32) : S20000.Idx → α := Host.gather gather_S20000_S20000x1_S20000_n_0_n_n_0_1_1 x (colW o)
/-- The scores at or above the threshold. -/
def okO (s : FVec F S20000 .f32) : IVec S20000 1 := cmpf .oge s (broadcastInDim S20000 ![] bcast_S_S20000 (constant S_ .f32 0x3F000000#32))

section Entry

variable (X : Valuation τ sig (Elt F))

set_option maxRecDepth 8192 in
set_option maxHeartbeats 2000000 in
theorem pre_v1 : after hostOps0_1 (after hostOps0 X) (Proc.devRef .tc main_v1) = ordW (X (Proc.devRef .tc main_arg1)) := by
  unfold ordW
  simp only [hostOps0_1, hostOps0]
  after_results_entrywise [cast_eq]

set_option maxRecDepth 8192 in
set_option maxHeartbeats 2000000 in
theorem pre_v26_0 : after hostOps0_2 X (Proc.devRef .tc main_v26_0) = boxO (X (Proc.devRef .tc main_arg0)) (X (Proc.devRef .tc main_v1)) := by
  unfold boxO colW
  simp only [hostOps0_2]
  after_results_entrywise [cast_eq]

set_option maxRecDepth 8192 in
set_option maxHeartbeats 2000000 in
theorem pre_v8 : after hostOps0_2 X (Proc.devRef .tc main_v8) = boxO (X (Proc.devRef .tc main_arg0)) (X (Proc.devRef .tc main_v1)) := by
  unfold boxO colW
  simp only [hostOps0_2]
  after_results_entrywise [cast_eq]

set_option maxRecDepth 8192 in
set_option maxHeartbeats 2000000 in
theorem pre_v15 : after hostOps0_2 X (Proc.devRef .tc main_v15) = vecO (X (Proc.devRef .tc main_arg1)) (X (Proc.devRef .tc main_v1)) := by
  unfold vecO colW
  simp only [hostOps0_2]
  after_results_entrywise [cast_eq]

set_option maxRecDepth 8192 in
set_option maxHeartbeats 2000000 in
theorem pre_v26_1 : after hostOps0_2 X (Proc.devRef .tc main_v26_1) = vecO (X (Proc.devRef .tc main_arg2)) (X (Proc.devRef .tc main_v1)) := by
  unfold vecO colW
  simp only [hostOps0_2]
  after_results_entrywise [cast_eq]

set_option maxRecDepth 8192 in
set_option maxHeartbeats 2000000 in
theorem pre_v26_2 : after hostOps0_2 X (Proc.devRef .tc main_v26_2) = iotaInDim S20000 32 0 := by
  simp only [hostOps0_2]
  after_results_entrywise [cast_eq]

set_option maxRecDepth 8192 in
set_option maxHeartbeats 2000000 in
theorem pre_v26_4 : after hostOps0_2 X (Proc.devRef .tc main_v26_4) = constantI S_ 32 0#32 := by
  simp only [hostOps0_2]
  after_results_entrywise [cast_eq]

set_option maxRecDepth 8192 in
set_option maxHeartbeats 2000000 in
theorem pre_v26_5 : after hostOps0_2 X (Proc.devRef .tc main_v26_5) = okO (vecO (X (Proc.devRef .tc main_arg1)) (X (Proc.devRef .tc main_v1))) := by
  unfold okO vecO colW
  simp only [hostOps0_2]
  after_results_entrywise [cast_eq]

end Entry

end Cert.Proof.Ref

end
-- ==== Proof.Trips.lean ====
/-
  One trip of the reference's loop at a box: the flag afterwards is the flag before, cleared where the trip's box still
  stands, comes earlier, is of the same class and overlaps.  Then the flags after any number of trips.
-/
module

public import proofs.«01_k».proof.Proof.RefVal
public import Idealize.ShloMosaic.Lib.DynamicIndex

@[expose] public section

noncomputable section

namespace Cert.Proof.Ref

open Cert.ReferenceIdeal Cert.ReferenceIdeal.Gen Cert.ReferenceIdeal.Value
open Idealize.ShloMosaic Idealize.ShloMosaic.StableHlo Idealize.ShloMosaic.ValueIdx Idealize.SL.Sem
open Cert.Proof.Moves

variable {F : FTy → Type} [FloatOps F]

/-- A zero. -/
def z0 : F .f32 := FloatOps.ofBits .f32 0x00000000#32

/-- What two boxes of four coordinates share. -/
def interR (d0 d1 d2 d3 c0 c1 c2 c3 : F .f32) : F .f32 :=
  FloatOps.mulf (FloatOps.maximumf z0 (FloatOps.subf (FloatOps.minimumf d2 c2) (FloatOps.maximumf d0 c0))) (FloatOps.maximumf z0 (FloatOps.subf (FloatOps.minimumf d3 c3) (FloatOps.maximumf d1 c1)))

/-- A box's area. -/
def areaR (c0 c1 c2 c3 : F .f32) : F .f32 := FloatOps.mulf (FloatOps.subf c2 c0) (FloatOps.subf c3 c1)

/-- Whether two boxes overlap by the threshold. -/
def hitR (d0 d1 d2 d3 c0 c1 c2 c3 : F .f32) : BitVec 1 :=
  FloatOps.cmpf .oge (FloatOps.hostDivf (interR d0 d1 d2 d3 c0 c1 c2 c3)
    (FloatOps.addf (FloatOps.subf (FloatOps.addf (areaR d0 d1 d2 d3) (areaR c0 c1 c2 c3)) (interR d0 d1 d2 d3 c0 c1 c2 c3)) (FloatOps.ofBits .f32 0x358637BD#32)))
    (FloatOps.ofBits .f32 0x3F000000#32)

/-- The shared part, box against all. -/
def interV (d0 d1 d2 d3 : FVec F S_ .f32) (c0 c1 c2 c3 : FVec F S20000 .f32) : FVec F S20000 .f32 :=
  mulf (maximumf (broadcastInDim S20000 ![] bcast_S_S20000 (id (constant S_ .f32 0x00000000#32))) (subf (minimumf (broadcastInDim S20000 ![] bcast_S_S20000 d2) c2) (maximumf (broadcastInDim S20000 ![] bcast_S_S20000 d0) c0)))
    (maximumf (broadcastInDim S20000 ![] bcast_S_S20000 (id (constant S_ .f32 0x00000000#32))) (subf (minimumf (broadcastInDim S20000 ![] bcast_S_S20000 d3) c3) (maximumf (broadcastInDim S20000 ![] bcast_S_S20000 d1) c1)))

/-- The flags after a trip, of the trip's box and all boxes. -/
def body (K : IVec S20000 1) (io L : IVec S20000 32) (i lk : IVec S_ 32) (kk : IVec S_ 1) (d0 d1 d2 d3 : FVec F S_ .f32) (c0 c1 c2 c3 : FVec F S20000 .f32) : IVec S20000 1 :=
  id (andi K (noti (andi (andi (andi (cmpi .sgt io (broadcastInDim S20000 ![] bcast_S_S20000 (id i))) (cmpi .eq L (broadcastInDim S20000 ![] bcast_S_S20000 lk)))
    (cmpf .oge (Host.divf (interV d0 d1 d2 d3 c0 c1 c2 c3) (addf (subf (addf (broadcastInDim S20000 ![] bcast_S_S20000 (mulf (subf d2 d0) (subf d3 d1))) (mulf (subf c2 c0) (subf c3 c1))) (interV d0 d1 d2 d3 c0 c1 c2 c3))
      (broadcastInDim S20000 ![] bcast_S_S20000 (constant S_ .f32 0x358637BD#32)))) (broadcastInDim S20000 ![] bcast_S_S20000 (constant S_ .f32 0x3F000000#32))))
    (broadcastInDim S20000 ![] bcast_S_S20000 kk))))

/-- The flags after a trip, at a box. -/
theorem body_at (K : IVec S20000 1) (io L : IVec S20000 32) (i lk : IVec S_ 32) (kk : IVec S_ 1) (d0 d1 d2 d3 : FVec F S_ .f32) (c0 c1 c2 c3 : FVec F S20000 .f32) (j : S20000.Idx) :
    body K io L i lk kk d0 d1 d2 d3 c0 c1 c2 c3 j = IntOp.andi (K j) (BitVec.not (IntOp.andi (IntOp.andi (IntOp.andi (IntOp.cmpi .sgt (io j) (i ix0)) (IntOp.cmpi .eq (L j) (lk ix0)))
      (hitR (d0 ix0) (d1 ix0) (d2 ix0) (d3 ix0) (c0 j) (c1 j) (c2 j) (c3 j))) (kk ix0))) := by
  have b : ∀ {α : Type} (x : S_.Idx → α), broadcastInDim S20000 ![] bcast_S_S20000 x j = x ix0 := fun x => Routing.bc0 _ _ _
  show IntOp.andi (K j) (BitVec.not (IntOp.andi (IntOp.andi (IntOp.andi (IntOp.cmpi .sgt (io j) (broadcastInDim S20000 ![] bcast_S_S20000 i j)) (IntOp.cmpi .eq (L j) (broadcastInDim S20000 ![] bcast_S_S20000 lk j))) _) (broadcastInDim S20000 ![] bcast_S_S20000 kk j))) = _
  rw [b, b, b]
  refine congrArg (fun h => IntOp.andi (K j) (BitVec.not (IntOp.andi (IntOp.andi (IntOp.andi (IntOp.cmpi .sgt (io j) (i ix0)) (IntOp.cmpi .eq (L j) (lk ix0))) h) (kk ix0)))) ?_
  have hi : interV d0 d1 d2 d3 c0 c1 c2 c3 j = interR (d0 ix0) (d1 ix0) (d2 ix0) (d3 ix0) (c0 j) (c1 j) (c2 j) (c3 j) := by
    rw [← b d0, ← b d1, ← b d2, ← b d3]; rfl
  show FloatOps.cmpf .oge (FloatOps.hostDivf (interV d0 d1 d2 d3 c0 c1 c2 c3 j) (FloatOps.addf (FloatOps.subf (FloatOps.addf (broadcastInDim S20000 ![] bcast_S_S20000 (mulf (subf d2 d0) (subf d3 d1)) j) _) (interV d0 d1 d2 d3 c0 c1 c2 c3 j)) _)) _ = _
  rw [hi, b]
  rfl

/-- A one-entry slice of a vector at a number in range. -/
theorem entry_at {α : Type} (x : S20000.Idx → α) (st : Fin S20000.rank → Int) (k : Fin 20000) (hs : st 0 = (k.val : Int)) (h : S20000.Slices (fun _ => 0) S1) (hc : S1.ShapeCasts S_) :
    shapeCast S_ (Host.dynamicSlice S1 x st h) hc ix0 = x (ix1 k) := by
  have hk := k.isLt
  have ho : S20000.Slices (fun _ => k.val) S1 := ⟨rfl, fun a => by
    match a with
    | ⟨0, _⟩ => show k.val + 1 ≤ 20000; omega⟩
  rw [Host.dynamicSlice_eq_extractStridedSlice S1 x st (fun _ => k.val) h ho (fun a => by
    match a with
    | ⟨0, _⟩ => exact hs)]
  refine (shapeCast_dropUnit_apply (n := 0) ![] _ hc ix0).trans ?_
  exact extractStridedSlice_apply _ x ho _ (ix1 k) fun a => by
    match a with
    | ⟨0, _⟩ => rfl

/-- A coordinate of the row at a number in range. -/
theorem coord_at {α : Type} (x : S20000x4.Idx → α) (st : Fin S20000x4.rank → Int) (k : Fin 20000) (q : Fin 4) (off : Fin 1 → ℕ) (hq : off 0 = q.val) (hs0 : st 0 = (k.val : Int)) (hs1 : st 1 = 0)
    (h : S20000x4.Slices (fun _ => 0) S1x4) (hc : S1x4.ShapeCasts S4) (hl : S4.Slices off S1) (hd : S1.ShapeCasts S_) :
    shapeCast S_ (extractStridedSlice S1 off (shapeCast S4 (Host.dynamicSlice S1x4 x st h) hc) hl) hd ix0 = x (ix2 k q) := by
  have hk := k.isLt
  have ho : S20000x4.Slices ![k.val, 0] S1x4 := ⟨rfl, fun a => by
    match a with
    | ⟨0, _⟩ => show k.val + 1 ≤ 20000; omega
    | ⟨1, _⟩ => show 0 + 4 ≤ 4; omega⟩
  rw [Host.dynamicSlice_eq_extractStridedSlice S1x4 x st ![k.val, 0] h ho (fun a => by
    match a with
    | ⟨0, _⟩ => exact hs0
    | ⟨1, _⟩ => exact hs1)]
  refine (shapeCast_dropUnit_apply (n := 0) ![] _ hd ix0).trans ?_
  refine (extractStridedSlice_apply off _ hl _ (ix1 q) fun a => ?_).trans ?_
  · match a with
    | ⟨0, _⟩ => show q.val = off 0 + 0; omega
  · refine (shapeCast_dropUnit_apply (n := 1) ![4] _ hc (ix1 q)).trans ?_
    exact extractStridedSlice_apply _ x ho _ (ix2 k q) fun a => by
      match a with
      | ⟨0, _⟩ => rfl
      | ⟨1, _⟩ => show q.val = 0 + q.val; omega

section Trip

variable (V : Valuation τ sig (Elt F))

/-- The sorted boxes. -/
abbrev bxs : FVec F S20000x4 .f32 := V (Proc.devRef .tc main_v26_0)
/-- Their classes. -/
abbrev lbs : IVec S20000 32 := V (Proc.devRef .tc main_v26_1)
/-- The flags. -/
abbrev fls : IVec S20000 1 := V (Proc.devRef .tc main_v26_5)

/-- Whether two of the sorted boxes overlap by the threshold. -/
def hitB (B : FVec F S20000x4 .f32) (i j : Fin 20000) : BitVec 1 :=
  hitR (B (ix2 i 0)) (B (ix2 i 1)) (B (ix2 i 2)) (B (ix2 i 3)) (B (ix2 j 0)) (B (ix2 j 1)) (B (ix2 j 2)) (B (ix2 j 3))

/-- One trip at a box. -/
theorem trip_at (k : Fin 20000) (h4 : V (Proc.devRef .tc main_v26_4) = constantI S_ 32 (BitVec.ofNat 32 k.val)) (h2 : V (Proc.devRef .tc main_v26_2) = iotaInDim S20000 32 0) (j : Fin 20000) :
    step_main_v26_5 V (ix1 j) = IntOp.andi (fls V (ix1 j)) (BitVec.not (IntOp.andi (IntOp.andi (IntOp.andi (IntOp.cmpi .sgt (BitVec.ofNat 32 j.val) (BitVec.ofNat 32 k.val)) (IntOp.cmpi .eq (lbs V (ix1 j)) (lbs V (ix1 k))))
      (hitB (bxs V) k j)) (fls V (ix1 k)))) := by
  have hk : k.val < 2 ^ 31 := by have := k.isLt; omega
  refine (body_at (fls V) (V (Proc.devRef .tc main_v26_2)) (lbs V) (V (Proc.devRef .tc main_v26_4)) _ _ _ _ _ _ _ _ _ _ (ix1 j)).trans ?_
  unfold hitB
  congr 1
  congr 1
  congr 1
  · congr 1
    · congr 1
      · rw [h2, h4]; rfl
      · refine congrArg (IntOp.cmpi .eq (lbs V (ix1 j))) (entry_at (lbs V) _ k ?_ _ _)
        show (select (cmpi .slt (V (Proc.devRef .tc main_v26_4)) (constantI S_ 32 0#32)) (addi (id (V (Proc.devRef .tc main_v26_4))) (constantI S_ 32 20000#32)) (V (Proc.devRef .tc main_v26_4)) _).toInt = _
        rw [h4]
        exact toInt_wrap_ofNat _ hk
    · have hs0 : (select (cmpi .slt (res_main_while0b_v32 V) (constantI S_ 32 0#32)) (addi (res_main_while0b_v32 V) (constantI S_ 32 20000#32)) (res_main_while0b_v32 V) (Shape.Idx.first h_S_)).toInt = (k.val : Int) := by
        unfold res_main_while0b_v32
        rw [h4]
        exact toInt_wrap_ofNat _ hk
      congr 1
      · exact coord_at (bxs V) _ k 0 _ rfl hs0 rfl _ _ _ _
      · exact coord_at (bxs V) _ k 1 _ rfl hs0 rfl _ _ _ _
      · exact coord_at (bxs V) _ k 2 _ rfl hs0 rfl _ _ _ _
      · exact coord_at (bxs V) _ k 3 _ rfl hs0 rfl _ _ _ _
      · exact Nms.column_of (bxs V) 0 _ rfl rfl _ _ j
      · exact Nms.column_of (bxs V) 1 _ rfl rfl _ _ j
      · exact Nms.column_of (bxs V) 2 _ rfl rfl _ _ j
      · exact Nms.column_of (bxs V) 3 _ rfl rfl _ _ j
  · refine entry_at (fls V) _ k ?_ _ _
    show (select (cmpi .slt (V (Proc.devRef .tc main_v26_4)) (constantI S_ 32 0#32)) (addi (id (V (Proc.devRef .tc main_v26_4))) (constantI S_ 32 20000#32)) (V (Proc.devRef .tc main_v26_4)) _).toInt = _
    rw [h4]
    exact toInt_wrap_ofNat _ hk

theorem it_0 (k : ℕ) : STEP^[k] V (Proc.devRef .tc main_v26_0) = V (Proc.devRef .tc main_v26_0) := by
  induction k with
  | zero => rfl
  | succ k ih => rw [Function.iterate_succ_apply', STEP_main_v26_0, ih]
theorem it_1 (k : ℕ) : STEP^[k] V (Proc.devRef .tc main_v26_1) = V (Proc.devRef .tc main_v26_1) := by
  induction k with
  | zero => rfl
  | succ k ih => rw [Function.iterate_succ_apply', STEP_main_v26_1, ih]
theorem it_2 (k : ℕ) : STEP^[k] V (Proc.devRef .tc main_v26_2) = V (Proc.devRef .tc main_v26_2) := by
  induction k with
  | zero => rfl
  | succ k ih => rw [Function.iterate_succ_apply', STEP_main_v26_2, ih]
theorem it_4 (h : V (Proc.devRef .tc main_v26_4) = constantI S_ 32 0#32) (k : ℕ) : STEP^[k] V (Proc.devRef .tc main_v26_4) = constantI S_ 32 (BitVec.ofNat 32 k) := by
  induction k with
  | zero => exact h
  | succ k ih =>
    rw [Function.iterate_succ_apply', STEP_main_v26_4]
    unfold step_main_v26_4
    rw [ih]
    funext i
    exact (BitVec.ofNat_add (n := 32) k 1).symm

/-- A box's flag after a number of trips. -/
def flag (k j : ℕ) : Prop := ∃ h : j < 20000, fls (STEP^[k] V) (ix1 ⟨j, h⟩) = 1#1

/-- A flag's bit after a trip, as a statement. -/
theorem bit_step (a p q h b : BitVec 1) : IntOp.andi a (BitVec.not (IntOp.andi (IntOp.andi (IntOp.andi p q) h) b)) = 1#1 ↔ a = 1#1 ∧ ¬(b = 1#1 ∧ p = 1#1 ∧ q = 1#1 ∧ h = 1#1) := by
  revert a p q h b
  decide

/-- One trip: the flag stays up unless the trip's box still stands, comes earlier, is of the same class and overlaps. -/
theorem flag_step (h4 : V (Proc.devRef .tc main_v26_4) = constantI S_ 32 0#32) (h2 : V (Proc.devRef .tc main_v26_2) = iotaInDim S20000 32 0) (k : ℕ) (hk : k < 20000) (j : ℕ) (hj : j < 20000) :
    flag V (k + 1) j ↔ flag V k j ∧ ¬(flag V k k ∧ k < j ∧ (∃ (hi : k < 20000) (hj : j < 20000), lbs V (ix1 ⟨j, hj⟩) = lbs V (ix1 ⟨k, hi⟩) ∧ hitB (bxs V) ⟨k, hi⟩ ⟨j, hj⟩ = 1#1)) := by
  have e := trip_at (STEP^[k] V) ⟨k, hk⟩ (it_4 V h4 k) ((it_2 V k).trans h2) ⟨j, hj⟩
  rw [← STEP_main_v26_5, ← Function.iterate_succ_apply' STEP k V, show lbs (STEP^[k] V) = lbs V from it_1 V k, show bxs (STEP^[k] V) = bxs V from it_0 V k] at e
  have hlt : IntOp.cmpi .sgt (BitVec.ofNat 32 j) (BitVec.ofNat 32 k) = 1#1 ↔ k < j := by
    show BitVec.ofBool ((BitVec.ofNat 32 k).slt (BitVec.ofNat 32 j)) = 1#1 ↔ _
    rw [BitVec.slt_eq_decide, toInt_word (by omega), toInt_word (by omega)]
    by_cases h : k < j
    · rw [decide_eq_true (by exact_mod_cast h)]; exact ⟨fun _ => h, fun _ => rfl⟩
    · rw [decide_eq_false (by exact_mod_cast h)]; exact ⟨fun h' => absurd h' (by decide), fun h' => absurd h' h⟩
  have heq : IntOp.cmpi .eq (lbs V (ix1 ⟨j, hj⟩)) (lbs V (ix1 ⟨k, hk⟩)) = 1#1 ↔ lbs V (ix1 ⟨j, hj⟩) = lbs V (ix1 ⟨k, hk⟩) := by
    show BitVec.ofBool (lbs V (ix1 ⟨j, hj⟩) == lbs V (ix1 ⟨k, hk⟩)) = 1#1 ↔ _
    by_cases h : lbs V (ix1 ⟨j, hj⟩) = lbs V (ix1 ⟨k, hk⟩)
    · rw [beq_iff_eq.mpr h]; exact ⟨fun _ => h, fun _ => rfl⟩
    · rw [beq_eq_false_iff_ne.mpr h]; exact ⟨fun h' => absurd h' (by decide), fun h' => absurd h' h⟩
  have a : flag V (k + 1) j ↔ fls (STEP^[k + 1] V) (ix1 ⟨j, hj⟩) = 1#1 := ⟨fun ⟨_, h⟩ => h, fun h => ⟨hj, h⟩⟩
  have b : flag V k j ↔ fls (STEP^[k] V) (ix1 ⟨j, hj⟩) = 1#1 := ⟨fun ⟨_, h⟩ => h, fun h => ⟨hj, h⟩⟩
  have c : flag V k k ↔ fls (STEP^[k] V) (ix1 ⟨k, hk⟩) = 1#1 := ⟨fun ⟨_, h⟩ => h, fun h => ⟨hk, h⟩⟩
  rw [a, b, c]
  refine (Eq.congr_left e).trans ((bit_step _ _ _ _ _).trans (and_congr_right fun _ => not_congr (and_congr_right fun _ => and_congr hlt ?_)))
  exact ⟨fun h => ⟨hk, hj, heq.mp h.1, h.2⟩, fun ⟨_, _, h⟩ => ⟨heq.mpr h.1, h.2⟩⟩

end Trip

end Cert.Proof.Ref

end
-- ==== Proof.RefEnd.lean ====
/-
  What the reference's loop starts from, as functions of the arguments, and the reference's result, of the flags the loop
  leaves.
-/
module

public import proofs.«01_k».proof.Proof.Trips

@[expose] public section

noncomputable section

namespace Cert.Proof.Ref

open Cert.ReferenceIdeal Cert.ReferenceIdeal.Gen Cert.ReferenceIdeal.Value
open Idealize.ShloMosaic Idealize.ShloMosaic.StableHlo Idealize.ShloMosaic.ValueIdx Idealize.SL.Sem

variable {F : FTy → Type} [FloatOps F]

/-- The rows of the boxes kept, with their scores; the others zero. -/
def outR (k : IVec S20000 1) (b : FVec F S20000x4 .f32) (s : FVec F S20000 .f32) : FVec F S20000x5 .f32 :=
  select (broadcastInDim S20000x5 ![0, 1] bcast_S20000x1_S20000x5_0_1 (broadcastInDim S20000x1 ![0] bcast_S20000_S20000x1_0 k))
    (concatenate S20000x5 1 [⟨S20000x4, b⟩, ⟨S20000x1, broadcastInDim S20000x1 ![0] bcast_S20000_S20000x1_0 s⟩] concatenates_S20000x4_S20000x1_S20000x5_d1)
    (broadcastInDim S20000x5 ![] bcast_S_S20000x5 (id (constant S_ .f32 0x00000000#32)))

set_option maxRecDepth 8192 in
set_option maxHeartbeats 2000000 in
/-- The stretches after the loop make the result of the flags, the boxes and the scores. -/
theorem post_v30 (X : Valuation τ sig (Elt F)) : after hostOps0_4 (after hostOps0_3 X) (Proc.devRef .tc main_v30)
    = outR (X (Proc.devRef .tc main_v26_5)) (X (Proc.devRef .tc main_v8)) (X (Proc.devRef .tc main_v15)) := by
  unfold outR
  simp only [hostOps0_3, hostOps0_4]
  after_results_entrywise [cast_eq]

variable (m : (ℓ : Loc nD τ sig) → Buf (Elt F) ℓ) (c : Dev nD)

/-- The boxes, the scores and the labels as given. -/
abbrev a0 : FVec F S20000x4 .f32 := m ((c.tc : Thread nD τ).loc main_arg0)
abbrev a1 : FVec F S20000 .f32 := m ((c.tc : Thread nD τ).loc main_arg1)
abbrev a2 : IVec S20000 32 := m ((c.tc : Thread nD τ).loc main_arg2)

/-- The contents at the loop's entry. -/
abbrev ent : Valuation τ sig (Elt F) := entryContents preI m c

/-- The loop's entry, spelt as the three stretches before it. -/
theorem ent_eq : ent m c = after hostOps0_2 (after hostOps0_1 (after hostOps0 (launchContents m c))) := rfl

/-- An argument is unchanged when the last stretch before the loop begins. -/
theorem mid_arg (r : Ref sig .tc) (h0 : r ∉ hostOps0_W) (h1 : r ∉ hostOps0_1_W) : after hostOps0_1 (after hostOps0 (launchContents m c)) (Proc.devRef .tc r) = m ((c.tc : Thread nD τ).loc r) := by
  rw [after_of_writes_sub hostOps0_1 _ hostOps0_1_writes h1, after_of_writes_sub hostOps0 _ hostOps0_writes h0]

/-- The order of the scores when that stretch begins. -/
theorem mid_v1 : after hostOps0_1 (after hostOps0 (launchContents m c)) (Proc.devRef .tc main_v1) = ordW (a1 m c) := pre_v1 (launchContents m c)

/-- The loop's boxes. -/
theorem ent_0 : ent m c (Proc.devRef .tc main_v26_0) = boxO (a0 m c) (ordW (a1 m c)) := by
  rw [ent_eq, pre_v26_0, mid_arg m c main_arg0 (by decide) (by decide), mid_v1]
/-- The sorted boxes at the loop's entry. -/
theorem ent_v8 : ent m c (Proc.devRef .tc main_v8) = boxO (a0 m c) (ordW (a1 m c)) := by
  rw [ent_eq, pre_v8, mid_arg m c main_arg0 (by decide) (by decide), mid_v1]
/-- The sorted scores at the loop's entry. -/
theorem ent_v15 : ent m c (Proc.devRef .tc main_v15) = vecO (a1 m c) (ordW (a1 m c)) := by
  rw [ent_eq, pre_v15, mid_arg m c main_arg1 (by decide) (by decide), mid_v1]
/-- The loop's labels. -/
theorem ent_1 : ent m c (Proc.devRef .tc main_v26_1) = vecO (a2 m c) (ordW (a1 m c)) := by
  rw [ent_eq, pre_v26_1, mid_arg m c main_arg2 (by decide) (by decide), mid_v1]
/-- The loop's numbering of the boxes. -/
theorem ent_2 : ent m c (Proc.devRef .tc main_v26_2) = iotaInDim S20000 32 0 := by rw [ent_eq, pre_v26_2]
/-- The loop's counter starts at zero. -/
theorem ent_4 : ent m c (Proc.devRef .tc main_v26_4) = constantI S_ 32 0#32 := by rw [ent_eq, pre_v26_4]
/-- The loop's flags start as the threshold flags. -/
theorem ent_5 : ent m c (Proc.devRef .tc main_v26_5) = okO (vecO (a1 m c) (ordW (a1 m c))) := by
  rw [ent_eq, pre_v26_5, mid_arg m c main_arg1 (by decide) (by decide), mid_v1]

/-- The reference's result. -/
theorem ref_end : finalContents condOps preI bodyI postI 20000 m c (Proc.devRef .tc main_v30)
    = outR (fls (STEP^[20000] (ent m c))) (boxO (a0 m c) (ordW (a1 m c))) (vecO (a1 m c) (ordW (a1 m c))) := by
  unfold finalContents postI
  rw [afterL_cons, afterL_cons, afterL_nil, post_v30, cond_keeps _ main_v26_5 (by decide), after_of_writes_sub condOps _ condOps_writes (r := main_v8) (by decide),
    after_of_writes_sub condOps _ condOps_writes (r := main_v15) (by decide),
    show atTrip condOps bodyI (entryContents preI m) 20000 c (Proc.devRef .tc main_v8) = _ from still_loop m main_v8 (by decide) 20000 c,
    show atTrip condOps bodyI (entryContents preI m) 20000 c (Proc.devRef .tc main_v15) = _ from still_loop m main_v15 (by decide) 20000 c,
    show atTrip condOps bodyI (entryContents preI m) 20000 c (Proc.devRef .tc main_v26_5) = _ from atK_agree m c 20000 main_v26_5 (by decide),
    show entryContents preI m c (Proc.devRef .tc main_v8) = _ from ent_v8 m c, show entryContents preI m c (Proc.devRef .tc main_v15) = _ from ent_v15 m c]

end Cert.Proof.Ref

end
-- ==== Proof.Same.lean ====
/-
  The kernel's sorted boxes, scores, classes and threshold flags are the reference's functions of the arguments, and over
  the extended reals the two programs' overlap tests agree.
-/
module

public import proofs.«01_k».proof.Proof.Keep
public import proofs.«01_k».proof.Proof.RefEnd
public import Idealize.ShloMosaic.PureOps.Ideal

@[expose] public section

noncomputable section

namespace Cert.Proof.Nms

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Words

variable {F : FTy → Type} [FloatOps F]

local notation "𝕄" => MT nD τ sig (HIx 1) (Elt F) ℕ UU ℕ

open Idealize.ShloMosaic.StableHlo Idealize.ShloMosaic.ValueIdx
open Cert.Proof.Moves Cert.Proof.Slots

section Args

variable (V : Valuation τ sig (Elt F))

/-- An argument is not written before the call. -/
theorem pre_arg (r : Ref sig .tc) (h0 : r ∉ ops0_W) (h1 : r ∉ ops1_W) (h2 : r ∉ ops2_W) (h3 : r ∉ ops3_W) : after preOps V (Proc.devRef .tc r) = V (Proc.devRef .tc r) := by
  unfold preOps
  rw [after_app, after_app, after_app,
    after_of_writes_sub ops3 _ (forall_writes_sub_of_map ops3_writes) h3, after_of_writes_sub ops2 _ (forall_writes_sub_of_map ops2_writes) h2,
    after_of_writes_sub ops1 _ (forall_writes_sub_of_map ops1_writes) h1, after_of_writes_sub ops0 _ (forall_writes_sub_of_map ops0_writes) h0]

/-- The kernel's order of the scores is the reference's. -/
theorem k_v1 : (after preOps V (Proc.devRef .tc main_v1) : IVec S20000 32) = Ref.ordW (F := F) (V (Proc.devRef .tc main_arg1)) := by
  rw [q_v1, q_v0, q_call0_v0, pre_arg V main_arg1 (by decide) (by decide) (by decide) (by decide)]
  rfl
/-- The kernel's sorted boxes are the reference's. -/
theorem k_v8 : (after preOps V (Proc.devRef .tc main_v8) : FVec F S20000x4 .f32) = Ref.boxO (V (Proc.devRef .tc main_arg0)) (Ref.ordW (F := F) (V (Proc.devRef .tc main_arg1))) := by
  rw [q_v8, q_v7, q_v6, q_v3, q_v2, q_c, q_v5, q_v4, q_c_0, k_v1, pre_arg V main_arg0 (by decide) (by decide) (by decide) (by decide)]
  rfl
/-- The kernel's sorted scores are the reference's. -/
theorem k_v15 : (after preOps V (Proc.devRef .tc main_v15) : FVec F S20000 .f32) = Ref.vecO (V (Proc.devRef .tc main_arg1)) (Ref.ordW (F := F) (V (Proc.devRef .tc main_arg1))) := by
  rw [q_v15, q_v14, q_v13, q_v10, q_v9, q_c_1, q_v12, q_v11, q_c_2, k_v1, pre_arg V main_arg1 (by decide) (by decide) (by decide) (by decide)]
  rfl
/-- The kernel's sorted labels are the reference's. -/
theorem k_v22 : (after preOps V (Proc.devRef .tc main_v22) : IVec S20000 32) = Ref.vecO (V (Proc.devRef .tc main_arg2)) (Ref.ordW (F := F) (V (Proc.devRef .tc main_arg1))) := by
  rw [q_v22, q_v21, q_v20, q_v17, q_v16, q_c_3, q_v19, q_v18, q_c_4, k_v1, pre_arg V main_arg2 (by decide) (by decide) (by decide) (by decide)]
  rfl
/-- The kernel's threshold flags are the reference's. -/
theorem k_v55 : (after preOps V (Proc.devRef .tc main_v55) : IVec S20000 1) = Ref.okO (Ref.vecO (V (Proc.devRef .tc main_arg1)) (Ref.ordW (F := F) (V (Proc.devRef .tc main_arg1)))) := by
  rw [q_v55, q_v54, q_cst, k_v15]
  rfl

end Args

/-- The two ways to assemble the result are one. -/
theorem out_eq (k : IVec S20000 1) (b : FVec F S20000x4 .f32) (s : FVec F S20000 .f32) : outF k b s = Ref.outR k b s := rfl

/-- Over the extended reals the kernel's overlap test of two rows is the reference's. -/
theorem hit_ideal (B : FVec Ideal S20000x4 .f32) (i j : Fin 20000) : hit (pairX B i j) 0 1 = Ref.hitB B i j := by
  have mx : ∀ x y : Ideal .f32, FloatOps.maximumf x y = FloatOps.maximumf y x := fun x y => max_comm (α := EReal) x y
  have e : inter (pairX B i j) 0 1 = Ref.interR (B (ix2 i 0)) (B (ix2 i 1)) (B (ix2 i 2)) (B (ix2 i 3)) (B (ix2 j 0)) (B (ix2 j 1)) (B (ix2 j 2)) (B (ix2 j 3)) := by
    unfold inter Ref.interR
    rw [mx _ zf, mx _ zf]
    rfl
  unfold hit Ref.hitB Ref.hitR
  rw [e]
  rfl

/-- A flag at zero is not up. -/
theorem live_zero : live (zf : Ideal .f32) ≠ 1#1 := by
  show BitVec.ofBool (decide ((show EReal from (zf : Ideal .f32)) < (show EReal from (zf : Ideal .f32)))) ≠ 1#1
  rw [decide_eq_false (lt_irrefl _)]
  decide

/-- A flag made from a bit is up where the bit is one. -/
theorem live_bit (b : BitVec 1) : live (FloatOps.uitofp .f32 b : Ideal .f32) = 1#1 ↔ b = 1#1 := by
  have hz : (zf : Ideal .f32) = (0 : EReal) := by
    show Ideal.ofBits .f32 0#32 = 0
    simp [Ideal.ofBits, Ideal.ieee]
  have h : live (FloatOps.uitofp .f32 b : Ideal .f32) = BitVec.ofBool (decide ((0 : EReal) < ((b.toNat : ℝ) : EReal))) := by
    show BitVec.ofBool (decide ((show EReal from (zf : Ideal .f32)) < ((b.toNat : ℝ) : EReal))) = _
    rw [show (show EReal from (zf : Ideal .f32)) = 0 from hz]
  rw [h]
  have hb : b = 0#1 ∨ b = 1#1 := (by decide : ∀ b : BitVec 1, b = 0#1 ∨ b = 1#1) b
  rcases hb with rfl | rfl
  · rw [decide_eq_false (by simp)]; decide
  · rw [decide_eq_true (by simp)]; decide

end Cert.Proof.Nms

end
-- ==== Proof.Scores.lean ====
/-
  Over the extended reals the sort by score puts larger scores first, so the boxes that reach the threshold come before
  the others.
-/
module

public import proofs.«01_k».proof.Proof.Pos
public import Idealize.ShloMosaic.PureOps.Ideal

@[expose] public section

noncomputable section

namespace Cert.Proof.Nms

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Words

variable {F : FTy → Type} [FloatOps F]

local notation "𝕄" => MT nD τ sig (HIx 1) (Elt F) ℕ UU ℕ

open Idealize.ShloMosaic.StableHlo Idealize.ShloMosaic.ValueIdx
open Cert.Proof.Moves Cert.Proof.Slots

/-- The sort's selects on a key give the key: there is one zero, and no key is unequal to itself. -/
theorem canon (c x : Ideal .f32) : Scalar.select (FloatOps.cmpf .une x x) c (Scalar.select (FloatOps.cmpf .oeq x (zf : Ideal .f32)) (zf : Ideal .f32) x) = x := by
  have h1 : FloatOps.cmpf .une x x = 0#1 := by
    show BitVec.ofBool (decide (x ≠ x)) = _
    rw [decide_eq_false (fun h => h rfl)]; rfl
  rw [h1]
  show Scalar.select (FloatOps.cmpf .oeq x (zf : Ideal .f32)) (zf : Ideal .f32) x = x
  by_cases h : x = (zf : Ideal .f32)
  · subst h; unfold Scalar.select; split <;> rfl
  · have h2 : FloatOps.cmpf .oeq x (zf : Ideal .f32) = 0#1 := by
      show BitVec.ofBool (decide (x = (zf : Ideal .f32))) = _
      rw [decide_eq_false h]; rfl
    rw [h2]; rfl

/-- The order of two keys. -/
def keyLt (x : FVec Ideal S20000 .f32) (a b : Fin 20000) : Bool := decide ((show EReal from x (ix1 a)) < (show EReal from x (ix1 b)))

theorem comparator_at (x : FVec Ideal S20000 .f32) (y : IVec S20000 32) (a b : Fin 20000) :
    (comparator_f32_i32_d0 (x (ix1 a), y (ix1 a)) (x (ix1 b), y (ix1 b)) == 1#1) = keyLt x a b := by
  unfold comparator_f32_i32_d0
  show (FloatOps.cmpfTotal .lt (Scalar.select _ _ (Scalar.select _ _ _)) (Scalar.select _ _ (Scalar.select _ _ _)) == 1#1) = _
  rw [canon, canon]
  show (BitVec.ofBool (decide ((show EReal from x (ix1 a)) < (show EReal from x (ix1 b)))) == 1#1) = keyLt x a b
  unfold keyLt
  cases decide ((show EReal from x (ix1 a)) < (show EReal from x (ix1 b))) <;> rfl

variable (V : Valuation τ sig (Elt Ideal))

/-- The scores as given. -/
abbrev scr : FVec Ideal S20000 .f32 := after preOps V (Proc.devRef .tc main_arg1)
/-- The sort's keys. -/
abbrev keys : FVec Ideal S20000 .f32 := after preOps V (Proc.devRef .tc main_v0)
/-- Which box the sort by score puts at a place. -/
def sp (r : Fin 20000) : Fin 20000 := sortedFrom (keyLt (keys V)) r

theorem at_v1 (r : Fin 20000) : (after preOps V (Proc.devRef .tc main_v1) : IVec S20000 32) (ix1 r) = BitVec.ofNat 32 (sp V r).val := by
  refine (congrFun (q_v1 V) (ix1 r)).trans ?_
  refine (sort_read comparator_f32_i32_d0 (keys V) _ (keyLt (keys V)) (fun a b => comparator_at _ _ a b) r).trans ?_
  exact congrFun (q_call0_v0 V) _

theorem at_v15 (r : Fin 20000) : (after preOps V (Proc.devRef .tc main_v15) : FVec Ideal S20000 .f32) (ix1 r) = scr V (ix1 (sp V r)) := by
  refine (congrFun (q_v15 V) (ix1 r)).trans ?_
  refine take_at gather_S20000_S20000x1_S20000_n_0_n_n_0_1_1 rfl rfl rfl rfl _ _ r (sp V r) (by omega) ?_
  rw [q_v14, q_v13, q_v10]
  exact column_at _ _ _ _ r (at_v1 V r) (by have := (sp V r).isLt; omega) ((congrFun (q_v9 V) (ix1 r)).trans (spread _ _ _ (q_c_1 V) _))

theorem key_at (a : Fin 20000) : keys V (ix1 a) = (-(show EReal from scr V (ix1 a)) : EReal) := congrFun (q_v0 V) (ix1 a)

/-- The scores fall along the sort. -/
theorem fall {i j : Fin 20000} (h : i < j) : (show EReal from scr V (ix1 (sp V j))) ≤ (show EReal from scr V (ix1 (sp V i))) := by
  have e := sortedFrom_noInversion (keyLt (keys V)) (keyLt (keys V))
    (fun a b h => decide_eq_false (lt_asymm (of_decide_eq_true h)))
    (fun a b h => h)
    (fun a b c h1 h2 => decide_eq_false (not_lt.mpr ((not_lt.mp (of_decide_eq_false h2)).trans (not_lt.mp (of_decide_eq_false h1))))) i j h
  have e := not_lt.mp (of_decide_eq_false e)
  have e : (show EReal from keys V (ix1 (sp V i))) ≤ (show EReal from keys V (ix1 (sp V j))) := e
  rw [key_at, key_at] at e
  exact EReal.neg_le_neg_iff.mp e

theorem ok_iff_le (j : Fin 20000) : ok V j ↔ (show EReal from (FloatOps.ofBits .f32 0x3F000000#32 : Ideal .f32)) ≤ (show EReal from scr V (ix1 (sp V j))) := by
  have e : okW V (ix1 j) = BitVec.ofBool (decide ((show EReal from (FloatOps.ofBits .f32 0x3F000000#32 : Ideal .f32)) ≤ (show EReal from scr V (ix1 (sp V j))))) :=
    (congrFun (q_v55 V) (ix1 j)).trans (congrArg₂ (FloatOps.cmpf .oge) (at_v15 V j) ((congrFun (q_v54 V) (ix1 j)).trans (spreadf _ _ _ (q_cst V) _)))
  unfold ok
  rw [e]
  by_cases h : (show EReal from (FloatOps.ofBits .f32 0x3F000000#32 : Ideal .f32)) ≤ (show EReal from scr V (ix1 (sp V j)))
  · rw [decide_eq_true h]; exact ⟨fun _ => h, fun _ => rfl⟩
  · rw [decide_eq_false h]; exact ⟨fun h' => absurd h' (by decide), fun h' => absurd h' h⟩

/-- The boxes that reach the threshold come first. -/
theorem ok_down (i j : Fin 20000) (h : i < j) (hj : ok V j) : ok V i :=
  (ok_iff_le V i).mpr (((ok_iff_le V j).mp hj).trans (fall V h))

end Cert.Proof.Nms

end
-- ==== Proof.Alg.lean ====
/-
  The idealized kernel and the reference end with equal results: the classes' separate passes leave up the same flags as
  the reference's one pass over all boxes.
-/
module

public import proofs.«01_k».proof.Proof.Frames
public import proofs.«01_k».proof.Proof.Same
public import proofs.«01_k».proof.Proof.Scores

@[expose] public section

noncomputable section

namespace Cert.Proof.Nms

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Words

variable {F : FTy → Type} [FloatOps F]

local notation "𝕄" => MT nD τ sig (HIx 1) (Elt F) ℕ UU ℕ

open Idealize.ShloMosaic.StableHlo Idealize.ShloMosaic.ValueIdx
open Cert.Proof.Moves Cert.Proof.Slots

section One

variable (m : (ℓ : Loc nD τ sig) → Buf (Elt Ideal) ℓ) (W : Valuation Cert.ReferenceIdeal.τ Cert.ReferenceIdeal.sig (Elt Ideal)) (d : Dev nD)

/-- What the reference's loop starts from, in the kernel's values. -/
structure Start : Prop where
  h4 : W (Proc.devRef .tc Cert.ReferenceIdeal.main_v26_4) = constantI S_ 32 0#32
  h2 : W (Proc.devRef .tc Cert.ReferenceIdeal.main_v26_2) = iotaInDim S20000 32 0
  hb : Ref.bxs W = boxW (launchContents m d)
  hl : Ref.lbs W = clsW (launchContents m d)
  hf : Ref.fls W = okW (launchContents m d)

variable {m W d}

/-- Two rows are of one class exactly where their labels are equal words. -/
theorem same_class (V : Valuation τ sig (Elt Ideal)) (i j : Fin 20000) : clsW V (ix1 j) = clsW V (ix1 i) ↔ cls V i = cls V j :=
  ⟨fun h => (congrArg BitVec.toNat h).symm, fun h => BitVec.eq_of_toNat_eq h.symm⟩

/-- A box the kernel keeps is one the reference keeps. -/
theorem kept_flag (hL : Small (launchContents m d)) (hT : Tab (pst (callMem m) d) (vct (callMem m) d)) (hW : Start m W d) (j : Fin 20000) :
    live (kept (callMem m) d (sl (launchContents m d) j)) = 1#1 ↔ Ref.fls (Cert.ReferenceIdeal.Value.STEP^[20000] W) (ix1 j) = 1#1 := by
  rw [kept_place hL hT j _ rfl]
  have hp : ∀ i j' : Fin 20000, hit (boxes (callMem m) d) (sl (launchContents m d) i) (sl (launchContents m d) j') = Ref.hitB (boxW (launchContents m d)) i j' :=
    fun i j' => (hit_places hL i j').trans (hit_ideal _ i j')
  have hk : ∀ j' : Fin 20000, live (flags (callMem m) d (sl (launchContents m d) j')) = 1#1 ↔ ok (launchContents m d) j' := by
    intro j'
    rw [flags_place hL j']
    exact live_bit _
  generalize boxes (callMem m) d = X at hp ⊢
  generalize flags (callMem m) d = K at hk ⊢
  have hR := Ref.flag_step W hW.h4 hW.h2
  have hb := hW.hb
  have hl := hW.hl
  have hf := hW.hf
  generalize launchContents m d = V at *
  have g := greedy_class (cls V) (ok V) (fun i j' h => ok_down V i j' h) (fun i j' => Ref.hitB (boxW V) i j' = 1#1) (Ref.flag W)
    (fun k t => ∃ (hi : k < 20000) (hj : t < 20000), Ref.lbs W (ix1 ⟨t, hj⟩) = Ref.lbs W (ix1 ⟨k, hi⟩) ∧ Ref.hitB (Ref.bxs W) ⟨k, hi⟩ ⟨t, hj⟩ = 1#1)
    hR
    (fun i j' => by
      rw [hl, hb]
      exact ⟨fun ⟨_, _, h1, h2⟩ => ⟨(same_class V i j').1 h1, h2⟩, fun h => ⟨i.isLt, j'.isLt, (same_class V i j').2 h.1, h.2⟩⟩)
    (fun j' => by
      refine ⟨fun ⟨_, h⟩ => ?_, fun h => ⟨j'.isLt, ?_⟩⟩
      · have h : Ref.fls W (ix1 j') = 1#1 := h
        rw [hf] at h; exact h
      · show Ref.fls W (ix1 j') = 1#1
        rw [hf]; exact h)
    (cls V j)
    (standing X (blk (cls V) (cls V j)) (blk (cls V) (cls V j) + 16 * up (vcn (cls V) (ok V) (cls V j))) K)
    (fun k t => blk (cls V) (cls V j) + t < blk (cls V) (cls V j) + 16 * up (vcn (cls V) (ok V) (cls V j)) ∧ hit X (blk (cls V) (cls V j) + k) (blk (cls V) (cls V j) + t) = 1#1)
    (fun k _ t => standing_step X _ _ K live_zero k t)
    (fun i j' hi hj h => by
      have ei : blk (cls V) (cls V j) + rk (cls V) i = sl V i := by rw [← hi]; rfl
      have ej : blk (cls V) (cls V j) + rk (cls V) j' = sl V j' := by rw [← hj]; rfl
      have hu : ∀ v, v ≤ 16 * up v := fun v => by unfold up; omega
      have hv := hu (vcn (cls V) (ok V) (cls V j))
      show _ ∧ hit X _ _ = 1#1 ↔ _
      rw [ei, ej, hp i j', ← ej]
      exact ⟨fun h => h.2, fun h' => ⟨by omega, h'⟩⟩)
    (fun j' hj => by
      show live (K (blk (cls V) (cls V j) + rk (cls V) j')) = 1#1 ↔ _
      rw [show blk (cls V) (cls V j) + rk (cls V) j' = sl V j' by rw [← hj]; rfl]
      exact hk j')
    j rfl
  exact g.trans ⟨fun ⟨_, h⟩ => h, fun h => ⟨j.isLt, h⟩⟩

/-- Two bits that are one together are equal. -/
theorem bit_ext (a b : BitVec 1) (h : a = 1#1 ↔ b = 1#1) : a = b := by
  revert a b; decide

/-- The kernel's result, of the flags the reference's loop leaves. -/
theorem end_eq (hL : Small (launchContents m d)) (hT : Tab (pst (callMem m) d) (vct (callMem m) d)) (hW : Start m W d) :
    (endVal m d (Proc.devRef .tc main_v172) : FVec Ideal S20000x5 .f32)
      = outF (F := Ideal) (Ref.fls (Cert.ReferenceIdeal.Value.STEP^[20000] W)) (after preOps (launchContents m d) (Proc.devRef .tc main_v8)) (after preOps (launchContents m d) (Proc.devRef .tc main_v15)) :=
  end_v172 hL _ fun j => bit_ext _ _ (kept_flag hL hT hW j).symm

end One

section Two

variable (m : (ℓ : Loc nD τ sig) → Buf (Elt Ideal) ℓ) (m' : (ℓ : Loc Cert.ReferenceIdeal.nD Cert.ReferenceIdeal.τ Cert.ReferenceIdeal.sig) → Buf (Elt Ideal) ℓ) (d : Dev nD)

/-- From equal arguments the reference's loop starts from the kernel's values. -/
theorem start_of (h0 : Ref.a0 m' d = launchContents m d (Proc.devRef .tc main_arg0)) (h1 : Ref.a1 m' d = launchContents m d (Proc.devRef .tc main_arg1))
    (h2 : Ref.a2 m' d = launchContents m d (Proc.devRef .tc main_arg2)) : Start m (Ref.ent m' d) d where
  h4 := Ref.ent_4 m' d
  h2 := Ref.ent_2 m' d
  hb := by
    refine (Ref.ent_0 m' d).trans ?_
    rw [h0, h1]; exact (k_v8 _).symm
  hl := by
    refine (Ref.ent_1 m' d).trans ?_
    rw [h2, h1]; exact (k_v22 _).symm
  hf := by
    refine (Ref.ent_5 m' d).trans ?_
    rw [h1]; exact (k_v55 _).symm

/-- From equal arguments the two results are equal. -/
theorem results_eq (hL : Small (launchContents m d)) (hT : Tab (pst (callMem m) d) (vct (callMem m) d))
    (h0 : Ref.a0 m' d = launchContents m d (Proc.devRef .tc main_arg0)) (h1 : Ref.a1 m' d = launchContents m d (Proc.devRef .tc main_arg1))
    (h2 : Ref.a2 m' d = launchContents m d (Proc.devRef .tc main_arg2)) :
    (finalContents Cert.ReferenceIdeal.Value.condOps Cert.ReferenceIdeal.Value.preI Cert.ReferenceIdeal.Value.bodyI Cert.ReferenceIdeal.Value.postI 20000 m' d (Proc.devRef .tc Cert.ReferenceIdeal.main_v30) : FVec Ideal S20000x5 .f32)
      = endVal m d (Proc.devRef .tc main_v172) := by
  refine (Ref.ref_end m' d).trans (Eq.trans ?_ (end_eq hL hT (start_of m m' d h0 h1 h2)).symm)
  rw [k_v8, k_v15, out_eq, h0, h1]

end Two

/-- The reference's frame from the memories of the precondition. -/
theorem frame_ref_pre : Cert.quiescent_ReferenceIdeal_pre_pre := fun m ρ _ => frame_ref m ρ trivial

/-- The idealized kernel computes the reference. -/
theorem alg : Cert.algebraic_KernelIdeal_ReferenceIdeal := fun m g m' g' h hm =>
  ⟨fun c => endVal m c (Proc.devRef .tc main_v172),
    (θ_run Cert.KernelIdeal.defs _ _).mono (fun _ q c => q.1 c) (run_main (F := Ideal) m g (tabs_ideal m h)),
    (θ_run Cert.ReferenceIdeal.defs _ _).mono (fun _ q c =>
      ⟨(q.1 c).1.trans (results_eq m m' c (small_of m c (label_lt _ _ _ (h c))) ((tabs_ideal m h).tab c) (hm c).1 (hm c).2.1 (hm c).2.2), (q.1 c).2⟩)
      (Ref.run_ref (F := Ideal) m' g')⟩

end Cert.Proof.Nms

end
-- ==== Proof.lean ====
/-
  The certificate's claim from the modules beside it: the frames of the kernel, its idealization and the reference, and the
  equality of the idealized kernel's and the reference's results.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_pre
public import proofs.«01_k».proof.Proof.Gen.ReferenceIdeal.Run
public import proofs.«01_k».proof.Proof.Frames
public import proofs.«01_k».proof.Proof.Alg
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts, Cert.Pre_pre.Gen.facts,
  Nms.frame_kernel, Nms.frame_ideal, Nms.frame_ref, Nms.frame_ref_pre, trivial, Nms.alg⟩

end Cert.Proof

end
